-- ==== Defs.lean ====
def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_down_bwd_finite [hPre_down_bwd_finite : Cert.Pre_down_bwd_finite.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_down_bwd_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))).1 = (fun _ => 1#1)
    ∧ (Cert.Pre_down_bwd_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))).2.1 = (fun _ => 1#1)
    ∧ (Cert.Pre_down_bwd_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))).2.2 = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_down_bwd_finite [hPre_down_bwd_finite : Cert.Pre_down_bwd_finite.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_down_bwd_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))).1 = (fun _ => 1#1)
    ∧ (Cert.Pre_down_bwd_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))).2.1 = (fun _ => 1#1)
    ∧ (Cert.Pre_down_bwd_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))).2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormRefIdeal (m : (ℓ : Loc Cert.DownNormRefIdeal.nD Cert.DownNormRefIdeal.τ Cert.DownNormRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_HalvesRefIdeal (m : (ℓ : Loc Cert.HalvesRefIdeal.nD Cert.HalvesRefIdeal.τ Cert.HalvesRefIdeal.sig) → Buf (Elt Ideal) ℓ) : Prop :=
  True

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdIdeal_pre_down_bwd_finite [hDownBwdIdeal : Cert.DownBwdIdeal.Facts] [hPre_down_bwd_finite : Cert.Pre_down_bwd_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_down_bwd_finite m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_DownBwdRefIdeal_pre_down_bwd_finite [hDownBwdRefIdeal : Cert.DownBwdRefIdeal.Facts] [hPre_down_bwd_finite : Cert.Pre_down_bwd_finite.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_down_bwd_finite m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4)
      ∧ r.2.mem ((c.tc : Thread Cert.UpDx.nD Cert.UpDx.τ).loc Cert.UpDx.main_arg5) = m ((c.tc : Thread Cert.UpDx.nD Cert.UpDx.τ).loc Cert.UpDx.main_arg5))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
      ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4)
      ∧ r.2.mem ((c.tc : Thread Cert.UpDxRefIdeal.nD Cert.UpDxRefIdeal.τ).loc Cert.UpDxRefIdeal.main_arg5) = m ((c.tc : Thread Cert.UpDxRefIdeal.nD Cert.UpDxRefIdeal.τ).loc Cert.UpDxRefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

def quiescent_DownNormRefIdeal [hDownNormRefIdeal : Cert.DownNormRefIdeal.Facts] : Prop :=
  ∀ (m : (ℓ : Loc Cert.DownNormRefIdeal.nD Cert.DownNormRefIdeal.τ Cert.DownNormRefIdeal.sig) → Buf (Elt Ideal) ℓ) (g : Dev Cert.DownNormRefIdeal.nD → PrngReg), Pre_DownNormRefIdeal m →
    θ_run (Cert.DownNormRefIdeal.defs (F := Ideal)) (onTc (τ := Cert.DownNormRefIdeal.τ) (Cert.DownNormRefIdeal.main (F := Ideal))) ⟨m, fun _ => 0, g⟩ (fun r => (∀ c : Dev Cert.DownNormRefIdeal.nD,
      r.2.mem ((c.tc : Thread Cert.DownNormRefIdeal.nD Cert.DownNormRefIdeal.τ).loc Cert.DownNormRefIdeal.main_arg0) = m ((c.tc : Thread Cert.DownNormRefIdeal.nD Cert.DownNormRefIdeal.τ).loc Cert.DownNormRefIdeal.main_arg0)
      ∧ r.2.mem ((c.tc : Thread Cert.DownNormRefIdeal.nD Cert.DownNormRefIdeal.τ).loc Cert.DownNormRefIdeal.main_arg1) = m ((c.tc : Thread Cert.DownNormRefIdeal.nD Cert.DownNormRefIdeal.τ).loc Cert.DownNormRefIdeal.main_arg1)
      ∧ r.2.mem ((c.tc : Thread Cert.DownNormRefIdeal.nD Cert.DownNormRefIdeal.τ).loc Cert.DownNormRefIdeal.main_arg2) = m ((c.tc : Thread Cert.DownNormRefIdeal.nD Cert.DownNormRefIdeal.τ).loc Cert.DownNormRefIdeal.main_arg2)
      ∧ r.2.mem ((c.tc : Thread Cert.DownNormRefIdeal.nD Cert.DownNormRefIdeal.τ).loc Cert.DownNormRefIdeal.main_arg3) = m ((c.tc : Thread Cert.DownNormRefIdeal.nD Cert.DownNormRefIdeal.τ).loc Cert.DownNormRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0)
      ∧ r.2.mem ((c.tc : Thread Cert.Halves.nD Cert.Halves.τ).loc Cert.Halves.main_arg1) = m ((c.tc : Thread Cert.Halves.nD Cert.Halves.τ).loc Cert.Halves.main_arg1)
      ∧ r.2.mem ((c.tc : Thread Cert.Halves.nD Cert.Halves.τ).loc Cert.Halves.main_arg2) = m ((c.tc : Thread Cert.Halves.nD Cert.Halves.τ).loc Cert.Halves.main_arg2)
      ∧ r.2.mem ((c.tc : Thread Cert.Halves.nD Cert.Halves.τ).loc Cert.Halves.main_arg3) = m ((c.tc : Thread Cert.Halves.nD Cert.Halves.τ).loc Cert.Halves.main_arg3)
      ∧ r.2.mem ((c.tc : Thread Cert.Halves.nD Cert.Halves.τ).loc Cert.Halves.main_arg4) = m ((c.tc : Thread Cert.Halves.nD Cert.Halves.τ).loc Cert.Halves.main_arg4)
      ∧ r.2.mem ((c.tc : Thread Cert.Halves.nD Cert.Halves.τ).loc Cert.Halves.main_arg5) = m ((c.tc : Thread Cert.Halves.nD Cert.Halves.τ).loc Cert.Halves.main_arg5)
      ∧ r.2.mem ((c.tc : Thread Cert.Halves.nD Cert.Halves.τ).loc Cert.Halves.main_arg6) = m ((c.tc : Thread Cert.Halves.nD Cert.Halves.τ).loc Cert.Halves.main_arg6)
      ∧ r.2.mem ((c.tc : Thread Cert.Halves.nD Cert.Halves.τ).loc Cert.Halves.main_arg7) = m ((c.tc : Thread Cert.Halves.nD Cert.Halves.τ).loc Cert.Halves.main_arg7)
      ∧ r.2.mem ((c.tc : Thread Cert.Halves.nD Cert.Halves.τ).loc Cert.Halves.main_arg8) = m ((c.tc : Thread Cert.Halves.nD Cert.Halves.τ).loc Cert.Halves.main_arg8)
      ∧ r.2.mem ((c.tc : Thread Cert.Halves.nD Cert.Halves.τ).loc Cert.Halves.main_arg9) = m ((c.tc : Thread Cert.Halves.nD Cert.Halves.τ).loc Cert.Halves.main_arg9))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
      ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
      ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
      ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
      ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
      ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
      ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
      ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7)
      ∧ r.2.mem ((c.tc : Thread Cert.HalvesIdeal.nD Cert.HalvesIdeal.τ).loc Cert.HalvesIdeal.main_arg8) = m ((c.tc : Thread Cert.HalvesIdeal.nD Cert.HalvesIdeal.τ).loc Cert.HalvesIdeal.main_arg8)
      ∧ r.2.mem ((c.tc : Thread Cert.HalvesIdeal.nD Cert.HalvesIdeal.τ).loc Cert.HalvesIdeal.main_arg9) = m ((c.tc : Thread Cert.HalvesIdeal.nD Cert.HalvesIdeal.τ).loc Cert.HalvesIdeal.main_arg9))
      ∧ r.2.sem = fun _ => 0)

def quiescent_HalvesRefIdeal [hHalvesRefIdeal : Cert.HalvesRefIdeal.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0)
      ∧ r.2.mem ((c.tc : Thread Cert.HalvesRefIdeal.nD Cert.HalvesRefIdeal.τ).loc Cert.HalvesRefIdeal.main_arg1) = m ((c.tc : Thread Cert.HalvesRefIdeal.nD Cert.HalvesRefIdeal.τ).loc Cert.HalvesRefIdeal.main_arg1)
      ∧ r.2.mem ((c.tc : Thread Cert.HalvesRefIdeal.nD Cert.HalvesRefIdeal.τ).loc Cert.HalvesRefIdeal.main_arg2) = m ((c.tc : Thread Cert.HalvesRefIdeal.nD Cert.HalvesRefIdeal.τ).loc Cert.HalvesRefIdeal.main_arg2)
      ∧ r.2.mem ((c.tc : Thread Cert.HalvesRefIdeal.nD Cert.HalvesRefIdeal.τ).loc Cert.HalvesRefIdeal.main_arg3) = m ((c.tc : Thread Cert.HalvesRefIdeal.nD Cert.HalvesRefIdeal.τ).loc Cert.HalvesRefIdeal.main_arg3)
      ∧ r.2.mem ((c.tc : Thread Cert.HalvesRefIdeal.nD Cert.HalvesRefIdeal.τ).loc Cert.HalvesRefIdeal.main_arg4) = m ((c.tc : Thread Cert.HalvesRefIdeal.nD Cert.HalvesRefIdeal.τ).loc Cert.HalvesRefIdeal.main_arg4)
      ∧ r.2.mem ((c.tc : Thread Cert.HalvesRefIdeal.nD Cert.HalvesRefIdeal.τ).loc Cert.HalvesRefIdeal.main_arg5) = m ((c.tc : Thread Cert.HalvesRefIdeal.nD Cert.HalvesRefIdeal.τ).loc Cert.HalvesRefIdeal.main_arg5)
      ∧ r.2.mem ((c.tc : Thread Cert.HalvesRefIdeal.nD Cert.HalvesRefIdeal.τ).loc Cert.HalvesRefIdeal.main_arg6) = m ((c.tc : Thread Cert.HalvesRefIdeal.nD Cert.HalvesRefIdeal.τ).loc Cert.HalvesRefIdeal.main_arg6)
      ∧ r.2.mem ((c.tc : Thread Cert.HalvesRefIdeal.nD Cert.HalvesRefIdeal.τ).loc Cert.HalvesRefIdeal.main_arg7) = m ((c.tc : Thread Cert.HalvesRefIdeal.nD Cert.HalvesRefIdeal.τ).loc Cert.HalvesRefIdeal.main_arg7)
      ∧ r.2.mem ((c.tc : Thread Cert.HalvesRefIdeal.nD Cert.HalvesRefIdeal.τ).loc Cert.HalvesRefIdeal.main_arg8) = m ((c.tc : Thread Cert.HalvesRefIdeal.nD Cert.HalvesRefIdeal.τ).loc Cert.HalvesRefIdeal.main_arg8)
      ∧ r.2.mem ((c.tc : Thread Cert.HalvesRefIdeal.nD Cert.HalvesRefIdeal.τ).loc Cert.HalvesRefIdeal.main_arg9) = m ((c.tc : Thread Cert.HalvesRefIdeal.nD Cert.HalvesRefIdeal.τ).loc Cert.HalvesRefIdeal.main_arg9))
      ∧ r.2.sem = fun _ => 0)

def preserves_DownBwd_DownBwdIdeal : Prop :=
  True

def algebraic_DownBwdIdeal_DownBwdRefIdeal_pre_down_bwd_finite [hDownBwdIdeal : Cert.DownBwdIdeal.Facts] [hDownBwdRefIdeal : Cert.DownBwdRefIdeal.Facts] [hPre_down_bwd_finite : Cert.Pre_down_bwd_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_down_bwd_finite m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v0_0)) (v1 : (c : Dev Cert.DownBwdIdeal.nD) → Buf (Elt Ideal) ((c.tc : Thread Cert.DownBwdIdeal.nD Cert.DownBwdIdeal.τ).loc Cert.DownBwdIdeal.main_v0_1)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0_0) = v0 c
          ∧ r.2.mem ((c.tc : Thread Cert.DownBwdIdeal.nD Cert.DownBwdIdeal.τ).loc Cert.DownBwdIdeal.main_v0_1) = v1 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v14) = v0 c
          ∧ r.2.mem ((c.tc : Thread Cert.DownBwdRefIdeal.nD Cert.DownBwdRefIdeal.τ).loc Cert.DownBwdRefIdeal.main_v15) = v1 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)
      ∧ m' ((c.tc : Thread Cert.UpDxRefIdeal.nD Cert.UpDxRefIdeal.τ).loc Cert.UpDxRefIdeal.main_arg5) = m ((c.tc : Thread Cert.UpDxIdeal.nD Cert.UpDxIdeal.τ).loc Cert.UpDxIdeal.main_arg5)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
          ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v39) = v0 c
          ∧ r.2.mem ((c.tc : Thread Cert.UpDxRefIdeal.nD Cert.UpDxRefIdeal.τ).loc Cert.UpDxRefIdeal.main_v22) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4)
          ∧ r.2.mem ((c.tc : Thread Cert.UpDxRefIdeal.nD Cert.UpDxRefIdeal.τ).loc Cert.UpDxRefIdeal.main_arg5) = m' ((c.tc : Thread Cert.UpDxRefIdeal.nD Cert.UpDxRefIdeal.τ).loc Cert.UpDxRefIdeal.main_arg5))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v21) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_v9) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownNorm_DownNormIdeal : Prop :=
  True

def algebraic_DownNormIdeal_DownNormRefIdeal [hDownNormIdeal : Cert.DownNormIdeal.Facts] [hDownNormRefIdeal : Cert.DownNormRefIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormRefIdeal.nD Cert.DownNormRefIdeal.τ Cert.DownNormRefIdeal.sig) → Buf (Elt Ideal) ℓ) (g' : Dev Cert.DownNormRefIdeal.nD → PrngReg), Pre_DownNormIdeal m →
    (∀ c : Dev Cert.DownNormIdeal.nD,
      m' ((c.tc : Thread Cert.DownNormRefIdeal.nD Cert.DownNormRefIdeal.τ).loc Cert.DownNormRefIdeal.main_arg0) = m ((c.tc : Thread Cert.DownNormIdeal.nD Cert.DownNormIdeal.τ).loc Cert.DownNormIdeal.main_arg0)
      ∧ m' ((c.tc : Thread Cert.DownNormRefIdeal.nD Cert.DownNormRefIdeal.τ).loc Cert.DownNormRefIdeal.main_arg1) = m ((c.tc : Thread Cert.DownNormIdeal.nD Cert.DownNormIdeal.τ).loc Cert.DownNormIdeal.main_arg1)
      ∧ m' ((c.tc : Thread Cert.DownNormRefIdeal.nD Cert.DownNormRefIdeal.τ).loc Cert.DownNormRefIdeal.main_arg2) = m ((c.tc : Thread Cert.DownNormIdeal.nD Cert.DownNormIdeal.τ).loc Cert.DownNormIdeal.main_arg2)
      ∧ m' ((c.tc : Thread Cert.DownNormRefIdeal.nD Cert.DownNormRefIdeal.τ).loc Cert.DownNormRefIdeal.main_arg3) = m ((c.tc : Thread Cert.DownNormIdeal.nD Cert.DownNormIdeal.τ).loc Cert.DownNormIdeal.main_arg3)) →
    ∃ (v0 : (c : Dev Cert.DownNormIdeal.nD) → Buf (Elt Ideal) ((c.tc : Thread Cert.DownNormIdeal.nD Cert.DownNormIdeal.τ).loc Cert.DownNormIdeal.main_v0_0)) (v1 : (c : Dev Cert.DownNormIdeal.nD) → Buf (Elt Ideal) ((c.tc : Thread Cert.DownNormIdeal.nD Cert.DownNormIdeal.τ).loc Cert.DownNormIdeal.main_v0_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v0_0) = v0 c
          ∧ r.2.mem ((c.tc : Thread Cert.DownNormIdeal.nD Cert.DownNormIdeal.τ).loc Cert.DownNormIdeal.main_v0_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ θ_run (Cert.DownNormRefIdeal.defs (F := Ideal)) (onTc (τ := Cert.DownNormRefIdeal.τ) (Cert.DownNormRefIdeal.main (F := Ideal))) ⟨m', fun _ => 0, g'⟩ (fun r => ∀ c : Dev Cert.DownNormRefIdeal.nD,
          r.2.mem ((c.tc : Thread Cert.DownNormRefIdeal.nD Cert.DownNormRefIdeal.τ).loc Cert.DownNormRefIdeal.main_v5) = v0 c
          ∧ r.2.mem ((c.tc : Thread Cert.DownNormRefIdeal.nD Cert.DownNormRefIdeal.τ).loc Cert.DownNormRefIdeal.main_v18) = v1 c
          ∧ r.2.mem ((c.tc : Thread Cert.DownNormRefIdeal.nD Cert.DownNormRefIdeal.τ).loc Cert.DownNormRefIdeal.main_arg0) = m' ((c.tc : Thread Cert.DownNormRefIdeal.nD Cert.DownNormRefIdeal.τ).loc Cert.DownNormRefIdeal.main_arg0)
          ∧ r.2.mem ((c.tc : Thread Cert.DownNormRefIdeal.nD Cert.DownNormRefIdeal.τ).loc Cert.DownNormRefIdeal.main_arg1) = m' ((c.tc : Thread Cert.DownNormRefIdeal.nD Cert.DownNormRefIdeal.τ).loc Cert.DownNormRefIdeal.main_arg1)
          ∧ r.2.mem ((c.tc : Thread Cert.DownNormRefIdeal.nD Cert.DownNormRefIdeal.τ).loc Cert.DownNormRefIdeal.main_arg2) = m' ((c.tc : Thread Cert.DownNormRefIdeal.nD Cert.DownNormRefIdeal.τ).loc Cert.DownNormRefIdeal.main_arg2)
          ∧ r.2.mem ((c.tc : Thread Cert.DownNormRefIdeal.nD Cert.DownNormRefIdeal.τ).loc Cert.DownNormRefIdeal.main_arg3) = m' ((c.tc : Thread Cert.DownNormRefIdeal.nD Cert.DownNormRefIdeal.τ).loc Cert.DownNormRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)) (v2 : (c : Dev Cert.MixFwdIdeal.nD) → Buf (Elt Ideal) ((c.tc : Thread Cert.MixFwdIdeal.nD Cert.MixFwdIdeal.τ).loc Cert.MixFwdIdeal.main_v0_2)) (v3 : (c : Dev Cert.MixFwdIdeal.nD) → Buf (Elt Ideal) ((c.tc : Thread Cert.MixFwdIdeal.nD Cert.MixFwdIdeal.τ).loc Cert.MixFwdIdeal.main_v0_3)) (v4 : (c : Dev Cert.MixFwdIdeal.nD) → Buf (Elt Ideal) ((c.tc : Thread Cert.MixFwdIdeal.nD Cert.MixFwdIdeal.τ).loc Cert.MixFwdIdeal.main_v0_4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_v0_2) = v2 c
          ∧ r.2.mem ((c.tc : Thread Cert.MixFwdIdeal.nD Cert.MixFwdIdeal.τ).loc Cert.MixFwdIdeal.main_v0_3) = v3 c
          ∧ r.2.mem ((c.tc : Thread Cert.MixFwdIdeal.nD Cert.MixFwdIdeal.τ).loc Cert.MixFwdIdeal.main_v0_4) = v4 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v33) = v0 c
          ∧ r.2.mem ((c.tc : Thread Cert.MixFwdRefIdeal.nD Cert.MixFwdRefIdeal.τ).loc Cert.MixFwdRefIdeal.main_v34) = v1 c
          ∧ r.2.mem ((c.tc : Thread Cert.MixFwdRefIdeal.nD Cert.MixFwdRefIdeal.τ).loc Cert.MixFwdRefIdeal.main_v35) = v2 c
          ∧ r.2.mem ((c.tc : Thread Cert.MixFwdRefIdeal.nD Cert.MixFwdRefIdeal.τ).loc Cert.MixFwdRefIdeal.main_v36) = v3 c
          ∧ r.2.mem ((c.tc : Thread Cert.MixFwdRefIdeal.nD Cert.MixFwdRefIdeal.τ).loc Cert.MixFwdRefIdeal.main_v49) = v4 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v23) = v0 c
          ∧ r.2.mem ((c.tc : Thread Cert.AdamSqRefIdeal.nD Cert.AdamSqRefIdeal.τ).loc Cert.AdamSqRefIdeal.main_v4) = v1 c
          ∧ r.2.mem ((c.tc : Thread Cert.AdamSqRefIdeal.nD Cert.AdamSqRefIdeal.τ).loc Cert.AdamSqRefIdeal.main_v10) = v2 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Halves_HalvesIdeal : Prop :=
  True

def algebraic_HalvesIdeal_HalvesRefIdeal [hHalvesIdeal : Cert.HalvesIdeal.Facts] [hHalvesRefIdeal : Cert.HalvesRefIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesRefIdeal.nD Cert.HalvesRefIdeal.τ Cert.HalvesRefIdeal.sig) → Buf (Elt Ideal) ℓ) (g' : Dev Cert.HalvesRefIdeal.nD → PrngReg), Pre_HalvesIdeal m →
    (∀ c : Dev Cert.HalvesIdeal.nD,
      m ((c.tc : Thread Cert.HalvesIdeal.nD Cert.HalvesIdeal.τ).loc Cert.HalvesIdeal.main_arg0) = Layout.block ⟨2, ![512, 1408]⟩ ⟨2, ![1024, 1408]⟩ 0 2 c (m' (((0 : Dev Cert.HalvesRefIdeal.nD).tc : Thread Cert.HalvesRefIdeal.nD Cert.HalvesRefIdeal.τ).loc Cert.HalvesRefIdeal.main_arg0))
      ∧ m ((c.tc : Thread Cert.HalvesIdeal.nD Cert.HalvesIdeal.τ).loc Cert.HalvesIdeal.main_arg1) = Layout.block ⟨2, ![352, 1024]⟩ ⟨2, ![704, 1024]⟩ 0 2 c (m' (((0 : Dev Cert.HalvesRefIdeal.nD).tc : Thread Cert.HalvesRefIdeal.nD Cert.HalvesRefIdeal.τ).loc Cert.HalvesRefIdeal.main_arg1))
      ∧ m ((c.tc : Thread Cert.HalvesIdeal.nD Cert.HalvesIdeal.τ).loc Cert.HalvesIdeal.main_arg2) = Layout.block ⟨2, ![512, 1536]⟩ ⟨2, ![1024, 1536]⟩ 0 2 c (m' (((0 : Dev Cert.HalvesRefIdeal.nD).tc : Thread Cert.HalvesRefIdeal.nD Cert.HalvesRefIdeal.τ).loc Cert.HalvesRefIdeal.main_arg2))
      ∧ m ((c.tc : Thread Cert.HalvesIdeal.nD Cert.HalvesIdeal.τ).loc Cert.HalvesIdeal.main_arg3) = Layout.block ⟨2, ![256, 256]⟩ ⟨2, ![512, 256]⟩ 0 2 c (m' (((0 : Dev Cert.HalvesRefIdeal.nD).tc : Thread Cert.HalvesRefIdeal.nD Cert.HalvesRefIdeal.τ).loc Cert.HalvesRefIdeal.main_arg3))
      ∧ m ((c.tc : Thread Cert.HalvesIdeal.nD Cert.HalvesIdeal.τ).loc Cert.HalvesIdeal.main_arg4) = Layout.block ⟨2, ![256, 256]⟩ ⟨2, ![512, 256]⟩ 0 2 c (m' (((0 : Dev Cert.HalvesRefIdeal.nD).tc : Thread Cert.HalvesRefIdeal.nD Cert.HalvesRefIdeal.τ).loc Cert.HalvesRefIdeal.main_arg4))
      ∧ m ((c.tc : Thread Cert.HalvesIdeal.nD Cert.HalvesIdeal.τ).loc Cert.HalvesIdeal.main_arg5) = Layout.block ⟨2, ![128, 1024]⟩ ⟨2, ![256, 1024]⟩ 0 2 c (m' (((0 : Dev Cert.HalvesRefIdeal.nD).tc : Thread Cert.HalvesRefIdeal.nD Cert.HalvesRefIdeal.τ).loc Cert.HalvesRefIdeal.main_arg5))
      ∧ m ((c.tc : Thread Cert.HalvesIdeal.nD Cert.HalvesIdeal.τ).loc Cert.HalvesIdeal.main_arg6) = Layout.block ⟨2, ![256, 256]⟩ ⟨2, ![512, 256]⟩ 0 2 c (m' (((0 : Dev Cert.HalvesRefIdeal.nD).tc : Thread Cert.HalvesRefIdeal.nD Cert.HalvesRefIdeal.τ).loc Cert.HalvesRefIdeal.main_arg6))
      ∧ m ((c.tc : Thread Cert.HalvesIdeal.nD Cert.HalvesIdeal.τ).loc Cert.HalvesIdeal.main_arg7) = Layout.block ⟨2, ![128, 1024]⟩ ⟨2, ![256, 1024]⟩ 0 2 c (m' (((0 : Dev Cert.HalvesRefIdeal.nD).tc : Thread Cert.HalvesRefIdeal.nD Cert.HalvesRefIdeal.τ).loc Cert.HalvesRefIdeal.main_arg7))
      ∧ m ((c.tc : Thread Cert.HalvesIdeal.nD Cert.HalvesIdeal.τ).loc Cert.HalvesIdeal.main_arg8) = Layout.block ⟨2, ![512, 1408]⟩ ⟨2, ![1024, 1408]⟩ 0 2 c (m' (((0 : Dev Cert.HalvesRefIdeal.nD).tc : Thread Cert.HalvesRefIdeal.nD Cert.HalvesRefIdeal.τ).loc Cert.HalvesRefIdeal.main_arg8))
      ∧ m ((c.tc : Thread Cert.HalvesIdeal.nD Cert.HalvesIdeal.τ).loc Cert.HalvesIdeal.main_arg9) = Layout.block ⟨2, ![352, 1024]⟩ ⟨2, ![704, 1024]⟩ 0 2 c (m' (((0 : Dev Cert.HalvesRefIdeal.nD).tc : Thread Cert.HalvesRefIdeal.nD Cert.HalvesRefIdeal.τ).loc Cert.HalvesRefIdeal.main_arg9))) →
    ∃ (v0 : Buf (Elt Ideal) (((0 : Dev Cert.HalvesRefIdeal.nD).tc : Thread Cert.HalvesRefIdeal.nD Cert.HalvesRefIdeal.τ).loc Cert.HalvesRefIdeal.main_arg0)) (v1 : Buf (Elt Ideal) (((0 : Dev Cert.HalvesRefIdeal.nD).tc : Thread Cert.HalvesRefIdeal.nD Cert.HalvesRefIdeal.τ).loc Cert.HalvesRefIdeal.main_arg1)) (v2 : Buf (Elt Ideal) (((0 : Dev Cert.HalvesRefIdeal.nD).tc : Thread Cert.HalvesRefIdeal.nD Cert.HalvesRefIdeal.τ).loc Cert.HalvesRefIdeal.main_arg2)) (v3 : Buf (Elt Ideal) (((0 : Dev Cert.HalvesRefIdeal.nD).tc : Thread Cert.HalvesRefIdeal.nD Cert.HalvesRefIdeal.τ).loc Cert.HalvesRefIdeal.main_arg3)) (v4 : Buf (Elt Ideal) (((0 : Dev Cert.HalvesRefIdeal.nD).tc : Thread Cert.HalvesRefIdeal.nD Cert.HalvesRefIdeal.τ).loc Cert.HalvesRefIdeal.main_arg4)) (v5 : Buf (Elt Ideal) (((0 : Dev Cert.HalvesRefIdeal.nD).tc : Thread Cert.HalvesRefIdeal.nD Cert.HalvesRefIdeal.τ).loc Cert.HalvesRefIdeal.main_arg5)) (v6 : Buf (Elt Ideal) (((0 : Dev Cert.HalvesRefIdeal.nD).tc : Thread Cert.HalvesRefIdeal.nD Cert.HalvesRefIdeal.τ).loc Cert.HalvesRefIdeal.main_arg6)) (v7 : Buf (Elt Ideal) (((0 : Dev Cert.HalvesRefIdeal.nD).tc : Thread Cert.HalvesRefIdeal.nD Cert.HalvesRefIdeal.τ).loc Cert.HalvesRefIdeal.main_arg7)) (v8 : Buf (Elt Ideal) (((0 : Dev Cert.HalvesRefIdeal.nD).tc : Thread Cert.HalvesRefIdeal.nD Cert.HalvesRefIdeal.τ).loc Cert.HalvesRefIdeal.main_arg8)) (v9 : Buf (Elt Ideal) (((0 : Dev Cert.HalvesRefIdeal.nD).tc : Thread Cert.HalvesRefIdeal.nD Cert.HalvesRefIdeal.τ).loc Cert.HalvesRefIdeal.main_arg9)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v1_0) = v0
          ∧ r.2.mem ((c.tc : Thread Cert.HalvesIdeal.nD Cert.HalvesIdeal.τ).loc Cert.HalvesIdeal.main_v1_1) = v1
          ∧ r.2.mem ((c.tc : Thread Cert.HalvesIdeal.nD Cert.HalvesIdeal.τ).loc Cert.HalvesIdeal.main_v1_2) = v2
          ∧ r.2.mem ((c.tc : Thread Cert.HalvesIdeal.nD Cert.HalvesIdeal.τ).loc Cert.HalvesIdeal.main_v1_3) = v3
          ∧ r.2.mem ((c.tc : Thread Cert.HalvesIdeal.nD Cert.HalvesIdeal.τ).loc Cert.HalvesIdeal.main_v1_4) = v4
          ∧ r.2.mem ((c.tc : Thread Cert.HalvesIdeal.nD Cert.HalvesIdeal.τ).loc Cert.HalvesIdeal.main_v1_5) = v5
          ∧ r.2.mem ((c.tc : Thread Cert.HalvesIdeal.nD Cert.HalvesIdeal.τ).loc Cert.HalvesIdeal.main_v1_6) = v6
          ∧ r.2.mem ((c.tc : Thread Cert.HalvesIdeal.nD Cert.HalvesIdeal.τ).loc Cert.HalvesIdeal.main_v1_7) = v7
          ∧ r.2.mem ((c.tc : Thread Cert.HalvesIdeal.nD Cert.HalvesIdeal.τ).loc Cert.HalvesIdeal.main_v1_8) = v8
          ∧ r.2.mem ((c.tc : Thread Cert.HalvesIdeal.nD Cert.HalvesIdeal.τ).loc Cert.HalvesIdeal.main_v1_9) = v9
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
          ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
          ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
          ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
          ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
          ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7)
          ∧ r.2.mem ((c.tc : Thread Cert.HalvesIdeal.nD Cert.HalvesIdeal.τ).loc Cert.HalvesIdeal.main_arg8) = m ((c.tc : Thread Cert.HalvesIdeal.nD Cert.HalvesIdeal.τ).loc Cert.HalvesIdeal.main_arg8)
          ∧ r.2.mem ((c.tc : Thread Cert.HalvesIdeal.nD Cert.HalvesIdeal.τ).loc Cert.HalvesIdeal.main_arg9) = m ((c.tc : Thread Cert.HalvesIdeal.nD Cert.HalvesIdeal.τ).loc Cert.HalvesIdeal.main_arg9))
      ∧ θ_run (Cert.HalvesRefIdeal.defs (F := Ideal)) (onTc (τ := Cert.HalvesRefIdeal.τ) (Cert.HalvesRefIdeal.main (F := Ideal))) ⟨m', fun _ => 0, g'⟩ (fun r =>
          r.2.mem (((0 : Dev Cert.HalvesRefIdeal.nD).tc : Thread Cert.HalvesRefIdeal.nD Cert.HalvesRefIdeal.τ).loc Cert.HalvesRefIdeal.main_arg0) = v0
          ∧ r.2.mem (((0 : Dev Cert.HalvesRefIdeal.nD).tc : Thread Cert.HalvesRefIdeal.nD Cert.HalvesRefIdeal.τ).loc Cert.HalvesRefIdeal.main_arg1) = v1
          ∧ r.2.mem (((0 : Dev Cert.HalvesRefIdeal.nD).tc : Thread Cert.HalvesRefIdeal.nD Cert.HalvesRefIdeal.τ).loc Cert.HalvesRefIdeal.main_arg2) = v2
          ∧ r.2.mem (((0 : Dev Cert.HalvesRefIdeal.nD).tc : Thread Cert.HalvesRefIdeal.nD Cert.HalvesRefIdeal.τ).loc Cert.HalvesRefIdeal.main_arg3) = v3
          ∧ r.2.mem (((0 : Dev Cert.HalvesRefIdeal.nD).tc : Thread Cert.HalvesRefIdeal.nD Cert.HalvesRefIdeal.τ).loc Cert.HalvesRefIdeal.main_arg4) = v4
          ∧ r.2.mem (((0 : Dev Cert.HalvesRefIdeal.nD).tc : Thread Cert.HalvesRefIdeal.nD Cert.HalvesRefIdeal.τ).loc Cert.HalvesRefIdeal.main_arg5) = v5
          ∧ r.2.mem (((0 : Dev Cert.HalvesRefIdeal.nD).tc : Thread Cert.HalvesRefIdeal.nD Cert.HalvesRefIdeal.τ).loc Cert.HalvesRefIdeal.main_arg6) = v6
          ∧ r.2.mem (((0 : Dev Cert.HalvesRefIdeal.nD).tc : Thread Cert.HalvesRefIdeal.nD Cert.HalvesRefIdeal.τ).loc Cert.HalvesRefIdeal.main_arg7) = v7
          ∧ r.2.mem (((0 : Dev Cert.HalvesRefIdeal.nD).tc : Thread Cert.HalvesRefIdeal.nD Cert.HalvesRefIdeal.τ).loc Cert.HalvesRefIdeal.main_arg8) = v8
          ∧ r.2.mem (((0 : Dev Cert.HalvesRefIdeal.nD).tc : Thread Cert.HalvesRefIdeal.nD Cert.HalvesRefIdeal.τ).loc Cert.HalvesRefIdeal.main_arg9) = v9
          ∧ r.2.mem (((0 : Dev Cert.HalvesRefIdeal.nD).tc : Thread Cert.HalvesRefIdeal.nD Cert.HalvesRefIdeal.τ).loc Cert.HalvesRefIdeal.main_arg0) = m' (((0 : Dev Cert.HalvesRefIdeal.nD).tc : Thread Cert.HalvesRefIdeal.nD Cert.HalvesRefIdeal.τ).loc Cert.HalvesRefIdeal.main_arg0)
          ∧ r.2.mem (((0 : Dev Cert.HalvesRefIdeal.nD).tc : Thread Cert.HalvesRefIdeal.nD Cert.HalvesRefIdeal.τ).loc Cert.HalvesRefIdeal.main_arg1) = m' (((0 : Dev Cert.HalvesRefIdeal.nD).tc : Thread Cert.HalvesRefIdeal.nD Cert.HalvesRefIdeal.τ).loc Cert.HalvesRefIdeal.main_arg1)
          ∧ r.2.mem (((0 : Dev Cert.HalvesRefIdeal.nD).tc : Thread Cert.HalvesRefIdeal.nD Cert.HalvesRefIdeal.τ).loc Cert.HalvesRefIdeal.main_arg2) = m' (((0 : Dev Cert.HalvesRefIdeal.nD).tc : Thread Cert.HalvesRefIdeal.nD Cert.HalvesRefIdeal.τ).loc Cert.HalvesRefIdeal.main_arg2)
          ∧ r.2.mem (((0 : Dev Cert.HalvesRefIdeal.nD).tc : Thread Cert.HalvesRefIdeal.nD Cert.HalvesRefIdeal.τ).loc Cert.HalvesRefIdeal.main_arg3) = m' (((0 : Dev Cert.HalvesRefIdeal.nD).tc : Thread Cert.HalvesRefIdeal.nD Cert.HalvesRefIdeal.τ).loc Cert.HalvesRefIdeal.main_arg3)
          ∧ r.2.mem (((0 : Dev Cert.HalvesRefIdeal.nD).tc : Thread Cert.HalvesRefIdeal.nD Cert.HalvesRefIdeal.τ).loc Cert.HalvesRefIdeal.main_arg4) = m' (((0 : Dev Cert.HalvesRefIdeal.nD).tc : Thread Cert.HalvesRefIdeal.nD Cert.HalvesRefIdeal.τ).loc Cert.HalvesRefIdeal.main_arg4)
          ∧ r.2.mem (((0 : Dev Cert.HalvesRefIdeal.nD).tc : Thread Cert.HalvesRefIdeal.nD Cert.HalvesRefIdeal.τ).loc Cert.HalvesRefIdeal.main_arg5) = m' (((0 : Dev Cert.HalvesRefIdeal.nD).tc : Thread Cert.HalvesRefIdeal.nD Cert.HalvesRefIdeal.τ).loc Cert.HalvesRefIdeal.main_arg5)
          ∧ r.2.mem (((0 : Dev Cert.HalvesRefIdeal.nD).tc : Thread Cert.HalvesRefIdeal.nD Cert.HalvesRefIdeal.τ).loc Cert.HalvesRefIdeal.main_arg6) = m' (((0 : Dev Cert.HalvesRefIdeal.nD).tc : Thread Cert.HalvesRefIdeal.nD Cert.HalvesRefIdeal.τ).loc Cert.HalvesRefIdeal.main_arg6)
          ∧ r.2.mem (((0 : Dev Cert.HalvesRefIdeal.nD).tc : Thread Cert.HalvesRefIdeal.nD Cert.HalvesRefIdeal.τ).loc Cert.HalvesRefIdeal.main_arg7) = m' (((0 : Dev Cert.HalvesRefIdeal.nD).tc : Thread Cert.HalvesRefIdeal.nD Cert.HalvesRefIdeal.τ).loc Cert.HalvesRefIdeal.main_arg7)
          ∧ r.2.mem (((0 : Dev Cert.HalvesRefIdeal.nD).tc : Thread Cert.HalvesRefIdeal.nD Cert.HalvesRefIdeal.τ).loc Cert.HalvesRefIdeal.main_arg8) = m' (((0 : Dev Cert.HalvesRefIdeal.nD).tc : Thread Cert.HalvesRefIdeal.nD Cert.HalvesRefIdeal.τ).loc Cert.HalvesRefIdeal.main_arg8)
          ∧ r.2.mem (((0 : Dev Cert.HalvesRefIdeal.nD).tc : Thread Cert.HalvesRefIdeal.nD Cert.HalvesRefIdeal.τ).loc Cert.HalvesRefIdeal.main_arg9) = m' (((0 : Dev Cert.HalvesRefIdeal.nD).tc : Thread Cert.HalvesRefIdeal.nD Cert.HalvesRefIdeal.τ).loc Cert.HalvesRefIdeal.main_arg9))

def Claim : Prop :=
  ∃ (hDownBwd : Cert.DownBwd.Facts) (hDownBwdIdeal : Cert.DownBwdIdeal.Facts) (hDownBwdRefIdeal : Cert.DownBwdRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hUp : Cert.Up.Facts) (hUpIdeal : Cert.UpIdeal.Facts) (hUpRefIdeal : Cert.UpRefIdeal.Facts) (hDownNorm : Cert.DownNorm.Facts) (hDownNormIdeal : Cert.DownNormIdeal.Facts) (hDownNormRefIdeal : Cert.DownNormRefIdeal.Facts) (hDown : Cert.Down.Facts) (hDownIdeal : Cert.DownIdeal.Facts) (hDownRefIdeal : Cert.DownRefIdeal.Facts) (hMixFwd : Cert.MixFwd.Facts) (hMixFwdIdeal : Cert.MixFwdIdeal.Facts) (hMixFwdRefIdeal : Cert.MixFwdRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamSq : Cert.AdamSq.Facts) (hAdamSqIdeal : Cert.AdamSqIdeal.Facts) (hAdamSqRefIdeal : Cert.AdamSqRefIdeal.Facts) (hAdamKv : Cert.AdamKv.Facts) (hAdamKvIdeal : Cert.AdamKvIdeal.Facts) (hAdamKvRefIdeal : Cert.AdamKvRefIdeal.Facts) (hAdamSmall : Cert.AdamSmall.Facts) (hAdamSmallIdeal : Cert.AdamSmallIdeal.Facts) (hAdamSmallRefIdeal : Cert.AdamSmallRefIdeal.Facts) (hHalves : Cert.Halves.Facts) (hHalvesIdeal : Cert.HalvesIdeal.Facts) (hHalvesRefIdeal : Cert.HalvesRefIdeal.Facts) (hPre_down_bwd_finite : Cert.Pre_down_bwd_finite.Facts),
    quiescent_DownBwd (hDownBwd := hDownBwd)
    ∧ quiescent_DownBwdIdeal (hDownBwdIdeal := hDownBwdIdeal)
    ∧ quiescent_DownBwdIdeal_pre_down_bwd_finite (hDownBwdIdeal := hDownBwdIdeal) (hPre_down_bwd_finite := hPre_down_bwd_finite)
    ∧ quiescent_DownBwdRefIdeal (hDownBwdRefIdeal := hDownBwdRefIdeal)
    ∧ quiescent_DownBwdRefIdeal_pre_down_bwd_finite (hDownBwdRefIdeal := hDownBwdRefIdeal) (hPre_down_bwd_finite := hPre_down_bwd_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_Up (hUp := hUp)
    ∧ quiescent_UpIdeal (hUpIdeal := hUpIdeal)
    ∧ quiescent_UpRefIdeal (hUpRefIdeal := hUpRefIdeal)
    ∧ quiescent_DownNorm (hDownNorm := hDownNorm)
    ∧ quiescent_DownNormIdeal (hDownNormIdeal := hDownNormIdeal)
    ∧ quiescent_DownNormRefIdeal (hDownNormRefIdeal := hDownNormRefIdeal)
    ∧ quiescent_Down (hDown := hDown)
    ∧ quiescent_DownIdeal (hDownIdeal := hDownIdeal)
    ∧ quiescent_DownRefIdeal (hDownRefIdeal := hDownRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Halves (hHalves := hHalves)
    ∧ quiescent_HalvesIdeal (hHalvesIdeal := hHalvesIdeal)
    ∧ quiescent_HalvesRefIdeal (hHalvesRefIdeal := hHalvesRefIdeal)
    ∧ preserves_DownBwd_DownBwdIdeal
    ∧ algebraic_DownBwdIdeal_DownBwdRefIdeal_pre_down_bwd_finite (hDownBwdIdeal := hDownBwdIdeal) (hDownBwdRefIdeal := hDownBwdRefIdeal) (hPre_down_bwd_finite := hPre_down_bwd_finite)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_Up_UpIdeal
    ∧ algebraic_UpIdeal_UpRefIdeal (hUpIdeal := hUpIdeal) (hUpRefIdeal := hUpRefIdeal)
    ∧ preserves_DownNorm_DownNormIdeal
    ∧ algebraic_DownNormIdeal_DownNormRefIdeal (hDownNormIdeal := hDownNormIdeal) (hDownNormRefIdeal := hDownNormRefIdeal)
    ∧ preserves_Down_DownIdeal
    ∧ algebraic_DownIdeal_DownRefIdeal (hDownIdeal := hDownIdeal) (hDownRefIdeal := hDownRefIdeal)
    ∧ preserves_MixFwd_MixFwdIdeal
    ∧ algebraic_MixFwdIdeal_MixFwdRefIdeal (hMixFwdIdeal := hMixFwdIdeal) (hMixFwdRefIdeal := hMixFwdRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Halves_HalvesIdeal
    ∧ algebraic_HalvesIdeal_HalvesRefIdeal (hHalvesIdeal := hHalvesIdeal) (hHalvesRefIdeal := hHalvesRefIdeal)
-- ==== Pre_down_bwd_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S2816x1024 .f32 := (extf .f32 · bitsLt_bf16_f32) main_arg1
  let main_v1 : FVec F S8192x2816 .f32 := (extf .f32 · bitsLt_bf16_f32) main_arg3
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S2816x1024 .f32 := Host.absf main_v0
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8192x2816 .f32 := Host.absf main_v1
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v4, main_v7, main_v10)
-- ==== DownBwd.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S256x1024 : Shape := ⟨2, ![256, 1024]⟩
abbrev S1024x256 : Shape := ⟨2, ![1024, 256]⟩
abbrev S128x1024 : Shape := ⟨2, ![128, 1024]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBwdRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== UpDx.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x1408 : Shape := ⟨2, ![1024, 1408]⟩
abbrev S1024x1024 : Shape := ⟨2, ![1024, 1024]⟩
abbrev S2 : Shape := ⟨1, ![2]⟩
abbrev S1 : Shape := ⟨1, ![1]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_12 : BitVec 32 := 0#32
  ![v1.toNat, 0]
def k0_cond5 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_11 : BitVec 32 := 0#32
  let v22 : BitVec 1 := Scalar.cmpi .ne v21 c0_i32_11
  v22

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_12 : BitVec 32 := 0#32
  ![v1.toNat, 0]
@[reducible] def k0_t1_loop : Scf.Loop 32 :=
  let c0_i32_14 : BitVec 32 := 0#32
  let c4_i32_15 : BitVec 32 := 4#32
  let v29 : BitVec 32 := Scalar.addi c0_i32_14 c4_i32_15
  let c1_i32_16 : BitVec 32 := 1#32
  ⟨c0_i32_14, v29, c1_i32_16⟩
def k0_mult2 (k0_t1 : Fin k0_t1_loop.trips) : BitVec 32 :=
  let c0_i32_14 : BitVec 32 := 0#32
  let c1_i32_16 : BitVec 32 := 1#32
  let arg14 : BitVec 32 := Scf.iv c0_i32_14 c1_i32_16 k0_t1
  let c256_i32 : BitVec 32 := 256#32
  let v30 : BitVec 32 := Scalar.muli arg14 c256_i32
  v30
def k0_off3 (k0_t1 : Fin k0_t1_loop.trips) : Fin 2 → Nat :=
  let c0_i32_14 : BitVec 32 := 0#32
  let c1_i32_16 : BitVec 32 := 1#32
  let arg14 : BitVec 32 := Scf.iv c0_i32_14 c1_i32_16 k0_t1
  let c256_i32 : BitVec 32 := 256#32
  let v30 : BitVec 32 := Scalar.muli arg14 c256_i32
  let v31 : BitVec 32 := v30
  let v32 : Index := Scalar.indexCast v31
  let c0 : Index := 0#32
  ![v32.toNat, 0]
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== UpDxRefIdeal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x5632, .f32⟩
  | .hbm, ⟨26, _⟩ => ⟨S8192x5632, .f32⟩
  | .hbm, ⟨27, _⟩ => ⟨S8192x5632, .bf16⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== InDx.lean ====
abbrev S8192x6144 : Shape := ⟨2, ![8192, 6144]⟩
abbrev S1024x6144 : Shape := ⟨2, ![1024, 6144]⟩
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S2 : Shape := ⟨1, ![2]⟩
abbrev S1 : Shape := ⟨1, ![1]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_10 : BitVec 32 := 0#32
  ![v1.toNat, 0]
def k0_cond4 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_9 : BitVec 32 := 0#32
  let v17 : BitVec 1 := Scalar.cmpi .ne v16 c0_i32_9
  v17

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_10 : BitVec 32 := 0#32
  ![v1.toNat, 0]
@[reducible] def k0_t1_loop : Scf.Loop 32 :=
  let c0_i32_12 : BitVec 32 := 0#32
  let c4_i32 : BitVec 32 := 4#32
  let v24 : BitVec 32 := Scalar.addi c0_i32_12 c4_i32
  let c1_i32_13 : BitVec 32 := 1#32
  ⟨c0_i32_12, v24, c1_i32_13⟩
def k0_mult2 (k0_t1 : Fin k0_t1_loop.trips) : BitVec 32 :=
  let c0_i32_12 : BitVec 32 := 0#32
  let c1_i32_13 : BitVec 32 := 1#32
  let arg13 : BitVec 32 := Scf.iv c0_i32_12 c1_i32_13 k0_t1
  let c256_i32 : BitVec 32 := 256#32
  let v25 : BitVec 32 := Scalar.muli arg13 c256_i32
  v25
def k0_off3 (k0_t1 : Fin k0_t1_loop.trips) : Fin 2 → Nat :=
  let c0_i32_12 : BitVec 32 := 0#32
  let c1_i32_13 : BitVec 32 := 1#32
  let arg13 : BitVec 32 := Scf.iv c0_i32_12 c1_i32_13 k0_t1
  let c256_i32 : BitVec 32 := 256#32
  let v25 : BitVec 32 := Scalar.muli arg13 c256_i32
  let v26 : BitVec 32 := v25
  let v27 : Index := Scalar.indexCast v26
  let c0 : Index := 0#32
  ![v27.toNat, 0]
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== InDxRefIdeal.lean ====
abbrev S8192x6144 : Shape := ⟨2, ![8192, 6144]⟩
abbrev S1024x6144 : Shape := ⟨2, ![1024, 6144]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x6144, .f32⟩
  | .hbm, ⟨25, _⟩ => ⟨S8192x6144, .f32⟩
  | .hbm, ⟨26, _⟩ => ⟨S8192x6144, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .bf16⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InDw.lean ====
abbrev S8192x1024 : Shape := ⟨2, ![8192, 1024]⟩
abbrev S8192x6144 : Shape := ⟨2, ![8192, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | .hbm, ⟨5, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩
abbrev S1024x256 : Shape := ⟨2, ![1024, 256]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== DownNorm.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v9 : BitVec 32 := Scalar.muli arg7 c256_i32
  v9
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v9 : BitVec 32 := Scalar.muli arg7 c256_i32
  let v10 : BitVec 32 := v9
  let v11 : Index := Scalar.indexCast v10
  let c0_9 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownNormRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixFwd.lean ====
abbrev S8192x512 : Shape := ⟨2, ![8192, 512]⟩
abbrev S8192x6144 : Shape := ⟨2, ![8192, 6144]⟩
abbrev S1x3072 : Shape := ⟨2, ![1, 3072]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S256x512 : Shape := ⟨2, ![256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S1x3072, .f32⟩
  | .hbm, ⟨5, _⟩ => ⟨S8192x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S1x3072, .f32⟩
  | .local _ .vmem, ⟨9, _⟩ => ⟨S256x1024, .f32⟩
  | .local _ .vmem, ⟨10, _⟩ => ⟨S256x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFwdRefIdeal.lean ====
abbrev S8192x512 : Shape := ⟨2, ![8192, 512]⟩
abbrev S8192x6144 : Shape := ⟨2, ![8192, 6144]⟩
abbrev S1x3072 : Shape := ⟨2, ![1, 3072]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S1x3072, .f32⟩
  | .hbm, ⟨5, _⟩ => ⟨S8192x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S8192x512, .f32⟩
  | .hbm, ⟨12, _⟩ => ⟨S512x1024, .f32⟩
  | .hbm, ⟨13, _⟩ => ⟨S8192x1024, .f32⟩
  | .hbm, ⟨14, _⟩ => ⟨S8192x512, .f32⟩
  | .hbm, ⟨15, _⟩ => ⟨S512x1024, .f32⟩
  | .hbm, ⟨16, _⟩ => ⟨S8192x1024, .f32⟩
  | .hbm, ⟨17, _⟩ => ⟨S8192x512, .f32⟩
  | .hbm, ⟨18, _⟩ => ⟨S512x1024, .f32⟩
  | .hbm, ⟨19, _⟩ => ⟨S8192x1024, .f32⟩
  | .hbm, ⟨20, _⟩ => ⟨S8192x3072, .bf16⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S_, .f32⟩
  | .hbm, ⟨30, _⟩ => ⟨S8192x3072, .f32⟩
  | .hbm, ⟨31, _⟩ => ⟨S8192x3072, .f32⟩
  | .hbm, ⟨32, _⟩ => ⟨S8192x3x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSqRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S120x128 : Shape := ⟨2, ![120, 128]⟩
abbrev S40x128 : Shape := ⟨2, ![40, 128]⟩

abbrev nBuf : Space → Nat
  | .hbm => 7
  | .vmem => 14
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | .local _ .vmem, ⟨8, _⟩ => ⟨S40x128, .f32⟩
  | .local _ .vmem, ⟨9, _⟩ => ⟨S40x128, .f32⟩
  | .local _ .vmem, ⟨10, _⟩ => ⟨S40x128, .f32⟩
  | .local _ .vmem, ⟨11, _⟩ => ⟨S40x128, .f32⟩
  | .local _ .vmem, ⟨12, _⟩ => ⟨S40x128, .f32⟩
  | .local _ .vmem, ⟨13, _⟩ => ⟨S40x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Halves.lean ====
abbrev S512x1408 : Shape := ⟨2, ![512, 1408]⟩
abbrev S352x1024 : Shape := ⟨2, ![352, 1024]⟩
abbrev S512x1536 : Shape := ⟨2, ![512, 1536]⟩
abbrev S256x256 : Shape := ⟨2, ![256, 256]⟩
abbrev S128x1024 : Shape := ⟨2, ![128, 1024]⟩
abbrev S1024x1408 : Shape := ⟨2, ![1024, 1408]⟩
abbrev S704x1024 : Shape := ⟨2, ![704, 1024]⟩
abbrev S1024x1536 : Shape := ⟨2, ![1024, 1536]⟩
abbrev S512x256 : Shape := ⟨2, ![512, 256]⟩
abbrev S256x1024 : Shape := ⟨2, ![256, 1024]⟩
abbrev S10 : Shape := ⟨1, ![10]⟩
abbrev S1 : Shape := ⟨1, ![1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S352x1024, .f32⟩
  | .hbm, ⟨2, _⟩ => ⟨S512x1536, .f32⟩
  | .hbm, ⟨3, _⟩ => ⟨S256x256, .f32⟩
  | .hbm, ⟨4, _⟩ => ⟨S256x256, .f32⟩
  | .hbm, ⟨5, _⟩ => ⟨S128x1024, .f32⟩
  | .hbm, ⟨6, _⟩ => ⟨S256x256, .f32⟩
  | .hbm, ⟨7, _⟩ => ⟨S128x1024, .f32⟩
  | .hbm, ⟨8, _⟩ => ⟨S512x1408, .f32⟩
  | .hbm, ⟨9, _⟩ => ⟨S352x1024, .f32⟩
  | .hbm, ⟨10, _⟩ => ⟨S1024x1408, .f32⟩
  | .hbm, ⟨11, _⟩ => ⟨S704x1024, .f32⟩
  | .hbm, ⟨12, _⟩ => ⟨S1024x1536, .f32⟩
  | .hbm, ⟨13, _⟩ => ⟨S512x256, .f32⟩
  | .hbm, ⟨14, _⟩ => ⟨S512x256, .f32⟩
  | .hbm, ⟨15, _⟩ => ⟨S256x1024, .f32⟩
  | .hbm, ⟨16, _⟩ => ⟨S512x256, .f32⟩
  | .hbm, ⟨17, _⟩ => ⟨S256x1024, .f32⟩
  | .hbm, ⟨18, _⟩ => ⟨S1024x1408, .f32⟩
  | .hbm, ⟨19, _⟩ => ⟨S704x1024, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 2
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c512_i32 : BitVec 32 := 512#32
  let v5 : BitVec 32 := Scalar.muli v2 c512_i32
  let c0_i32_8 : BitVec 32 := 0#32
  ![v5.toNat, 0]
def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_12 : BitVec 32 := 1#32
  let v19 : BitVec 32 := Scalar.muli v4 c1_i32_12
  let v20 : BitVec 32 := Scalar.addi c0_i32_13 v19
  v20.toNat
def k0_off2 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c352_i32 : BitVec 32 := 352#32
  let v6 : BitVec 32 := Scalar.muli v2 c352_i32
  let c0_i32_16 : BitVec 32 := 0#32
  ![v6.toNat, 0]
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_20 : BitVec 32 := 1#32
  let v30 : BitVec 32 := Scalar.muli v4 c1_i32_20
  let v31 : BitVec 32 := Scalar.addi c0_i32_21 v30
  v31.toNat
def k0_off3 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c512_i32_2 : BitVec 32 := 512#32
  let v7 : BitVec 32 := Scalar.muli v2 c512_i32_2
  let c0_i32_24 : BitVec 32 := 0#32
  ![v7.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_28 : BitVec 32 := 1#32
  let v41 : BitVec 32 := Scalar.muli v4 c1_i32_28
  let v42 : BitVec 32 := Scalar.addi c0_i32_29 v41
  v42.toNat
def k0_off4 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c256_i32 : BitVec 32 := 256#32
  let v8 : BitVec 32 := Scalar.muli v2 c256_i32
  let c0_i32_31 : BitVec 32 := 0#32
  ![v8.toNat, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_35 : BitVec 32 := 1#32
  let v52 : BitVec 32 := Scalar.muli v4 c1_i32_35
  let v53 : BitVec 32 := Scalar.addi c0_i32_36 v52
  v53.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_42 : BitVec 32 := 1#32
  let v63 : BitVec 32 := Scalar.muli v4 c1_i32_42
  let v64 : BitVec 32 := Scalar.addi c0_i32_43 v63
  v64.toNat
def k0_off5 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c128_i32 : BitVec 32 := 128#32
  let v10 : BitVec 32 := Scalar.muli v2 c128_i32
  let c0_i32_45 : BitVec 32 := 0#32
  ![v10.toNat, 0]
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_49 : BitVec 32 := 1#32
  let v74 : BitVec 32 := Scalar.muli v4 c1_i32_49
  let v75 : BitVec 32 := Scalar.addi c0_i32_50 v74
  v75.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_56 : BitVec 32 := 1#32
  let v85 : BitVec 32 := Scalar.muli v4 c1_i32_56
  let v86 : BitVec 32 := Scalar.addi c0_i32_57 v85
  v86.toNat
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_63 : BitVec 32 := 1#32
  let v96 : BitVec 32 := Scalar.muli v4 c1_i32_63
  let v97 : BitVec 32 := Scalar.addi c0_i32_64 v96
  v97.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_70 : BitVec 32 := 1#32
  let v107 : BitVec 32 := Scalar.muli v4 c1_i32_70
  let v108 : BitVec 32 := Scalar.addi c0_i32_71 v107
  v108.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.xori v2 c1_i32_0
  let c1_i32_1 : BitVec 32 := 1#32
  let v4 : BitVec 32 := Scalar.andi v3 c1_i32_1
  let c1_i32_77 : BitVec 32 := 1#32
  let v118 : BitVec 32 := Scalar.muli v4 c1_i32_77
  let v119 : BitVec 32 := Scalar.addi c0_i32_78 v118
  v119.toNat
def k0_off6 (d0 : Dev nD) : Fin 2 → Nat :=
  let c1_i32_80 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v125 : BitVec 32 := Scalar.subi c1_i32_80 v2
  let c512_i32_81 : BitVec 32 := 512#32
  let v126 : BitVec 32 := Scalar.muli v125 c512_i32_81
  let c0_i32_86 : BitVec 32 := 0#32
  ![v126.toNat, 0]
def k0_off7 (d0 : Dev nD) : Fin 2 → Nat :=
  let c1_i32_87 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v132 : BitVec 32 := Scalar.subi c1_i32_87 v2
  let c352_i32_88 : BitVec 32 := 352#32
  let v133 : BitVec 32 := Scalar.muli v132 c352_i32_88
  let c0_i32_93 : BitVec 32 := 0#32
  ![v133.toNat, 0]
def k0_off8 (d0 : Dev nD) : Fin 2 → Nat :=
  let c1_i32_94 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v139 : BitVec 32 := Scalar.subi c1_i32_94 v2
  let c512_i32_95 : BitVec 32 := 512#32
  let v140 : BitVec 32 := Scalar.muli v139 c512_i32_95
  let c0_i32_100 : BitVec 32 := 0#32
  ![v140.toNat, 0]
def k0_off9 (d0 : Dev nD) : Fin 2 → Nat :=
  let c1_i32_101 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v146 : BitVec 32 := Scalar.subi c1_i32_101 v2
  let c256_i32_102 : BitVec 32 := 256#32
  let v147 : BitVec 32 := Scalar.muli v146 c256_i32_102
  let c0_i32_107 : BitVec 32 := 0#32
  ![v147.toNat, 0]
def k0_off10 (d0 : Dev nD) : Fin 2 → Nat :=
  let c1_i32_115 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v160 : BitVec 32 := Scalar.subi c1_i32_115 v2
  let c128_i32_116 : BitVec 32 := 128#32
  let v161 : BitVec 32 := Scalar.muli v160 c128_i32_116
  let c0_i32_121 : BitVec 32 := 0#32
  ![v161.toNat, 0]
-- ==== HalvesRefIdeal.lean ====
abbrev S1024x1408 : Shape := ⟨2, ![1024, 1408]⟩
abbrev S704x1024 : Shape := ⟨2, ![704, 1024]⟩
abbrev S1024x1536 : Shape := ⟨2, ![1024, 1536]⟩
abbrev S512x256 : Shape := ⟨2, ![512, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1536, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x256, .f32⟩
  | .hbm, ⟨7, _⟩ => ⟨S256x1024, .f32⟩
  | .hbm, ⟨8, _⟩ => ⟨S1024x1408, .f32⟩
  | .hbm, ⟨9, _⟩ => ⟨S704x1024, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩

abbrev nD : Nat := 1
abbrev τ : Topo := Topo.v7x

variable {F : FTy → Type} [FloatOps F]
-- ==== Proof.Arith.lean ====
/- Constants as extended reals, and a nonnegative real factor over a finite sum. -/
module

public import Idealize.ShloMosaic.Lib.IdealHost
public import Idealize.ShloMosaic.Lib.Pointwise

@[expose] public section

noncomputable section

namespace Cert.Arith

open Idealize.ShloMosaic
open scoped BigOperators

theorem half_f32 : Ideal.ofBits .f32 0x3F000000#32 = (((1 : ℝ) / 2 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

/-- A nonnegative real factor moves into a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The same with the factor on the right. -/
theorem sum_mul_coe {ι : Type*} (s : Finset ι) (a : ℝ) (ha : 0 ≤ a) (f : ι → EReal) :
    (∑ i ∈ s, f i) * (a : EReal) = ∑ i ∈ s, f i * (a : EReal) := by
  rw [mul_comm, coe_mul_sum s a ha]
  exact Finset.sum_congr rfl fun i _ => mul_comm _ _

theorem half_mul_sum {ι : Type*} (s : Finset ι) (f : ι → EReal) :
    Ideal.ofBits .f32 0x3F000000#32 * ∑ i ∈ s, f i = ∑ i ∈ s, Ideal.ofBits .f32 0x3F000000#32 * f i := by
  rw [half_f32]; exact coe_mul_sum s _ (by norm_num) f

theorem sum_mul_half {ι : Type*} (s : Finset ι) (f : ι → EReal) :
    (∑ i ∈ s, f i) * Ideal.ofBits .f32 0x3F000000#32 = ∑ i ∈ s, f i * Ideal.ofBits .f32 0x3F000000#32 := by
  rw [half_f32]; exact sum_mul_coe s _ (by norm_num) f

theorem eighth_mul_sum {ι : Type*} (s : Finset ι) (f : ι → EReal) :
    Ideal.ofBits .f32 0x3E000000#32 * ∑ i ∈ s, f i = ∑ i ∈ s, Ideal.ofBits .f32 0x3E000000#32 * f i := by
  rw [eighth_f32]; exact coe_mul_sum s _ (by norm_num) f

theorem sum_mul_eighth {ι : Type*} (s : Finset ι) (f : ι → EReal) :
    (∑ i ∈ s, f i) * Ideal.ofBits .f32 0x3E000000#32 = ∑ i ∈ s, f i * Ideal.ofBits .f32 0x3E000000#32 := by
  rw [eighth_f32]; exact sum_mul_coe s _ (by norm_num) f

/-- A factor on the right moves to the front. -/
theorem mul_swap (h a b : EReal) : a * b * h = h * b * a := by ac_rfl

/-- The logistic function by the hyperbolic tangent of half the argument, at every extended real. -/
theorem sigma_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  show _ = Ideal.logistic x
  rw [half_f32]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top,
      show (1 : EReal) = ((1 : ℝ) : EReal) from rfl, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have p1 := Real.exp_pos (1 / 2 * r)
    have p2 := Real.exp_pos (-(1 / 2 * r))
    rw [h1]
    set a := Real.exp (1 / 2 * r)
    set b := Real.exp (-(1 / 2 * r))
    have hb : b ≠ 0 := p2.ne'
    have ha : a = 1 / b := by field_simp; linarith
    rw [ha]
    have : 1 + b * b ≠ 0 := by positivity
    field_simp
    ring

end Cert.Arith

end
-- ==== Proof.Finite.lean ====
/- Extended reals that are real numbers: where a precondition states it, and what keeps it. -/
module

public import Idealize.ShloMosaic.Lib.IdealHost
public import Idealize.ShloMosaic.Lib.Pointwise
public import proofs.«01_k».proof.Proof.Arith

@[expose] public section

noncomputable section

namespace Cert.Arith

open Idealize.ShloMosaic
open scoped BigOperators

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem IsR.sum {ι : Type*} (s : Finset ι) {f : ι → EReal} (h : ∀ i ∈ s, IsR (f i)) : IsR (∑ i ∈ s, f i) := by
  classical
  induction s using Finset.induction_on with
  | empty => exact ⟨0, by simp⟩
  | insert i s hi ih =>
    rw [Finset.sum_insert hi]
    exact (h i (Finset.mem_insert_self i s)).add (ih fun j hj => h j (Finset.mem_insert_of_mem hj))

theorem isR_half : IsR (Ideal.ofBits .f32 0x3F000000#32) := ⟨_, half_f32⟩

theorem isR_one : IsR 1 := ⟨1, rfl⟩

/-- A word of one bit that says an extended real's absolute value is below the infinity. -/
theorem isR_of_abs {x : EReal} (h : FloatOps.cmpf (F := Ideal) (φ := .f32) .olt (FloatOps.hostAbsf (F := Ideal) (φ := .f32) x) (FloatOps.ofBits (F := Ideal) .f32 0x7F800000#32) = 1#1) : IsR x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x with
  | bot => simp at h
  | top => simp at h
  | coe r => exact ⟨r, rfl⟩

/-- The logistic factor of the gated activation's gradient, in the two forms it is written. -/
theorem gate_bwd {c : EReal} (hc : IsR c) (a : EReal) :
    (c * Ideal.div 1 (1 + Ideal.exp (-a))) * (1 + a * (1 - Ideal.div 1 (1 + Ideal.exp (-a))))
      = c * Ideal.div 1 (1 + Ideal.exp (-a)) + a * c * (Ideal.div 1 (1 + Ideal.exp (-a)) * (1 - Ideal.div 1 (1 + Ideal.exp (-a)))) := by
  obtain ⟨r, rfl⟩ := hc
  show (_ * Ideal.logistic a) * (1 + a * (1 - Ideal.logistic a)) = _ * Ideal.logistic a + a * _ * (Ideal.logistic a * (1 - Ideal.logistic a))
  induction a with
  | bot => rw [Ideal.logistic_bot]; simp
  | top =>
    rw [Ideal.logistic_top]
    have h : (1 : EReal) - 1 = 0 := by rw [show (1 : EReal) = ((1 : ℝ) : EReal) from rfl, ← EReal.coe_sub]; simp
    rw [h]; simp
  | coe x =>
    rw [Ideal.logistic_coe, show (1 : EReal) = ((1 : ℝ) : EReal) from rfl]
    norm_cast
    congr 1; ring

end Cert.Arith

end
-- ==== Proof.DownBwdVal.lean ====
/- The second feed-forward product's backward through the gated activation: what the kernel's result arrays end holding is the reference's terms. -/
module

public import proofs.«01_k».proof.Proof.Gen.DownBwdIdeal.Value
public import proofs.«01_k».proof.Proof.Gen.DownBwdRefIdeal.Run
public import Idealize.ShloMosaic.Lib.Pipeline.ValueKit
public import Idealize.ShloMosaic.Lib.Pointwise
public import Idealize.ShloMosaic.Lib.Claim
public import proofs.«01_k».proof.Proof.Arith
public import proofs.«01_k».proof.Proof.Finite
@[expose] public section

set_option maxRecDepth 16384

noncomputable section

namespace Cert.DownBwdRefIdeal.Whole

open Idealize.ShloMosaic Idealize.ShloMosaic.TcCoe Idealize.SL.Sem
open Cert.DownBwdRefIdeal Cert.DownBwdRefIdeal.Gen

/-- The reference's term of its arguments. -/
def REFDA (d : FVec Ideal S8192x1024 .f32) (w : FVec Ideal S2816x1024 .bf16) (a : FVec Ideal S8192x2816 .bf16) (b : FVec Ideal S8192x2816 .bf16) : FVec Ideal S8192x2816 .bf16 :=
  truncf .bf16 (addf (mulf (mulf (Host.dotGeneral dot_S8192x1024_S2816x1024_S8192x2816_1_1_0_0_n_n none (mulf (broadcastInDim S8192x1024 ![] bcast_S_S8192x1024 (constant S_ .f32 0x3F000000#32)) d) (extf .f32 w bitsLt_bf16_f32)) (extf .f32 b bitsLt_bf16_f32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a bitsLt_bf16_f32)))))) (mulf (mulf (extf .f32 a bitsLt_bf16_f32) (mulf (Host.dotGeneral dot_S8192x1024_S2816x1024_S8192x2816_1_1_0_0_n_n none (mulf (broadcastInDim S8192x1024 ![] bcast_S_S8192x1024 (constant S_ .f32 0x3F000000#32)) d) (extf .f32 w bitsLt_bf16_f32)) (extf .f32 b bitsLt_bf16_f32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a bitsLt_bf16_f32))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a bitsLt_bf16_f32))))))))) bitsLt_bf16_f32

/-- The reference's term of its arguments. -/
def REFDB (d : FVec Ideal S8192x1024 .f32) (w : FVec Ideal S2816x1024 .bf16) (a : FVec Ideal S8192x2816 .bf16) (b : FVec Ideal S8192x2816 .bf16) : FVec Ideal S8192x2816 .bf16 :=
  truncf .bf16 (mulf (mulf (extf .f32 a bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a bitsLt_bf16_f32)))))) (Host.dotGeneral dot_S8192x1024_S2816x1024_S8192x2816_1_1_0_0_n_n none (mulf (broadcastInDim S8192x1024 ![] bcast_S_S8192x1024 (constant S_ .f32 0x3F000000#32)) d) (extf .f32 w bitsLt_bf16_f32))) bitsLt_bf16_f32

end Cert.DownBwdRefIdeal.Whole

namespace Cert.DownBwdIdeal.Whole

open Idealize.ShloMosaic Idealize.ShloMosaic.TcCoe Idealize.SL.Sem
open Idealize.ShloMosaic.Pipeline (Dat)
open Cert.DownBwdIdeal Cert.DownBwdIdeal.Gen
open Cert.DownBwdRefIdeal.Whole

variable (m : (ℓ : Loc nD τ sig) → Buf (Elt Ideal) ℓ)

/-- Each window's block index at each grid point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] ∧ win0_4.index t = ![t.val / 2, t.val % 2]
    ∧ win0_5.index t = ![t.val / 2, t.val % 2] ∧ t.val < 16 :=
  (by decide +kernel : ∀ t : Fin grid0.N, _)

/-- A tile of the product at an index. -/
def TC (d : FVec Ideal S1024x1024 .f32) (w : FVec Ideal S1408x1024 .bf16) (y : S1024x1408.Idx) : EReal :=
  ∑ k : Fin 1024, d (ix2 (y 0) k) * Ideal.ofBits .f32 0x3F000000#32 * w (ix2 (y 1) k)

/-- The logistic factor as the kernel writes it. -/
def TS (a : EReal) : EReal :=
  Ideal.ofBits .f32 0x3F000000#32 * Ideal.tanh (Ideal.ofBits .f32 0x3F000000#32 * a) + Ideal.ofBits .f32 0x3F000000#32

/-- A tile of the gate's gradient. -/
def TDA (d : FVec Ideal S1024x1024 .f32) (w : FVec Ideal S1408x1024 .bf16) (a b : FVec Ideal S1024x1408 .bf16) (y : S1024x1408.Idx) : EReal :=
  TC d w y * b y * TS (a y) * (1 + a y * (1 - TS (a y)))

/-- A tile of the other factor's gradient. -/
def TDB (d : FVec Ideal S1024x1024 .f32) (w : FVec Ideal S1408x1024 .bf16) (a : FVec Ideal S1024x1408 .bf16) (y : S1024x1408.Idx) : EReal :=
  TC d w y * a y * TS (a y)

/-- The product at an index of the whole arrays. -/
def WC (d : FVec Ideal S8192x1024 .f32) (w : FVec Ideal S2816x1024 .bf16) (i : S8192x2816.Idx) : EReal :=
  ∑ k : Fin 1024, d (ix2 (i 0) k) * Ideal.ofBits .f32 0x3F000000#32 * w (ix2 (i 1) k)

/-- The logistic factor as the reference writes it. -/
def WS (a : EReal) : EReal := Ideal.div 1 (1 + Ideal.exp (-a))

theorem ts_eq (a : EReal) : TS a = WS a := Cert.Arith.sigma_tanh a

theorem refda_at (d : FVec Ideal S8192x1024 .f32) (w : FVec Ideal S2816x1024 .bf16) (a b : FVec Ideal S8192x2816 .bf16) (i : S8192x2816.Idx)
    (hd : ∀ j, Cert.Arith.IsR (d j)) (hw : ∀ j, Cert.Arith.IsR (w j)) (hb : ∀ j, Cert.Arith.IsR (b j)) :
    WC d w i * b i * WS (a i) * (1 + a i * (1 - WS (a i))) = REFDA d w a b i := by
  have hc : Cert.Arith.IsR (WC d w i * b i) :=
    (Cert.Arith.IsR.sum _ fun k _ => ((hd _).mul Cert.Arith.isR_half).mul (hw _)).mul (hb _)
  unfold WS
  rw [Cert.Arith.gate_bwd hc]
  pointwise [WC, REFDA]
  simp only [mul_comm (Ideal.ofBits .f32 0x3F000000#32)]

theorem refdb_at (d : FVec Ideal S8192x1024 .f32) (w : FVec Ideal S2816x1024 .bf16) (a b : FVec Ideal S8192x2816 .bf16) (i : S8192x2816.Idx) :
    WC d w i * a i * WS (a i) = REFDB d w a b i := by
  pointwise [WC, WS, REFDB]
  simp only [mul_comm (Ideal.ofBits .f32 0x3F000000#32)]
  ac_rfl

theorem final4 (c : Dev nD) (hd : ∀ j, Cert.Arith.IsR (m ((c : Thread nD τ).loc main_arg0) j)) (hw : ∀ j, Cert.Arith.IsR (m ((c : Thread nD τ).loc main_arg1) j))
    (hb : ∀ j, Cert.Arith.IsR (m ((c : Thread nD τ).loc main_arg3) j)) : (dats m 0 c).arrAt 4 (cfgs 0).N = REFDA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [← refda_at _ _ _ _ _ hd hw hb]
  blk_simp
  rw [after0_4]
  unfold outsAt0
  frame_out
  refine Eq.trans (b := TDA (iblk m c 0 t) (iblk m c 1 t) (iblk m c 2 t) (iblk m c 3 t) y) ?_ ?_
  · canon_tiles x h using View.cover_of_tiledBy _ ![1024, 128] (by sl_kernel_rfl) y
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, TC, TS, TDA]; blk_point [])
  · unfold TDA
    simp only [ts_eq]
    pointwise [TC, WC]
    blk_point [iblk, V, idx t]

theorem final5 (c : Dev nD) : (dats m 0 c).arrAt 5 (cfgs 0).N = REFDB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [← refdb_at]
  blk_simp
  rw [after0_5]
  unfold outsAt0
  frame_out
  refine Eq.trans (b := TDB (iblk m c 0 t) (iblk m c 1 t) (iblk m c 2 t) y) ?_ ?_
  · canon_tiles x h using View.cover_of_tiledBy _ ![1024, 128] (by sl_kernel_rfl) y
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, TC, TS, TDB]; blk_point [])
  · unfold TDB
    simp only [ts_eq]
    pointwise [TC, WC]
    blk_point [iblk, V, idx t]

end Cert.DownBwdIdeal.Whole

end
-- ==== Proof.DownBwdPre.lean ====
/- What the precondition of the second feed-forward product's backward says of each array. -/
module

public import proofs.«01_k».proof.Proof.Gen.Pre_down_bwd_finite
public import proofs.«01_k».proof.Proof.Finite
public import Idealize.ShloMosaic.Lib.Claim

@[expose] public section

noncomputable section

namespace Cert.DownBwdIdeal.Whole

open Idealize.ShloMosaic Idealize.SL.Sem
open Cert.Pre_down_bwd_finite Cert.Pre_down_bwd_finite.Gen

variable (d : FVec Ideal S8192x1024 .f32) (w : FVec Ideal S2816x1024 .bf16) (a b : FVec Ideal S8192x2816 .bf16)

/-- Every element of the cotangent is a real number. -/
theorem pre_d (h : (fn (F := Ideal) d w a b).1 = (fun _ => 1#1) ∧ (fn (F := Ideal) d w a b).2.1 = (fun _ => 1#1) ∧ (fn (F := Ideal) d w a b).2.2 = (fun _ => 1#1)) :
    ∀ j, Cert.Arith.IsR (d j) :=
  fun j => Cert.Arith.isR_of_abs (congrFun h.1 j)

/-- Every element of the weight is a real number. -/
theorem pre_w (h : (fn (F := Ideal) d w a b).1 = (fun _ => 1#1) ∧ (fn (F := Ideal) d w a b).2.1 = (fun _ => 1#1) ∧ (fn (F := Ideal) d w a b).2.2 = (fun _ => 1#1)) :
    ∀ j, Cert.Arith.IsR (w j) :=
  fun j => Cert.Arith.isR_of_abs (congrFun h.2.1 j)

/-- Every element of the second factor is a real number. -/
theorem pre_b (h : (fn (F := Ideal) d w a b).1 = (fun _ => 1#1) ∧ (fn (F := Ideal) d w a b).2.1 = (fun _ => 1#1) ∧ (fn (F := Ideal) d w a b).2.2 = (fun _ => 1#1)) :
    ∀ j, Cert.Arith.IsR (b j) :=
  fun j => Cert.Arith.isR_of_abs (congrFun h.2.2 j)

end Cert.DownBwdIdeal.Whole

end
-- ==== Proof.UpDxIdealRuns.lean ====
/- The conditions, the blocks, the transfers on their way and the invariant of the call at a grid point. -/
module

public import proofs.«01_k».proof.Proof.Gen.UpDxIdeal.Launch
public import proofs.«01_k».proof.Proof.Gen.UpDxIdeal.Skeleton
public import proofs.«01_k».proof.Proof.Gen.UpDxIdeal.Loops
public import proofs.«01_k».proof.Proof.Gen.UpDxIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c)⟩) h

abbrev cond0_0 (i : grid0.Coords) : Prop := k0_cond1 i = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    show k0_cond1 _ = 1#1 ↔ _
    unfold k0_cond1
    simp only [e0, e1]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 32 = 0)

abbrev cond0_2 (i : grid0.Coords) : Prop := (Scalar.cmpi .ne (Scalar.extui (Scalar.andi (Scalar.cmpi .sge (BitVec.ofNat 32 (i 1).val) 0#32) (Scalar.cmpi .slt (BitVec.ofNat 32 (i 1).val) 2#32))) 0#32) = 1#1
theorem hcond0_2 : ∀ t : Fin cfg0.N, cond0_2 (grid0.coords t) ↔ t.val % 4 ≤ 1 :=
  (by decide +kernel : ∀ t : Fin grid0.N, cond0_2 (grid0.coords t) ↔ t.val % 4 ≤ 1)

abbrev cond0_3 (i : grid0.Coords) : Prop := (Scalar.cmpi .ne (Scalar.extui (Scalar.andi (Scalar.cmpi .sge (BitVec.ofNat 32 (i 1).val) 2#32) (Scalar.cmpi .slt (BitVec.ofNat 32 (i 1).val) 4#32))) 0#32) = 1#1
theorem hcond0_3 : ∀ t : Fin cfg0.N, cond0_3 (grid0.coords t) ↔ 2 ≤ t.val % 4 :=
  (by decide +kernel : ∀ t : Fin grid0.N, cond0_3 (grid0.coords t) ↔ 2 ≤ t.val % 4)

abbrev cond0_4 (i : grid0.Coords) : Prop := k0_cond5 i = 1#1
theorem hcond0_4 : ∀ t : Fin cfg0.N, cond0_4 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_4, k0_cond5, e0, e1]
    word_cmp
   : ∀ t : Fin grid0.N, cond0_4 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

abbrev conds0_A (i : grid0.Coords) : Prop := cond0_0 i ∧ cond0_1 i ∧ cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
abbrev conds0_B (i : grid0.Coords) : Prop := ¬cond0_0 i ∧ ¬cond0_1 i ∧ cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
abbrev conds0_D (i : grid0.Coords) : Prop := ¬cond0_0 i ∧ ¬cond0_1 i ∧ ¬cond0_2 i ∧ cond0_3 i ∧ cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
abbrev conds0_E (i : grid0.Coords) : Prop := cond0_0 i ∧ ¬cond0_1 i ∧ cond0_2 i ∧ ¬cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
theorem idleAt0_4_A : ∀ t : Fin cfg0.N, cond0_0 (grid0.coords t) → cond0_1 (grid0.coords t) → cond0_2 (grid0.coords t) → ¬cond0_3 (grid0.coords t) → ¬cond0_4 (grid0.coords t) → cfg0.idle 4 (grid0.coords t) = true :=
  fun t h0 h1 h2 h3 h4 => (by decide +kernel : ∀ t : Fin cfg0.N, conds0_A (grid0.coords t) → cfg0.idle 4 (grid0.coords t) = true) t ⟨h0, h1, h2, h3, h4⟩
theorem noFlush0_4_A : ∀ t : Fin cfg0.N, cond0_0 (grid0.coords t) → cond0_1 (grid0.coords t) → cond0_2 (grid0.coords t) → ¬cond0_3 (grid0.coords t) → ¬cond0_4 (grid0.coords t) → (cfg0.win 4).flush t = false :=
  fun t h0 h1 h2 h3 h4 => (by decide +kernel : ∀ t : Fin cfg0.N, conds0_A (grid0.coords t) → (cfg0.win 4).flush t = false) t ⟨h0, h1, h2, h3, h4⟩
theorem idleAt0_4_B : ∀ t : Fin cfg0.N, ¬cond0_0 (grid0.coords t) → ¬cond0_1 (grid0.coords t) → cond0_2 (grid0.coords t) → ¬cond0_3 (grid0.coords t) → ¬cond0_4 (grid0.coords t) → cfg0.idle 4 (grid0.coords t) = true :=
  fun t h0 h1 h2 h3 h4 => (by decide +kernel : ∀ t : Fin cfg0.N, conds0_B (grid0.coords t) → cfg0.idle 4 (grid0.coords t) = true) t ⟨h0, h1, h2, h3, h4⟩
theorem noFlush0_4_B : ∀ t : Fin cfg0.N, ¬cond0_0 (grid0.coords t) → ¬cond0_1 (grid0.coords t) → cond0_2 (grid0.coords t) → ¬cond0_3 (grid0.coords t) → ¬cond0_4 (grid0.coords t) → (cfg0.win 4).flush t = false :=
  fun t h0 h1 h2 h3 h4 => (by decide +kernel : ∀ t : Fin cfg0.N, conds0_B (grid0.coords t) → (cfg0.win 4).flush t = false) t ⟨h0, h1, h2, h3, h4⟩
theorem idleAt0_4_C : ∀ t : Fin cfg0.N, ¬cond0_0 (grid0.coords t) → ¬cond0_1 (grid0.coords t) → ¬cond0_2 (grid0.coords t) → cond0_3 (grid0.coords t) → ¬cond0_4 (grid0.coords t) → cfg0.idle 4 (grid0.coords t) = true :=
  fun t h0 h1 h2 h3 h4 => (by decide +kernel : ∀ t : Fin cfg0.N, conds0_C (grid0.coords t) → cfg0.idle 4 (grid0.coords t) = true) t ⟨h0, h1, h2, h3, h4⟩
theorem noFlush0_4_C : ∀ t : Fin cfg0.N, ¬cond0_0 (grid0.coords t) → ¬cond0_1 (grid0.coords t) → ¬cond0_2 (grid0.coords t) → cond0_3 (grid0.coords t) → ¬cond0_4 (grid0.coords t) → (cfg0.win 4).flush t = false :=
  fun t h0 h1 h2 h3 h4 => (by decide +kernel : ∀ t : Fin cfg0.N, conds0_C (grid0.coords t) → (cfg0.win 4).flush t = false) t ⟨h0, h1, h2, h3, h4⟩
theorem liveAt0_4_D : ∀ t : Fin cfg0.N, ¬cond0_0 (grid0.coords t) → ¬cond0_1 (grid0.coords t) → ¬cond0_2 (grid0.coords t) → cond0_3 (grid0.coords t) → cond0_4 (grid0.coords t) → cfg0.idle 4 (grid0.coords t) = false :=
  fun t h0 h1 h2 h3 h4 => (by decide +kernel : ∀ t : Fin cfg0.N, conds0_D (grid0.coords t) → cfg0.idle 4 (grid0.coords t) = false) t ⟨h0, h1, h2, h3, h4⟩
theorem idleAt0_4_E : ∀ t : Fin cfg0.N, cond0_0 (grid0.coords t) → ¬cond0_1 (grid0.coords t) → cond0_2 (grid0.coords t) → ¬cond0_3 (grid0.coords t) → ¬cond0_4 (grid0.coords t) → cfg0.idle 4 (grid0.coords t) = true :=
  fun t h0 h1 h2 h3 h4 => (by decide +kernel : ∀ t : Fin cfg0.N, conds0_E (grid0.coords t) → cfg0.idle 4 (grid0.coords t) = true) t ⟨h0, h1, h2, h3, h4⟩
theorem noFlush0_4_E : ∀ t : Fin cfg0.N, cond0_0 (grid0.coords t) → ¬cond0_1 (grid0.coords t) → cond0_2 (grid0.coords t) → ¬cond0_3 (grid0.coords t) → ¬cond0_4 (grid0.coords t) → (cfg0.win 4).flush t = false :=
  fun t h0 h1 h2 h3 h4 => (by decide +kernel : ∀ t : Fin cfg0.N, conds0_E (grid0.coords t) → (cfg0.win 4).flush t = false) t ⟨h0, h1, h2, h3, h4⟩
def freshTab0_5 : ℕ → Bool
  | 0 => true
  | n + 1 => (0x80000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
theorem liveAt0_5_A : ∀ t : Fin cfg0.N, cond0_0 (grid0.coords t) → cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_A (grid0.coords t) → cfg0.idle 5 (grid0.coords t) = false) t ⟨h0, h1, h2, h3, h4⟩
theorem idleAt0_5_B : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_B (grid0.coords t) → cfg0.idle 5 (grid0.coords t) = true) t ⟨h0, h1, h2, h3, h4⟩
theorem noFlush0_5_B : ∀ t : Fin cfg0.N, ¬cond0_0 (grid0.coords t) → ¬cond0_1 (grid0.coords t) → cond0_2 (grid0.coords t) → ¬cond0_3 (grid0.coords t) → ¬cond0_4 (grid0.coords t) → (cfg0.win 5).flush t = false :=
  fun t h0 h1 h2 h3 h4 => (by decide +kernel : ∀ t : Fin cfg0.N, conds0_B (grid0.coords t) → (cfg0.win 5).flush t = false) t ⟨h0, h1, h2, h3, h4⟩
theorem idleAt0_5_C : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = true :=
  fun t h0 h1 h2 h3 h4 => (by decide +kernel : ∀ t : Fin cfg0.N, conds0_C (grid0.coords t) → cfg0.idle 5 (grid0.coords t) = true) t ⟨h0, h1, h2, h3, h4⟩
theorem noFlush0_5_C : ∀ t : Fin cfg0.N, ¬cond0_0 (grid0.coords t) → ¬cond0_1 (grid0.coords t) → ¬cond0_2 (grid0.coords t) → cond0_3 (grid0.coords t) → ¬cond0_4 (grid0.coords t) → (cfg0.win 5).flush t = false :=
  fun t h0 h1 h2 h3 h4 => (by decide +kernel : ∀ t : Fin cfg0.N, conds0_C (grid0.coords t) → (cfg0.win 5).flush t = false) t ⟨h0, h1, h2, h3, h4⟩
theorem liveAt0_5_D : ∀ t : Fin cfg0.N, ¬cond0_0 (grid0.coords t) → ¬cond0_1 (grid0.coords t) → ¬cond0_2 (grid0.coords t) → cond0_3 (grid0.coords t) → cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
theorem notFresh0_5_D : ∀ t : Fin cfg0.N, ¬cond0_0 (grid0.coords t) → ¬cond0_1 (grid0.coords t) → ¬cond0_2 (grid0.coords t) → cond0_3 (grid0.coords t) → cond0_4 (grid0.coords t) → cfg0.fresh 5 t.val = false :=
  fun t h0 h1 h2 h3 h4 => (by intro t; rw [fresh0_5_eq t]; revert t; decide +kernel : ∀ t : Fin cfg0.N, conds0_D (grid0.coords t) → cfg0.fresh 5 t.val = false) t ⟨h0, h1, h2, h3, h4⟩
theorem idleAt0_5_E : ∀ t : Fin cfg0.N, cond0_0 (grid0.coords t) → ¬cond0_1 (grid0.coords t) → cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_E (grid0.coords t) → cfg0.idle 5 (grid0.coords t) = true) t ⟨h0, h1, h2, h3, h4⟩
theorem noFlush0_5_E : ∀ t : Fin cfg0.N, cond0_0 (grid0.coords t) → ¬cond0_1 (grid0.coords t) → cond0_2 (grid0.coords t) → ¬cond0_3 (grid0.coords t) → ¬cond0_4 (grid0.coords t) → (cfg0.win 5).flush t = false :=
  fun t h0 h1 h2 h3 h4 => (by decide +kernel : ∀ t : Fin cfg0.N, conds0_E (grid0.coords t) → (cfg0.win 5).flush t = false) t ⟨h0, h1, h2, h3, h4⟩

abbrev VO0_4 : View sig .tc .vmem S1024x1024 .f32 := (Memref.whole cc0_stg4_0 : Memref sig .tc .vmem S1024x1024 .f32).view
abbrev VO0_5 : View sig .tc .vmem S1x1024 .f32 := (Memref.whole cc0_stg5_0 : Memref sig .tc .vmem S1x1024 .f32).view
abbrev ms0_0 (t : Fin cfg0.N) : Memref sig .tc .vmem S1024x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev scM0_0 : Memref sig .tc .vmem S1024x1024 .f32 := Memref.whole cc0_scratch0
abbrev scM0_1 : Memref sig .tc .vmem S1024x1024 .f32 := Memref.whole cc0_scratch1
abbrev scM0_2 : Memref sig .tc .vmem S1024x1024 .f32 := Memref.whole cc0_scratch2
abbrev VS0_0 : View sig .tc .vmem S1024x1024 .f32 := scM0_0.view
abbrev hbM0_0 : Memref sig .tc .hbm S8192x1024 .f32 := Memref.whole main_arg3
abbrev hbM0_1 : Memref sig .tc .hbm S8192x1024 .f32 := Memref.whole main_arg5
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
def H0 : Finset (Ref sig .tc) := {main_arg3, main_arg5}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg5)) := by
  rw [BI.bigSep_eq_bigSepL_of_eq [main_arg3, main_arg5] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg3) ∗ hbPt0 c hbM0_1 (V m c main_arg5))) := by
  rw [Pipeline.ΦD_eq, scopedRest0_eq, ownSems00_eq, hbmPts0_eq]; simp only [scM0_0, scM0_1, scM0_2, owns_whole]; try rfl

/-- The transfer of the row block at `off` of the operand `M` into the scratch `A`, on its way: the cell's flight delivers
    the scratch with the block's values and the block itself; beside it, the rest of the operand. -/
def fly (c : Dev nD) (sm : Fin 12) (A : Memref sig .tc .vmem S1024x1024 .f32) (M : Memref sig .tc .hbm S8192x1024 .f32) (off : Fin 2 → ℕ)
    (hoff : ∀ a, off a + S1024x1024.size a ≤ S8192x1024.size a) (fh : HbBuf0 (F := F) c M) : sProp 𝕄 :=
  iprop((∃ fs, Transfers.Flight countersEmb c.tc (SemLoc.dma sm) default 131072
      iprop((A.view.loc (c : Thread nD τ) ↦[A.view.set]{fullShare} A.view.writes (Elt F) fs [⟨Rect.whole S1024x1024, (M.slice (Rect.unit off S1024x1024.size hoff) (fun _ => rfl)).view.read (Elt F) fh⟩])
        ∗ (M.view.loc (c : Thread nD τ) ↦[(M.slice (Rect.unit off S1024x1024.size hoff) (fun _ => rfl)).view.set]{fullShare} fh)))
    ∗ (M.view.loc (c : Thread nD τ) ↦[Finset.univ \ (M.slice (Rect.unit off S1024x1024.size hoff) (fun _ => rfl)).view.set]{fullShare} fh))

/-- The first row and column of row block `k`. -/
def rowOff (k : ℕ) : Fin 2 → ℕ := ![1024 * (k % 8), 0]

theorem rowOff_inb (k : ℕ) : ∀ a, rowOff k a + S1024x1024.size a ≤ S8192x1024.size a := by
  intro a
  have : k % 8 < 8 := Nat.mod_lt _ (by decide)
  match a with
  | ⟨0, _⟩ => show 1024 * (k % 8) + 1024 ≤ 8192; omega
  | ⟨1, _⟩ => show 0 + 1024 ≤ 1024; omega

theorem fly_off (c : Dev nD) (sm : Fin 12) (A : Memref sig .tc .vmem S1024x1024 .f32) (M : Memref sig .tc .hbm S8192x1024 .f32) (off off' : Fin 2 → ℕ)
    (hoff : ∀ a, off a + S1024x1024.size a ≤ S8192x1024.size a) (hoff' : ∀ a, off' a + S1024x1024.size a ≤ S8192x1024.size a) (fh : HbBuf0 (F := F) c M) (h : off = off') :
    fly c sm A M off hoff fh ⊢ (fly c sm A M off' hoff' fh : sProp 𝕄) := by
  subst h; exact Idealize.SL.BI.Entails.refl _

/-- Row blocks `k` of the two operands on their way. -/
def flying (c : Dev nD) (k : ℕ) : sProp 𝕄 :=
  iprop(fly c 10 scM0_1 hbM0_0 (rowOff k) (rowOff_inb k) (V m c main_arg3) ∗ fly c 11 scM0_2 hbM0_1 (rowOff k) (rowOff_inb k) (V m c main_arg5))

/-- Neither transfer on its way: both scratches at some contents, both cells at zero, both operands whole. -/
def landed (c : Dev nD) : sProp 𝕄 :=
  iprop((∃ d, owns (c : Thread nD τ) scM0_1 fullShare d) ∗ (∃ d, owns (c : Thread nD τ) scM0_2 fullShare d) ∗ semVal ((c : Thread nD τ), SemLoc.dma 10) 0 ∗ semVal ((c : Thread nD τ), SemLoc.dma 11) 0 ∗ hbPt0 c hbM0_0 (V m c main_arg3) ∗ hbPt0 c hbM0_1 (V m c main_arg5))

/-- Where the two transfers stand before point `p`: between row blocks nothing is on its way. -/
def moving (c : Dev nD) (p : ℕ) : sProp 𝕄 := if p % 4 = 0 then landed m c else flying m c (p / 4)

theorem moving_landed (c : Dev nD) (p : ℕ) (h : p % 4 = 0) : moving m c p = landed m c := if_pos h
theorem moving_flying (c : Dev nD) (p : ℕ) (h : ¬p % 4 = 0) : moving m c p = flying m c (p / 4) := if_neg h

theorem off1_row (t : Fin cfg0.N) : k0_off1 (grid0.coords t) = rowOff (t.val / 4) := by
  rw [k0_off1_eq]
  revert t
  decide +kernel

end Cert.UpDxIdeal.Hand

end
-- ==== Proof.UpDxIdealRunA.lean ====
/- The body of the call, run in case A of its conditions. -/
module

public import proofs.«01_k».proof.Proof.UpDxIdealRuns

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_A (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) :
    Σ' (L4 : List (View.Piece (Elt F) S1024x1024 .f32)), Σ' (L5 : List (View.Piece (Elt F) S1x1024 .f32)), { LS0 : List (View.Piece (Elt F) S1024x1024 .f32) //
      ∀ (xi4 : Vec F S1024x1024 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ fly c 10 arg11 hbM0_0 (k0_off1 i) (k0_off1_inb i hc0) fh0 ∗ fly c 11 arg12 hbM0_1 (k0_off1 i) (k0_off1_inb i hc0) fh1 ∗ (∃ W', owes (c : Thread nD τ) 0 W')) -∗ K ⟨⟩))
          ⊢ wp frame (wpE (defs₀ (F := F)) Variants.none c none) Set.univ (cc0_ffn_up_dx i arg2 harg2 arg3 harg3 arg4 harg4 (Memref.whole main_arg3) (Memref.isWhole_whole _) arg6 harg6 (Memref.whole main_arg5) (Memref.isWhole_whole _) arg8 harg8 arg9 harg9 arg10 harg10 arg11 harg11 arg12 harg12 cc0_scratch3) K } := by
  refine ⟨[], ?_, ?_, fun xi4 W K => ?run⟩
  case run =>
    simp only [cc0_ffn_up_dx_eq_skeleton]; unfold cc0_ffn_up_dx_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hq0, Hq1, Hh0, Hh1, HW, Hk⟩
    obtain rfl := harg2.eq_unread hf0; obtain rfl := harg3.eq_unread hf1; obtain rfl := harg4.eq_unread hf2; obtain rfl := harg6.eq_unread hf3; obtain rfl := harg8.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg8.read_unread _
      iexact H4
    isplitl [H5]; · iexists _; iexact H5
    isplitl [HS0]; · iexists _; iexact HS0
    isplitl [Hq0 Hh0]
    · unfold fly; isplitl [Hq0]
      · iexists _; iexact Hq0
      iexact Hh0
    isplitl [Hq1 Hh1]
    · unfold fly; isplitl [Hq1]
      · iexists _; iexact Hq1
      iexact Hh1
    iexists _; iexact HW

end Cert.UpDxIdeal.Hand

end
-- ==== Proof.UpDxIdealRunB.lean ====
/- The body of the call, run in case B of its conditions. -/
module

public import proofs.«01_k».proof.Proof.UpDxIdealRunA

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_B (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) :
    Σ' (L4 : List (View.Piece (Elt F) S1024x1024 .f32)), Σ' (L5 : List (View.Piece (Elt F) S1x1024 .f32)), { LS0 : List (View.Piece (Elt F) S1024x1024 .f32) //
      ∀ (xi4 : Vec F S1024x1024 .f32) (xi5 : Vec F S1x1024 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ owns (c : Thread nD τ) arg10 fullShare xs0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ (∃ f, arg10.view.loc (c : Thread nD τ) ↦[arg10.view.set]{fullShare} arg10.view.writes (Elt F) f LS0) ∗ (∃ W', owes (c : Thread nD τ) 0 W')) -∗ K ⟨⟩))
          ⊢ wp frame (wpE (defs₀ (F := F)) Variants.none c none) Set.univ (cc0_ffn_up_dx i arg2 harg2 arg3 harg3 arg4 harg4 (Memref.whole main_arg3) (Memref.isWhole_whole _) arg6 harg6 (Memref.whole main_arg5) (Memref.isWhole_whole _) arg8 harg8 arg9 harg9 arg10 harg10 arg11 harg11 arg12 harg12 cc0_scratch3) K } := by
  refine ⟨[], [], ?_, fun xi4 xi5 W K => ?run⟩
  case run =>
    simp only [cc0_ffn_up_dx_eq_skeleton]; unfold cc0_ffn_up_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, HW, Hk⟩
    obtain rfl := harg2.eq_unread hf0; obtain rfl := harg3.eq_unread hf1; obtain rfl := harg4.eq_unread hf2; obtain rfl := harg6.eq_unread hf3; obtain rfl := harg8.eq_unread hf4; obtain rfl := harg9.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [HS0]; · iexists _; iexact HS0
    iexists _; iexact HW

end Cert.UpDxIdeal.Hand

end
-- ==== Proof.UpDxIdealRunC.lean ====
/- The body of the call, run in case C of its conditions. -/
module

public import proofs.«01_k».proof.Proof.UpDxIdealRunB

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_C (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : cond0_3 i) (hc4 : ¬cond0_4 i)
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) :
    Σ' (L4 : List (View.Piece (Elt F) S1024x1024 .f32)), Σ' (L5 : List (View.Piece (Elt F) S1x1024 .f32)), { LS0 : List (View.Piece (Elt F) S1024x1024 .f32) //
      ∀ (xi4 : Vec F S1024x1024 .f32) (xi5 : Vec F S1x1024 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ owns (c : Thread nD τ) arg10 fullShare xs0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ (∃ f, arg10.view.loc (c : Thread nD τ) ↦[arg10.view.set]{fullShare} arg10.view.writes (Elt F) f LS0) ∗ (∃ W', owes (c : Thread nD τ) 0 W')) -∗ K ⟨⟩))
          ⊢ wp frame (wpE (defs₀ (F := F)) Variants.none c none) Set.univ (cc0_ffn_up_dx i arg2 harg2 arg3 harg3 arg4 harg4 (Memref.whole main_arg3) (Memref.isWhole_whole _) arg6 harg6 (Memref.whole main_arg5) (Memref.isWhole_whole _) arg8 harg8 arg9 harg9 arg10 harg10 arg11 harg11 arg12 harg12 cc0_scratch3) K } := by
  refine ⟨[], [], ?_, fun xi4 xi5 W K => ?run⟩
  case run =>
    simp only [cc0_ffn_up_dx_eq_skeleton]; unfold cc0_ffn_up_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, HW, Hk⟩
    obtain rfl := harg2.eq_unread hf0; obtain rfl := harg3.eq_unread hf1; obtain rfl := harg4.eq_unread hf2; obtain rfl := harg6.eq_unread hf3; obtain rfl := harg8.eq_unread hf4; obtain rfl := harg9.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [HS0]; · iexists _; iexact HS0
    iexists _; iexact HW

end Cert.UpDxIdeal.Hand

end
-- ==== Proof.UpDxIdealLoop.lean ====
/- The counted loop of the last point of a row block, at the algebra that has transfers. -/
module

public import proofs.«01_k».proof.Proof.Gen.UpDxIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

local notation "𝕄D" => MT nD τ sig Unit (Elt F) ℕ (UR sig nD τ × Counters) ℕ

abbrev Trip_k0_t1 (c : Dev nD) (arg6 : Memref sig .tc .vmem S1x1024 .f32) (arg10 : Memref sig .tc .vmem S1024x1024 .f32) (arg11 : Memref sig .tc .vmem S1024x1024 .f32) (arg12 : Memref sig .tc .vmem S1024x1024 .f32) (arg8 : Memref sig .tc .vmem S1024x1024 .f32) (arg9 : Memref sig .tc .vmem S1x1024 .f32) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (f_arg8 : BufTy.Contents (Elt F) arg8.view.ty) (f_arg9 : BufTy.Contents (Elt F) arg9.view.ty) : sProp 𝕄D :=
  iprop((arg6.view.loc (c : Thread nD τ) ↦[arg6.view.set]{fullShare} X_arg6) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg8.view.loc (c : Thread nD τ) ↦[arg8.view.set]{fullShare} f_arg8) ∗ (arg9.view.loc (c : Thread nD τ) ↦[arg9.view.set]{fullShare} f_arg9))

variable (𝒱 : Variants) (c : Dev nD) (bd : Option 𝒱.V) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .hbm S8192x1024 .f32) (harg5 : arg5.IsWhole) (arg6 : Memref sig .tc .vmem S1x1024 .f32) (harg6 : arg6.IsWhole) (arg7 : Memref sig .tc .hbm S8192x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (k0_h5 : k0_cond5 i = 1#1)

@[irreducible] def trip_k0_t1 (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (k : Fin k0_t1_loop.trips) :
    Σ' (L_arg8 : (BufTy.Contents (Elt F) arg8.view.ty → BufTy.Contents (Elt F) arg9.view.ty → List (View.Piece (Elt F) S1024x1024 .f32))) , { L_arg9 : (BufTy.Contents (Elt F) arg8.view.ty → BufTy.Contents (Elt F) arg9.view.ty → List (View.Piece (Elt F) S1x1024 .f32)) // ∀ (E : Set ℕ) (f_arg8 : BufTy.Contents (Elt F) arg8.view.ty) (f_arg9 : BufTy.Contents (Elt F) arg9.view.ty),
      Trip_k0_t1 (F := F) c arg6 arg10 arg11 arg12 arg8 arg9 X_arg6 X_arg10 X_arg11 X_arg12 f_arg8 f_arg9
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 k0_h5 k PUnit.unit)
          (fun _ => Trip_k0_t1 (F := F) c arg6 arg10 arg11 arg12 arg8 arg9 X_arg6 X_arg10 X_arg11 X_arg12 (arg8.view.writes (Elt F) f_arg8 (L_arg8 f_arg8 f_arg9)) (arg9.view.writes (Elt F) f_arg9 (L_arg9 f_arg8 f_arg9))) } := by
  have hk : k.val < 4 := Nat.lt_of_lt_of_le k.isLt k0_t1_abs.2.1
  refine ⟨?_, ?_, fun E f_arg8 f_arg9 => ?run⟩
  case run =>
    unfold k0_t1_body
    iintro ⟨HR_arg6, HR_arg10, HR_arg11, HR_arg12, HW_arg8, HW_arg9⟩
    sl_exec
    sl_step
    sl_close

abbrev tripL_k0_t1 (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (k : Fin k0_t1_loop.trips) (f_arg8 : BufTy.Contents (Elt F) arg8.view.ty) (f_arg9 : BufTy.Contents (Elt F) arg9.view.ty) : List (View.Piece (Elt F) S1024x1024 .f32) × List (View.Piece (Elt F) S1x1024 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k).1 f_arg8 f_arg9, (trip_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k).2.1 f_arg8 f_arg9)

@[irreducible] def pb_k0_t1Step (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) (k : ℕ) (prev : List (View.Piece (Elt F) S1024x1024 .f32) × List (View.Piece (Elt F) S1x1024 .f32)) : List (View.Piece (Elt F) S1024x1024 .f32) × List (View.Piece (Elt F) S1x1024 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 ⟨k, h⟩ (arg8.view.writes (Elt F) G_arg8 prev.1) (arg9.view.writes (Elt F) G_arg9 prev.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 ⟨k, h⟩ (arg8.view.writes (Elt F) G_arg8 prev.1) (arg9.view.writes (Elt F) G_arg9 prev.2)).2 ++ prev.2)
  else prev

def pb_k0_t1 (𝒱 : Variants) (c : Dev nD) (bd : Option 𝒱.V) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .hbm S8192x1024 .f32) (harg5 : arg5.IsWhole) (arg6 : Memref sig .tc .vmem S1x1024 .f32) (harg6 : arg6.IsWhole) (arg7 : Memref sig .tc .hbm S8192x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : DmaSems sig S2) (k0_h5 : k0_cond5 i = 1#1) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) : ℕ → List (View.Piece (Elt F) S1024x1024 .f32) × List (View.Piece (Elt F) S1x1024 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k (pb_k0_t1 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k)

theorem pb_k0_t1_succ (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).2)).2 ++ (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k.val).2) := by
  rw [pb_k0_t1.eq_2]; unfold pb_k0_t1Step; exact dif_pos k.isLt

abbrev inv_k0_t1 (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) (k : ℕ) (_u : PUnit) : sProp 𝕄D :=
  iprop((arg6.view.loc (c : Thread nD τ) ↦[arg6.view.set]{fullShare} X_arg6) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k).1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9 k).2⌝))

set_option warn.classDefReducibility false in
@[sl_loop] def loopInv_k0_t1 (E : Set ℕ) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (G_arg8 : BufTy.Contents (Elt F) arg8.view.ty) (G_arg9 : BufTy.Contents (Elt F) arg9.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 k0_h5 where
  inv := inv_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 G_arg8 G_arg9
  step k acc := by
    iintro ⟨HR_arg6, HR_arg10, HR_arg11, HR_arg12, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg10 HR_arg11 HR_arg12 HW_arg8 HW_arg9]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k).2.2 E f_arg8 f_arg9)
      isplitl [HR_arg6]; · iexact HR_arg6
      isplitl [HR_arg10]; · iexact HR_arg10
      isplitl [HR_arg11]; · iexact HR_arg11
      isplitl [HR_arg12]; · iexact HR_arg12
      isplitl [HW_arg8]; · iexact HW_arg8
      iexact HW_arg9
    · iintro %_ ⟨HR_arg6, HR_arg10, HR_arg11, HR_arg12, HW_arg8, HW_arg9⟩
      isplitl [HR_arg6]; · iexact HR_arg6
      isplitl [HR_arg10]; · iexact HR_arg10
      isplitl [HR_arg11]; · iexact HR_arg11
      isplitl [HR_arg12]; · iexact HR_arg12
      rw [pb_k0_t1_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- What a trip stores does not depend on what it finds in the rows it overwrites. -/
theorem trip_arg8 (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (k : Fin k0_t1_loop.trips) (f f' : BufTy.Contents (Elt F) arg8.view.ty) (g : BufTy.Contents (Elt F) arg9.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k f g = tripL_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 k f' g := by
  unfold tripL_k0_t1 trip_k0_t1; rfl

/-- Nor does what any number of trips store. -/
theorem pb_arg8 (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (f f' : BufTy.Contents (Elt F) arg8.view.ty) (g : BufTy.Contents (Elt F) arg9.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 f g n = pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 f' g n := by
  induction n with
  | zero => rw [pb_k0_t1.eq_1, pb_k0_t1.eq_1]
  | succ n ih =>
    rw [pb_k0_t1.eq_2, pb_k0_t1.eq_2]
    unfold pb_k0_t1Step
    by_cases h : n < k0_t1_loop.trips
    · rw [dif_pos h, dif_pos h, ih]
      rw [trip_arg8 (f := arg8.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 f' g n).1) (f' := arg8.view.writes (Elt F) f' (pb_k0_t1 (F := F) 𝒱 c bd i arg2 harg2 arg3 harg3 arg4 harg4 arg5 harg5 arg6 harg6 arg7 harg7 arg8 harg8 arg9 harg9 arg10 harg10 arg11 harg11 arg12 harg12 arg13 k0_h5 X_arg6 X_arg10 X_arg11 X_arg12 f' g n).1)]
    · rw [dif_neg h, dif_neg h]; exact ih

end Cert.UpDxIdeal.Hand

end
-- ==== Proof.UpDxIdealRunD.lean ====
/- The body of the call, run in case D of its conditions. -/
module

public import proofs.«01_k».proof.Proof.UpDxIdealRunC
public import proofs.«01_k».proof.Proof.UpDxIdealLoop

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_D (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : cond0_3 i) (hc4 : cond0_4 i)
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) :
    Σ' (L4 : List (View.Piece (Elt F) S1024x1024 .f32)), Σ' (L5 : List (View.Piece (Elt F) S1x1024 .f32)), { LS0 : List (View.Piece (Elt F) S1024x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ (∃ d, owns (c : Thread nD τ) arg8 fullShare d) ∗ owns (c : Thread nD τ) arg9 fullShare xo5 ∗ owns (c : Thread nD τ) arg10 fullShare xs0 ∗ fly c 10 arg11 hbM0_0 off hoff fh0 ∗ fly c 11 arg12 hbM0_1 off hoff fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_up_dx i arg2 harg2 arg3 harg3 arg4 harg4 (Memref.whole main_arg3) (Memref.isWhole_whole _) arg6 harg6 (Memref.whole main_arg5) (Memref.isWhole_whole _) arg8 harg8 arg9 harg9 arg10 harg10 arg11 harg11 arg12 harg12 cc0_scratch3) K } := by
  refine ⟨?_, ?_, ?_, fun W K => ?run⟩
  case run =>
    simp only [cc0_ffn_up_dx_eq_skeleton]; unfold cc0_ffn_up_dx_skel
    unfold owns fly
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨⟨%fs1, Hq0⟩, Hh0⟩, ⟨⟨%fs2, Hq1⟩, Hh1⟩, HW, Hk⟩
    obtain rfl := harg2.eq_unread hf0; obtain rfl := harg3.eq_unread hf1; obtain rfl := harg4.eq_unread hf2; obtain rfl := harg6.eq_unread hf3; obtain rfl := harg9.eq_unread hf5; obtain rfl := harg10.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    rw [pb_arg8 (f := f4) (f' := arg8.view.junk)]
    isplitl [H4]; · iexists _; iexact H4
    isplitl [H5]; · iexists _; iexact H5
    isplitl [HS0]; · iexists _; iexact HS0
    isplitl [Hq0_dst]
    · iexists _, _; isplitr; swap; · iexact Hq0_dst
      ipureintro; rfl
    isplitl [Hq1_dst]
    · iexists _, _; isplitr; swap; · iexact Hq1_dst
      ipureintro; rfl
    isplitl [Hq0]; · iexact Hq0
    isplitl [Hq1]; · iexact Hq1
    isplitl [Hh0]; · iexact Hh0
    isplitl [Hh1]; · iexact Hh1
    iexists _; iexact HW

end Cert.UpDxIdeal.Hand

end
-- ==== Proof.UpDxIdealRunE.lean ====
/- The body of the call, run in case E of its conditions. -/
module

public import proofs.«01_k».proof.Proof.UpDxIdealRunD

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_E (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : cond0_0 i) (hc1 : ¬cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) :
    Σ' (L4 : List (View.Piece (Elt F) S1024x1024 .f32)), Σ' (L5 : List (View.Piece (Elt F) S1x1024 .f32)), { LS0 : List (View.Piece (Elt F) S1024x1024 .f32) //
      ∀ (xi4 : Vec F S1024x1024 .f32) (xi5 : Vec F S1x1024 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg8 fullShare xi4 ∗ owns (c : Thread nD τ) arg9 fullShare xi5 ∗ (∃ f, arg10.view.loc (c : Thread nD τ) ↦[arg10.view.set]{fullShare} arg10.view.writes (Elt F) f LS0) ∗ fly c 10 arg11 hbM0_0 (k0_off1 i) (k0_off1_inb i hc0) fh0 ∗ fly c 11 arg12 hbM0_1 (k0_off1 i) (k0_off1_inb i hc0) fh1 ∗ (∃ W', owes (c : Thread nD τ) 0 W')) -∗ K ⟨⟩))
          ⊢ wp frame (wpE (defs₀ (F := F)) Variants.none c none) Set.univ (cc0_ffn_up_dx i arg2 harg2 arg3 harg3 arg4 harg4 (Memref.whole main_arg3) (Memref.isWhole_whole _) arg6 harg6 (Memref.whole main_arg5) (Memref.isWhole_whole _) arg8 harg8 arg9 harg9 arg10 harg10 arg11 harg11 arg12 harg12 cc0_scratch3) K } := by
  refine ⟨[], [], ?_, fun xi4 xi5 W K => ?run⟩
  case run =>
    simp only [cc0_ffn_up_dx_eq_skeleton]; unfold cc0_ffn_up_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hq0, Hq1, Hh0, Hh1, HW, Hk⟩
    obtain rfl := harg2.eq_unread hf0; obtain rfl := harg3.eq_unread hf1; obtain rfl := harg4.eq_unread hf2; obtain rfl := harg6.eq_unread hf3; obtain rfl := harg8.eq_unread hf4; obtain rfl := harg9.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [HS0]; · iexists _; iexact HS0
    isplitl [Hq0 Hh0]
    · unfold fly; isplitl [Hq0]
      · iexists _; iexact Hq0
      iexact Hh0
    isplitl [Hq1 Hh1]
    · unfold fly; isplitl [Hq1]
      · iexists _; iexact Hq1
      iexact Hh1
    iexists _; iexact HW

end Cert.UpDxIdeal.Hand

end
-- ==== Proof.UpDxIdealFrame.lean ====
/- The frame of the call: its points in order, the invariant between them, and the launch. -/
module

public import proofs.«01_k».proof.Proof.UpDxIdealRunE
public import Idealize.ShloMosaic.Lib.Claim

@[expose] public section

set_option maxRecDepth 16384

noncomputable section

namespace Cert.UpDxIdeal.Hand

open Cert.UpDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section cases
variable (c : Dev nD) (i : grid0.Coords) (arg2 : Memref sig .tc .vmem S1024x1408 .bf16) (harg2 : arg2.IsWhole) (arg3 : Memref sig .tc .vmem S1024x1408 .bf16) (harg3 : arg3.IsWhole) (arg4 : Memref sig .tc .vmem S1024x1408 .bf16) (harg4 : arg4.IsWhole) (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)

def out0_A_4 (c : Dev nD) (t : Fin cfg0.N) (hc0 : cond0_0 (grid0.coords t)) (hc1 : cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) : Vec F S1024x1024 .f32 :=
  VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 fh0 fh1).1)

theorem cover0_A_5 (hc0 : cond0_0 i) (hc1 : cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) (y : S1x1024.Idx) :
    ∃ pc ∈ (kernelRun0_A c i arg2 harg2 arg3 harg3 arg4 harg4 arg6 harg6 arg8 harg8 arg9 harg9 arg10 harg10 arg11 harg11 arg12 harg12 hc0 hc1 hc2 hc3 hc4 x0 x1 x2 x3 fh0 fh1).2.1, y ∈ pc.1.set :=
  View.cover_of_tiledL (kernelRun0_A c i arg2 harg2 arg3 harg3 arg4 harg4 arg6 harg6 arg8 harg8 arg9 harg9 arg10 harg10 arg11 harg11 arg12 harg12 hc0 hc1 hc2 hc3 hc4 x0 x1 x2 x3 fh0 fh1).2.1 S1x1024.size (by sl_kernel_rfl) y

def out0_A_5 (c : Dev nD) (t : Fin cfg0.N) (hc0 : cond0_0 (grid0.coords t)) (hc1 : cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) : Vec F S1x1024 .f32 :=
  VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 fh0 fh1).2.1)

theorem scover0_A_0 (hc0 : cond0_0 i) (hc1 : cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) (y : S1024x1024.Idx) :
    ∃ pc ∈ (kernelRun0_A c i arg2 harg2 arg3 harg3 arg4 harg4 arg6 harg6 arg8 harg8 arg9 harg9 arg10 harg10 arg11 harg11 arg12 harg12 hc0 hc1 hc2 hc3 hc4 x0 x1 x2 x3 fh0 fh1).2.2.1, y ∈ pc.1.set :=
  View.cover_of_tiledL (kernelRun0_A c i arg2 harg2 arg3 harg3 arg4 harg4 arg6 harg6 arg8 harg8 arg9 harg9 arg10 harg10 arg11 harg11 arg12 harg12 hc0 hc1 hc2 hc3 hc4 x0 x1 x2 x3 fh0 fh1).2.2.1 S1024x1024.size (by sl_kernel_rfl) y

def sout0_A_0 (c : Dev nD) (t : Fin cfg0.N) (hc0 : cond0_0 (grid0.coords t)) (hc1 : cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) : Vec F S1024x1024 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 fh0 fh1).2.2.1)

def out0_B_4 (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) : Vec F S1024x1024 .f32 :=
  VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xs0 fh0 fh1).1)

def out0_B_5 (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) (xo5 : Vec F S1x1024 .f32) : Vec F S1x1024 .f32 := xo5

theorem scover0_B_0 (hc0 : ¬cond0_0 i) (hc1 : ¬cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) (y : S1024x1024.Idx) :
    ∃ pc ∈ (kernelRun0_B c i arg2 harg2 arg3 harg3 arg4 harg4 arg6 harg6 arg8 harg8 arg9 harg9 arg10 harg10 arg11 harg11 arg12 harg12 hc0 hc1 hc2 hc3 hc4 x0 x1 x2 x3 xs0 fh0 fh1).2.2.1, y ∈ pc.1.set :=
  View.cover_of_tiledL (kernelRun0_B c i arg2 harg2 arg3 harg3 arg4 harg4 arg6 harg6 arg8 harg8 arg9 harg9 arg10 harg10 arg11 harg11 arg12 harg12 hc0 hc1 hc2 hc3 hc4 x0 x1 x2 x3 xs0 fh0 fh1).2.2.1 S1024x1024.size (by sl_kernel_rfl) y

def sout0_B_0 (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) : Vec F S1024x1024 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xs0 fh0 fh1).2.2.1)

def out0_C_4 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) : Vec F S1024x1024 .f32 :=
  VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xs0 fh0 fh1).1)

def out0_C_5 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) (xo5 : Vec F S1x1024 .f32) : Vec F S1x1024 .f32 := xo5

theorem scover0_C_0 (hc0 : ¬cond0_0 i) (hc1 : ¬cond0_1 i) (hc2 : ¬cond0_2 i) (hc3 : cond0_3 i) (hc4 : ¬cond0_4 i)
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) (y : S1024x1024.Idx) :
    ∃ pc ∈ (kernelRun0_C c i arg2 harg2 arg3 harg3 arg4 harg4 arg6 harg6 arg8 harg8 arg9 harg9 arg10 harg10 arg11 harg11 arg12 harg12 hc0 hc1 hc2 hc3 hc4 x0 x1 x2 x3 xs0 fh0 fh1).2.2.1, y ∈ pc.1.set :=
  View.cover_of_tiledL (kernelRun0_C c i arg2 harg2 arg3 harg3 arg4 harg4 arg6 harg6 arg8 harg8 arg9 harg9 arg10 harg10 arg11 harg11 arg12 harg12 hc0 hc1 hc2 hc3 hc4 x0 x1 x2 x3 xs0 fh0 fh1).2.2.1 S1024x1024.size (by sl_kernel_rfl) y

def sout0_C_0 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (xs0 : Vec F S1024x1024 .f32) (fh0 : HbBuf0 (F := F) c hbM0_0) (fh1 : HbBuf0 (F := F) c hbM0_1) : Vec F S1024x1024 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xs0 fh0 fh1).2.2.1)

theorem cover0_D_4 (hc0 : ¬cond0_0 i) (hc1 : ¬cond0_1 i) (hc2 : ¬cond0_2 i) (hc3 : cond0_3 i) (hc4 : cond0_4 i)
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1024x1024.Idx) :
    ∃ pc ∈ (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).1, y ∈ pc.1.set :=
  View.cover_of_tiledL (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).1 S256x1024.size (by sl_kernel_rfl) y

def out0_D_4 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : cond0_4 (grid0.coords t))
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1024x1024 .f32 :=
  VO0_4.read (Elt F) (VO0_4.writes (Elt F) VO0_4.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xo5 xs0 off hoff fh0 fh1).1)

theorem cover0_D_5 (hc0 : ¬cond0_0 i) (hc1 : ¬cond0_1 i) (hc2 : ¬cond0_2 i) (hc3 : cond0_3 i) (hc4 : cond0_4 i)
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1x1024.Idx) :
    ∃ pc ∈ (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).2.1, y ∈ pc.1.set :=
  View.cover_of_tiledL (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).2.1 S1x1024.size (by sl_kernel_rfl) y

def out0_D_5 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : cond0_4 (grid0.coords t))
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1x1024 .f32 :=
  VO0_5.read (Elt F) (VO0_5.writes (Elt F) VO0_5.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xo5 xs0 off hoff fh0 fh1).2.1)

theorem scover0_D_0 (hc0 : ¬cond0_0 i) (hc1 : ¬cond0_1 i) (hc2 : ¬cond0_2 i) (hc3 : cond0_3 i) (hc4 : cond0_4 i)
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1024x1024.Idx) :
    ∃ pc ∈ (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).2.2.1, y ∈ pc.1.set :=
  View.cover_of_tiledL (kernelRun0_D c i arg2 harg2 arg3 harg3 arg4 harg4 arg6 harg6 arg8 harg8 arg9 harg9 arg10 harg10 arg11 harg11 arg12 harg12 hc0 hc1 hc2 hc3 hc4 x0 x1 x2 x3 xo5 xs0 off hoff fh0 fh1).2.2.1 S1024x1024.size (by sl_kernel_rfl) y

def sout0_D_0 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : cond0_4 (grid0.coords t))
    (x0 : Vec F S1024x1408 .bf16) (x1 : Vec F S1024x1408 .bf16) (x2 : Vec F S1024x1408 .bf16) (x3 : Vec F S1x1024 .f32) (xo5 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1024x1024 .f32 :=
  VS0_0.read (Elt F) (VS0_0.writes (Elt F) VS0_0.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 xo5 xs0 off hoff fh0 fh1).2.2.1)

def out0_E_4 (c : Dev nD) (t : Fin cfg0.N) (hc0 : cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) : Vec F S1024x1024 .f32 :=
  VO0_4.read (Elt F) (VO0_4.writes (Elt F) VO0_4.junk (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 fh0 fh1).1)

def out0_E_5 (c : Dev nD) (t : Fin cfg0.N) (hc0 : cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) (xo5 : Vec F S1x1024 .f32) : Vec F S1x1024 .f32 := xo5

theorem scover0_E_0 (hc0 : cond0_0 i) (hc1 : ¬cond0_1 i) (hc2 : cond0_2 i) (hc3 : ¬cond0_3 i) (hc4 : ¬cond0_4 i)
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) (y : S1024x1024.Idx) :
    ∃ pc ∈ (kernelRun0_E c i arg2 harg2 arg3 harg3 arg4 harg4 arg6 harg6 arg8 harg8 arg9 harg9 arg10 harg10 arg11 harg11 arg12 harg12 hc0 hc1 hc2 hc3 hc4 x0 x1 x2 x3 fh0 fh1).2.2.1, y ∈ pc.1.set :=
  View.cover_of_tiledL (kernelRun0_E c i arg2 harg2 arg3 harg3 arg4 harg4 arg6 harg6 arg8 harg8 arg9 harg9 arg10 harg10 arg11 harg11 arg12 harg12 hc0 hc1 hc2 hc3 hc4 x0 x1 x2 x3 fh0 fh1).2.2.1 S1024x1024.size (by sl_kernel_rfl) y

def sout0_E_0 (c : Dev nD) (t : Fin cfg0.N) (hc0 : cond0_0 (grid0.coords t)) (hc1 : ¬cond0_1 (grid0.coords t)) (hc2 : cond0_2 (grid0.coords t)) (hc3 : ¬cond0_3 (grid0.coords t)) (hc4 : ¬cond0_4 (grid0.coords t))
    (x0 : Vec F S1024x1408 .bf16) (x1 : Vec F S1024x1408 .bf16) (x2 : Vec F S1024x1408 .bf16) (x3 : Vec F S1x1024 .f32) (fh0 : HbBuf0 (F := F) c hbM0_0) (fh1 : HbBuf0 (F := F) c hbM0_1) : Vec F S1024x1024 .f32 :=
  VS0_0.read (Elt F) (VS0_0.writes (Elt F) VS0_0.junk (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 hc2 hc3 hc4 x0 x1 x2 x3 fh0 fh1).2.2.1)

end cases

def outsAt0 (c : Dev nD) : (n : ℕ) → n < cfg0.N → Vec F S1024x1024 .f32 × Vec F S1x1024 .f32 × Vec F S1024x1024 .f32
  | 0, hn => (out0_A_4 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg3) (V m c main_arg5), out0_A_5 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg3) (V m c main_arg5), sout0_A_0 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (V m c main_arg3) (V m c main_arg5))
  | n + 1, hn =>
    if h0 : (n + 1) % 4 = 0 then
      if h1 : (n + 1) % 32 = 0 then
        if h2 : (n + 1) % 4 ≤ 1 then
          if h3 : 2 ≤ (n + 1) % 4 then
            False.elim (by have hN : n + 1 < 32 := lt_of_lt_of_eq hn (show cfg0.N = 32 from N_0); omega)
          else
            if h4 : (n + 1) % 4 = 3 then
              False.elim (by have hN : n + 1 < 32 := lt_of_lt_of_eq hn (show cfg0.N = 32 from N_0); omega)
            else
              (out0_A_4 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5), out0_A_5 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5), sout0_A_0 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5))
        else
          False.elim (by have hN : n + 1 < 32 := lt_of_lt_of_eq hn (show cfg0.N = 32 from N_0); omega)
      else
        if h2 : (n + 1) % 4 ≤ 1 then
          if h3 : 2 ≤ (n + 1) % 4 then
            False.elim (by have hN : n + 1 < 32 := lt_of_lt_of_eq hn (show cfg0.N = 32 from N_0); omega)
          else
            if h4 : (n + 1) % 4 = 3 then
              False.elim (by have hN : n + 1 < 32 := lt_of_lt_of_eq hn (show cfg0.N = 32 from N_0); omega)
            else
              (out0_E_4 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5), out0_E_5 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5) (outsAt0 c n (Nat.lt_of_succ_lt hn)).2.1, sout0_E_0 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg3) (V m c main_arg5))
        else
          False.elim (by have hN : n + 1 < 32 := lt_of_lt_of_eq hn (show cfg0.N = 32 from N_0); omega)
    else
      if h1 : (n + 1) % 32 = 0 then
        False.elim (by have hN : n + 1 < 32 := lt_of_lt_of_eq hn (show cfg0.N = 32 from N_0); omega)
      else
        if h2 : (n + 1) % 4 ≤ 1 then
          if h3 : 2 ≤ (n + 1) % 4 then
            False.elim (by have hN : n + 1 < 32 := lt_of_lt_of_eq hn (show cfg0.N = 32 from N_0); omega)
          else
            if h4 : (n + 1) % 4 = 3 then
              False.elim (by have hN : n + 1 < 32 := lt_of_lt_of_eq hn (show cfg0.N = 32 from N_0); omega)
            else
              (out0_B_4 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5), out0_B_5 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5) (outsAt0 c n (Nat.lt_of_succ_lt hn)).2.1, sout0_B_0 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5))
        else
          if h3 : 2 ≤ (n + 1) % 4 then
            if h4 : (n + 1) % 4 = 3 then
              (out0_D_4 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (rowOff ((n + 1) / 4)) (rowOff_inb _) (V m c main_arg3) (V m c main_arg5), out0_D_5 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (rowOff ((n + 1) / 4)) (rowOff_inb _) (V m c main_arg3) (V m c main_arg5), sout0_D_0 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (rowOff ((n + 1) / 4)) (rowOff_inb _) (V m c main_arg3) (V m c main_arg5))
            else
              (out0_C_4 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5), out0_C_5 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5) (outsAt0 c n (Nat.lt_of_succ_lt hn)).2.1, sout0_C_0 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2 (V m c main_arg3) (V m c main_arg5))
          else
            False.elim (by have hN : n + 1 < 32 := lt_of_lt_of_eq hn (show cfg0.N = 32 from N_0); omega)

theorem outsAt0_A (c : Dev nD) (t : Fin cfg0.N) (h0 : t.val % 4 = 0) (h1 : t.val % 32 = 0) (h2 : t.val % 4 ≤ 1) (h3 : ¬2 ≤ t.val % 4) (h4 : ¬t.val % 4 = 3) :
    outsAt0 m c t.val t.isLt = (out0_A_4 c t ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5), out0_A_5 c t ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5), sout0_A_0 c t ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5)) := by
  obtain ⟨n, hn⟩ := t
  cases n with
  | zero => exact rfl
  | succ n => exact (dif_pos h0).trans ((dif_pos h1).trans ((dif_pos h2).trans ((dif_neg h3).trans ((dif_neg h4).trans rfl))))

theorem outsAt0_B (c : Dev nD) (t : Fin cfg0.N) (h0 : ¬t.val % 4 = 0) (h1 : ¬t.val % 32 = 0) (h2 : t.val % 4 ≤ 1) (h3 : ¬2 ≤ t.val % 4) (h4 : ¬t.val % 4 = 3) :
    outsAt0 m c t.val t.isLt = (out0_B_4 c t (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5), out0_B_5 c t (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5) (outsAt0 m c (t.val - 1) (Nat.lt_of_le_of_lt (Nat.sub_le _ _) t.isLt)).2.1, sout0_B_0 c t (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

theorem outsAt0_C (c : Dev nD) (t : Fin cfg0.N) (h0 : ¬t.val % 4 = 0) (h1 : ¬t.val % 32 = 0) (h2 : ¬t.val % 4 ≤ 1) (h3 : 2 ≤ t.val % 4) (h4 : ¬t.val % 4 = 3) :
    outsAt0 m c t.val t.isLt = (out0_C_4 c t (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5), out0_C_5 c t (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5) (outsAt0 m c (t.val - 1) (Nat.lt_of_le_of_lt (Nat.sub_le _ _) t.isLt)).2.1, sout0_C_0 c t (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).2.2 (V m c main_arg3) (V m c main_arg5)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt0_D (c : Dev nD) (t : Fin cfg0.N) (h0 : ¬t.val % 4 = 0) (h1 : ¬t.val % 32 = 0) (h2 : ¬t.val % 4 ≤ 1) (h3 : 2 ≤ t.val % 4) (h4 : t.val % 4 = 3) :
    outsAt0 m c t.val t.isLt = (out0_D_4 c t (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 4)) (rowOff_inb _) (V m c main_arg3) (V m c main_arg5), out0_D_5 c t (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 4)) (rowOff_inb _) (V m c main_arg3) (V m c main_arg5), sout0_D_0 c t (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 4)) (rowOff_inb _) (V m c main_arg3) (V m c main_arg5)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_pos h4).trans rfl))))

theorem outsAt0_E (c : Dev nD) (t : Fin cfg0.N) (h0 : t.val % 4 = 0) (h1 : ¬t.val % 32 = 0) (h2 : t.val % 4 ≤ 1) (h3 : ¬2 ≤ t.val % 4) (h4 : ¬t.val % 4 = 3) :
    outsAt0 m c t.val t.isLt = (out0_E_4 c t ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5), out0_E_5 c t ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5) (outsAt0 m c (t.val - 1) (Nat.lt_of_le_of_lt (Nat.sub_le _ _) t.isLt)).2.1, sout0_E_0 c t ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5)) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans ((dif_neg h4).trans rfl))))

def PhiS (c : Dev nD) : (n : ℕ) → n ≤ cfg0.N → sProp 𝕄
  | 0, _ => Pipeline.ΦD osem0 spec0 H0 (V m) c
  | n + 1, hn => iprop(owns (c : Thread nD τ) scM0_0 fullShare ((outsAt0 m c n hn).2.2) ∗ (∃ r, prngReg c r) ∗ moving m c (n + 1))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(owns (c : Thread nD τ) scM0_0 fullShare ((outsAt0 m c n hn).2.2) ∗ (∃ r, prngReg c r) ∗ moving m c (n + 1)) := rfl

theorem PhiS_pos (c : Dev nD) (n : ℕ) (h : n ≤ cfg0.N) (hz : n ≠ 0) :
    PhiS m c n h = iprop(owns (c : Thread nD τ) scM0_0 fullShare ((outsAt0 m c (n - 1) (by omega)).2.2) ∗ (∃ r, prngReg c r) ∗ moving m c n) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 32 := lt_of_lt_of_eq t.isLt (show cfg0.N = 32 from N_0)
  rw [after0_5, after0_5]
  by_cases h0 : t.val % 4 = 0
  · by_cases h1 : t.val % 32 = 0
    · by_cases h2 : t.val % 4 ≤ 1
      · by_cases h3 : 2 ≤ t.val % 4
        · exfalso; omega
        · by_cases h4 : t.val % 4 = 3
          · exfalso; omega
          · rw [liveAt0_5_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · by_cases h2 : t.val % 4 ≤ 1
      · by_cases h3 : 2 ≤ t.val % 4
        · exfalso; omega
        · by_cases h4 : t.val % 4 = 3
          · exfalso; omega
          · rw [outsAt0_E m c t h0 h1 h2 h3 h4]
            dsimp only
            unfold out0_E_5
            rfl
      · exfalso; omega
  · by_cases h1 : t.val % 32 = 0
    · exfalso; omega
    · by_cases h2 : t.val % 4 ≤ 1
      · by_cases h3 : 2 ≤ t.val % 4
        · exfalso; omega
        · by_cases h4 : t.val % 4 = 3
          · exfalso; omega
          · rw [outsAt0_B m c t h0 h1 h2 h3 h4]
            dsimp only
            unfold out0_B_5
            rfl
      · by_cases h3 : 2 ≤ t.val % 4
        · by_cases h4 : t.val % 4 = 3
          · rw [liveAt0_5_D t (fun h => h0 ((hcond0_0 t).mp h)) (fun h => h1 ((hcond0_1 t).mp h)) (fun h => h2 ((hcond0_2 t).mp h)) ((hcond0_3 t).mpr h3) ((hcond0_4 t).mpr h4)] at hi
            exact absurd hi Bool.false_ne_true
          · rw [outsAt0_C m c t h0 h1 h2 h3 h4]
            dsimp only
            unfold out0_C_5
            rfl
        · exfalso; omega
theorem before0_5_D (c : Dev nD) (t : Fin cfg0.N) (h0 : ¬t.val % 4 = 0) (h1 : ¬t.val % 32 = 0) (h2 : ¬t.val % 4 ≤ 1) (h3 : 2 ≤ t.val % 4) (h4 : t.val % 4 = 3) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_D t (fun h => h0 ((hcond0_0 t).mp h)) (fun h => h1 ((hcond0_1 t).mp h)) (fun h => h2 ((hcond0_2 t).mp h)) ((hcond0_3 t).mpr h3) ((hcond0_4 t).mpr h4)]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 4 = 0
  · by_cases h1 : t.val % 32 = 0
    · by_cases h2 : t.val % 4 ≤ 1
      · by_cases h3 : 2 ≤ t.val % 4
        · exfalso; omega
        · by_cases h4 : t.val % 4 = 3
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [Dat.leavesExact_idle (dats m 0 c) 4 t (idleAt0_4_A t ((hcond0_0 t).mpr h0) ((hcond0_1 t).mpr h1) ((hcond0_2 t).mpr h2) (fun h => h3 ((hcond0_3 t).mp h)) (fun h => h4 ((hcond0_4 t).mp h))) (noFlush0_4_A t ((hcond0_0 t).mpr h0) ((hcond0_1 t).mpr h1) ((hcond0_2 t).mpr h2) (fun h => h3 ((hcond0_3 t).mp h)) (fun h => h4 ((hcond0_4 t).mp h)))]
            rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) ((hcond0_2 t).mpr h2) (fun h => h3 ((hcond0_3 t).mp h)) (fun h => h4 ((hcond0_4 t).mp h))], after0_5]
            by_cases hz : t.val = 0
            · rw [PhiS_castSucc m c t, PhiS_zero m c _ _ hz, PhiD0_eq]
              rw [moving_flying m c (t.val + 1) (by omega), show (t.val + 1) / 4 = t.val / 4 from by omega]
              unfold flying
              rw [outsAt0_A m c t h0 h1 h2 h3 h4]
              unfold out0_A_5 sout0_A_0; (try dsimp only)
              iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
              iapply ((kernelRun0_A c (grid0.coords t) _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5)).2.2.2 _ W _)
              isplitl [H0]; · iexact H0
              isplitl [H1]; · iexact H1
              isplitl [H2]; · iexact H2
              isplitl [H3]; · iexact H3
              isplitl [H4]; · iexact H4
              isplitl [H5]; · iexists _; iexact H5
              isplitl [HS0]; · iexact HS0
              isplitl [HS1]; · iexact HS1
              isplitl [HS2]; · iexact HS2
              isplitl [Hq0]; · iexact Hq0
              isplitl [Hq1]; · iexact Hq1
              isplitl [Hh0]; · iexact Hh0
              isplitl [Hh1]; · iexact Hh1
              isplitl [HW]; · iexact HW
              iintro ⟨H0, H1, H2, H3, H4, ⟨%e5, H5⟩, ⟨%es0, HS0⟩, HX0, HX1, ⟨%W', HW'⟩⟩
              isplitl [HS0 Hg HX0 HX1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _)
                isplitl [Hg]; · iexact Hg
                isplitl [HX0]
                · iapply (fly_off c 10 _ _ _ _ _ _ _ (off1_row t)); iexact HX0
                iapply (fly_off c 11 _ _ _ _ _ _ _ (off1_row t)); iexact HX1
              isplitl [HW']
              · iexists W'; isplitr; · ipureintro; exact fun _ _ => Or.inl trivial
                iexact HW'
              isplitl [H0]; · iexact H0
              isplitl [H1]; · iexact H1
              isplitl [H2]; · iexact H2
              isplitl [H3]; · iexact H3
              isplitl [H4]; · iexists _; iexact H4
              unfold owns; iexists _; isplitr
              swap; · iexact H5
              ipureintro; exact View.read_writes_of_cover _ _ _ _ _ (cover0_A_5 c _ _ _ _ _ _ _ _ _ _ _ _ _ _ _ _ _ _ _ _ _ _ _ _ _ _ _ _ _ _)
            · exfalso; have hN : t.val < 32 := lt_of_lt_of_eq t.isLt (show cfg0.N = 32 from N_0); omega
      · exfalso; omega
    · by_cases h2 : t.val % 4 ≤ 1
      · by_cases h3 : 2 ≤ t.val % 4
        · exfalso; omega
        · by_cases h4 : t.val % 4 = 3
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [Dat.leavesExact_idle (dats m 0 c) 4 t (idleAt0_4_E t ((hcond0_0 t).mpr h0) (fun h => h1 ((hcond0_1 t).mp h)) ((hcond0_2 t).mpr h2) (fun h => h3 ((hcond0_3 t).mp h)) (fun h => h4 ((hcond0_4 t).mp h))) (noFlush0_4_E t ((hcond0_0 t).mpr h0) (fun h => h1 ((hcond0_1 t).mp h)) ((hcond0_2 t).mpr h2) (fun h => h3 ((hcond0_3 t).mp h)) (fun h => h4 ((hcond0_4 t).mp h)))]
            rw [Dat.leavesExact_idle (dats m 0 c) 5 t (idleAt0_5_E t ((hcond0_0 t).mpr h0) (fun h => h1 ((hcond0_1 t).mp h)) ((hcond0_2 t).mpr h2) (fun h => h3 ((hcond0_3 t).mp h)) (fun h => h4 ((hcond0_4 t).mp h))) (noFlush0_5_E t ((hcond0_0 t).mpr h0) (fun h => h1 ((hcond0_1 t).mp h)) ((hcond0_2 t).mpr h2) (fun h => h3 ((hcond0_3 t).mp h)) (fun h => h4 ((hcond0_4 t).mp h)))]
            by_cases hz : t.val = 0
            · exfalso; have hN : t.val < 32 := lt_of_lt_of_eq t.isLt (show cfg0.N = 32 from N_0); omega
            · rw [PhiS_castSucc m c t, PhiS_pos m c _ _ hz]
              rw [moving_landed m c t.val (by omega), moving_flying m c (t.val + 1) (by omega), show (t.val + 1) / 4 = t.val / 4 from by omega]
              unfold landed flying
              rw [outsAt0_E m c t h0 h1 h2 h3 h4]
              unfold sout0_E_0; (try dsimp only)
              iintro ⟨⟨HS0, Hg, ⟨HS1, HS2, Hq0, Hq1, Hh0, Hh1⟩⟩, ⟨%W, -, HW⟩, ⟨%d0, H0⟩, ⟨%d1, H1⟩, ⟨%d2, H2⟩, ⟨%d3, H3⟩, ⟨%d4, H4⟩, ⟨%d5, H5⟩⟩
              iapply ((kernelRun0_E c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (V m c main_arg3) (V m c main_arg5)).2.2.2 _ _ W _)
              isplitl [H0]; · iexact H0
              isplitl [H1]; · iexact H1
              isplitl [H2]; · iexact H2
              isplitl [H3]; · iexact H3
              isplitl [H4]; · iexact H4
              isplitl [H5]; · iexact H5
              isplitl [HS0]; · iexists _; iexact HS0
              isplitl [HS1]; · iexact HS1
              isplitl [HS2]; · iexact HS2
              isplitl [Hq0]; · iexact Hq0
              isplitl [Hq1]; · iexact Hq1
              isplitl [Hh0]; · iexact Hh0
              isplitl [Hh1]; · iexact Hh1
              isplitl [HW]; · iexact HW
              iintro ⟨H0, H1, H2, H3, H4, H5, ⟨%es0, HS0⟩, HX0, HX1, ⟨%W', HW'⟩⟩
              isplitl [HS0 Hg HX0 HX1]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _)
                isplitl [Hg]; · iexact Hg
                isplitl [HX0]
                · iapply (fly_off c 10 _ _ _ _ _ _ _ (off1_row t)); iexact HX0
                iapply (fly_off c 11 _ _ _ _ _ _ _ (off1_row t)); iexact HX1
              isplitl [HW']
              · iexists W'; isplitr; · ipureintro; exact fun _ _ => Or.inl trivial
                iexact HW'
              isplitl [H0]; · iexact H0
              isplitl [H1]; · iexact H1
              isplitl [H2]; · iexact H2
              isplitl [H3]; · iexact H3
              isplitl [H4]; · iexists _; iexact H4
              iexists _; iexact H5
      · exfalso; omega
  · by_cases h1 : t.val % 32 = 0
    · exfalso; omega
    · by_cases h2 : t.val % 4 ≤ 1
      · by_cases h3 : 2 ≤ t.val % 4
        · exfalso; omega
        · by_cases h4 : t.val % 4 = 3
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [Dat.leavesExact_idle (dats m 0 c) 4 t (idleAt0_4_B t (fun h => h0 ((hcond0_0 t).mp h)) (fun h => h1 ((hcond0_1 t).mp h)) ((hcond0_2 t).mpr h2) (fun h => h3 ((hcond0_3 t).mp h)) (fun h => h4 ((hcond0_4 t).mp h))) (noFlush0_4_B t (fun h => h0 ((hcond0_0 t).mp h)) (fun h => h1 ((hcond0_1 t).mp h)) ((hcond0_2 t).mpr h2) (fun h => h3 ((hcond0_3 t).mp h)) (fun h => h4 ((hcond0_4 t).mp h)))]
            rw [Dat.leavesExact_idle (dats m 0 c) 5 t (idleAt0_5_B t (fun h => h0 ((hcond0_0 t).mp h)) (fun h => h1 ((hcond0_1 t).mp h)) ((hcond0_2 t).mpr h2) (fun h => h3 ((hcond0_3 t).mp h)) (fun h => h4 ((hcond0_4 t).mp h))) (noFlush0_5_B t (fun h => h0 ((hcond0_0 t).mp h)) (fun h => h1 ((hcond0_1 t).mp h)) ((hcond0_2 t).mpr h2) (fun h => h3 ((hcond0_3 t).mp h)) (fun h => h4 ((hcond0_4 t).mp h)))]
            by_cases hz : t.val = 0
            · exfalso; have hN : t.val < 32 := lt_of_lt_of_eq t.isLt (show cfg0.N = 32 from N_0); omega
            · rw [PhiS_castSucc m c t, PhiS_pos m c _ _ hz]
              rw [moving_flying m c t.val (by omega), moving_flying m c (t.val + 1) (by omega), show (t.val + 1) / 4 = t.val / 4 from by omega]
              rw [outsAt0_B m c t h0 h1 h2 h3 h4]
              unfold sout0_B_0; (try dsimp only)
              iintro ⟨⟨HS0, Hg, HX⟩, ⟨%W, -, HW⟩, ⟨%d0, H0⟩, ⟨%d1, H1⟩, ⟨%d2, H2⟩, ⟨%d3, H3⟩, ⟨%d4, H4⟩, ⟨%d5, H5⟩⟩
              iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _ (V m c main_arg3) (V m c main_arg5)).2.2.2 _ _ W _)
              isplitl [H0]; · iexact H0
              isplitl [H1]; · iexact H1
              isplitl [H2]; · iexact H2
              isplitl [H3]; · iexact H3
              isplitl [H4]; · iexact H4
              isplitl [H5]; · iexact H5
              isplitl [HS0]; · iexact HS0
              isplitl [HW]; · iexact HW
              iintro ⟨H0, H1, H2, H3, H4, H5, ⟨%es0, HS0⟩, ⟨%W', HW'⟩⟩
              isplitl [HS0 Hg HX]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _)
                isplitl [Hg]; · iexact Hg
                iexact HX
              isplitl [HW']
              · iexists W'; isplitr; · ipureintro; exact fun _ _ => Or.inl trivial
                iexact HW'
              isplitl [H0]; · iexact H0
              isplitl [H1]; · iexact H1
              isplitl [H2]; · iexact H2
              isplitl [H3]; · iexact H3
              isplitl [H4]; · iexists _; iexact H4
              iexists _; iexact H5
      · by_cases h3 : 2 ≤ t.val % 4
        · by_cases h4 : t.val % 4 = 3
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3) ((hcond0_4 t).mpr h4)], after0_4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) ((hcond0_3 t).mpr h3) ((hcond0_4 t).mpr h4)], after0_5]
            by_cases hz : t.val = 0
            · exfalso; have hN : t.val < 32 := lt_of_lt_of_eq t.isLt (show cfg0.N = 32 from N_0); omega
            · rw [PhiS_castSucc m c t, PhiS_pos m c _ _ hz]
              rw [moving_flying m c t.val (by omega), moving_landed m c (t.val + 1) (by omega)]
              unfold landed flying
              rw [outsAt0_D m c t h0 h1 h2 h3 h4]
              simp only [before0_5_D m c t h0 h1 h2 h3 h4]
              unfold out0_D_4 out0_D_5 sout0_D_0; (try dsimp only)
              iintro ⟨⟨HS0, Hg, ⟨HX0, HX1⟩⟩, ⟨%W, -, HW⟩, ⟨%d0, H0⟩, ⟨%d1, H1⟩, ⟨%d2, H2⟩, ⟨%d3, H3⟩, ⟨%d4, H4⟩, ⟨%d5, H5⟩⟩
              iapply ((kernelRun0_D c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) _ _ (rowOff (t.val / 4)) (rowOff_inb _) (V m c main_arg3) (V m c main_arg5)).2.2.2 W _)
              isplitl [H0]; · iexact H0
              isplitl [H1]; · iexact H1
              isplitl [H2]; · iexact H2
              isplitl [H3]; · iexact H3
              isplitl [H4]; · iexists _; iexact H4
              isplitl [H5]; · iexact H5
              isplitl [HS0]; · iexact HS0
              isplitl [HX0]; · iexact HX0
              isplitl [HX1]; · iexact HX1
              isplitl [HW]; · iexact HW
              iintro ⟨H0, H1, H2, H3, ⟨%e4, H4⟩, ⟨%e5, H5⟩, ⟨%es0, HS0⟩, HS1, HS2, Hq0, Hq1, Hh0, Hh1, ⟨%W', HW'⟩⟩
              isplitl [HS0 Hg HS1 HS2 Hq0 Hq1 Hh0 Hh1]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _)
                isplitl [Hg]; · iexact Hg
                isplitl [HS1]; · iexact HS1
                isplitl [HS2]; · iexact HS2
                isplitl [Hq0]; · iexact Hq0
                isplitl [Hq1]; · iexact Hq1
                isplitl [Hh0]; · iexact Hh0
                iexact Hh1
              isplitl [HW']
              · iexists W'; isplitr; · ipureintro; exact fun _ _ => Or.inl trivial
                iexact HW'
              isplitl [H0]; · iexact H0
              isplitl [H1]; · iexact H1
              isplitl [H2]; · iexact H2
              isplitl [H3]; · iexact H3
              isplitl [H4]
              · unfold owns; iexists _; isplitr
                swap; · iexact H4
                ipureintro; exact View.read_writes_of_cover _ _ _ _ _ (cover0_D_4 c _ _ _ _ _ _ _ _ _ _ _ _ _ _ _ _ _ _ _ _ _ _ _ _ _ _ _ _ _ _ _ _ _ _)
              unfold owns; iexists _; isplitr
              swap; · iexact H5
              ipureintro; exact View.read_writes_of_cover _ _ _ _ _ (cover0_D_5 c _ _ _ _ _ _ _ _ _ _ _ _ _ _ _ _ _ _ _ _ _ _ _ _ _ _ _ _ _ _ _ _ _ _)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [Dat.leavesExact_idle (dats m 0 c) 4 t (idleAt0_4_C t (fun h => h0 ((hcond0_0 t).mp h)) (fun h => h1 ((hcond0_1 t).mp h)) (fun h => h2 ((hcond0_2 t).mp h)) ((hcond0_3 t).mpr h3) (fun h => h4 ((hcond0_4 t).mp h))) (noFlush0_4_C t (fun h => h0 ((hcond0_0 t).mp h)) (fun h => h1 ((hcond0_1 t).mp h)) (fun h => h2 ((hcond0_2 t).mp h)) ((hcond0_3 t).mpr h3) (fun h => h4 ((hcond0_4 t).mp h)))]
            rw [Dat.leavesExact_idle (dats m 0 c) 5 t (idleAt0_5_C t (fun h => h0 ((hcond0_0 t).mp h)) (fun h => h1 ((hcond0_1 t).mp h)) (fun h => h2 ((hcond0_2 t).mp h)) ((hcond0_3 t).mpr h3) (fun h => h4 ((hcond0_4 t).mp h))) (noFlush0_5_C t (fun h => h0 ((hcond0_0 t).mp h)) (fun h => h1 ((hcond0_1 t).mp h)) (fun h => h2 ((hcond0_2 t).mp h)) ((hcond0_3 t).mpr h3) (fun h => h4 ((hcond0_4 t).mp h)))]
            by_cases hz : t.val = 0
            · exfalso; have hN : t.val < 32 := lt_of_lt_of_eq t.isLt (show cfg0.N = 32 from N_0); omega
            · rw [PhiS_castSucc m c t, PhiS_pos m c _ _ hz]
              rw [moving_flying m c t.val (by omega), moving_flying m c (t.val + 1) (by omega), show (t.val + 1) / 4 = t.val / 4 from by omega]
              rw [outsAt0_C m c t h0 h1 h2 h3 h4]
              unfold sout0_C_0; (try dsimp only)
              iintro ⟨⟨HS0, Hg, HX⟩, ⟨%W, -, HW⟩, ⟨%d0, H0⟩, ⟨%d1, H1⟩, ⟨%d2, H2⟩, ⟨%d3, H3⟩, ⟨%d4, H4⟩, ⟨%d5, H5⟩⟩
              iapply ((kernelRun0_C c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _ (V m c main_arg3) (V m c main_arg5)).2.2.2 _ _ W _)
              isplitl [H0]; · iexact H0
              isplitl [H1]; · iexact H1
              isplitl [H2]; · iexact H2
              isplitl [H3]; · iexact H3
              isplitl [H4]; · iexact H4
              isplitl [H5]; · iexact H5
              isplitl [HS0]; · iexact HS0
              isplitl [HW]; · iexact HW
              iintro ⟨H0, H1, H2, H3, H4, H5, ⟨%es0, HS0⟩, ⟨%W', HW'⟩⟩
              isplitl [HS0 Hg HX]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _)
                isplitl [Hg]; · iexact Hg
                iexact HX
              isplitl [HW']
              · iexists W'; isplitr; · ipureintro; exact fun _ _ => Or.inl trivial
                iexact HW'
              isplitl [H0]; · iexact H0
              isplitl [H1]; · iexact H1
              isplitl [H2]; · iexact H2
              isplitl [H3]; · iexact H3
              isplitl [H4]; · iexists _; iexact H4
              iexists _; iexact H5
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦD osem0 spec0 H0 (V m) c := by
  have hN : (Fin.last cfg0.N).val = 32 := by rw [Fin.val_last]; exact N_0
  rw [show (dats m 0 c).Φ (Fin.last cfg0.N) = PhiS m c (Fin.last cfg0.N).val (Nat.le_of_lt_succ (Fin.last cfg0.N).isLt) from rfl,
    PhiS_pos m c _ _ (by omega), PhiD0_eq, moving_landed m c _ (by omega)]
  unfold landed
  iintro ⟨HS0, Hg, HS1, HS2, Hq0, Hq1, Hh0, Hh1⟩
  isplitl [HS0 HS1 HS2]
  · isplitl [HS0]
    · iexists _; iexact HS0
    isplitl [HS1]
    · iexact HS1
    iexact HS2
  isplitl [Hg]; · iexact Hg
  isplitl [Hq0 Hq1]
  · isplitl [Hq0]; · iexact Hq0
    iexact Hq1
  isplitl [Hh0]; · iexact Hh0
  iexact Hh1

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.UpDxIdeal.Hand

end
-- ==== Proof.RmsBwd.lean ====
/- The gradient of the root-mean-square norm along a row, in the closed form and in the chain rule's form. -/
module

public import Idealize.ShloMosaic.Lib.IdealHost
public import Idealize.ShloMosaic.Lib.Pointwise
public import proofs.«01_k».proof.Proof.Arith
public import proofs.«01_k».proof.Proof.Finite

@[expose] public section

noncomputable section

namespace Cert.Arith

open Idealize.ShloMosaic
open scoped BigOperators

theorem n1024_f32 : Ideal.ofBits .f32 0x44800000#32 = ((1024 : ℝ) : EReal) := by
  simp [Ideal.ofBits, Ideal.ieee, -EReal.coe_mul]; norm_num

theorem neghalf_f32 : Ideal.ofBits .f32 0xBF000000#32 = ((-(1 / 2) : ℝ) : EReal) := by
  simp [Ideal.ofBits, Ideal.ieee, -EReal.coe_mul]; norm_num

theorem eps_f32 : ∃ e : ℝ, 0 < e ∧ Ideal.ofBits .f32 0x358637BD#32 = (e : EReal) := by
  refine ⟨_, ?_, by simp [Ideal.ofBits, Ideal.ieee, -EReal.coe_mul]; rfl⟩
  norm_num

/-- A finite sum of reals, as an extended real. -/
theorem coe_sum' {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

/-- The mean of a row's squares and the small constant. -/
def msq (x : Fin 1024 → EReal) : EReal :=
  Ideal.div (∑ k, x k * x k) (Ideal.ofBits .f32 0x44800000#32) + Ideal.ofBits .f32 0x358637BD#32

theorem mul_self_nonneg' (x : EReal) : 0 ≤ x * x := by
  induction x with
  | bot => rw [EReal.bot_mul_bot]; exact le_top
  | top => rw [EReal.top_mul_top]; exact le_top
  | coe x => rw [← EReal.coe_mul]; exact_mod_cast mul_self_nonneg x

theorem coe_mul_add (a : ℝ) (ha : 0 ≤ a) (x y : EReal) : (a : EReal) * (x + y) = a * x + a * y :=
  EReal.left_distrib_of_nonneg_of_ne_top (by exact_mod_cast ha) (EReal.coe_ne_top a) x y

/-- Two products with the same real factor add to the product with its double. -/
theorem mul_coe_add_self (t : EReal) (c : ℝ) : t * (c : EReal) + t * (c : EReal) = t * ((2 * c : ℝ) : EReal) := by
  induction t with
  | coe t => rw [← EReal.coe_mul, ← EReal.coe_add, ← EReal.coe_mul]; congr 1; ring
  | bot =>
    rcases lt_trichotomy c 0 with h | rfl | h
    · rw [EReal.bot_mul_coe_of_neg h, EReal.bot_mul_coe_of_neg (by linarith)]; rfl
    · simp
    · rw [EReal.bot_mul_coe_of_pos h, EReal.bot_mul_coe_of_pos (by linarith)]; rfl
  | top =>
    rcases lt_trichotomy c 0 with h | rfl | h
    · rw [EReal.top_mul_coe_of_neg h, EReal.top_mul_coe_of_neg (by linarith)]; rfl
    · simp
    · rw [EReal.top_mul_coe_of_pos h, EReal.top_mul_coe_of_pos (by linarith)]; rfl

/-- The norm's gradient along a row: the closed form against the chain rule's, at every extended real. -/
theorem rms_bwd (x d : Fin 1024 → EReal) (j : Fin 1024) :
    Ideal.rsqrt (msq x) * (d j - x j * Ideal.rsqrt (msq x) * Ideal.div (∑ k, d k * (x k * Ideal.rsqrt (msq x))) (Ideal.ofBits .f32 0x44800000#32))
      = d j * Ideal.rsqrt (msq x)
        + x j * Ideal.div ((∑ k, x k * d k) * (Ideal.ofBits .f32 0xBF000000#32 * Ideal.div (Ideal.rsqrt (msq x)) (msq x))) (Ideal.ofBits .f32 0x44800000#32)
        + Ideal.div ((∑ k, x k * d k) * (Ideal.ofBits .f32 0xBF000000#32 * Ideal.div (Ideal.rsqrt (msq x)) (msq x))) (Ideal.ofBits .f32 0x44800000#32) * x j := by
  obtain ⟨e, he, hE⟩ := eps_f32
  have hdiv : ∀ a : EReal, Ideal.div a ((1024 : ℝ) : EReal) = a * (((1024 : ℝ)⁻¹ : ℝ) : EReal) := fun a => by
    unfold Ideal.div
    rw [if_neg (by norm_num), EReal.coe_inv]
  by_cases hx : ∀ k, IsR (x k)
  · choose X hX using hx
    obtain rfl : x = fun k => (X k : EReal) := funext hX
    have hq : msq (fun k => (X k : EReal)) = (((∑ k, X k * X k) * (1024 : ℝ)⁻¹ + e : ℝ) : EReal) := by
      unfold msq
      simp only [hE, n1024_f32, ← EReal.coe_mul]
      rw [coe_sum', div_coe _ _ (by norm_num), ← EReal.coe_add]
    have hpos : 0 < (∑ k, X k * X k) * (1024 : ℝ)⁻¹ + e :=
      add_pos_of_nonneg_of_pos (mul_nonneg (Finset.sum_nonneg fun k _ => mul_self_nonneg _) (by norm_num)) he
    rw [hq]
    generalize (∑ k, X k * X k) * (1024 : ℝ)⁻¹ + e = q at hpos
    rw [rsqrt_coe q hpos, n1024_f32, neghalf_f32, div_coe _ q hpos.ne', hdiv, hdiv]
    have hr : (Real.sqrt q)⁻¹ * (Real.sqrt q)⁻¹ = q⁻¹ := by rw [← mul_inv, Real.mul_self_sqrt hpos.le]
    have h0 : 0 ≤ (Real.sqrt q)⁻¹ := inv_nonneg.mpr (Real.sqrt_nonneg q)
    generalize (Real.sqrt q)⁻¹ = r at hr h0
    rw [← hr]
    have hs : ∑ k, d k * ((X k : EReal) * (r : EReal)) = (∑ k, (X k : EReal) * d k) * (r : EReal) := by
      rw [sum_mul_coe _ r h0]; exact Finset.sum_congr rfl fun k _ => by ac_rfl
    simp only [hs]
    generalize ∑ k, (X k : EReal) * d k = T
    rw [sub_eq_add_neg, coe_mul_add r h0, add_assoc, mul_comm (r : EReal) (d j)]
    congr 1
    have e1 : ∀ c : EReal, (X j : EReal) * (T * c * (((1024 : ℝ)⁻¹ : ℝ) : EReal)) = T * (c * ((1024 : ℝ)⁻¹ : ℝ) * (X j : EReal)) := fun c => by ac_rfl
    have e2 : ∀ c : EReal, T * c * (((1024 : ℝ)⁻¹ : ℝ) : EReal) * (X j : EReal) = T * (c * ((1024 : ℝ)⁻¹ : ℝ) * (X j : EReal)) := fun c => by ac_rfl
    have e3 : (r : EReal) * -((X j : EReal) * r * (T * r * (((1024 : ℝ)⁻¹ : ℝ) : EReal))) = T * ((-(r * (X j * r * (r * (1024 : ℝ)⁻¹))) : ℝ) : EReal) := by
      rw [EReal.coe_neg, mul_neg, mul_neg]
      simp only [EReal.coe_mul]
      congr 1
      ac_rfl
    rw [e1, e2, e3]
    simp only [← EReal.coe_mul]
    rw [mul_coe_add_self]
    congr 2
    ring
  · obtain ⟨k, hk⟩ := not_forall.mp hx
    have hkk : x k * x k = ⊤ := by
      rcases h : x k with _ | _ | v
      · exact EReal.bot_mul_bot
      · exact EReal.top_mul_top
      · exact absurd ⟨v, h⟩ hk
    have hs : ∑ k, x k * x k = ⊤ :=
      top_le_iff.mp (hkk ▸ Finset.single_le_sum (f := fun k => x k * x k) (fun i _ => mul_self_nonneg' _) (Finset.mem_univ k))
    have hq : msq x = ⊤ := by
      unfold msq
      rw [hs, hE, n1024_f32, hdiv, EReal.top_mul_coe_of_pos (by norm_num)]
      rfl
    have hr : Ideal.rsqrt ⊤ = 0 := rfl
    have hd : Ideal.div 0 ⊤ = 0 := by unfold Ideal.div; simp
    rw [hq, hr, hd, n1024_f32, hdiv, hdiv]
    simp

end Cert.Arith

end
-- ==== Proof.UpDxTerms.lean ====
/- The first feed-forward product's backward through the norm: the reference's terms, and their closed form at an index. -/
module

public import proofs.«01_k».proof.Proof.Gen.UpDxRefIdeal.Run
public import Idealize.ShloMosaic.Lib.Pointwise
public import Idealize.ShloMosaic.Lib.Claim
public import proofs.«01_k».proof.Proof.RmsBwd

@[expose] public section

set_option maxRecDepth 16384

noncomputable section

namespace Cert.UpDxRefIdeal.Whole

open Idealize.ShloMosaic Idealize.ShloMosaic.TcCoe Idealize.SL.Sem
open Cert.UpDxRefIdeal Cert.UpDxRefIdeal.Gen
open Cert.Arith (msq)

/-- The product's gradient: the two pieces side by side times the weight. -/
def DH (a : FVec Ideal S8192x2816 .bf16) (b : FVec Ideal S8192x2816 .bf16) (w : FVec Ideal S1024x5632 .bf16) : FVec Ideal S8192x1024 .f32 :=
  Host.dotGeneral dot_S8192x5632_S1024x5632_S8192x1024_1_1_0_0_n_n none (extf .f32 (concatenate S8192x5632 1 [⟨S8192x2816, a⟩, ⟨S8192x2816, b⟩] concatenates_S8192x2816_S8192x2816_S8192x5632_d1) bitsLt_bf16_f32) (extf .f32 w bitsLt_bf16_f32)

/-- The mean of each row's squares and the small constant. -/
def QX (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The factor each row of the input has through the mean of squares. -/
def SX (a : FVec Ideal S8192x2816 .bf16) (b : FVec Ideal S8192x2816 .bf16) (w : FVec Ideal S1024x5632 .bf16) (x : FVec Ideal S8192x1024 .f32) (g : FVec Ideal S1x1024 .f32) : FVec Ideal S8192 .f32 :=
  Host.reduceAdd (Host.divf (mulf (shapeCast _ (Host.reduceAdd (mulf x (mulf (DH a b w) (broadcastInDim S8192x1024 ![0, 1] bcast_S1x1024_S8192x1024_0_1 g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (QX x)) (QX x)))) (broadcastInDim S8192x1 ![] bcast_S_S8192x1 (constant S_ .f32 0x44800000#32))) (constant S_ .f32 0x00000000#32) reducesTo_S8192x1_S8192_d1 h_S_

/-- The reference's first result. -/
def REFDX (a : FVec Ideal S8192x2816 .bf16) (b : FVec Ideal S8192x2816 .bf16) (w : FVec Ideal S1024x5632 .bf16) (x : FVec Ideal S8192x1024 .f32) (g : FVec Ideal S1x1024 .f32) (r : FVec Ideal S8192x1024 .f32) : FVec Ideal S8192x1024 .f32 :=
  addf r (addf (addf (mulf (mulf (DH a b w) (broadcastInDim S8192x1024 ![0, 1] bcast_S1x1024_S8192x1024_0_1 g)) (broadcastInDim S8192x1024 ![0, 1] bcast_S8192x1_S8192x1024_0_1 (Host.rsqrt (QX x)))) (mulf x (broadcastInDim S8192x1024 ![0] bcast_S8192_S8192x1024_0 (SX a b w x g)))) (mulf (broadcastInDim S8192x1024 ![0] bcast_S8192_S8192x1024_0 (SX a b w x g)) x))

/-- The reference's second result. -/
def REFDG (a : FVec Ideal S8192x2816 .bf16) (b : FVec Ideal S8192x2816 .bf16) (w : FVec Ideal S1024x5632 .bf16) (x : FVec Ideal S8192x1024 .f32) (g : FVec Ideal S1x1024 .f32) (r : FVec Ideal S8192x1024 .f32) : FVec Ideal S1x1024 .f32 :=
  shapeCast _ (Host.reduceAdd (mulf (mulf x (broadcastInDim S8192x1024 ![0, 1] bcast_S8192x1_S8192x1024_0_1 (Host.rsqrt (QX x)))) (DH a b w)) (constant S_ .f32 0x00000000#32) reducesTo_S8192x1024_S1024_d0 h_S_) shapeCasts_S1024_S1x1024

/-- The row an index is in. -/
def row (x : FVec Ideal S8192x1024 .f32) (i : Fin 8192) (k : Fin 1024) : EReal := x (ix2 i k)

/-- The gradient of the first operand at an index, in the closed form. -/
def KDX (dh : FVec Ideal S8192x1024 .f32) (x : FVec Ideal S8192x1024 .f32) (g : FVec Ideal S1x1024 .f32) (r : FVec Ideal S8192x1024 .f32) (i : Fin 8192) (j : Fin 1024) : EReal :=
  r (ix2 i j) + Ideal.rsqrt (msq (row x i)) * (dh (ix2 i j) * g (ix2 0 j)
    - row x i j * Ideal.rsqrt (msq (row x i)) * Ideal.div (∑ k, dh (ix2 i k) * g (ix2 0 k) * (row x i k * Ideal.rsqrt (msq (row x i)))) (Ideal.ofBits .f32 0x44800000#32))

/-- The gradient of the norm's factor. -/
def KDG (dh : FVec Ideal S8192x1024 .f32) (x : FVec Ideal S8192x1024 .f32) (j : Fin 1024) : EReal :=
  ∑ i : Fin 8192, dh (ix2 i j) * (row x i j * Ideal.rsqrt (msq (row x i)))

theorem dh_at (a : FVec Ideal S8192x2816 .bf16) (b : FVec Ideal S8192x2816 .bf16) (w : FVec Ideal S1024x5632 .bf16) (i : S8192x1024.Idx) :
    DH a b w i = ∑ k : Fin 5632, (if h : k.val < 2816 then a (ix2 (i 0) ⟨k.val, h⟩) else b (ix2 (i 0) ⟨k.val - 2816, by omega⟩)) * w (ix2 (i 1) k) := by
  pointwise [DH]

theorem qx_at (x : FVec Ideal S8192x1024 .f32) (i : Fin 8192) (z : Fin 1) : QX x (ix2 i z) = msq (row x i) := by
  pointwise [QX, msq, row]

theorem refdx_at (a : FVec Ideal S8192x2816 .bf16) (b : FVec Ideal S8192x2816 .bf16) (w : FVec Ideal S1024x5632 .bf16) (x : FVec Ideal S8192x1024 .f32) (g : FVec Ideal S1x1024 .f32) (r : FVec Ideal S8192x1024 .f32) (i : Fin 8192) (j : Fin 1024) :
    KDX (DH a b w) x g r i j = REFDX a b w x g r (ix2 i j) := by
  unfold KDX
  have h := Cert.Arith.rms_bwd (row x i) (fun k => DH a b w (ix2 i k) * g (ix2 0 k)) j
  rw [h]
  pointwise [REFDX, SX, row]
  simp only [qx_at, Fin.sum_univ_one]

theorem refdg_at (a : FVec Ideal S8192x2816 .bf16) (b : FVec Ideal S8192x2816 .bf16) (w : FVec Ideal S1024x5632 .bf16) (x : FVec Ideal S8192x1024 .f32) (g : FVec Ideal S1x1024 .f32) (r : FVec Ideal S8192x1024 .f32) (j : Fin 1024) :
    KDG (DH a b w) x j = REFDG a b w x g r (ix2 0 j) := by
  unfold KDG
  pointwise [REFDG, row]
  exact Finset.sum_congr rfl fun k _ => by rw [qx_at]; exact mul_comm _ _

end Cert.UpDxRefIdeal.Whole

end
-- ==== Proof.UpDxVal.lean ====
/- The first feed-forward product's backward through the norm: what the kernel's result arrays end holding is the reference's terms. -/
module

public import proofs.«01_k».proof.Proof.UpDxIdealFrame
public import proofs.«01_k».proof.Proof.UpDxTerms
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.UpDxIdeal.Whole

open Idealize.ShloMosaic Idealize.ShloMosaic.TcCoe Idealize.SL.Sem
open Idealize.ShloMosaic.Pipeline (Dat)
open Cert.UpDxIdeal Cert.UpDxIdeal.Gen Cert.UpDxIdeal.Hand
open Cert.UpDxRefIdeal.Whole
open Cert.Arith (msq)

variable (m : (ℓ : Loc nD τ sig) → Buf (Elt Ideal) ℓ)

/-- Each window's block index at each grid point. -/
theorem idx : ∀ t : Fin cfg0.N, win0_0.index t = ![t.val / 4, min (t.val % 4) 1] ∧ win0_1.index t = ![t.val / 4, t.val % 4 - 2]
    ∧ win0_2.index t = ![0, t.val % 4] ∧ win0_3.index t = ![0, 0] ∧ win0_4.index t = ![t.val / 4, 0] ∧ win0_5.index t = ![0, 0] ∧ t.val < 32 :=
  (by decide +kernel : ∀ t : Fin grid0.N, _)

/-- The row of the arrays a row of a point's block is. -/
def rr (t : Fin cfg0.N) (r : Fin 1024) : Fin 8192 := ⟨1024 * (t.val / 4) + r.val, by have := (idx t).2.2.2.2.2.2; have := r.isLt; omega⟩

/-- What a point adds: its block of the piece it is in times its block of the weight. -/
def part (c : Dev nD) (t : Fin cfg0.N) (j : S1024x1024.Idx) : EReal :=
  ∑ k : Fin 1408, (if t.val % 4 ≤ 1 then (show FVec Ideal S1024x1408 .bf16 from iblk m c 0 t) (ix2 (j 0) k)
      else (show FVec Ideal S1024x1408 .bf16 from iblk m c 1 t) (ix2 (j 0) k)) * (show FVec Ideal S1024x1408 .bf16 from iblk m c 2 t) (ix2 (j 1) k)

theorem pay3_at (a : Vec Ideal S1024x1024 .f32) (x : Vec Ideal S1024x1408 .bf16) (y : Vec Ideal S1024x1408 .bf16) (j) :
    k0_pay3 a x y j = a j + ∑ k : Fin 1408, x (ix2 (j 0) k) * y (ix2 (j 1) k) := by
  pointwise [k0_pay3]

theorem pay4_at (a : Vec Ideal S1024x1024 .f32) (x : Vec Ideal S1024x1408 .bf16) (y : Vec Ideal S1024x1408 .bf16) (j) :
    k0_pay4 a x y j = a j + ∑ k : Fin 1408, x (ix2 (j 0) k) * y (ix2 (j 1) k) := by
  pointwise [k0_pay4]

theorem pay1_at (j) : k0_pay1 (F := Ideal) j = 0 := by pointwise [k0_pay1]

/-- The accumulator after a row block's last point is the product's gradient there. -/
theorem acc (c : Dev nD) (t : Fin cfg0.N) (ht : t.val % 4 = 3) (y : S1024x1024.Idx) :
    (outsAt0 m c t.val t.isLt).2.2 y = DH (m ((c : Thread nD τ).loc main_arg0)) (m ((c : Thread nD τ).loc main_arg1)) (m ((c : Thread nD τ).loc main_arg2)) (ix2 (rr t (y 0)) (y 1)) := by
  rw [Pipeline.eq_sum_fin_of_reset_step_apply_of_flush (fun n h => (outsAt0 m c n h).2.2) 4 (fun _ => 0) (fun t j => part m c t j)
    (fun t h j => by
      by_cases h1 : t.val % 32 = 0
      · rw [outsAt0_A m c t h h1 (by omega) (by omega) (by omega)]; unfold sout0_A_0; frame_out; rw [pay3_at, pay1_at, part]; simp only [if_pos (show t.val % 4 ≤ 1 by omega)]
      · rw [outsAt0_E m c t h h1 (by omega) (by omega) (by omega)]; unfold sout0_E_0; frame_out; rw [pay3_at, pay1_at, part]; simp only [if_pos (show t.val % 4 ≤ 1 by omega)])
    (fun t h j => by
      by_cases h1 : t.val % 4 ≤ 1
      · rw [outsAt0_B m c t h (by omega) h1 (by omega) (by omega)]; unfold sout0_B_0; frame_out; rw [(Memref.isWhole_whole _).read_unread, pay3_at, part]; simp only [if_pos h1]
      · by_cases h3 : t.val % 4 = 3
        · rw [outsAt0_D m c t h (by omega) h1 (by omega) h3]; unfold sout0_D_0; frame_out; rw [(Memref.isWhole_whole _).read_unread, pay4_at, part]; simp only [if_neg h1]
        · rw [outsAt0_C m c t h (by omega) h1 (by omega) h3]; unfold sout0_C_0; frame_out; rw [(Memref.isWhole_whole _).read_unread, pay4_at, part]; simp only [if_neg h1])
    t ht _, zero_add, dh_at]
  simp only [part]
  refine Fin.sum_mul_add_congr fun s k hl => ?_
  blk_point [iblk, V, idx t, idx ⟨_, Pipeline.run_point_lt_of_flush t ht s⟩, rr]
  split_ifs <;> first | (exfalso; (try dsimp only at *); omega) | blk_point [iblk, V, idx t, idx ⟨_, Pipeline.run_point_lt_of_flush t ht s⟩, rr]

/-- The rows a trip of the loop takes. -/
theorem off3 : ∀ k : Fin k0_t1_loop.trips, k0_off3 k = ![256 * k.val, 0] ∧ k.val < 4 := by decide +kernel

theorem canonw (v : Vec Ideal S1024x1024 .f32) : View.canon (Val := Elt Ideal) (e := .f32) [⟨Rect.whole S1024x1024, v⟩] = v := by
  funext y
  have := View.canon_cons_emb (Val := Elt Ideal) (Rect.whole S1024x1024) v [] y
  rwa [Rect.emb_whole_apply] at this

/-- The pieces the loop's first trips write. -/
def PB (c : Dev nD) (t : Fin cfg0.N) (h5) (P Xv Rv : Vec Ideal S1024x1024 .f32) (o : Vec Ideal S1x1024 .f32) (n : ℕ) :=
  Hand.pb_k0_t1 (F := Ideal) Variants.none c none (grid0.coords t) (ms0_0 t) (hs0_0 t) (ms0_1 t) (hs0_1 t) (ms0_2 t) (hs0_2 t) (Memref.whole main_arg3) (Memref.isWhole_whole _) (ms0_3 t) (hs0_3 t) (Memref.whole main_arg5) (Memref.isWhole_whole _) (ms0_4 t) (hs0_4 t) (ms0_5 t) (hs0_5 t) scM0_0 (Memref.isWhole_whole _) scM0_1 (Memref.isWhole_whole _) scM0_2 (Memref.isWhole_whole _) cc0_scratch3 h5
    ((hs0_3 t).unread (iblk m c 3 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩])
    (ms0_4 t).view.junk ((hs0_5 t).unread o) n

theorem last2 (c : Dev nD) (t : Fin cfg0.N) (ht : t.val % 4 = 3) :
    (outsAt0 m c t.val t.isLt).2.2 = k0_pay4 (View.read (Elt Ideal) (View.whole cc0_scratch0) ((Memref.isWhole_whole _).unread (outsAt0 m c (t.val - 1) (Nat.lt_of_le_of_lt (Nat.sub_le _ _) t.isLt)).2.2)) (iblk m c 1 t) (iblk m c 2 t) := by
  funext y
  rw [outsAt0_D m c t (by omega) (by omega) (by omega) (by omega) ht]
  unfold sout0_D_0
  frame_out

theorem last0 (c : Dev nD) (t : Fin cfg0.N) (ht : t.val % 4 = 3) (y : S1024x1024.Idx) :
    ∃ h5, ∃ Xv Rv : Vec Ideal S1024x1024 .f32, (outsAt0 m c t.val t.isLt).1 y = View.canon (PB m c t h5 (outsAt0 m c t.val t.isLt).2.2 Xv Rv (outsAt0 m c (t.val - 1) (Nat.lt_of_le_of_lt (Nat.sub_le _ _) t.isLt)).2.1 4).1 y
      ∧ (∀ i j, Xv (ix2 i j) = (show FVec Ideal S8192x1024 .f32 from m ((c : Thread nD τ).loc main_arg3)) (ix2 (rr t i) j)) ∧ (∀ i j, Rv (ix2 i j) = (show FVec Ideal S8192x1024 .f32 from m ((c : Thread nD τ).loc main_arg5)) (ix2 (rr t i) j)) := by
  refine ⟨(hcond0_4 t).mpr ht, ?X, ?R, ?_, ?_, ?_⟩
  rotate_left 2
  · rw [last2 m c t ht, outsAt0_D m c t (by omega) (by omega) (by omega) (by omega) ht]
    unfold out0_D_4
    frame_out
    rw [show Scf.trips (0#32) (Scalar.addi 0#32 4#32) 1#32 = 4 from by decide]
    rfl
  · intro i j
    show m ((c : Thread nD τ).loc main_arg3) (((View.whole main_arg3).slice (Rect.unit (rowOff (t.val / 4)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]
  · intro i j
    show m ((c : Thread nD τ).loc main_arg5) (((View.whole main_arg5).slice (Rect.unit (rowOff (t.val / 4)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]

theorem last1 (c : Dev nD) (t : Fin cfg0.N) (ht : t.val % 4 = 3) (y : S1x1024.Idx) :
    ∃ h5, ∃ Xv Rv : Vec Ideal S1024x1024 .f32, (outsAt0 m c t.val t.isLt).2.1 y = View.canon (PB m c t h5 (outsAt0 m c t.val t.isLt).2.2 Xv Rv (outsAt0 m c (t.val - 1) (Nat.lt_of_le_of_lt (Nat.sub_le _ _) t.isLt)).2.1 4).2 y
      ∧ (∀ i j, Xv (ix2 i j) = (show FVec Ideal S8192x1024 .f32 from m ((c : Thread nD τ).loc main_arg3)) (ix2 (rr t i) j)) ∧ (∀ i j, Rv (ix2 i j) = (show FVec Ideal S8192x1024 .f32 from m ((c : Thread nD τ).loc main_arg5)) (ix2 (rr t i) j)) := by
  refine ⟨(hcond0_4 t).mpr ht, ?X, ?R, ?_, ?_, ?_⟩
  rotate_left 2
  · rw [last2 m c t ht, outsAt0_D m c t (by omega) (by omega) (by omega) (by omega) ht]
    unfold out0_D_5
    frame_out
    rw [show Scf.trips (0#32) (Scalar.addi 0#32 4#32) 1#32 = 4 from by decide]
    rfl
  · intro i j
    show m ((c : Thread nD τ).loc main_arg3) (((View.whole main_arg3).slice (Rect.unit (rowOff (t.val / 4)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]
  · intro i j
    show m ((c : Thread nD τ).loc main_arg5) (((View.whole main_arg5).slice (Rect.unit (rowOff (t.val / 4)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]

/-- The row and the column of the arrays an index of a point's block is. -/
def ri (t : Fin cfg0.N) (y : S1024x1024.Idx) : Fin 8192 := rr t (y 0)
def rj (y : S1024x1024.Idx) : Fin 1024 := y 1
/-- The column of an index of a one-row block. -/
def cj (y : S1x1024.Idx) : Fin 1024 := y 1

set_option maxHeartbeats 2000000 in
theorem trip4 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg3)) (ix2 (rr t i) j))) (hR : (∀ i j, Rv (ix2 i j) = (show FVec Ideal S8192x1024 .f32 from m ((c : Thread nD τ).loc main_arg5)) (ix2 (rr t i) j)))
    (k : Fin k0_t1_loop.trips) (f8 f9) : ∀ p ∈ (Hand.tripL_k0_t1 (F := Ideal) Variants.none c none (grid0.coords t) (ms0_0 t) (hs0_0 t) (ms0_1 t) (hs0_1 t) (ms0_2 t) (hs0_2 t) (Memref.whole main_arg3) (Memref.isWhole_whole _) (ms0_3 t) (hs0_3 t) (Memref.whole main_arg5) (Memref.isWhole_whole _) (ms0_4 t) (hs0_4 t) (ms0_5 t) (hs0_5 t) scM0_0 (Memref.isWhole_whole _) scM0_1 (Memref.isWhole_whole _) scM0_2 (Memref.isWhole_whole _) cc0_scratch3 h5
    ((hs0_3 t).unread (iblk m c 3 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩]) k f8 f9).1, ∀ x : p.1.shape.Idx,
      p.2 x = KDX D (m ((c : Thread nD τ).loc main_arg3)) (m ((c : Thread nD τ).loc main_arg4)) (m ((c : Thread nD τ).loc main_arg5)) (ri t (p.1.emb x)) (rj (p.1.emb x)) := by
  intro p hp x
  unfold Hand.tripL_k0_t1 Hand.trip_k0_t1 at hp
  dsimp only at hp
  obtain rfl := List.mem_singleton.mp hp
  dsimp only
  frame_out
  clear hp
  erw [canonw Xv, canonw Rv]
  pointwise [k0_pay5, k0_pay6, k0_pay7, KDX, row, Cert.Arith.msq]
  simp only [hP, hX, hR]
  blk_point [iblk, V, idx t, off3 k, rr, ri, rj, cj]

/-- What a row adds to the norm gain's gradient. -/
def dgt (D : FVec Ideal S8192x1024 .f32) (x : FVec Ideal S8192x1024 .f32) (j : Fin 1024) (i : Fin 8192) : EReal :=
  D (ix2 i j) * (row x i j * Ideal.rsqrt (Cert.Arith.msq (row x i)))

theorem trip5 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg3)) (ix2 (rr t i) j)))
    (k : Fin k0_t1_loop.trips) (f8 f9) (y : S1x1024.Idx) : ∃ w : Vec Ideal S1x1024 .f32,
      (Hand.tripL_k0_t1 (F := Ideal) Variants.none c none (grid0.coords t) (ms0_0 t) (hs0_0 t) (ms0_1 t) (hs0_1 t) (ms0_2 t) (hs0_2 t) (Memref.whole main_arg3) (Memref.isWhole_whole _) (ms0_3 t) (hs0_3 t) (Memref.whole main_arg5) (Memref.isWhole_whole _) (ms0_4 t) (hs0_4 t) (ms0_5 t) (hs0_5 t) scM0_0 (Memref.isWhole_whole _) scM0_1 (Memref.isWhole_whole _) scM0_2 (Memref.isWhole_whole _) cc0_scratch3 h5
    ((hs0_3 t).unread (iblk m c 3 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩]) k f8 f9).2 = [⟨Rect.unit ![0, 0] ![1, 1024] inb_S1x1024_S1x1024_0_0, w⟩]
      ∧ w y = (ms0_5 t).view.read (Elt Ideal) f9 y + ∑ a : Fin 256, dgt D (m ((c : Thread nD τ).loc main_arg3)) (cj y) (rr t ⟨k.val * 256 + a.val, by have := (off3 k).2; have := a.isLt; omega⟩) := by
  unfold Hand.tripL_k0_t1 Hand.trip_k0_t1
  dsimp only
  refine ⟨_, rfl, ?_⟩
  frame_out
  erw [canonw Xv]
  pointwise [k0_pay5, k0_pay6, k0_pay8, dgt, row, Cert.Arith.msq]
  simp only [hP, hX]
  blk_point [iblk, V, idx t, off3 k, rr, ri, rj, cj]

/-- Every piece the loop writes into the gradient's block is the rows' gradient there. -/
theorem all4 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg3)) (ix2 (rr t i) j))) (hR : (∀ i j, Rv (ix2 i j) = (show FVec Ideal S8192x1024 .f32 from m ((c : Thread nD τ).loc main_arg5)) (ix2 (rr t i) j))) (o : Vec Ideal S1x1024 .f32) : ∀ n, n ≤ 4 → ∀ p ∈ (PB m c t h5 P Xv Rv o n).1, ∀ x : p.1.shape.Idx,
      p.2 x = KDX D (m ((c : Thread nD τ).loc main_arg3)) (m ((c : Thread nD τ).loc main_arg4)) (m ((c : Thread nD τ).loc main_arg5)) (ri t (p.1.emb x)) (rj (p.1.emb x)) := by
  intro n
  induction n with
  | zero => intro _ p hp; exact absurd hp List.not_mem_nil
  | succ n ih =>
    intro hn p hp
    have hk : n < k0_t1_loop.trips := lt_of_lt_of_eq hn (by decide)
    unfold PB at hp ih
    rw [show n + 1 = (⟨n, hk⟩ : Fin k0_t1_loop.trips).val + 1 from rfl, Hand.pb_k0_t1_succ] at hp
    rcases List.mem_append.mp hp with h | h
    · exact trip4 m c t h5 P Xv Rv D hP hX hR ⟨n, hk⟩ _ _ p h
    · exact ih (by omega) p h

/-- The norm gain's gradient after the loop's first trips. -/
theorem all5 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg3)) (ix2 (rr t i) j))) (o : Vec Ideal S1x1024 .f32) (y : S1x1024.Idx) : ∀ n, (hn : n ≤ 4) →
      (ms0_5 t).view.read (Elt Ideal) ((ms0_5 t).view.writes (Elt Ideal) ((hs0_5 t).unread o) (PB m c t h5 P Xv Rv o n).2) y
        = o y + ∑ k : Fin n, ∑ a : Fin 256, dgt D (m ((c : Thread nD τ).loc main_arg3)) (cj y) (rr t ⟨k.val * 256 + a.val, by have := k.isLt; have := a.isLt; omega⟩)
      ∧ (0 < n → View.canon (PB m c t h5 P Xv Rv o n).2 y
        = o y + ∑ k : Fin n, ∑ a : Fin 256, dgt D (m ((c : Thread nD τ).loc main_arg3)) (cj y) (rr t ⟨k.val * 256 + a.val, by have := k.isLt; have := a.isLt; omega⟩)) := by
  intro n
  induction n with
  | zero =>
    intro _
    refine ⟨?_, fun h => absurd h (lt_irrefl _)⟩
    rw [Fin.sum_univ_zero, add_zero]
    exact congrFun ((hs0_5 t).read_unread o) y
  | succ n ih =>
    intro hn
    have hk : n < k0_t1_loop.trips := lt_of_lt_of_eq hn (by decide)
    obtain ⟨w, hw, hwy⟩ := trip5 m c t h5 P Xv Rv D hP hX ⟨n, hk⟩ ((ms0_4 t).view.writes (Elt Ideal) (ms0_4 t).view.junk (PB m c t h5 P Xv Rv o n).1)
      ((ms0_5 t).view.writes (Elt Ideal) ((hs0_5 t).unread o) (PB m c t h5 P Xv Rv o n).2) y
    have hl : (PB m c t h5 P Xv Rv o (n + 1)).2 = ⟨Rect.unit ![0, 0] ![1, 1024] inb_S1x1024_S1x1024_0_0, w⟩ :: (PB m c t h5 P Xv Rv o n).2 := by
      unfold PB at hw ⊢
      rw [show n + 1 = (⟨n, hk⟩ : Fin k0_t1_loop.trips).val + 1 from rfl, Hand.pb_k0_t1_succ]
      exact congrArg (· ++ _) hw
    have hv : w y = o y + ∑ k : Fin (n + 1), ∑ a : Fin 256, dgt D (m ((c : Thread nD τ).loc main_arg3)) (cj y) (rr t ⟨k.val * 256 + a.val, by have := k.isLt; have := a.isLt; omega⟩) := by
      rw [hwy, (ih (by omega)).1, add_assoc]
      exact congrArg _ (Fin.sum_univ_castSucc (fun k : Fin (n + 1) => ∑ a : Fin 256, dgt D (m ((c : Thread nD τ).loc main_arg3)) (cj y) (rr t ⟨k.val * 256 + a.val, by have := k.isLt; have := a.isLt; omega⟩))).symm
    rw [hl]
    refine ⟨?_, fun _ => ?_⟩
    · rw [← hv]
      exact congrFun (View.read_writes_full (ms0_5 t).view _ inb_S1x1024_S1x1024_0_0 w _) y
    · rw [← hv]
      exact congrFun (View.canon_cons_unit_zero (by decide) _ _ _) y

/-- What a row block's last point adds to the norm gain's gradient. -/
def dpart (c : Dev nD) (b : Fin cfg0.N) (y : S1x1024.Idx) : EReal :=
  if b.val % 4 = 3 then ∑ r : Fin 1024, dgt (DH (m ((c : Thread nD τ).loc main_arg0)) (m ((c : Thread nD τ).loc main_arg1)) (m ((c : Thread nD τ).loc main_arg2))) (m ((c : Thread nD τ).loc main_arg3)) (cj y) (rr b r) else 0

theorem hacc (c : Dev nD) (t : Fin cfg0.N) (ht : t.val % 4 = 3) (i j : Fin 1024) : (outsAt0 m c t.val t.isLt).2.2 (ix2 i j) = (DH (m ((c : Thread nD τ).loc main_arg0)) (m ((c : Thread nD τ).loc main_arg1)) (m ((c : Thread nD τ).loc main_arg2))) (ix2 (rr t i) j) := acc m c t ht (ix2 i j)

theorem pay2_at (j) : k0_pay2 (F := Ideal) j = 0 := by pointwise [k0_pay2]

/-- The norm gain's gradient after the last point is the sum over every point. -/
theorem dgsum (c : Dev nD) (t : Fin cfg0.N) (ht : t.val % 32 = 31) (y : S1x1024.Idx) :
    (outsAt0 m c t.val t.isLt).2.1 y = ∑ s : Fin 32, dpart m c ⟨s.val, lt_of_lt_of_eq s.isLt (by decide)⟩ y := by
  rw [Pipeline.eq_sum_fin_of_reset_step_apply_of_flush (fun n h => (outsAt0 m c n h).2.1) 32 (fun _ => 0) (fun t j => dpart m c t j)
    (fun t h j => by
      rw [outsAt0_A m c t (by omega) h (by omega) (by omega) (by omega)]; unfold out0_A_5; frame_out; rw [pay2_at, dpart, if_neg (by omega), add_zero])
    (fun t h j => by
      by_cases h1 : t.val % 4 = 3
      · obtain ⟨h5, Xv, Rv, hc, hX, hR⟩ := last1 m c t h1 j
        refine hc.trans (((all5 m c t h5 _ Xv Rv _ (hacc m c t h1) hX _ j 4 le_rfl).2 (by omega)).trans (congrArg _ ?_))
        rw [dpart, if_pos h1]
        exact Fin.sum_mul_add_congr fun s k hl => rfl
      · rw [dpart, if_neg h1, add_zero]
        by_cases h0 : t.val % 4 = 0
        · rw [outsAt0_E m c t h0 h (by omega) (by omega) h1]; unfold out0_E_5; frame_out
        · by_cases h2 : t.val % 4 ≤ 1
          · rw [outsAt0_B m c t h0 h h2 (by omega) h1]; unfold out0_B_5; frame_out
          · rw [outsAt0_C m c t h0 h h2 (by omega) h1]; unfold out0_C_5; frame_out)
    t ht _, zero_add]
  refine Finset.sum_congr rfl fun s _ => ?_
  congr 1
  have := (idx t).2.2.2.2.2.2
  exact Fin.ext (by dsimp only; omega)

/-- The gradient of the residual stream is the reference's term. -/
theorem final4 (c : Dev nD) :
    (dats m 0 c).arrAt 4 (cfgs 0).N = REFDX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t hf y => ?_
  have ht : t.val % 4 = 3 := (by decide +kernel : ∀ t : Fin grid0.N, (cfg0.win 4).flush t = true → t.val % 4 = 3) t hf
  blk_simp
  rw [after0_4]
  obtain ⟨h5, Xv, Rv, hc, hX, hR⟩ := last0 m c t ht y
  rw [hc]
  refine (View.canon_apply_of_pieces (Val := Elt Ideal) (S := S1024x1024) (e := .f32) (fun y => KDX (DH (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (ri t y) (rj y)) _
    (all4 m c t h5 _ Xv Rv _ (hacc m c t ht) hX hR _ 4 le_rfl) y ?_).trans ?_
  · exact View.cover_of_tiledL _ ![256, 1024] (by sl_kernel_rfl) y
  · rw [refdx_at]
    blk_point [idx t, ri, rj, rr]

/-- The gradient of the norm's gain is the reference's term. -/
theorem final5 (c : Dev nD) : (dats m 0 c).arrAt 5 (cfgs 0).N = REFDG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  have ht : t.val % 32 = 31 := (by decide +kernel : ∀ t : Fin grid0.N, (cfg0.win 5).flush t = true → t.val % 32 = 31) t hf
  blk_simp
  rw [after0_5, dgsum m c t ht]
  refine Eq.trans (b := KDG (DH (m ((c : Thread nD τ).loc main_arg0)) (m ((c : Thread nD τ).loc main_arg1)) (m ((c : Thread nD τ).loc main_arg2))) (m ((c : Thread nD τ).loc main_arg3)) (cj y)) ?_ ?_
  · refine (Fin.sum_mul_add_congr (S := 8) (n := 4) (F := fun b q => dpart m c ⟨b.val * 4 + q.val, lt_of_lt_of_eq (show _ < 32 by have := b.isLt; have := q.isLt; omega) (by decide)⟩ y) fun s k hl => rfl).symm.trans ?_
    refine Eq.trans (b := ∑ b : Fin 8, ∑ r : Fin 1024, dgt (DH (m ((c : Thread nD τ).loc main_arg0)) (m ((c : Thread nD τ).loc main_arg1)) (m ((c : Thread nD τ).loc main_arg2))) (m ((c : Thread nD τ).loc main_arg3)) (cj y) ⟨b.val * 1024 + r.val, by have := b.isLt; have := r.isLt; omega⟩) ?_ (Fin.sum_mul_add_congr fun s k hl => rfl)
    refine Finset.sum_congr rfl fun b _ => ?_
    have hb := b.isLt
    rw [Fin.sum_univ_four]
    unfold dpart
    rw [if_neg (by dsimp only; omega), if_neg (by dsimp only; omega), if_neg (by dsimp only; omega), if_pos (by dsimp only; omega), zero_add, zero_add, zero_add]
    refine Finset.sum_congr rfl fun r _ => congrArg _ (Fin.ext ?_)
    unfold rr
    dsimp only
    omega
  · rw [refdg_at _ _ _ _ (m ((c : Thread nD τ).loc main_arg4)) (m ((c : Thread nD τ).loc main_arg5))]
    blk_point [idx t, cj]

/-- The run with each result array named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 4, (h.1 c).1 5, h.2 c⟩) (θ_run_and (run_main m ρ) (unchanged m ρ))

end Cert.UpDxIdeal.Whole

end
-- ==== Proof.UpDxFrame.lean ====
/- The frame of the program as printed for the machine: the same text as the idealized program's, so the same theorem. -/
module

public import proofs.«01_k».proof.Proof.Gen.UpDx
public import proofs.«01_k».proof.Proof.UpDxIdealFrame

@[expose] public section

set_option maxRecDepth 16384

noncomputable section

namespace Cert.UpDx.Hand

open Cert.UpDx.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

set_option maxHeartbeats 4000000 in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine cast ?_ (Cert.UpDxIdeal.Hand.frame (F := F) m ρ)
  sl_kernel_rfl

end Cert.UpDx.Hand

end
-- ==== Proof.InDxIdealRuns.lean ====
/- The conditions, the blocks, the transfers on their way and the invariant of the call at a grid point. -/
module

public import proofs.«01_k».proof.Proof.Gen.InDxIdeal.Launch
public import proofs.«01_k».proof.Proof.Gen.InDxIdeal.Skeleton
public import proofs.«01_k».proof.Proof.Gen.InDxIdeal.Loops
public import proofs.«01_k».proof.Proof.Gen.InDxIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).2 main_arg4 (Pipeline.mem_restRefs_of main_arg4 (by decide) (by decide))).trans (V_main_arg4 m c)⟩) h

abbrev cond0_0 (i : grid0.Coords) : Prop := k0_cond1 i = 1#1
theorem hcond0_0 : ∀ t : Fin cfg0.N, cond0_0 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    show k0_cond1 _ = 1#1 ↔ _
    unfold k0_cond1
    simp only [e0, e1]
    word_cmp
   : ∀ t : Fin grid0.N, cond0_0 (grid0.coords t) ↔ t.val % 3 = 0)

abbrev cond0_1 (i : grid0.Coords) : Prop := k0_cond2 i = 1#1
theorem hcond0_1 : ∀ t : Fin cfg0.N, cond0_1 (grid0.coords t) ↔ t.val % 24 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 24 = 0)

abbrev cond0_2 (i : grid0.Coords) : Prop := (Scalar.cmpi .ne (Scalar.extui (Scalar.andi (Scalar.cmpi .sge (BitVec.ofNat 32 (i 1).val) 0#32) (Scalar.cmpi .slt (BitVec.ofNat 32 (i 1).val) 3#32))) 0#32) = 1#1
theorem hcond0_2 : ∀ t : Fin cfg0.N, cond0_2 (grid0.coords t) :=
  (by decide +kernel : ∀ t : Fin grid0.N, cond0_2 (grid0.coords t))

abbrev cond0_3 (i : grid0.Coords) : Prop := k0_cond4 i = 1#1
theorem hcond0_3 : ∀ t : Fin cfg0.N, cond0_3 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_3, k0_cond4, e0, e1]
    word_cmp
   : ∀ t : Fin grid0.N, cond0_3 (grid0.coords t) ↔ t.val % 3 = 2)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
theorem idleAt0_3_A : ∀ t : Fin cfg0.N, cond0_0 (grid0.coords t) → cond0_1 (grid0.coords t) → cond0_2 (grid0.coords t) → ¬cond0_3 (grid0.coords t) → cfg0.idle 3 (grid0.coords t) = true :=
  fun t h0 h1 h2 h3 => (by decide +kernel : ∀ t : Fin cfg0.N, conds0_A (grid0.coords t) → cfg0.idle 3 (grid0.coords t) = true) t ⟨h0, h1, h2, h3⟩
theorem noFlush0_3_A : ∀ t : Fin cfg0.N, cond0_0 (grid0.coords t) → cond0_1 (grid0.coords t) → cond0_2 (grid0.coords t) → ¬cond0_3 (grid0.coords t) → (cfg0.win 3).flush t = false :=
  fun t h0 h1 h2 h3 => (by decide +kernel : ∀ t : Fin cfg0.N, conds0_A (grid0.coords t) → (cfg0.win 3).flush t = false) t ⟨h0, h1, h2, h3⟩
theorem idleAt0_3_B : ∀ t : Fin cfg0.N, ¬cond0_0 (grid0.coords t) → ¬cond0_1 (grid0.coords t) → cond0_2 (grid0.coords t) → ¬cond0_3 (grid0.coords t) → cfg0.idle 3 (grid0.coords t) = true :=
  fun t h0 h1 h2 h3 => (by decide +kernel : ∀ t : Fin cfg0.N, conds0_B (grid0.coords t) → cfg0.idle 3 (grid0.coords t) = true) t ⟨h0, h1, h2, h3⟩
theorem noFlush0_3_B : ∀ t : Fin cfg0.N, ¬cond0_0 (grid0.coords t) → ¬cond0_1 (grid0.coords t) → cond0_2 (grid0.coords t) → ¬cond0_3 (grid0.coords t) → (cfg0.win 3).flush t = false :=
  fun t h0 h1 h2 h3 => (by decide +kernel : ∀ t : Fin cfg0.N, conds0_B (grid0.coords t) → (cfg0.win 3).flush t = false) t ⟨h0, h1, h2, h3⟩
theorem liveAt0_3_C : ∀ t : Fin cfg0.N, ¬cond0_0 (grid0.coords t) → ¬cond0_1 (grid0.coords t) → cond0_2 (grid0.coords t) → cond0_3 (grid0.coords t) → cfg0.idle 3 (grid0.coords t) = false :=
  fun t h0 h1 h2 h3 => (by decide +kernel : ∀ t : Fin cfg0.N, conds0_C (grid0.coords t) → cfg0.idle 3 (grid0.coords t) = false) t ⟨h0, h1, h2, h3⟩
theorem idleAt0_3_D : ∀ t : Fin cfg0.N, cond0_0 (grid0.coords t) → ¬cond0_1 (grid0.coords t) → cond0_2 (grid0.coords t) → ¬cond0_3 (grid0.coords t) → cfg0.idle 3 (grid0.coords t) = true :=
  fun t h0 h1 h2 h3 => (by decide +kernel : ∀ t : Fin cfg0.N, conds0_D (grid0.coords t) → cfg0.idle 3 (grid0.coords t) = true) t ⟨h0, h1, h2, h3⟩
theorem noFlush0_3_D : ∀ t : Fin cfg0.N, cond0_0 (grid0.coords t) → ¬cond0_1 (grid0.coords t) → cond0_2 (grid0.coords t) → ¬cond0_3 (grid0.coords t) → (cfg0.win 3).flush t = false :=
  fun t h0 h1 h2 h3 => (by decide +kernel : ∀ t : Fin cfg0.N, conds0_D (grid0.coords t) → (cfg0.win 3).flush t = false) t ⟨h0, h1, h2, h3⟩
def freshTab0_4 : ℕ → Bool
  | 0 => true
  | n + 1 => (0x800000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
theorem liveAt0_4_A : ∀ t : Fin cfg0.N, cond0_0 (grid0.coords t) → cond0_1 (grid0.coords t) → cond0_2 (grid0.coords t) → ¬cond0_3 (grid0.coords t) → cfg0.idle 4 (grid0.coords t) = false :=
  fun t h0 h1 h2 h3 => (by decide +kernel : ∀ t : Fin cfg0.N, conds0_A (grid0.coords t) → cfg0.idle 4 (grid0.coords t) = false) t ⟨h0, h1, h2, h3⟩
theorem idleAt0_4_B : ∀ t : Fin cfg0.N, ¬cond0_0 (grid0.coords t) → ¬cond0_1 (grid0.coords t) → cond0_2 (grid0.coords t) → ¬cond0_3 (grid0.coords t) → cfg0.idle 4 (grid0.coords t) = true :=
  fun t h0 h1 h2 h3 => (by decide +kernel : ∀ t : Fin cfg0.N, conds0_B (grid0.coords t) → cfg0.idle 4 (grid0.coords t) = true) t ⟨h0, h1, h2, h3⟩
theorem noFlush0_4_B : ∀ t : Fin cfg0.N, ¬cond0_0 (grid0.coords t) → ¬cond0_1 (grid0.coords t) → cond0_2 (grid0.coords t) → ¬cond0_3 (grid0.coords t) → (cfg0.win 4).flush t = false :=
  fun t h0 h1 h2 h3 => (by decide +kernel : ∀ t : Fin cfg0.N, conds0_B (grid0.coords t) → (cfg0.win 4).flush t = false) t ⟨h0, h1, h2, h3⟩
theorem liveAt0_4_C : ∀ t : Fin cfg0.N, ¬cond0_0 (grid0.coords t) → ¬cond0_1 (grid0.coords t) → cond0_2 (grid0.coords t) → cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
theorem notFresh0_4_C : ∀ t : Fin cfg0.N, ¬cond0_0 (grid0.coords t) → ¬cond0_1 (grid0.coords t) → cond0_2 (grid0.coords t) → cond0_3 (grid0.coords t) → cfg0.fresh 4 t.val = false :=
  fun t h0 h1 h2 h3 => (by intro t; rw [fresh0_4_eq t]; revert t; decide +kernel : ∀ t : Fin cfg0.N, conds0_C (grid0.coords t) → cfg0.fresh 4 t.val = false) t ⟨h0, h1, h2, h3⟩
theorem idleAt0_4_D : ∀ t : Fin cfg0.N, cond0_0 (grid0.coords t) → ¬cond0_1 (grid0.coords t) → cond0_2 (grid0.coords t) → ¬cond0_3 (grid0.coords t) → cfg0.idle 4 (grid0.coords t) = true :=
  fun t h0 h1 h2 h3 => (by decide +kernel : ∀ t : Fin cfg0.N, conds0_D (grid0.coords t) → cfg0.idle 4 (grid0.coords t) = true) t ⟨h0, h1, h2, h3⟩
theorem noFlush0_4_D : ∀ t : Fin cfg0.N, cond0_0 (grid0.coords t) → ¬cond0_1 (grid0.coords t) → cond0_2 (grid0.coords t) → ¬cond0_3 (grid0.coords t) → (cfg0.win 4).flush t = false :=
  fun t h0 h1 h2 h3 => (by decide +kernel : ∀ t : Fin cfg0.N, conds0_D (grid0.coords t) → (cfg0.win 4).flush t = false) t ⟨h0, h1, h2, h3⟩

abbrev VO0_3 : View sig .tc .vmem S1024x1024 .f32 := (Memref.whole cc0_stg3_0 : Memref sig .tc .vmem S1024x1024 .f32).view
abbrev VO0_4 : View sig .tc .vmem S1x1024 .f32 := (Memref.whole cc0_stg4_0 : Memref sig .tc .vmem S1x1024 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev scM0_0 : Memref sig .tc .vmem S1024x1024 .f32 := Memref.whole cc0_scratch0
abbrev scM0_1 : Memref sig .tc .vmem S1024x1024 .f32 := Memref.whole cc0_scratch1
abbrev scM0_2 : Memref sig .tc .vmem S1024x1024 .f32 := Memref.whole cc0_scratch2
abbrev VS0_0 : View sig .tc .vmem S1024x1024 .f32 := scM0_0.view
abbrev hbM0_0 : Memref sig .tc .hbm S8192x1024 .f32 := Memref.whole main_arg2
abbrev hbM0_1 : Memref sig .tc .hbm S8192x1024 .f32 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg2, main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg4)) := by
  rw [BI.bigSep_eq_bigSepL_of_eq [main_arg2, main_arg4] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg2) ∗ hbPt0 c hbM0_1 (V m c main_arg4))) := by
  rw [Pipeline.ΦD_eq, scopedRest0_eq, ownSems00_eq, hbmPts0_eq]; simp only [scM0_0, scM0_1, scM0_2, owns_whole]; try rfl

/-- The transfer of the row block at `off` of the operand `M` into the scratch `A`, on its way: the cell's flight delivers
    the scratch with the block's values and the block itself; beside it, the rest of the operand. -/
def fly (c : Dev nD) (sm : Fin 10) (A : Memref sig .tc .vmem S1024x1024 .f32) (M : Memref sig .tc .hbm S8192x1024 .f32) (off : Fin 2 → ℕ)
    (hoff : ∀ a, off a + S1024x1024.size a ≤ S8192x1024.size a) (fh : HbBuf0 (F := F) c M) : sProp 𝕄 :=
  iprop((∃ fs, Transfers.Flight countersEmb c.tc (SemLoc.dma sm) default 131072
      iprop((A.view.loc (c : Thread nD τ) ↦[A.view.set]{fullShare} A.view.writes (Elt F) fs [⟨Rect.whole S1024x1024, (M.slice (Rect.unit off S1024x1024.size hoff) (fun _ => rfl)).view.read (Elt F) fh⟩])
        ∗ (M.view.loc (c : Thread nD τ) ↦[(M.slice (Rect.unit off S1024x1024.size hoff) (fun _ => rfl)).view.set]{fullShare} fh)))
    ∗ (M.view.loc (c : Thread nD τ) ↦[Finset.univ \ (M.slice (Rect.unit off S1024x1024.size hoff) (fun _ => rfl)).view.set]{fullShare} fh))

/-- The first row and column of row block `k`. -/
def rowOff (k : ℕ) : Fin 2 → ℕ := ![1024 * (k % 8), 0]

theorem rowOff_inb (k : ℕ) : ∀ a, rowOff k a + S1024x1024.size a ≤ S8192x1024.size a := by
  intro a
  have : k % 8 < 8 := Nat.mod_lt _ (by decide)
  match a with
  | ⟨0, _⟩ => show 1024 * (k % 8) + 1024 ≤ 8192; omega
  | ⟨1, _⟩ => show 0 + 1024 ≤ 1024; omega

theorem fly_off (c : Dev nD) (sm : Fin 10) (A : Memref sig .tc .vmem S1024x1024 .f32) (M : Memref sig .tc .hbm S8192x1024 .f32) (off off' : Fin 2 → ℕ)
    (hoff : ∀ a, off a + S1024x1024.size a ≤ S8192x1024.size a) (hoff' : ∀ a, off' a + S1024x1024.size a ≤ S8192x1024.size a) (fh : HbBuf0 (F := F) c M) (h : off = off') :
    fly c sm A M off hoff fh ⊢ (fly c sm A M off' hoff' fh : sProp 𝕄) := by
  subst h; exact Idealize.SL.BI.Entails.refl _

/-- Row blocks `k` of the two operands on their way. -/
def flying (c : Dev nD) (k : ℕ) : sProp 𝕄 :=
  iprop(fly c 8 scM0_1 hbM0_0 (rowOff k) (rowOff_inb k) (V m c main_arg2) ∗ fly c 9 scM0_2 hbM0_1 (rowOff k) (rowOff_inb k) (V m c main_arg4))

/-- Neither transfer on its way: both scratches at some contents, both cells at zero, both operands whole. -/
def landed (c : Dev nD) : sProp 𝕄 :=
  iprop((∃ d, owns (c : Thread nD τ) scM0_1 fullShare d) ∗ (∃ d, owns (c : Thread nD τ) scM0_2 fullShare d) ∗ semVal ((c : Thread nD τ), SemLoc.dma 8) 0 ∗ semVal ((c : Thread nD τ), SemLoc.dma 9) 0 ∗ hbPt0 c hbM0_0 (V m c main_arg2) ∗ hbPt0 c hbM0_1 (V m c main_arg4))

/-- Where the two transfers stand before point `p`: between row blocks nothing is on its way. -/
def moving (c : Dev nD) (p : ℕ) : sProp 𝕄 := if p % 3 = 0 then landed m c else flying m c (p / 3)

theorem moving_landed (c : Dev nD) (p : ℕ) (h : p % 3 = 0) : moving m c p = landed m c := if_pos h
theorem moving_flying (c : Dev nD) (p : ℕ) (h : ¬p % 3 = 0) : moving m c p = flying m c (p / 3) := if_neg h

theorem off1_row (t : Fin cfg0.N) : k0_off1 (grid0.coords t) = rowOff (t.val / 3) := by
  rw [k0_off1_eq]
  revert t
  decide +kernel

end Cert.InDxIdeal.Hand

end
-- ==== Proof.InDxIdealRunA.lean ====
/- The body of the call, run in case A of its conditions. -/
module

public import proofs.«01_k».proof.Proof.InDxIdealRuns

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg5 : Memref sig .tc .vmem S1x1024 .f32) (harg5 : arg5.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : cond0_1 i) (hc2 : cond0_2 i) (hc3 : ¬cond0_3 i)
    (x0 : Vec F S1024x2048 .bf16) (x1 : Vec F S1024x2048 .bf16) (x2 : Vec F S1x1024 .f32) (fh0 : HbBuf0 (F := F) c hbM0_0) (fh1 : HbBuf0 (F := F) c hbM0_1) :
    Σ' (L3 : List (View.Piece (Elt F) S1024x1024 .f32)), Σ' (L4 : List (View.Piece (Elt F) S1x1024 .f32)), { LS0 : List (View.Piece (Elt F) S1024x1024 .f32) //
      ∀ (xi3 : Vec F S1024x1024 .f32) (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg7 fullShare xi3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg7 fullShare xi3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ fly c 8 arg10 hbM0_0 (k0_off1 i) (k0_off1_inb i hc0) fh0 ∗ fly c 9 arg11 hbM0_1 (k0_off1 i) (k0_off1_inb i hc0) fh1 ∗ (∃ W', owes (c : Thread nD τ) 0 W')) -∗ K ⟨⟩))
          ⊢ wp frame (wpE (defs₀ (F := F)) Variants.none c none) Set.univ (cc0_w_in_dx i arg2 harg2 arg3 harg3 (Memref.whole main_arg2) (Memref.isWhole_whole _) arg5 harg5 (Memref.whole main_arg4) (Memref.isWhole_whole _) arg7 harg7 arg8 harg8 arg9 harg9 arg10 harg10 arg11 harg11 cc0_scratch3) K } := by
  refine ⟨[], ?_, ?_, fun xi3 W K => ?run⟩
  case run =>
    simp only [cc0_w_in_dx_eq_skeleton]; unfold cc0_w_in_dx_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hq0, Hq1, Hh0, Hh1, HW, Hk⟩
    obtain rfl := harg2.eq_unread hf0; obtain rfl := harg3.eq_unread hf1; obtain rfl := harg5.eq_unread hf2; obtain rfl := harg7.eq_unread hf3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg7.read_unread _
      iexact H3
    isplitl [H4]; · iexists _; iexact H4
    isplitl [HS0]; · iexists _; iexact HS0
    isplitl [Hq0 Hh0]
    · unfold fly; isplitl [Hq0]
      · iexists _; iexact Hq0
      iexact Hh0
    isplitl [Hq1 Hh1]
    · unfold fly; isplitl [Hq1]
      · iexists _; iexact Hq1
      iexact Hh1
    iexists _; iexact HW

end Cert.InDxIdeal.Hand

end
-- ==== Proof.InDxIdealRunB.lean ====
/- The body of the call, run in case B of its conditions. -/
module

public import proofs.«01_k».proof.Proof.InDxIdealRunA

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg5 : Memref sig .tc .vmem S1x1024 .f32) (harg5 : arg5.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : ¬cond0_3 i)
    (x0 : Vec F S1024x2048 .bf16) (x1 : Vec F S1024x2048 .bf16) (x2 : Vec F S1x1024 .f32) (xs0 : Vec F S1024x1024 .f32) (fh0 : HbBuf0 (F := F) c hbM0_0) (fh1 : HbBuf0 (F := F) c hbM0_1) :
    Σ' (L3 : List (View.Piece (Elt F) S1024x1024 .f32)), Σ' (L4 : List (View.Piece (Elt F) S1x1024 .f32)), { LS0 : List (View.Piece (Elt F) S1024x1024 .f32) //
      ∀ (xi3 : Vec F S1024x1024 .f32) (xi4 : Vec F S1x1024 .f32) (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg7 fullShare xi3 ∗ owns (c : Thread nD τ) arg8 fullShare xi4 ∗ owns (c : Thread nD τ) arg9 fullShare xs0 ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg7 fullShare xi3 ∗ owns (c : Thread nD τ) arg8 fullShare xi4 ∗ (∃ f, arg9.view.loc (c : Thread nD τ) ↦[arg9.view.set]{fullShare} arg9.view.writes (Elt F) f LS0) ∗ (∃ W', owes (c : Thread nD τ) 0 W')) -∗ K ⟨⟩))
          ⊢ wp frame (wpE (defs₀ (F := F)) Variants.none c none) Set.univ (cc0_w_in_dx i arg2 harg2 arg3 harg3 (Memref.whole main_arg2) (Memref.isWhole_whole _) arg5 harg5 (Memref.whole main_arg4) (Memref.isWhole_whole _) arg7 harg7 arg8 harg8 arg9 harg9 arg10 harg10 arg11 harg11 cc0_scratch3) K } := by
  refine ⟨[], [], ?_, fun xi3 xi4 W K => ?run⟩
  case run =>
    simp only [cc0_w_in_dx_eq_skeleton]; unfold cc0_w_in_dx_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HW, Hk⟩
    obtain rfl := harg2.eq_unread hf0; obtain rfl := harg3.eq_unread hf1; obtain rfl := harg5.eq_unread hf2; obtain rfl := harg7.eq_unread hf3; obtain rfl := harg8.eq_unread hf4; obtain rfl := harg9.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    iexists _; iexact HW

end Cert.InDxIdeal.Hand

end
-- ==== Proof.InDxIdealLoop.lean ====
/- The counted loop of the last point of a row block, at the algebra that has transfers. -/
module

public import proofs.«01_k».proof.Proof.Gen.InDxIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

local notation "𝕄D" => MT nD τ sig Unit (Elt F) ℕ (UR sig nD τ × Counters) ℕ

abbrev Trip_k0_t1 (c : Dev nD) (arg5 : Memref sig .tc .vmem S1x1024 .f32) (arg9 : Memref sig .tc .vmem S1024x1024 .f32) (arg10 : Memref sig .tc .vmem S1024x1024 .f32) (arg11 : Memref sig .tc .vmem S1024x1024 .f32) (arg7 : Memref sig .tc .vmem S1024x1024 .f32) (arg8 : Memref sig .tc .vmem S1x1024 .f32) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (f_arg7 : BufTy.Contents (Elt F) arg7.view.ty) (f_arg8 : BufTy.Contents (Elt F) arg8.view.ty) : sProp 𝕄D :=
  iprop((arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg7.view.loc (c : Thread nD τ) ↦[arg7.view.set]{fullShare} f_arg7) ∗ (arg8.view.loc (c : Thread nD τ) ↦[arg8.view.set]{fullShare} f_arg8))

variable (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .hbm S8192x1024 .f32) (harg4 : arg4.IsWhole) (arg5 : Memref sig .tc .vmem S1x1024 .f32) (harg5 : arg5.IsWhole) (arg6 : Memref sig .tc .hbm S8192x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : DmaSems sig S2) (k0_h4 : k0_cond4 i = 1#1)

@[irreducible] def trip_k0_t1 (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t1_loop.trips) :
    Σ' (L_arg7 : (BufTy.Contents (Elt F) arg7.view.ty → BufTy.Contents (Elt F) arg8.view.ty → List (View.Piece (Elt F) S1024x1024 .f32))) , { L_arg8 : (BufTy.Contents (Elt F) arg7.view.ty → BufTy.Contents (Elt F) arg8.view.ty → List (View.Piece (Elt F) S1x1024 .f32)) // ∀ (E : Set ℕ) (f_arg7 : BufTy.Contents (Elt F) arg7.view.ty) (f_arg8 : BufTy.Contents (Elt F) arg8.view.ty),
      Trip_k0_t1 (F := F) c arg5 arg9 arg10 arg11 arg7 arg8 X_arg5 X_arg9 X_arg10 X_arg11 f_arg7 f_arg8
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 k0_h4 k PUnit.unit)
          (fun _ => Trip_k0_t1 (F := F) c arg5 arg9 arg10 arg11 arg7 arg8 X_arg5 X_arg9 X_arg10 X_arg11 (arg7.view.writes (Elt F) f_arg7 (L_arg7 f_arg7 f_arg8)) (arg8.view.writes (Elt F) f_arg8 (L_arg8 f_arg7 f_arg8))) } := by
  have hk : k.val < 4 := Nat.lt_of_lt_of_le k.isLt k0_t1_abs.2.1
  refine ⟨?_, ?_, fun E f_arg7 f_arg8 => ?run⟩
  case run =>
    unfold k0_t1_body
    iintro ⟨HR_arg5, HR_arg9, HR_arg10, HR_arg11, HW_arg7, HW_arg8⟩
    sl_exec
    sl_step
    sl_close

abbrev tripL_k0_t1 (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t1_loop.trips) (f_arg7 : BufTy.Contents (Elt F) arg7.view.ty) (f_arg8 : BufTy.Contents (Elt F) arg8.view.ty) : List (View.Piece (Elt F) S1024x1024 .f32) × List (View.Piece (Elt F) S1x1024 .f32) :=
  ((trip_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k).1 f_arg7 f_arg8, (trip_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k).2.1 f_arg7 f_arg8)

@[irreducible] def pb_k0_t1Step (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) (k : ℕ) (prev : List (View.Piece (Elt F) S1024x1024 .f32) × List (View.Piece (Elt F) S1x1024 .f32)) : List (View.Piece (Elt F) S1024x1024 .f32) × List (View.Piece (Elt F) S1x1024 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 ⟨k, h⟩ (arg7.view.writes (Elt F) G_arg7 prev.1) (arg8.view.writes (Elt F) G_arg8 prev.2)).1 ++ prev.1, (tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 ⟨k, h⟩ (arg7.view.writes (Elt F) G_arg7 prev.1) (arg8.view.writes (Elt F) G_arg8 prev.2)).2 ++ prev.2)
  else prev

def pb_k0_t1 (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .hbm S8192x1024 .f32) (harg4 : arg4.IsWhole) (arg5 : Memref sig .tc .vmem S1x1024 .f32) (harg5 : arg5.IsWhole) (arg6 : Memref sig .tc .hbm S8192x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : DmaSems sig S2) (k0_h4 : k0_cond4 i = 1#1) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) : ℕ → List (View.Piece (Elt F) S1024x1024 .f32) × List (View.Piece (Elt F) S1x1024 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k (pb_k0_t1 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k)

theorem pb_k0_t1_succ (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 (k.val + 1)
      = ((tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).1) (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).2)).1 ++ (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).1, (tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).1) (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).2)).2 ++ (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k.val).2) := by
  rw [pb_k0_t1.eq_2]; unfold pb_k0_t1Step; exact dif_pos k.isLt

abbrev inv_k0_t1 (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) (k : ℕ) (_u : PUnit) : sProp 𝕄D :=
  iprop((arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (∃ f, (arg7.view.loc (c : Thread nD τ) ↦[arg7.view.set]{fullShare} f) ∗ ⌜f = arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k).1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8 k).2⌝))

set_option warn.classDefReducibility false in
@[sl_loop] def loopInv_k0_t1 (E : Set ℕ) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg8 : BufTy.Contents (Elt F) arg8.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 k0_h4 where
  inv := inv_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 G_arg7 G_arg8
  step k acc := by
    iintro ⟨HR_arg5, HR_arg9, HR_arg10, HR_arg11, ⟨%f_arg7, HW_arg7, %h_arg7⟩, ⟨%f_arg8, HW_arg8, %h_arg8⟩⟩
    iapply (wp_wand_r Idealize.ShloMosaic.frame (wpE (defs₀ (F := F)) 𝒱 (c : Thread nD τ) bd) E)
    isplitl [HR_arg5 HR_arg9 HR_arg10 HR_arg11 HW_arg7 HW_arg8]
    · iapply ((trip_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k).2.2 E f_arg7 f_arg8)
      isplitl [HR_arg5]; · iexact HR_arg5
      isplitl [HR_arg9]; · iexact HR_arg9
      isplitl [HR_arg10]; · iexact HR_arg10
      isplitl [HR_arg11]; · iexact HR_arg11
      isplitl [HW_arg7]; · iexact HW_arg7
      iexact HW_arg8
    · iintro %_ ⟨HR_arg5, HR_arg9, HR_arg10, HR_arg11, HW_arg7, HW_arg8⟩
      isplitl [HR_arg5]; · iexact HR_arg5
      isplitl [HR_arg9]; · iexact HR_arg9
      isplitl [HR_arg10]; · iexact HR_arg10
      isplitl [HR_arg11]; · iexact HR_arg11
      rw [pb_k0_t1_succ]
      isplitl [HW_arg7]
      · iexists _; isplitl [HW_arg7]; · iexact HW_arg7
        ipureintro; rw [h_arg7, h_arg8, ← View.writes_append]
      iexists _; isplitl [HW_arg8]; · iexact HW_arg8
      ipureintro; rw [h_arg7, h_arg8, ← View.writes_append]

/-- What a trip stores does not depend on what it finds in the rows it overwrites. -/
theorem trip_arg7 (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t1_loop.trips) (f f' : BufTy.Contents (Elt F) arg7.view.ty) (g : BufTy.Contents (Elt F) arg8.view.ty) :
    tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k f g = tripL_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 k f' g := by
  unfold tripL_k0_t1 trip_k0_t1; rfl

/-- Nor does what any number of trips store. -/
theorem pb_arg7 (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (f f' : BufTy.Contents (Elt F) arg7.view.ty) (g : BufTy.Contents (Elt F) arg8.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 f g n = pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 f' g n := by
  induction n with
  | zero => rw [pb_k0_t1.eq_1, pb_k0_t1.eq_1]
  | succ n ih =>
    rw [pb_k0_t1.eq_2, pb_k0_t1.eq_2]
    unfold pb_k0_t1Step
    by_cases h : n < k0_t1_loop.trips
    · rw [dif_pos h, dif_pos h, ih]
      rw [trip_arg7 (f := arg7.view.writes (Elt F) f (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 f' g n).1) (f' := arg7.view.writes (Elt F) f' (pb_k0_t1 (F := F) 𝒱 c bd i arg2 harg2 arg3 harg3 arg4 harg4 arg5 harg5 arg6 harg6 arg7 harg7 arg8 harg8 arg9 harg9 arg10 harg10 arg11 harg11 arg12 k0_h4 X_arg5 X_arg9 X_arg10 X_arg11 f' g n).1)]
    · rw [dif_neg h, dif_neg h]; exact ih

end Cert.InDxIdeal.Hand

end
-- ==== Proof.InDxIdealRunC.lean ====
/- The body of the call, run in case C of its conditions. -/
module

public import proofs.«01_k».proof.Proof.InDxIdealRunB
public import proofs.«01_k».proof.Proof.InDxIdealLoop

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg5 : Memref sig .tc .vmem S1x1024 .f32) (harg5 : arg5.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : cond0_3 i)
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) :
    Σ' (L3 : List (View.Piece (Elt F) S1024x1024 .f32)), Σ' (L4 : List (View.Piece (Elt F) S1x1024 .f32)), { LS0 : List (View.Piece (Elt F) S1024x1024 .f32) //
      ∀ (W : Waits sig Unit) (K : PUnit → sProp 𝕄),
        iprop(owns (c : Thread nD τ) arg2 fullShare x0 ∗ owns (c : Thread nD τ) arg3 fullShare x1 ∗ owns (c : Thread nD τ) arg5 fullShare x2 ∗ (∃ d, owns (c : Thread nD τ) arg7 fullShare d) ∗ owns (c : Thread nD τ) arg8 fullShare xo4 ∗ owns (c : Thread nD τ) arg9 fullShare xs0 ∗ fly c 8 arg10 hbM0_0 off hoff fh0 ∗ fly c 9 arg11 hbM0_1 off hoff fh1 ∗ owes (c : Thread nD τ) 0 W
            ∗ (iprop(owns (c : Thread nD τ) arg2 fullShare x0 ∗ owns (c : Thread nD τ) arg3 fullShare x1 ∗ owns (c : Thread nD τ) arg5 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_w_in_dx i arg2 harg2 arg3 harg3 (Memref.whole main_arg2) (Memref.isWhole_whole _) arg5 harg5 (Memref.whole main_arg4) (Memref.isWhole_whole _) arg7 harg7 arg8 harg8 arg9 harg9 arg10 harg10 arg11 harg11 cc0_scratch3) K } := by
  refine ⟨?_, ?_, ?_, fun W K => ?run⟩
  case run =>
    simp only [cc0_w_in_dx_eq_skeleton]; unfold cc0_w_in_dx_skel
    unfold owns fly
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨⟨%fs1, Hq0⟩, Hh0⟩, ⟨⟨%fs2, Hq1⟩, Hh1⟩, HW, Hk⟩
    obtain rfl := harg2.eq_unread hf0; obtain rfl := harg3.eq_unread hf1; obtain rfl := harg5.eq_unread hf2; obtain rfl := harg8.eq_unread hf4; obtain rfl := harg9.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    rw [pb_arg7 (f := f3) (f' := arg7.view.junk)]
    isplitl [H3]; · iexists _; iexact H3
    isplitl [H4]; · iexists _; iexact H4
    isplitl [HS0]; · iexists _; iexact HS0
    isplitl [Hq0_dst]
    · iexists _, _; isplitr; swap; · iexact Hq0_dst
      ipureintro; rfl
    isplitl [Hq1_dst]
    · iexists _, _; isplitr; swap; · iexact Hq1_dst
      ipureintro; rfl
    isplitl [Hq0]; · iexact Hq0
    isplitl [Hq1]; · iexact Hq1
    isplitl [Hh0]; · iexact Hh0
    isplitl [Hh1]; · iexact Hh1
    iexists _; iexact HW

end Cert.InDxIdeal.Hand

end
-- ==== Proof.InDxIdealRunD.lean ====
/- The body of the call, run in case D of its conditions. -/
module

public import proofs.«01_k».proof.Proof.InDxIdealRunC

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
noncomputable def kernelRun0_D (c : Dev nD) (i : grid0.Coords) (arg2 : Memref sig .tc .vmem S1024x2048 .bf16) (harg2 : arg2.IsWhole) (arg3 : Memref sig .tc .vmem S1024x2048 .bf16) (harg3 : arg3.IsWhole) (arg5 : Memref sig .tc .vmem S1x1024 .f32) (harg5 : arg5.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i) (hc2 : cond0_2 i) (hc3 : ¬cond0_3 i)
    (x0 : Vec F S1024x2048 .bf16) (x1 : Vec F S1024x2048 .bf16) (x2 : Vec F S1x1024 .f32) (fh0 : HbBuf0 (F := F) c hbM0_0) (fh1 : HbBuf0 (F := F) c hbM0_1) :
    Σ' (L3 : List (View.Piece (Elt F) S1024x1024 .f32)), Σ' (L4 : List (View.Piece (Elt F) S1x1024 .f32)), { LS0 : List (View.Piece (Elt F) S1024x1024 .f32) //
      ∀ (xi3 : Vec F S1024x1024 .f32) (xi4 : Vec F S1x1024 .f32) (W : Waits sig Unit) (K : PUnit → sProp 𝕄),
        iprop(owns (c : Thread nD τ) arg2 fullShare x0 ∗ owns (c : Thread nD τ) arg3 fullShare x1 ∗ owns (c : Thread nD τ) arg5 fullShare x2 ∗ owns (c : Thread nD τ) arg7 fullShare xi3 ∗ owns (c : Thread nD τ) arg8 fullShare xi4 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg5 fullShare x2 ∗ owns (c : Thread nD τ) arg7 fullShare xi3 ∗ owns (c : Thread nD τ) arg8 fullShare xi4 ∗ (∃ f, arg9.view.loc (c : Thread nD τ) ↦[arg9.view.set]{fullShare} arg9.view.writes (Elt F) f LS0) ∗ fly c 8 arg10 hbM0_0 (k0_off1 i) (k0_off1_inb i hc0) fh0 ∗ fly c 9 arg11 hbM0_1 (k0_off1 i) (k0_off1_inb i hc0) fh1 ∗ (∃ W', owes (c : Thread nD τ) 0 W')) -∗ K ⟨⟩))
          ⊢ wp frame (wpE (defs₀ (F := F)) Variants.none c none) Set.univ (cc0_w_in_dx i arg2 harg2 arg3 harg3 (Memref.whole main_arg2) (Memref.isWhole_whole _) arg5 harg5 (Memref.whole main_arg4) (Memref.isWhole_whole _) arg7 harg7 arg8 harg8 arg9 harg9 arg10 harg10 arg11 harg11 cc0_scratch3) K } := by
  refine ⟨[], [], ?_, fun xi3 xi4 W K => ?run⟩
  case run =>
    simp only [cc0_w_in_dx_eq_skeleton]; unfold cc0_w_in_dx_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hq0, Hq1, Hh0, Hh1, HW, Hk⟩
    obtain rfl := harg2.eq_unread hf0; obtain rfl := harg3.eq_unread hf1; obtain rfl := harg5.eq_unread hf2; obtain rfl := harg7.eq_unread hf3; obtain rfl := harg8.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [Hq0 Hh0]
    · unfold fly; isplitl [Hq0]
      · iexists _; iexact Hq0
      iexact Hh0
    isplitl [Hq1 Hh1]
    · unfold fly; isplitl [Hq1]
      · iexists _; iexact Hq1
      iexact Hh1
    iexists _; iexact HW

end Cert.InDxIdeal.Hand

end
-- ==== Proof.InDxIdealFrame.lean ====
/- The frame of the call: its points in order, the invariant between them, and the launch. -/
module

public import proofs.«01_k».proof.Proof.InDxIdealRunD
public import Idealize.ShloMosaic.Lib.Claim

@[expose] public section

set_option maxRecDepth 16384

noncomputable section

namespace Cert.InDxIdeal.Hand

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section cases
variable (c : Dev nD) (i : grid0.Coords) (arg2 : Memref sig .tc .vmem S1024x2048 .bf16) (harg2 : arg2.IsWhole) (arg3 : Memref sig .tc .vmem S1024x2048 .bf16) (harg3 : arg3.IsWhole) (arg5 : Memref sig .tc .vmem S1x1024 .f32) (harg5 : arg5.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole)

def out0_A_3 (c : Dev nD) (t : Fin cfg0.N) (hc0 : cond0_0 (grid0.coords t)) (hc1 : cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) : Vec F S1024x1024 .f32 :=
  VO0_3.read (Elt F) (VO0_3.writes (Elt F) VO0_3.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 fh0 fh1).1)

theorem cover0_A_4 (hc0 : cond0_0 i) (hc1 : cond0_1 i) (hc2 : cond0_2 i) (hc3 : ¬cond0_3 i)
    (x0 : Vec F S1024x2048 .bf16) (x1 : Vec F S1024x2048 .bf16) (x2 : Vec F S1x1024 .f32) (fh0 : HbBuf0 (F := F) c hbM0_0) (fh1 : HbBuf0 (F := F) c hbM0_1) (y : S1x1024.Idx) :
    ∃ pc ∈ (kernelRun0_A c i arg2 harg2 arg3 harg3 arg5 harg5 arg7 harg7 arg8 harg8 arg9 harg9 arg10 harg10 arg11 harg11 hc0 hc1 hc2 hc3 x0 x1 x2 fh0 fh1).2.1, y ∈ pc.1.set :=
  View.cover_of_tiledL (kernelRun0_A c i arg2 harg2 arg3 harg3 arg5 harg5 arg7 harg7 arg8 harg8 arg9 harg9 arg10 harg10 arg11 harg11 hc0 hc1 hc2 hc3 x0 x1 x2 fh0 fh1).2.1 S1x1024.size (by sl_kernel_rfl) y

def out0_A_4 (c : Dev nD) (t : Fin cfg0.N) (hc0 : cond0_0 (grid0.coords t)) (hc1 : cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) : Vec F S1x1024 .f32 :=
  VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 fh0 fh1).2.1)

theorem scover0_A_0 (hc0 : cond0_0 i) (hc1 : cond0_1 i) (hc2 : cond0_2 i) (hc3 : ¬cond0_3 i)
    (x0 : Vec F S1024x2048 .bf16) (x1 : Vec F S1024x2048 .bf16) (x2 : Vec F S1x1024 .f32) (fh0 : HbBuf0 (F := F) c hbM0_0) (fh1 : HbBuf0 (F := F) c hbM0_1) (y : S1024x1024.Idx) :
    ∃ pc ∈ (kernelRun0_A c i arg2 harg2 arg3 harg3 arg5 harg5 arg7 harg7 arg8 harg8 arg9 harg9 arg10 harg10 arg11 harg11 hc0 hc1 hc2 hc3 x0 x1 x2 fh0 fh1).2.2.1, y ∈ pc.1.set :=
  View.cover_of_tiledL (kernelRun0_A c i arg2 harg2 arg3 harg3 arg5 harg5 arg7 harg7 arg8 harg8 arg9 harg9 arg10 harg10 arg11 harg11 hc0 hc1 hc2 hc3 x0 x1 x2 fh0 fh1).2.2.1 S1024x1024.size (by sl_kernel_rfl) y

def sout0_A_0 (c : Dev nD) (t : Fin cfg0.N) (hc0 : cond0_0 (grid0.coords t)) (hc1 : cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) : Vec F S1024x1024 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 fh0 fh1).2.2.1)

def out0_B_3 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (xs0 : Vec F S1024x1024 .f32) (fh0 : HbBuf0 (F := F) c hbM0_0) (fh1 : HbBuf0 (F := F) c hbM0_1) : Vec F S1024x1024 .f32 :=
  VO0_3.read (Elt F) (VO0_3.writes (Elt F) VO0_3.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 xs0 fh0 fh1).1)

def out0_B_4 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (xs0 : Vec F S1024x1024 .f32) (fh0 : HbBuf0 (F := F) c hbM0_0) (fh1 : HbBuf0 (F := F) c hbM0_1) (xo4 : Vec F S1x1024 .f32) : Vec F S1x1024 .f32 := xo4

theorem scover0_B_0 (hc0 : ¬cond0_0 i) (hc1 : ¬cond0_1 i) (hc2 : cond0_2 i) (hc3 : ¬cond0_3 i)
    (x0 : Vec F S1024x2048 .bf16) (x1 : Vec F S1024x2048 .bf16) (x2 : Vec F S1x1024 .f32) (xs0 : Vec F S1024x1024 .f32) (fh0 : HbBuf0 (F := F) c hbM0_0) (fh1 : HbBuf0 (F := F) c hbM0_1) (y : S1024x1024.Idx) :
    ∃ pc ∈ (kernelRun0_B c i arg2 harg2 arg3 harg3 arg5 harg5 arg7 harg7 arg8 harg8 arg9 harg9 arg10 harg10 arg11 harg11 hc0 hc1 hc2 hc3 x0 x1 x2 xs0 fh0 fh1).2.2.1, y ∈ pc.1.set :=
  View.cover_of_tiledL (kernelRun0_B c i arg2 harg2 arg3 harg3 arg5 harg5 arg7 harg7 arg8 harg8 arg9 harg9 arg10 harg10 arg11 harg11 hc0 hc1 hc2 hc3 x0 x1 x2 xs0 fh0 fh1).2.2.1 S1024x1024.size (by sl_kernel_rfl) y

def sout0_B_0 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (xs0 : Vec F S1024x1024 .f32) (fh0 : HbBuf0 (F := F) c hbM0_0) (fh1 : HbBuf0 (F := F) c hbM0_1) : Vec F S1024x1024 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 xs0 fh0 fh1).2.2.1)

theorem cover0_C_3 (hc0 : ¬cond0_0 i) (hc1 : ¬cond0_1 i) (hc2 : cond0_2 i) (hc3 : cond0_3 i)
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1024x1024.Idx) :
    ∃ pc ∈ (kernelRun0_C c i arg2 harg2 arg3 harg3 arg5 harg5 arg7 harg7 arg8 harg8 arg9 harg9 arg10 harg10 arg11 harg11 hc0 hc1 hc2 hc3 x0 x1 x2 xo4 xs0 off hoff fh0 fh1).1, y ∈ pc.1.set :=
  View.cover_of_tiledL (kernelRun0_C c i arg2 harg2 arg3 harg3 arg5 harg5 arg7 harg7 arg8 harg8 arg9 harg9 arg10 harg10 arg11 harg11 hc0 hc1 hc2 hc3 x0 x1 x2 xo4 xs0 off hoff fh0 fh1).1 S256x1024.size (by sl_kernel_rfl) y

def out0_C_3 (c : Dev nD) (t : Fin cfg0.N) (hc0 : ¬cond0_0 (grid0.coords t)) (hc1 : ¬cond0_1 (grid0.coords t)) (hc2 : cond0_2 (grid0.coords t)) (hc3 : cond0_3 (grid0.coords t))
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1024x1024 .f32 :=
  VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 xo4 xs0 off hoff fh0 fh1).1)

theorem cover0_C_4 (hc0 : ¬cond0_0 i) (hc1 : ¬cond0_1 i) (hc2 : cond0_2 i) (hc3 : cond0_3 i)
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1x1024.Idx) :
    ∃ pc ∈ (kernelRun0_C c i arg2 harg2 arg3 harg3 arg5 harg5 arg7 harg7 arg8 harg8 arg9 harg9 arg10 harg10 arg11 harg11 hc0 hc1 hc2 hc3 x0 x1 x2 xo4 xs0 off hoff fh0 fh1).2.1, y ∈ pc.1.set :=
  View.cover_of_tiledL (kernelRun0_C c i arg2 harg2 arg3 harg3 arg5 harg5 arg7 harg7 arg8 harg8 arg9 harg9 arg10 harg10 arg11 harg11 hc0 hc1 hc2 hc3 x0 x1 x2 xo4 xs0 off hoff fh0 fh1).2.1 S1x1024.size (by sl_kernel_rfl) y

def out0_C_4 (c : Dev nD) (t : Fin cfg0.N) (hc0 : ¬cond0_0 (grid0.coords t)) (hc1 : ¬cond0_1 (grid0.coords t)) (hc2 : cond0_2 (grid0.coords t)) (hc3 : cond0_3 (grid0.coords t))
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1x1024 .f32 :=
  VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 xo4 xs0 off hoff fh0 fh1).2.1)

theorem scover0_C_0 (hc0 : ¬cond0_0 i) (hc1 : ¬cond0_1 i) (hc2 : cond0_2 i) (hc3 : cond0_3 i)
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) (y : S1024x1024.Idx) :
    ∃ pc ∈ (kernelRun0_C c i arg2 harg2 arg3 harg3 arg5 harg5 arg7 harg7 arg8 harg8 arg9 harg9 arg10 harg10 arg11 harg11 hc0 hc1 hc2 hc3 x0 x1 x2 xo4 xs0 off hoff fh0 fh1).2.2.1, y ∈ pc.1.set :=
  View.cover_of_tiledL (kernelRun0_C c i arg2 harg2 arg3 harg3 arg5 harg5 arg7 harg7 arg8 harg8 arg9 harg9 arg10 harg10 arg11 harg11 hc0 hc1 hc2 hc3 x0 x1 x2 xo4 xs0 off hoff fh0 fh1).2.2.1 S1024x1024.size (by sl_kernel_rfl) y

def sout0_C_0 (c : Dev nD) (t : Fin cfg0.N) (hc0 : ¬cond0_0 (grid0.coords t)) (hc1 : ¬cond0_1 (grid0.coords t)) (hc2 : cond0_2 (grid0.coords t)) (hc3 : cond0_3 (grid0.coords t))
    (x0 : Vec F S1024x2048 .bf16) (x1 : Vec F S1024x2048 .bf16) (x2 : Vec F S1x1024 .f32) (xo4 : Vec F S1x1024 .f32) (xs0 : Vec F S1024x1024 .f32) (off : Fin 2 → ℕ) (hoff : ∀ a, off a + S1024x1024.size a ≤ S8192x1024.size a) (fh0 : HbBuf0 (F := F) c hbM0_0) (fh1 : HbBuf0 (F := F) c hbM0_1) : Vec F S1024x1024 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 xo4 xs0 off hoff fh0 fh1).2.2.1)

def out0_D_3 (c : Dev nD) (t : Fin cfg0.N) (hc0 : cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) : Vec F S1024x1024 .f32 :=
  VO0_3.read (Elt F) (VO0_3.writes (Elt F) VO0_3.junk (kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 fh0 fh1).1)

def out0_D_4 (c : Dev nD) (t : Fin cfg0.N) (hc0 : cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) (xo4 : Vec F S1x1024 .f32) : Vec F S1x1024 .f32 := xo4

theorem scover0_D_0 (hc0 : cond0_0 i) (hc1 : ¬cond0_1 i) (hc2 : cond0_2 i) (hc3 : ¬cond0_3 i)
    (x0 : Vec F S1024x2048 .bf16) (x1 : Vec F S1024x2048 .bf16) (x2 : Vec F S1x1024 .f32) (fh0 : HbBuf0 (F := F) c hbM0_0) (fh1 : HbBuf0 (F := F) c hbM0_1) (y : S1024x1024.Idx) :
    ∃ pc ∈ (kernelRun0_D c i arg2 harg2 arg3 harg3 arg5 harg5 arg7 harg7 arg8 harg8 arg9 harg9 arg10 harg10 arg11 harg11 hc0 hc1 hc2 hc3 x0 x1 x2 fh0 fh1).2.2.1, y ∈ pc.1.set :=
  View.cover_of_tiledL (kernelRun0_D c i arg2 harg2 arg3 harg3 arg5 harg5 arg7 harg7 arg8 harg8 arg9 harg9 arg10 harg10 arg11 harg11 hc0 hc1 hc2 hc3 x0 x1 x2 fh0 fh1).2.2.1 S1024x1024.size (by sl_kernel_rfl) y

def sout0_D_0 (c : Dev nD) (t : Fin cfg0.N) (hc0 : cond0_0 (grid0.coords t)) (hc1 : ¬cond0_1 (grid0.coords t)) (hc2 : cond0_2 (grid0.coords t)) (hc3 : ¬cond0_3 (grid0.coords t))
    (x0 : Vec F S1024x2048 .bf16) (x1 : Vec F S1024x2048 .bf16) (x2 : Vec F S1x1024 .f32) (fh0 : HbBuf0 (F := F) c hbM0_0) (fh1 : HbBuf0 (F := F) c hbM0_1) : Vec F S1024x1024 .f32 :=
  VS0_0.read (Elt F) (VS0_0.writes (Elt F) VS0_0.junk (kernelRun0_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 hc2 hc3 x0 x1 x2 fh0 fh1).2.2.1)

end cases

def outsAt0 (c : Dev nD) : (n : ℕ) → n < cfg0.N → Vec F S1024x1024 .f32 × Vec F S1x1024 .f32 × Vec F S1024x1024 .f32
  | 0, hn => (out0_A_3 c ⟨0, hn⟩ ((hcond0_0 ⟨0, hn⟩).mpr (Nat.zero_mod _)) ((hcond0_1 ⟨0, hn⟩).mpr (Nat.zero_mod _)) (hcond0_2 ⟨0, hn⟩) (fun h => (fun h => by (try dsimp only at h); omega) ((hcond0_3 ⟨0, hn⟩).mp h)) (iblk m c 0 ⟨0, hn⟩) (iblk m c 1 ⟨0, hn⟩) (iblk m c 2 ⟨0, hn⟩) (V m c main_arg2) (V m c main_arg4), out0_A_4 c ⟨0, hn⟩ ((hcond0_0 ⟨0, hn⟩).mpr (Nat.zero_mod _)) ((hcond0_1 ⟨0, hn⟩).mpr (Nat.zero_mod _)) (hcond0_2 ⟨0, hn⟩) (fun h => (fun h => by (try dsimp only at h); omega) ((hcond0_3 ⟨0, hn⟩).mp h)) (iblk m c 0 ⟨0, hn⟩) (iblk m c 1 ⟨0, hn⟩) (iblk m c 2 ⟨0, hn⟩) (V m c main_arg2) (V m c main_arg4), sout0_A_0 c ⟨0, hn⟩ ((hcond0_0 ⟨0, hn⟩).mpr (Nat.zero_mod _)) ((hcond0_1 ⟨0, hn⟩).mpr (Nat.zero_mod _)) (hcond0_2 ⟨0, hn⟩) (fun h => (fun h => by (try dsimp only at h); omega) ((hcond0_3 ⟨0, hn⟩).mp h)) (iblk m c 0 ⟨0, hn⟩) (iblk m c 1 ⟨0, hn⟩) (iblk m c 2 ⟨0, hn⟩) (V m c main_arg2) (V m c main_arg4))
  | n + 1, hn =>
    if h0 : (n + 1) % 3 = 0 then
      if h1 : (n + 1) % 24 = 0 then
        if h3 : (n + 1) % 3 = 2 then
          False.elim (by have hN : n + 1 < 24 := lt_of_lt_of_eq hn (show cfg0.N = 24 from N_0); omega)
        else
          (out0_A_3 c ⟨n + 1, hn⟩ ((hcond0_0 ⟨n + 1, hn⟩).mpr h0) ((hcond0_1 ⟨n + 1, hn⟩).mpr h1) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4), out0_A_4 c ⟨n + 1, hn⟩ ((hcond0_0 ⟨n + 1, hn⟩).mpr h0) ((hcond0_1 ⟨n + 1, hn⟩).mpr h1) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4), sout0_A_0 c ⟨n + 1, hn⟩ ((hcond0_0 ⟨n + 1, hn⟩).mpr h0) ((hcond0_1 ⟨n + 1, hn⟩).mpr h1) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4))
      else
        if h3 : (n + 1) % 3 = 2 then
          False.elim (by have hN : n + 1 < 24 := lt_of_lt_of_eq hn (show cfg0.N = 24 from N_0); omega)
        else
          (out0_D_3 c ⟨n + 1, hn⟩ ((hcond0_0 ⟨n + 1, hn⟩).mpr h0) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4), out0_D_4 c ⟨n + 1, hn⟩ ((hcond0_0 ⟨n + 1, hn⟩).mpr h0) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4) (outsAt0 c n (Nat.lt_of_succ_lt hn)).2.1, sout0_D_0 c ⟨n + 1, hn⟩ ((hcond0_0 ⟨n + 1, hn⟩).mpr h0) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (V m c main_arg2) (V m c main_arg4))
    else
      if h1 : (n + 1) % 24 = 0 then
        False.elim (by have hN : n + 1 < 24 := lt_of_lt_of_eq hn (show cfg0.N = 24 from N_0); omega)
      else
        if h3 : (n + 1) % 3 = 2 then
          (out0_C_3 c ⟨n + 1, hn⟩ (fun h => h0 ((hcond0_0 ⟨n + 1, hn⟩).mp h)) (fun h => h1 ((hcond0_1 ⟨n + 1, hn⟩).mp h)) (hcond0_2 ⟨n + 1, hn⟩) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2 (rowOff ((n + 1) / 3)) (rowOff_inb _) (V m c main_arg2) (V m c main_arg4), out0_C_4 c ⟨n + 1, hn⟩ (fun h => h0 ((hcond0_0 ⟨n + 1, hn⟩).mp h)) (fun h => h1 ((hcond0_1 ⟨n + 1, hn⟩).mp h)) (hcond0_2 ⟨n + 1, hn⟩) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2 (rowOff ((n + 1) / 3)) (rowOff_inb _) (V m c main_arg2) (V m c main_arg4), sout0_C_0 c ⟨n + 1, hn⟩ (fun h => h0 ((hcond0_0 ⟨n + 1, hn⟩).mp h)) (fun h => h1 ((hcond0_1 ⟨n + 1, hn⟩).mp h)) (hcond0_2 ⟨n + 1, hn⟩) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2 (rowOff ((n + 1) / 3)) (rowOff_inb _) (V m c main_arg2) (V m c main_arg4))
        else
          (out0_B_3 c ⟨n + 1, hn⟩ (fun h => h0 ((hcond0_0 ⟨n + 1, hn⟩).mp h)) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2 (V m c main_arg2) (V m c main_arg4), out0_B_4 c ⟨n + 1, hn⟩ (fun h => h0 ((hcond0_0 ⟨n + 1, hn⟩).mp h)) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2 (V m c main_arg2) (V m c main_arg4) (outsAt0 c n (Nat.lt_of_succ_lt hn)).2.1, sout0_B_0 c ⟨n + 1, hn⟩ (fun h => h0 ((hcond0_0 ⟨n + 1, hn⟩).mp h)) (fun h => h1 ((hcond0_1 ⟨n + 1, hn⟩).mp h)) (hcond0_2 ⟨n + 1, hn⟩) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2 (V m c main_arg2) (V m c main_arg4))

theorem outsAt0_A (c : Dev nD) (t : Fin cfg0.N) (h0 : t.val % 3 = 0) (h1 : t.val % 24 = 0) (h3 : ¬t.val % 3 = 2) :
    outsAt0 m c t.val t.isLt = (out0_A_3 c t ((hcond0_0 t).mpr h0) ((hcond0_1 t).mpr h1) (hcond0_2 t) (fun h => h3 ((hcond0_3 t).mp h)) (iblk m c 0 t) (iblk m c 1 t) (iblk m c 2 t) (V m c main_arg2) (V m c main_arg4), out0_A_4 c t ((hcond0_0 t).mpr h0) ((hcond0_1 t).mpr h1) (hcond0_2 t) (fun h => h3 ((hcond0_3 t).mp h)) (iblk m c 0 t) (iblk m c 1 t) (iblk m c 2 t) (V m c main_arg2) (V m c main_arg4), sout0_A_0 c t ((hcond0_0 t).mpr h0) ((hcond0_1 t).mpr h1) (hcond0_2 t) (fun h => h3 ((hcond0_3 t).mp h)) (iblk m c 0 t) (iblk m c 1 t) (iblk m c 2 t) (V m c main_arg2) (V m c main_arg4)) := by
  obtain ⟨n, hn⟩ := t
  cases n with
  | zero => exact rfl
  | succ n => exact (dif_pos h0).trans ((dif_pos h1).trans ((dif_neg h3).trans rfl))

theorem outsAt0_B (c : Dev nD) (t : Fin cfg0.N) (h0 : ¬t.val % 3 = 0) (h1 : ¬t.val % 24 = 0) (h3 : ¬t.val % 3 = 2) :
    outsAt0 m c t.val t.isLt = (out0_B_3 c t (fun h => h0 ((hcond0_0 t).mp h)) (fun h => h1 ((hcond0_1 t).mp h)) (hcond0_2 t) (fun h => h3 ((hcond0_3 t).mp h)) (iblk m c 0 t) (iblk m c 1 t) (iblk m c 2 t) (outsAt0 m c (t.val - 1) (Nat.lt_of_le_of_lt (Nat.sub_le _ _) t.isLt)).2.2 (V m c main_arg2) (V m c main_arg4), out0_B_4 c t (fun h => h0 ((hcond0_0 t).mp h)) (fun h => h1 ((hcond0_1 t).mp h)) (hcond0_2 t) (fun h => h3 ((hcond0_3 t).mp h)) (iblk m c 0 t) (iblk m c 1 t) (iblk m c 2 t) (outsAt0 m c (t.val - 1) (Nat.lt_of_le_of_lt (Nat.sub_le _ _) t.isLt)).2.2 (V m c main_arg2) (V m c main_arg4) (outsAt0 m c (t.val - 1) (Nat.lt_of_le_of_lt (Nat.sub_le _ _) t.isLt)).2.1, sout0_B_0 c t (fun h => h0 ((hcond0_0 t).mp h)) (fun h => h1 ((hcond0_1 t).mp h)) (hcond0_2 t) (fun h => h3 ((hcond0_3 t).mp h)) (iblk m c 0 t) (iblk m c 1 t) (iblk m c 2 t) (outsAt0 m c (t.val - 1) (Nat.lt_of_le_of_lt (Nat.sub_le _ _) t.isLt)).2.2 (V m c main_arg2) (V m c main_arg4)) := by
  obtain ⟨n, hn⟩ := t
  cases n with
  | zero => exact (by exfalso; (try dsimp only at h0); exact absurd (Nat.zero_mod _) h0)
  | succ n => exact (dif_neg h0).trans ((dif_neg h1).trans ((dif_neg h3).trans rfl))

theorem outsAt0_C (c : Dev nD) (t : Fin cfg0.N) (h0 : ¬t.val % 3 = 0) (h1 : ¬t.val % 24 = 0) (h3 : t.val % 3 = 2) :
    outsAt0 m c t.val t.isLt = (out0_C_3 c t (fun h => h0 ((hcond0_0 t).mp h)) (fun h => h1 ((hcond0_1 t).mp h)) (hcond0_2 t) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 3)) (rowOff_inb _) (V m c main_arg2) (V m c main_arg4), out0_C_4 c t (fun h => h0 ((hcond0_0 t).mp h)) (fun h => h1 ((hcond0_1 t).mp h)) (hcond0_2 t) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 3)) (rowOff_inb _) (V m c main_arg2) (V m c main_arg4), sout0_C_0 c t (fun h => h0 ((hcond0_0 t).mp h)) (fun h => h1 ((hcond0_1 t).mp h)) (hcond0_2 t) ((hcond0_3 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (rowOff (t.val / 3)) (rowOff_inb _) (V m c main_arg2) (V m c main_arg4)) := by
  obtain ⟨n, hn⟩ := t
  cases n with
  | zero => exact (by exfalso; (try dsimp only at h0); exact absurd (Nat.zero_mod _) h0)
  | succ n => exact (dif_neg h0).trans ((dif_neg h1).trans ((dif_pos h3).trans rfl))

theorem outsAt0_D (c : Dev nD) (t : Fin cfg0.N) (h0 : t.val % 3 = 0) (h1 : ¬t.val % 24 = 0) (h3 : ¬t.val % 3 = 2) :
    outsAt0 m c t.val t.isLt = (out0_D_3 c t ((hcond0_0 t).mpr h0) (fun h => h1 ((hcond0_1 t).mp h)) (hcond0_2 t) (fun h => h3 ((hcond0_3 t).mp h)) (iblk m c 0 t) (iblk m c 1 t) (iblk m c 2 t) (V m c main_arg2) (V m c main_arg4), out0_D_4 c t ((hcond0_0 t).mpr h0) (fun h => h1 ((hcond0_1 t).mp h)) (hcond0_2 t) (fun h => h3 ((hcond0_3 t).mp h)) (iblk m c 0 t) (iblk m c 1 t) (iblk m c 2 t) (V m c main_arg2) (V m c main_arg4) (outsAt0 m c (t.val - 1) (Nat.lt_of_le_of_lt (Nat.sub_le _ _) t.isLt)).2.1, sout0_D_0 c t ((hcond0_0 t).mpr h0) (fun h => h1 ((hcond0_1 t).mp h)) (hcond0_2 t) (fun h => h3 ((hcond0_3 t).mp h)) (iblk m c 0 t) (iblk m c 1 t) (iblk m c 2 t) (V m c main_arg2) (V m c main_arg4)) := by
  obtain ⟨n, hn⟩ := t
  cases n with
  | zero => exact (by exfalso; (try dsimp only at h1); exact absurd (Nat.zero_mod _) h1)
  | succ n => exact (dif_pos h0).trans ((dif_neg h1).trans ((dif_neg h3).trans rfl))

def PhiS (c : Dev nD) : (n : ℕ) → n ≤ cfg0.N → sProp 𝕄
  | 0, _ => Pipeline.ΦD osem0 spec0 H0 (V m) c
  | n + 1, hn => iprop(owns (c : Thread nD τ) scM0_0 fullShare ((outsAt0 m c n hn).2.2) ∗ (∃ r, prngReg c r) ∗ moving m c (n + 1))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(owns (c : Thread nD τ) scM0_0 fullShare ((outsAt0 m c n hn).2.2) ∗ (∃ r, prngReg c r) ∗ moving m c (n + 1)) := rfl

theorem PhiS_pos (c : Dev nD) (n : ℕ) (h : n ≤ cfg0.N) (hz : n ≠ 0) :
    PhiS m c n h = iprop(owns (c : Thread nD τ) scM0_0 fullShare ((outsAt0 m c (n - 1) (by omega)).2.2) ∗ (∃ r, prngReg c r) ∗ moving m c n) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 24 := lt_of_lt_of_eq t.isLt (show cfg0.N = 24 from N_0)
  rw [after0_4, after0_4]
  by_cases h0 : t.val % 3 = 0
  · by_cases h1 : t.val % 24 = 0
    · by_cases h3 : t.val % 3 = 2
      · exfalso; omega
      · rw [liveAt0_4_A t ((hcond0_0 t).mpr h0) ((hcond0_1 t).mpr h1) (hcond0_2 t) (fun h => h3 ((hcond0_3 t).mp h))] at hi
        exact absurd hi Bool.false_ne_true
    · by_cases h3 : t.val % 3 = 2
      · exfalso; omega
      · rw [outsAt0_D m c t h0 h1 h3]
        dsimp only
        unfold out0_D_4
        rfl
  · by_cases h1 : t.val % 24 = 0
    · exfalso; omega
    · by_cases h3 : t.val % 3 = 2
      · rw [liveAt0_4_C t (fun h => h0 ((hcond0_0 t).mp h)) (fun h => h1 ((hcond0_1 t).mp h)) (hcond0_2 t) ((hcond0_3 t).mpr h3)] at hi
        exact absurd hi Bool.false_ne_true
      · rw [outsAt0_B m c t h0 h1 h3]
        dsimp only
        unfold out0_B_4
        rfl
theorem before0_4_C (c : Dev nD) (t : Fin cfg0.N) (h0 : ¬t.val % 3 = 0) (h1 : ¬t.val % 24 = 0) (h3 : t.val % 3 = 2) (d) :
    (dats m 0 c).before 4 t d = (outsAt0 m c (t.val - 1) (Nat.lt_of_le_of_lt (Nat.sub_le _ _) t.isLt)).2.1 := by
  rw [Dat.before_out_traj _ 4 rfl (fun _ _ => rfl) (hcarry0_4 m c) t.val t rfl d,
    if_neg (by rw [notFresh0_4_C t (fun h => h0 ((hcond0_0 t).mp h)) (fun h => h1 ((hcond0_1 t).mp h)) (hcond0_2 t) ((hcond0_3 t).mpr h3)]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 24 := lt_of_lt_of_eq t.isLt (show cfg0.N = 24 from N_0)
  by_cases h0 : t.val % 3 = 0
  · by_cases h1 : t.val % 24 = 0
    · by_cases h3 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_A t ((hcond0_0 t).mpr h0) ((hcond0_1 t).mpr h1) (hcond0_2 t) (fun h => h3 ((hcond0_3 t).mp h))) (noFlush0_3_A t ((hcond0_0 t).mpr h0) ((hcond0_1 t).mpr h1) (hcond0_2 t) (fun h => h3 ((hcond0_3 t).mp h)))]
        rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) (hcond0_2 t) (fun h => h3 ((hcond0_3 t).mp h))], after0_4]
        by_cases hz : t.val = 0
        · rw [PhiS_castSucc m c t, PhiS_zero m c _ _ hz, PhiD0_eq]
          rw [moving_flying m c (t.val + 1) (by omega), show (t.val + 1) / 3 = t.val / 3 from by omega]
          unfold flying
          rw [outsAt0_A m c t h0 h1 h3]
          unfold out0_A_4 sout0_A_0; (try dsimp only)
          iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ ((hcond0_0 t).mpr h0) ((hcond0_1 t).mpr h1) (hcond0_2 t) (fun h => h3 ((hcond0_3 t).mp h)) (iblk m c 0 t) (iblk m c 1 t) (iblk m c 2 t) (V m c main_arg2) (V m c main_arg4)).2.2.2 _ W _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [Hq0]; · iexact Hq0
          isplitl [Hq1]; · iexact Hq1
          isplitl [Hh0]; · iexact Hh0
          isplitl [Hh1]; · iexact Hh1
          isplitl [HW]; · iexact HW
          iintro ⟨H0, H1, H2, H3, ⟨%e4, H4⟩, ⟨%es0, HS0⟩, HX0, HX1, ⟨%W', HW'⟩⟩
          isplitl [HS0 Hg HX0 HX1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [Hg]; · iexact Hg
            isplitl [HX0]
            · iapply (fly_off c 8 _ _ _ _ _ _ _ (off1_row t)); iexact HX0
            iapply (fly_off c 9 _ _ _ _ _ _ _ (off1_row t)); iexact HX1
          isplitl [HW']
          · iexists W'; isplitr; · ipureintro; exact fun _ _ => Or.inl trivial
            iexact HW'
          isplitl [H0]; · iexact H0
          isplitl [H1]; · iexact H1
          isplitl [H2]; · iexact H2
          isplitl [H3]; · iexists _; iexact H3
          unfold owns; iexists _; isplitr
          swap; · iexact H4
          ipureintro; exact View.read_writes_of_cover _ _ _ _ _ (cover0_A_4 c _ _ _ _ _ _ _ _ _ _ _ _ _ _ _ _ _ _ _ _ _ _ _ _ _ _)
        · exfalso; have hN : t.val < 24 := lt_of_lt_of_eq t.isLt (show cfg0.N = 24 from N_0); omega
    · by_cases h3 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_D t ((hcond0_0 t).mpr h0) (fun h => h1 ((hcond0_1 t).mp h)) (hcond0_2 t) (fun h => h3 ((hcond0_3 t).mp h))) (noFlush0_3_D t ((hcond0_0 t).mpr h0) (fun h => h1 ((hcond0_1 t).mp h)) (hcond0_2 t) (fun h => h3 ((hcond0_3 t).mp h)))]
        rw [Dat.leavesExact_idle (dats m 0 c) 4 t (idleAt0_4_D t ((hcond0_0 t).mpr h0) (fun h => h1 ((hcond0_1 t).mp h)) (hcond0_2 t) (fun h => h3 ((hcond0_3 t).mp h))) (noFlush0_4_D t ((hcond0_0 t).mpr h0) (fun h => h1 ((hcond0_1 t).mp h)) (hcond0_2 t) (fun h => h3 ((hcond0_3 t).mp h)))]
        by_cases hz : t.val = 0
        · exfalso; have hN : t.val < 24 := lt_of_lt_of_eq t.isLt (show cfg0.N = 24 from N_0); omega
        · rw [PhiS_castSucc m c t, PhiS_pos m c _ _ hz]
          rw [moving_landed m c t.val (by omega), moving_flying m c (t.val + 1) (by omega), show (t.val + 1) / 3 = t.val / 3 from by omega]
          unfold landed flying
          rw [outsAt0_D m c t h0 h1 h3]
          unfold sout0_D_0; (try dsimp only)
          iintro ⟨⟨HS0, Hg, ⟨HS1, HS2, Hq0, Hq1, Hh0, Hh1⟩⟩, ⟨%W, -, HW⟩, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ _ _ ((hcond0_0 t).mpr h0) (fun h => h1 ((hcond0_1 t).mp h)) (hcond0_2 t) (fun h => h3 ((hcond0_3 t).mp h)) (iblk m c 0 t) (iblk m c 1 t) (iblk m c 2 t) (V m c main_arg2) (V m c main_arg4)).2.2.2 _ _ W _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexact HS1
          isplitl [HS2]; · iexact HS2
          isplitl [Hq0]; · iexact Hq0
          isplitl [Hq1]; · iexact Hq1
          isplitl [Hh0]; · iexact Hh0
          isplitl [Hh1]; · iexact Hh1
          isplitl [HW]; · iexact HW
          iintro ⟨H0, H1, H2, H3, H4, ⟨%es0, HS0⟩, HX0, HX1, ⟨%W', HW'⟩⟩
          isplitl [HS0 Hg HX0 HX1]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _)
            isplitl [Hg]; · iexact Hg
            isplitl [HX0]
            · iapply (fly_off c 8 _ _ _ _ _ _ _ (off1_row t)); iexact HX0
            iapply (fly_off c 9 _ _ _ _ _ _ _ (off1_row t)); iexact HX1
          isplitl [HW']
          · iexists W'; isplitr; · ipureintro; exact fun _ _ => Or.inl trivial
            iexact HW'
          isplitl [H0]; · iexact H0
          isplitl [H1]; · iexact H1
          isplitl [H2]; · iexact H2
          isplitl [H3]; · iexists _; iexact H3
          iexists _; iexact H4
  · by_cases h1 : t.val % 24 = 0
    · exfalso; omega
    · by_cases h3 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) (fun h => h1 ((hcond0_1 t).mp h)) (hcond0_2 t) ((hcond0_3 t).mpr h3)], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) (hcond0_2 t) ((hcond0_3 t).mpr h3)], after0_4]
        by_cases hz : t.val = 0
        · exfalso; have hN : t.val < 24 := lt_of_lt_of_eq t.isLt (show cfg0.N = 24 from N_0); omega
        · rw [PhiS_castSucc m c t, PhiS_pos m c _ _ hz]
          rw [moving_flying m c t.val (by omega), moving_landed m c (t.val + 1) (by omega)]
          unfold landed flying
          rw [outsAt0_C m c t h0 h1 h3]
          simp only [before0_4_C m c t h0 h1 h3]
          unfold out0_C_3 out0_C_4 sout0_C_0; (try dsimp only)
          iintro ⟨⟨HS0, Hg, ⟨HX0, HX1⟩⟩, ⟨%W, -, HW⟩, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ (fun h => h0 ((hcond0_0 t).mp h)) (fun h => h1 ((hcond0_1 t).mp h)) (hcond0_2 t) ((hcond0_3 t).mpr h3) (iblk m c 0 t) (iblk m c 1 t) (iblk m c 2 t) _ _ (rowOff (t.val / 3)) (rowOff_inb _) (V m c main_arg2) (V m c main_arg4)).2.2.2 W _)
          isplitl [H0]; · iexact H0
          isplitl [H1]; · iexact H1
          isplitl [H2]; · iexact H2
          isplitl [H3]; · iexists _; iexact H3
          isplitl [H4]; · iexact H4
          isplitl [HS0]; · iexact HS0
          isplitl [HX0]; · iexact HX0
          isplitl [HX1]; · iexact HX1
          isplitl [HW]; · iexact HW
          iintro ⟨H0, H1, H2, ⟨%e3, H3⟩, ⟨%e4, H4⟩, ⟨%es0, HS0⟩, HS1, HS2, Hq0, Hq1, Hh0, Hh1, ⟨%W', HW'⟩⟩
          isplitl [HS0 Hg HS1 HS2 Hq0 Hq1 Hh0 Hh1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            isplitl [Hg]; · iexact Hg
            isplitl [HS1]; · iexact HS1
            isplitl [HS2]; · iexact HS2
            isplitl [Hq0]; · iexact Hq0
            isplitl [Hq1]; · iexact Hq1
            isplitl [Hh0]; · iexact Hh0
            iexact Hh1
          isplitl [HW']
          · iexists W'; isplitr; · ipureintro; exact fun _ _ => Or.inl trivial
            iexact HW'
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_B t (fun h => h0 ((hcond0_0 t).mp h)) (fun h => h1 ((hcond0_1 t).mp h)) (hcond0_2 t) (fun h => h3 ((hcond0_3 t).mp h))) (noFlush0_3_B t (fun h => h0 ((hcond0_0 t).mp h)) (fun h => h1 ((hcond0_1 t).mp h)) (hcond0_2 t) (fun h => h3 ((hcond0_3 t).mp h)))]
        rw [Dat.leavesExact_idle (dats m 0 c) 4 t (idleAt0_4_B t (fun h => h0 ((hcond0_0 t).mp h)) (fun h => h1 ((hcond0_1 t).mp h)) (hcond0_2 t) (fun h => h3 ((hcond0_3 t).mp h))) (noFlush0_4_B t (fun h => h0 ((hcond0_0 t).mp h)) (fun h => h1 ((hcond0_1 t).mp h)) (hcond0_2 t) (fun h => h3 ((hcond0_3 t).mp h)))]
        by_cases hz : t.val = 0
        · exfalso; have hN : t.val < 24 := lt_of_lt_of_eq t.isLt (show cfg0.N = 24 from N_0); omega
        · rw [PhiS_castSucc m c t, PhiS_pos m c _ _ hz]
          rw [moving_flying m c t.val (by omega), moving_flying m c (t.val + 1) (by omega), show (t.val + 1) / 3 = t.val / 3 from by omega]
          rw [outsAt0_B m c t h0 h1 h3]
          unfold sout0_B_0; (try dsimp only)
          iintro ⟨⟨HS0, Hg, HX⟩, ⟨%W, -, HW⟩, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ (fun h => h0 ((hcond0_0 t).mp h)) (fun h => h1 ((hcond0_1 t).mp h)) (hcond0_2 t) (fun h => h3 ((hcond0_3 t).mp h)) (iblk m c 0 t) (iblk m c 1 t) (iblk m c 2 t) _ (V m c main_arg2) (V m c main_arg4)).2.2.2 _ _ W _)
          isplitl [H0]; · iexact H0
          isplitl [H1]; · iexact H1
          isplitl [H2]; · iexact H2
          isplitl [H3]; · iexact H3
          isplitl [H4]; · iexact H4
          isplitl [HS0]; · iexact HS0
          isplitl [HW]; · iexact HW
          iintro ⟨H0, H1, H2, H3, H4, ⟨%es0, HS0⟩, ⟨%W', HW'⟩⟩
          isplitl [HS0 Hg HX]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            isplitl [Hg]; · iexact Hg
            iexact HX
          isplitl [HW']
          · iexists W'; isplitr; · ipureintro; exact fun _ _ => Or.inl trivial
            iexact HW'
          isplitl [H0]; · iexact H0
          isplitl [H1]; · iexact H1
          isplitl [H2]; · iexact H2
          isplitl [H3]; · iexists _; iexact H3
          iexists _; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦD osem0 spec0 H0 (V m) c := by
  have hN : (Fin.last cfg0.N).val = 24 := by rw [Fin.val_last]; exact N_0
  rw [show (dats m 0 c).Φ (Fin.last cfg0.N) = PhiS m c (Fin.last cfg0.N).val (Nat.le_of_lt_succ (Fin.last cfg0.N).isLt) from rfl,
    PhiS_pos m c _ _ (by omega), PhiD0_eq, moving_landed m c _ (by omega)]
  unfold landed
  iintro ⟨HS0, Hg, HS1, HS2, Hq0, Hq1, Hh0, Hh1⟩
  isplitl [HS0 HS1 HS2]
  · isplitl [HS0]
    · iexists _; iexact HS0
    isplitl [HS1]
    · iexact HS1
    iexact HS2
  isplitl [Hg]; · iexact Hg
  isplitl [Hq0 Hq1]
  · isplitl [Hq0]; · iexact Hq0
    iexact Hq1
  isplitl [Hh0]; · iexact Hh0
  iexact Hh1

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InDxIdeal.Hand

end
-- ==== Proof.InDxTerms.lean ====
/- The input projection's backward through the norm: the reference's terms, and their closed form at an index. -/
module

public import proofs.«01_k».proof.Proof.Gen.InDxRefIdeal.Run
public import Idealize.ShloMosaic.Lib.Pointwise
public import Idealize.ShloMosaic.Lib.Claim
public import proofs.«01_k».proof.Proof.RmsBwd

@[expose] public section

set_option maxRecDepth 16384

noncomputable section

namespace Cert.InDxRefIdeal.Whole

open Idealize.ShloMosaic Idealize.ShloMosaic.TcCoe Idealize.SL.Sem
open Cert.InDxRefIdeal Cert.InDxRefIdeal.Gen
open Cert.Arith (msq)

/-- The product's gradient. -/
def DH (a : FVec Ideal S8192x6144 .bf16) (w : FVec Ideal S1024x6144 .bf16) : FVec Ideal S8192x1024 .f32 :=
  Host.dotGeneral dot_S8192x6144_S1024x6144_S8192x1024_1_1_0_0_n_n none (extf .f32 a bitsLt_bf16_f32) (extf .f32 w bitsLt_bf16_f32)

/-- The mean of each row's squares and the small constant. -/
def QX (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The factor each row of the input has through the mean of squares. -/
def SX (a : FVec Ideal S8192x6144 .bf16) (w : FVec Ideal S1024x6144 .bf16) (x : FVec Ideal S8192x1024 .f32) (g : FVec Ideal S1x1024 .f32) : FVec Ideal S8192 .f32 :=
  Host.reduceAdd (Host.divf (mulf (shapeCast _ (Host.reduceAdd (mulf x (mulf (DH a w) (broadcastInDim S8192x1024 ![0, 1] bcast_S1x1024_S8192x1024_0_1 g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (QX x)) (QX x)))) (broadcastInDim S8192x1 ![] bcast_S_S8192x1 (constant S_ .f32 0x44800000#32))) (constant S_ .f32 0x00000000#32) reducesTo_S8192x1_S8192_d1 h_S_

/-- The reference's first result. -/
def REFDX (a : FVec Ideal S8192x6144 .bf16) (w : FVec Ideal S1024x6144 .bf16) (x : FVec Ideal S8192x1024 .f32) (g : FVec Ideal S1x1024 .f32) (r : FVec Ideal S8192x1024 .f32) : FVec Ideal S8192x1024 .f32 :=
  addf r (addf (addf (mulf (mulf (DH a w) (broadcastInDim S8192x1024 ![0, 1] bcast_S1x1024_S8192x1024_0_1 g)) (broadcastInDim S8192x1024 ![0, 1] bcast_S8192x1_S8192x1024_0_1 (Host.rsqrt (QX x)))) (mulf x (broadcastInDim S8192x1024 ![0] bcast_S8192_S8192x1024_0 (SX a w x g)))) (mulf (broadcastInDim S8192x1024 ![0] bcast_S8192_S8192x1024_0 (SX a w x g)) x))

/-- The reference's second result. -/
def REFDG (a : FVec Ideal S8192x6144 .bf16) (w : FVec Ideal S1024x6144 .bf16) (x : FVec Ideal S8192x1024 .f32) (g : FVec Ideal S1x1024 .f32) (r : FVec Ideal S8192x1024 .f32) : FVec Ideal S1x1024 .f32 :=
  shapeCast _ (Host.reduceAdd (mulf (mulf x (broadcastInDim S8192x1024 ![0, 1] bcast_S8192x1_S8192x1024_0_1 (Host.rsqrt (QX x)))) (DH a w)) (constant S_ .f32 0x00000000#32) reducesTo_S8192x1024_S1024_d0 h_S_) shapeCasts_S1024_S1x1024

/-- The row an index is in. -/
def row (x : FVec Ideal S8192x1024 .f32) (i : Fin 8192) (k : Fin 1024) : EReal := x (ix2 i k)

/-- The gradient of the first operand at an index, in the closed form. -/
def KDX (dh : FVec Ideal S8192x1024 .f32) (x : FVec Ideal S8192x1024 .f32) (g : FVec Ideal S1x1024 .f32) (r : FVec Ideal S8192x1024 .f32) (i : Fin 8192) (j : Fin 1024) : EReal :=
  r (ix2 i j) + Ideal.rsqrt (msq (row x i)) * (dh (ix2 i j) * g (ix2 0 j)
    - row x i j * Ideal.rsqrt (msq (row x i)) * Ideal.div (∑ k, dh (ix2 i k) * g (ix2 0 k) * (row x i k * Ideal.rsqrt (msq (row x i)))) (Ideal.ofBits .f32 0x44800000#32))

/-- The gradient of the norm's factor. -/
def KDG (dh : FVec Ideal S8192x1024 .f32) (x : FVec Ideal S8192x1024 .f32) (j : Fin 1024) : EReal :=
  ∑ i : Fin 8192, dh (ix2 i j) * (row x i j * Ideal.rsqrt (msq (row x i)))

theorem dh_at (a : FVec Ideal S8192x6144 .bf16) (w : FVec Ideal S1024x6144 .bf16) (i : S8192x1024.Idx) :
    DH a w i = ∑ k : Fin 6144, a (ix2 (i 0) k) * w (ix2 (i 1) k) := by
  pointwise [DH]

theorem qx_at (x : FVec Ideal S8192x1024 .f32) (i : Fin 8192) (z : Fin 1) : QX x (ix2 i z) = msq (row x i) := by
  pointwise [QX, msq, row]

theorem refdx_at (a : FVec Ideal S8192x6144 .bf16) (w : FVec Ideal S1024x6144 .bf16) (x : FVec Ideal S8192x1024 .f32) (g : FVec Ideal S1x1024 .f32) (r : FVec Ideal S8192x1024 .f32) (i : Fin 8192) (j : Fin 1024) :
    KDX (DH a w) x g r i j = REFDX a w x g r (ix2 i j) := by
  unfold KDX
  have h := Cert.Arith.rms_bwd (row x i) (fun k => DH a w (ix2 i k) * g (ix2 0 k)) j
  rw [h]
  pointwise [REFDX, SX, row]
  simp only [qx_at, Fin.sum_univ_one]

theorem refdg_at (a : FVec Ideal S8192x6144 .bf16) (w : FVec Ideal S1024x6144 .bf16) (x : FVec Ideal S8192x1024 .f32) (g : FVec Ideal S1x1024 .f32) (r : FVec Ideal S8192x1024 .f32) (j : Fin 1024) :
    KDG (DH a w) x j = REFDG a w x g r (ix2 0 j) := by
  unfold KDG
  pointwise [REFDG, row]
  exact Finset.sum_congr rfl fun k _ => by rw [qx_at]; exact mul_comm _ _

end Cert.InDxRefIdeal.Whole

end
-- ==== Proof.InDxVal.lean ====
/- The input projection's backward through the norm: what the kernel's result arrays end holding is the reference's terms. -/
module

public import proofs.«01_k».proof.Proof.InDxIdealFrame
public import proofs.«01_k».proof.Proof.InDxTerms
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.InDxIdeal.Whole

open Idealize.ShloMosaic Idealize.ShloMosaic.TcCoe Idealize.SL.Sem
open Idealize.ShloMosaic.Pipeline (Dat)
open Cert.InDxIdeal Cert.InDxIdeal.Gen Cert.InDxIdeal.Hand
open Cert.InDxRefIdeal.Whole
open Cert.Arith (msq)

variable (m : (ℓ : Loc nD τ sig) → Buf (Elt Ideal) ℓ)

/-- Each window's block index at each grid point. -/
theorem idx : ∀ t : Fin cfg0.N, win0_0.index t = ![t.val / 3, t.val % 3] ∧ win0_1.index t = ![0, t.val % 3]
    ∧ win0_2.index t = ![0, 0] ∧ win0_3.index t = ![t.val / 3, 0] ∧ win0_4.index t = ![0, 0] ∧ t.val < 24 :=
  (by decide +kernel : ∀ t : Fin grid0.N, _)

/-- The row of the arrays a row of a point's block is. -/
def rr (t : Fin cfg0.N) (r : Fin 1024) : Fin 8192 := ⟨1024 * (t.val / 3) + r.val, by have := (idx t).2.2.2.2.2; have := r.isLt; omega⟩

/-- What a point adds: its block of the incoming gradient times its block of the weight. -/
def part (c : Dev nD) (t : Fin cfg0.N) (j : S1024x1024.Idx) : EReal :=
  ∑ k : Fin 2048, (show FVec Ideal S1024x2048 .bf16 from iblk m c 0 t) (ix2 (j 0) k) * (show FVec Ideal S1024x2048 .bf16 from iblk m c 1 t) (ix2 (j 1) k)

theorem pay3_at (a : Vec Ideal S1024x1024 .f32) (x : Vec Ideal S1024x2048 .bf16) (y : Vec Ideal S1024x2048 .bf16) (j) :
    k0_pay3 a x y j = a j + ∑ k : Fin 2048, x (ix2 (j 0) k) * y (ix2 (j 1) k) := by
  pointwise [k0_pay3]

theorem pay1_at (j) : k0_pay1 (F := Ideal) j = 0 := by pointwise [k0_pay1]

/-- The accumulator after a row block's last point is the product's gradient there. -/
theorem acc (c : Dev nD) (t : Fin cfg0.N) (ht : t.val % 3 = 2) (y : S1024x1024.Idx) :
    (outsAt0 m c t.val t.isLt).2.2 y = DH (m ((c : Thread nD τ).loc main_arg0)) (m ((c : Thread nD τ).loc main_arg1)) (ix2 (rr t (y 0)) (y 1)) := by
  rw [Pipeline.eq_sum_fin_of_reset_step_apply_of_flush (fun n h => (outsAt0 m c n h).2.2) 3 (fun _ => 0) (fun t j => part m c t j)
    (fun t h j => by
      by_cases h1 : t.val % 24 = 0
      · rw [outsAt0_A m c t h h1 (by omega)]; unfold sout0_A_0; frame_out; rw [pay3_at, pay1_at, part]
      · rw [outsAt0_D m c t h h1 (by omega)]; unfold sout0_D_0; frame_out; rw [pay3_at, pay1_at, part])
    (fun t h j => by
      by_cases h3 : t.val % 3 = 2
      · rw [outsAt0_C m c t h (by omega) h3]; unfold sout0_C_0; frame_out; rw [(Memref.isWhole_whole _).read_unread, pay3_at, part]
      · rw [outsAt0_B m c t h (by omega) h3]; unfold sout0_B_0; frame_out; rw [(Memref.isWhole_whole _).read_unread, pay3_at, part])
    t ht _, zero_add, dh_at]
  simp only [part]
  refine Fin.sum_mul_add_congr fun s k hl => ?_
  blk_point [iblk, V, idx t, idx ⟨_, Pipeline.run_point_lt_of_flush t ht s⟩, rr]

/-- The rows a trip of the loop takes. -/
theorem off3 : ∀ k : Fin k0_t1_loop.trips, k0_off3 k = ![256 * k.val, 0] ∧ k.val < 4 := by decide +kernel

theorem canonw (v : Vec Ideal S1024x1024 .f32) : View.canon (Val := Elt Ideal) (e := .f32) [⟨Rect.whole S1024x1024, v⟩] = v := by
  funext y
  have := View.canon_cons_emb (Val := Elt Ideal) (Rect.whole S1024x1024) v [] y
  rwa [Rect.emb_whole_apply] at this

/-- The pieces the loop's first trips write. -/
def PB (c : Dev nD) (t : Fin cfg0.N) (h5) (P Xv Rv : Vec Ideal S1024x1024 .f32) (o : Vec Ideal S1x1024 .f32) (n : ℕ) :=
  Hand.pb_k0_t1 (F := Ideal) Variants.none c none (grid0.coords t) (ms0_0 t) (hs0_0 t) (ms0_1 t) (hs0_1 t) (Memref.whole main_arg2) (Memref.isWhole_whole _) (ms0_2 t) (hs0_2 t) (Memref.whole main_arg4) (Memref.isWhole_whole _) (ms0_3 t) (hs0_3 t) (ms0_4 t) (hs0_4 t) scM0_0 (Memref.isWhole_whole _) scM0_1 (Memref.isWhole_whole _) scM0_2 (Memref.isWhole_whole _) cc0_scratch3 h5
    ((hs0_2 t).unread (iblk m c 2 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩])
    (ms0_3 t).view.junk ((hs0_4 t).unread o) n

theorem last2 (c : Dev nD) (t : Fin cfg0.N) (ht : t.val % 3 = 2) :
    (outsAt0 m c t.val t.isLt).2.2 = k0_pay3 (View.read (Elt Ideal) (View.whole cc0_scratch0) ((Memref.isWhole_whole _).unread (outsAt0 m c (t.val - 1) (Nat.lt_of_le_of_lt (Nat.sub_le _ _) t.isLt)).2.2)) (iblk m c 0 t) (iblk m c 1 t) := by
  funext y
  rw [outsAt0_C m c t (by omega) (by omega) ht]
  unfold sout0_C_0
  frame_out

theorem last0 (c : Dev nD) (t : Fin cfg0.N) (ht : t.val % 3 = 2) (y : S1024x1024.Idx) :
    ∃ h5, ∃ Xv Rv : Vec Ideal S1024x1024 .f32, (outsAt0 m c t.val t.isLt).1 y = View.canon (PB m c t h5 (outsAt0 m c t.val t.isLt).2.2 Xv Rv (outsAt0 m c (t.val - 1) (Nat.lt_of_le_of_lt (Nat.sub_le _ _) t.isLt)).2.1 4).1 y
      ∧ (∀ i j, Xv (ix2 i j) = (show FVec Ideal S8192x1024 .f32 from m ((c : Thread nD τ).loc main_arg2)) (ix2 (rr t i) j)) ∧ (∀ i j, Rv (ix2 i j) = (show FVec Ideal S8192x1024 .f32 from m ((c : Thread nD τ).loc main_arg4)) (ix2 (rr t i) j)) := by
  refine ⟨(hcond0_3 t).mpr ht, ?X, ?R, ?_, ?_, ?_⟩
  rotate_left 2
  · rw [last2 m c t ht, outsAt0_C m c t (by omega) (by omega) ht]
    unfold out0_C_3
    frame_out
    rw [show Scf.trips (0#32) (Scalar.addi 0#32 4#32) 1#32 = 4 from by decide]
    rfl
  · intro i j
    show m ((c : Thread nD τ).loc main_arg2) (((View.whole main_arg2).slice (Rect.unit (rowOff (t.val / 3)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]
  · intro i j
    show m ((c : Thread nD τ).loc main_arg4) (((View.whole main_arg4).slice (Rect.unit (rowOff (t.val / 3)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]

theorem last1 (c : Dev nD) (t : Fin cfg0.N) (ht : t.val % 3 = 2) (y : S1x1024.Idx) :
    ∃ h5, ∃ Xv Rv : Vec Ideal S1024x1024 .f32, (outsAt0 m c t.val t.isLt).2.1 y = View.canon (PB m c t h5 (outsAt0 m c t.val t.isLt).2.2 Xv Rv (outsAt0 m c (t.val - 1) (Nat.lt_of_le_of_lt (Nat.sub_le _ _) t.isLt)).2.1 4).2 y
      ∧ (∀ i j, Xv (ix2 i j) = (show FVec Ideal S8192x1024 .f32 from m ((c : Thread nD τ).loc main_arg2)) (ix2 (rr t i) j)) ∧ (∀ i j, Rv (ix2 i j) = (show FVec Ideal S8192x1024 .f32 from m ((c : Thread nD τ).loc main_arg4)) (ix2 (rr t i) j)) := by
  refine ⟨(hcond0_3 t).mpr ht, ?X, ?R, ?_, ?_, ?_⟩
  rotate_left 2
  · rw [last2 m c t ht, outsAt0_C m c t (by omega) (by omega) ht]
    unfold out0_C_4
    frame_out
    rw [show Scf.trips (0#32) (Scalar.addi 0#32 4#32) 1#32 = 4 from by decide]
    rfl
  · intro i j
    show m ((c : Thread nD τ).loc main_arg2) (((View.whole main_arg2).slice (Rect.unit (rowOff (t.val / 3)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]
  · intro i j
    show m ((c : Thread nD τ).loc main_arg4) (((View.whole main_arg4).slice (Rect.unit (rowOff (t.val / 3)) ![1024, 1024] (rowOff_inb _))).emb (ix2 i j)) = _
    blk_point [rr, idx t]
    · rw [ValueKit.view_emb_slice_whole_unit_val]; simp [rowOff]; have := idx t; omega
    · rw [ValueKit.view_emb_slice_whole_unit_val]; simp [rowOff]

/-- The row and the column of the arrays an index of a point's block is. -/
def ri (t : Fin cfg0.N) (y : S1024x1024.Idx) : Fin 8192 := rr t (y 0)
def rj (y : S1024x1024.Idx) : Fin 1024 := y 1
/-- The column of an index of a one-row block. -/
def cj (y : S1x1024.Idx) : Fin 1024 := y 1

set_option maxHeartbeats 2000000 in
theorem trip4 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg2)) (ix2 (rr t i) j))) (hR : (∀ i j, Rv (ix2 i j) = (show FVec Ideal S8192x1024 .f32 from m ((c : Thread nD τ).loc main_arg4)) (ix2 (rr t i) j)))
    (k : Fin k0_t1_loop.trips) (f8 f9) : ∀ p ∈ (Hand.tripL_k0_t1 (F := Ideal) Variants.none c none (grid0.coords t) (ms0_0 t) (hs0_0 t) (ms0_1 t) (hs0_1 t) (Memref.whole main_arg2) (Memref.isWhole_whole _) (ms0_2 t) (hs0_2 t) (Memref.whole main_arg4) (Memref.isWhole_whole _) (ms0_3 t) (hs0_3 t) (ms0_4 t) (hs0_4 t) scM0_0 (Memref.isWhole_whole _) scM0_1 (Memref.isWhole_whole _) scM0_2 (Memref.isWhole_whole _) cc0_scratch3 h5
    ((hs0_2 t).unread (iblk m c 2 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩]) k f8 f9).1, ∀ x : p.1.shape.Idx,
      p.2 x = KDX D (m ((c : Thread nD τ).loc main_arg2)) (m ((c : Thread nD τ).loc main_arg3)) (m ((c : Thread nD τ).loc main_arg4)) (ri t (p.1.emb x)) (rj (p.1.emb x)) := by
  intro p hp x
  unfold Hand.tripL_k0_t1 Hand.trip_k0_t1 at hp
  dsimp only at hp
  obtain rfl := List.mem_singleton.mp hp
  dsimp only
  frame_out
  clear hp
  erw [canonw Xv, canonw Rv]
  pointwise [k0_pay4, k0_pay5, k0_pay6, KDX, row, Cert.Arith.msq]
  simp only [hP, hX, hR]
  blk_point [iblk, V, idx t, off3 k, rr, ri, rj, cj]

/-- What a row adds to the norm gain's gradient. -/
def dgt (D : FVec Ideal S8192x1024 .f32) (x : FVec Ideal S8192x1024 .f32) (j : Fin 1024) (i : Fin 8192) : EReal :=
  D (ix2 i j) * (row x i j * Ideal.rsqrt (Cert.Arith.msq (row x i)))

theorem trip5 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg2)) (ix2 (rr t i) j)))
    (k : Fin k0_t1_loop.trips) (f8 f9) (y : S1x1024.Idx) : ∃ w : Vec Ideal S1x1024 .f32,
      (Hand.tripL_k0_t1 (F := Ideal) Variants.none c none (grid0.coords t) (ms0_0 t) (hs0_0 t) (ms0_1 t) (hs0_1 t) (Memref.whole main_arg2) (Memref.isWhole_whole _) (ms0_2 t) (hs0_2 t) (Memref.whole main_arg4) (Memref.isWhole_whole _) (ms0_3 t) (hs0_3 t) (ms0_4 t) (hs0_4 t) scM0_0 (Memref.isWhole_whole _) scM0_1 (Memref.isWhole_whole _) scM0_2 (Memref.isWhole_whole _) cc0_scratch3 h5
    ((hs0_2 t).unread (iblk m c 2 t))
    ((View.whole cc0_scratch0).writes (Elt Ideal) (View.whole cc0_scratch0).junk [⟨Rect.unit ![0, 0] ![1024, 1024] inb_S1024x1024_S1024x1024_0_0, P⟩])
    ((View.whole cc0_scratch1).writes (Elt Ideal) (View.whole cc0_scratch1).junk [⟨Rect.whole S1024x1024, Xv⟩])
    ((View.whole cc0_scratch2).writes (Elt Ideal) (View.whole cc0_scratch2).junk [⟨Rect.whole S1024x1024, Rv⟩]) k f8 f9).2 = [⟨Rect.unit ![0, 0] ![1, 1024] inb_S1x1024_S1x1024_0_0, w⟩]
      ∧ w y = (ms0_4 t).view.read (Elt Ideal) f9 y + ∑ a : Fin 256, dgt D (m ((c : Thread nD τ).loc main_arg2)) (cj y) (rr t ⟨k.val * 256 + a.val, by have := (off3 k).2; have := a.isLt; omega⟩) := by
  unfold Hand.tripL_k0_t1 Hand.trip_k0_t1
  dsimp only
  refine ⟨_, rfl, ?_⟩
  frame_out
  erw [canonw Xv]
  pointwise [k0_pay4, k0_pay5, k0_pay7, dgt, row, Cert.Arith.msq]
  simp only [hP, hX]
  blk_point [iblk, V, idx t, off3 k, rr, ri, rj, cj]

/-- Every piece the loop writes into the gradient's block is the rows' gradient there. -/
theorem all4 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg2)) (ix2 (rr t i) j))) (hR : (∀ i j, Rv (ix2 i j) = (show FVec Ideal S8192x1024 .f32 from m ((c : Thread nD τ).loc main_arg4)) (ix2 (rr t i) j))) (o : Vec Ideal S1x1024 .f32) : ∀ n, n ≤ 4 → ∀ p ∈ (PB m c t h5 P Xv Rv o n).1, ∀ x : p.1.shape.Idx,
      p.2 x = KDX D (m ((c : Thread nD τ).loc main_arg2)) (m ((c : Thread nD τ).loc main_arg3)) (m ((c : Thread nD τ).loc main_arg4)) (ri t (p.1.emb x)) (rj (p.1.emb x)) := by
  intro n
  induction n with
  | zero => intro _ p hp; exact absurd hp List.not_mem_nil
  | succ n ih =>
    intro hn p hp
    have hk : n < k0_t1_loop.trips := lt_of_lt_of_eq hn (by decide)
    unfold PB at hp ih
    rw [show n + 1 = (⟨n, hk⟩ : Fin k0_t1_loop.trips).val + 1 from rfl, Hand.pb_k0_t1_succ] at hp
    rcases List.mem_append.mp hp with h | h
    · exact trip4 m c t h5 P Xv Rv D hP hX hR ⟨n, hk⟩ _ _ p h
    · exact ih (by omega) p h

/-- The norm gain's gradient after the loop's first trips. -/
theorem all5 (c : Dev nD) (t : Fin cfg0.N) (h5) (P Xv Rv : Vec Ideal S1024x1024 .f32) (D : FVec Ideal S8192x1024 .f32) (hP : ∀ i j, P (ix2 i j) = D (ix2 (rr t i) j))
    (hX : (∀ i j, Xv (ix2 i j) = (show FVec Ideal S8192x1024 .f32 from m ((c : Thread nD τ).loc main_arg2)) (ix2 (rr t i) j))) (o : Vec Ideal S1x1024 .f32) (y : S1x1024.Idx) : ∀ n, (hn : n ≤ 4) →
      (ms0_4 t).view.read (Elt Ideal) ((ms0_4 t).view.writes (Elt Ideal) ((hs0_4 t).unread o) (PB m c t h5 P Xv Rv o n).2) y
        = o y + ∑ k : Fin n, ∑ a : Fin 256, dgt D (m ((c : Thread nD τ).loc main_arg2)) (cj y) (rr t ⟨k.val * 256 + a.val, by have := k.isLt; have := a.isLt; omega⟩)
      ∧ (0 < n → View.canon (PB m c t h5 P Xv Rv o n).2 y
        = o y + ∑ k : Fin n, ∑ a : Fin 256, dgt D (m ((c : Thread nD τ).loc main_arg2)) (cj y) (rr t ⟨k.val * 256 + a.val, by have := k.isLt; have := a.isLt; omega⟩)) := by
  intro n
  induction n with
  | zero =>
    intro _
    refine ⟨?_, fun h => absurd h (lt_irrefl _)⟩
    rw [Fin.sum_univ_zero, add_zero]
    exact congrFun ((hs0_4 t).read_unread o) y
  | succ n ih =>
    intro hn
    have hk : n < k0_t1_loop.trips := lt_of_lt_of_eq hn (by decide)
    obtain ⟨w, hw, hwy⟩ := trip5 m c t h5 P Xv Rv D hP hX ⟨n, hk⟩ ((ms0_3 t).view.writes (Elt Ideal) (ms0_3 t).view.junk (PB m c t h5 P Xv Rv o n).1)
      ((ms0_4 t).view.writes (Elt Ideal) ((hs0_4 t).unread o) (PB m c t h5 P Xv Rv o n).2) y
    have hl : (PB m c t h5 P Xv Rv o (n + 1)).2 = ⟨Rect.unit ![0, 0] ![1, 1024] inb_S1x1024_S1x1024_0_0, w⟩ :: (PB m c t h5 P Xv Rv o n).2 := by
      unfold PB at hw ⊢
      rw [show n + 1 = (⟨n, hk⟩ : Fin k0_t1_loop.trips).val + 1 from rfl, Hand.pb_k0_t1_succ]
      exact congrArg (· ++ _) hw
    have hv : w y = o y + ∑ k : Fin (n + 1), ∑ a : Fin 256, dgt D (m ((c : Thread nD τ).loc main_arg2)) (cj y) (rr t ⟨k.val * 256 + a.val, by have := k.isLt; have := a.isLt; omega⟩) := by
      rw [hwy, (ih (by omega)).1, add_assoc]
      exact congrArg _ (Fin.sum_univ_castSucc (fun k : Fin (n + 1) => ∑ a : Fin 256, dgt D (m ((c : Thread nD τ).loc main_arg2)) (cj y) (rr t ⟨k.val * 256 + a.val, by have := k.isLt; have := a.isLt; omega⟩))).symm
    rw [hl]
    refine ⟨?_, fun _ => ?_⟩
    · rw [← hv]
      exact congrFun (View.read_writes_full (ms0_4 t).view _ inb_S1x1024_S1x1024_0_0 w _) y
    · rw [← hv]
      exact congrFun (View.canon_cons_unit_zero (by decide) _ _ _) y

/-- What a row block's last point adds to the norm gain's gradient. -/
def dpart (c : Dev nD) (b : Fin cfg0.N) (y : S1x1024.Idx) : EReal :=
  if b.val % 3 = 2 then ∑ r : Fin 1024, dgt (DH (m ((c : Thread nD τ).loc main_arg0)) (m ((c : Thread nD τ).loc main_arg1))) (m ((c : Thread nD τ).loc main_arg2)) (cj y) (rr b r) else 0

theorem hacc (c : Dev nD) (t : Fin cfg0.N) (ht : t.val % 3 = 2) (i j : Fin 1024) : (outsAt0 m c t.val t.isLt).2.2 (ix2 i j) = (DH (m ((c : Thread nD τ).loc main_arg0)) (m ((c : Thread nD τ).loc main_arg1))) (ix2 (rr t i) j) := acc m c t ht (ix2 i j)

theorem pay2_at (j) : k0_pay2 (F := Ideal) j = 0 := by pointwise [k0_pay2]

/-- The norm gain's gradient after the last point is the sum over every point. -/
theorem dgsum (c : Dev nD) (t : Fin cfg0.N) (ht : t.val % 24 = 23) (y : S1x1024.Idx) :
    (outsAt0 m c t.val t.isLt).2.1 y = ∑ s : Fin 24, dpart m c ⟨s.val, lt_of_lt_of_eq s.isLt (by decide)⟩ y := by
  rw [Pipeline.eq_sum_fin_of_reset_step_apply_of_flush (fun n h => (outsAt0 m c n h).2.1) 24 (fun _ => 0) (fun t j => dpart m c t j)
    (fun t h j => by
      rw [outsAt0_A m c t (by omega) h (by omega)]; unfold out0_A_4; frame_out; rw [pay2_at, dpart, if_neg (by omega), add_zero])
    (fun t h j => by
      by_cases h1 : t.val % 3 = 2
      · obtain ⟨h5, Xv, Rv, hc, hX, hR⟩ := last1 m c t h1 j
        refine hc.trans (((all5 m c t h5 _ Xv Rv _ (hacc m c t h1) hX _ j 4 le_rfl).2 (by omega)).trans (congrArg _ ?_))
        rw [dpart, if_pos h1]
        exact Fin.sum_mul_add_congr fun s k hl => rfl
      · rw [dpart, if_neg h1, add_zero]
        by_cases h0 : t.val % 3 = 0
        · rw [outsAt0_D m c t h0 h h1]; unfold out0_D_4; frame_out
        · rw [outsAt0_B m c t h0 h h1]; unfold out0_B_4; frame_out)
    t ht _, zero_add]
  refine Finset.sum_congr rfl fun s _ => ?_
  congr 1
  have := (idx t).2.2.2.2.2
  exact Fin.ext (by dsimp only; omega)

/-- The gradient of the residual stream is the reference's term. -/
theorem final3 (c : Dev nD) :
    (dats m 0 c).arrAt 3 (cfgs 0).N = REFDX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t hf y => ?_
  have ht : t.val % 3 = 2 := (by decide +kernel : ∀ t : Fin grid0.N, (cfg0.win 3).flush t = true → t.val % 3 = 2) t hf
  blk_simp
  rw [after0_3]
  obtain ⟨h5, Xv, Rv, hc, hX, hR⟩ := last0 m c t ht y
  rw [hc]
  refine (View.canon_apply_of_pieces (Val := Elt Ideal) (S := S1024x1024) (e := .f32) (fun y => KDX (DH (m ((c : Thread nD τ).loc main_arg0)) (m ((c : Thread nD τ).loc main_arg1))) (m ((c : Thread nD τ).loc main_arg2)) (m ((c : Thread nD τ).loc main_arg3)) (m ((c : Thread nD τ).loc main_arg4)) (ri t y) (rj y)) _
    (all4 m c t h5 _ Xv Rv _ (hacc m c t ht) hX hR _ 4 le_rfl) y ?_).trans ?_
  · exact View.cover_of_tiledL _ ![256, 1024] (by sl_kernel_rfl) y
  · rw [refdx_at]
    blk_point [idx t, ri, rj, rr]

/-- The gradient of the norm's gain is the reference's term. -/
theorem final4 (c : Dev nD) : (dats m 0 c).arrAt 4 (cfgs 0).N = REFDG (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  have ht : t.val % 24 = 23 := (by decide +kernel : ∀ t : Fin grid0.N, (cfg0.win 4).flush t = true → t.val % 24 = 23) t hf
  blk_simp
  rw [after0_4, dgsum m c t ht]
  refine Eq.trans (b := KDG (DH (m ((c : Thread nD τ).loc main_arg0)) (m ((c : Thread nD τ).loc main_arg1))) (m ((c : Thread nD τ).loc main_arg2)) (cj y)) ?_ ?_
  · refine (Fin.sum_mul_add_congr (S := 8) (n := 3) (F := fun b q => dpart m c ⟨b.val * 3 + q.val, lt_of_lt_of_eq (show _ < 24 by have := b.isLt; have := q.isLt; omega) (by decide)⟩ y) fun s k hl => rfl).symm.trans ?_
    refine Eq.trans (b := ∑ b : Fin 8, ∑ r : Fin 1024, dgt (DH (m ((c : Thread nD τ).loc main_arg0)) (m ((c : Thread nD τ).loc main_arg1))) (m ((c : Thread nD τ).loc main_arg2)) (cj y) ⟨b.val * 1024 + r.val, by have := b.isLt; have := r.isLt; omega⟩) ?_ (Fin.sum_mul_add_congr fun s k hl => rfl)
    refine Finset.sum_congr rfl fun b _ => ?_
    have hb := b.isLt
    rw [Fin.sum_univ_three]
    unfold dpart
    rw [if_neg (by dsimp only; omega), if_neg (by dsimp only; omega), if_pos (by dsimp only; omega), zero_add, zero_add]
    refine Finset.sum_congr rfl fun r _ => congrArg _ (Fin.ext ?_)
    unfold rr
    dsimp only
    omega
  · rw [refdg_at _ _ _ (m ((c : Thread nD τ).loc main_arg3)) (m ((c : Thread nD τ).loc main_arg4))]
    blk_point [idx t, cj]

/-- The run with each result array named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 3, (h.1 c).1 4, h.2 c⟩) (θ_run_and (run_main m ρ) (unchanged m ρ))

end Cert.InDxIdeal.Whole

end
-- ==== Proof.InDxFrame.lean ====
/- The frame of the program as printed for the machine: the same text as the idealized program's, so the same theorem. -/
module

public import proofs.«01_k».proof.Proof.Gen.InDx
public import proofs.«01_k».proof.Proof.InDxIdealFrame

@[expose] public section

set_option maxRecDepth 16384

noncomputable section

namespace Cert.InDx.Hand

open Cert.InDx.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

set_option maxHeartbeats 4000000 in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine cast ?_ (Cert.InDxIdeal.Hand.frame (F := F) m ρ)
  sl_kernel_rfl

end Cert.InDx.Hand

end
-- ==== Proof.DownDwVal.lean ====
/- The gradient of the second feed-forward weight: what the kernel's result array ends holding is the reference's term. -/
module

public import proofs.«01_k».proof.Proof.Gen.DownDwIdeal.Value
public import proofs.«01_k».proof.Proof.Gen.DownDwRefIdeal.Run
public import Idealize.ShloMosaic.Lib.Pipeline.ValueKit
public import Idealize.ShloMosaic.Lib.Pointwise
public import Idealize.ShloMosaic.Lib.Claim
public import proofs.«01_k».proof.Proof.Arith

@[expose] public section

set_option maxRecDepth 16384

noncomputable section

namespace Cert.DownDwRefIdeal.Whole

open Idealize.ShloMosaic Idealize.ShloMosaic.TcCoe Idealize.SL.Sem
open Cert.DownDwRefIdeal Cert.DownDwRefIdeal.Gen

/-- The reference's term of its arguments. -/
def REF (X : FVec Ideal S8192x2816 .bf16) (Y : FVec Ideal S8192x1024 .f32) : FVec Ideal S2816x1024 .bf16 :=
  truncf .bf16 (transpose S2816x1024 [1, 0] (Host.dotGeneral dot_S8192x1024_S8192x2816_S1024x2816_0_0_1_1_n_n none (mulf (broadcastInDim S8192x1024 ![] bcast_S_S8192x1024 (constant S_ .f32 0x3F000000#32)) Y) (extf .f32 X bitsLt_bf16_f32)) transposes_S1024x2816_S2816x1024_1_0) bitsLt_bf16_f32

end Cert.DownDwRefIdeal.Whole

namespace Cert.DownDwIdeal.Whole

open Idealize.ShloMosaic Idealize.ShloMosaic.TcCoe Idealize.SL.Sem
open Idealize.ShloMosaic.Pipeline (Dat)
open Cert.DownDwIdeal Cert.DownDwIdeal.Gen
open Cert.DownDwRefIdeal.Whole

variable (m : (ℓ : Loc nD τ sig) → Buf (Elt Ideal) ℓ)

/-- Each window's block index at each grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- The last point of a run stores the scaled scratch. -/
theorem out_last (c : Dev nD) (t : Fin cfg0.N) (h : t.val % 4 = 3) :
    (outsAt0 m c t.val t.isLt).1 = k0_pay3 ((outsAt0 m c t.val t.isLt).2) := by
  rw [outsAt0_C m c t (by omega) h]
  funext j
  frame_out

/-- The result array is the reference's term of the arguments. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf)]
  pointwise [k0_pay3, REF]
  rw [Pipeline.eq_sum_fin_of_reset_step_apply_of_flush (fun n h => (outsAt0 m c n h).2) 4 (fun _ => 0) _
    (fun t h j => by rw [outsAt0_A m c t h (by omega)]; frame_out; pointwise [k0_pay1, k0_pay2]; rfl)
    (fun t h j => by
      by_cases h1 : t.val % 4 = 3
      · rw [outsAt0_C m c t h h1]; frame_out; rw [(Memref.isWhole_whole _).read_unread]; pointwise [k0_pay2]
      · rw [outsAt0_B m c t h h1]; frame_out; rw [(Memref.isWhole_whole _).read_unread]; pointwise [k0_pay2])
    t ((flush0_2 t).mp hf) _, zero_add]
  refine (Cert.Arith.sum_mul_half _ _).trans ?_
  simp only [Cert.Arith.sum_mul_half]
  refine Fin.sum_mul_add_congr fun s k hl => ?_
  refine Eq.trans (Cert.Arith.mul_swap _ _ _) ?_
  blk_point [iblk, V, idx t, idx ⟨_, Pipeline.run_point_lt_of_flush t ((flush0_2 t).mp hf) s⟩]

end Cert.DownDwIdeal.Whole

end
-- ==== Proof.UpDwVal.lean ====
/- The gradient of the first feed-forward weight: what the kernel's result array ends holding is the reference's term. -/
module

public import proofs.«01_k».proof.Proof.Gen.UpDwIdeal.Value
public import proofs.«01_k».proof.Proof.Gen.UpDwRefIdeal.Run
public import Idealize.ShloMosaic.Lib.Pipeline.ValueKit
public import Idealize.ShloMosaic.Lib.Pointwise
public import Idealize.ShloMosaic.Lib.Claim
public import proofs.«01_k».proof.Proof.Arith

@[expose] public section

set_option maxRecDepth 16384

noncomputable section

namespace Cert.UpDwRefIdeal.Whole

open Idealize.ShloMosaic Idealize.ShloMosaic.TcCoe Idealize.SL.Sem
open Cert.UpDwRefIdeal Cert.UpDwRefIdeal.Gen

/-- The reference's term of its arguments. -/
def REF (X : FVec Ideal S8192x1024 .bf16) (Y : FVec Ideal S8192x2816 .bf16) (Z : FVec Ideal S8192x2816 .bf16) : FVec Ideal S1024x5632 .bf16 :=
  truncf .bf16 (transpose S1024x5632 [1, 0] (Host.dotGeneral dot_S8192x5632_S8192x1024_S5632x1024_0_0_1_1_n_n none (extf .f32 (concatenate S8192x5632 1 [⟨S8192x2816, Y⟩, ⟨S8192x2816, Z⟩] concatenates_S8192x2816_S8192x2816_S8192x5632_d1) bitsLt_bf16_f32) (extf .f32 X bitsLt_bf16_f32)) transposes_S5632x1024_S1024x5632_1_0) bitsLt_bf16_f32

end Cert.UpDwRefIdeal.Whole

namespace Cert.UpDwIdeal.Whole

open Idealize.ShloMosaic Idealize.ShloMosaic.TcCoe Idealize.SL.Sem
open Idealize.ShloMosaic.Pipeline (Dat)
open Cert.UpDwIdeal Cert.UpDwIdeal.Gen
open Cert.UpDwRefIdeal.Whole

variable (m : (ℓ : Loc nD τ sig) → Buf (Elt Ideal) ℓ)

/-- Each window's block index at each grid point. -/
theorem idx : ∀ t : Fin cfg0.N, win0_0.index t = ![t.val % 4, 0] ∧ win0_1.index t = ![t.val % 4, min (t.val / 4) 1]
    ∧ win0_2.index t = ![t.val % 4, t.val / 4 - 2] ∧ win0_3.index t = ![0, t.val / 4] ∧ t.val < 16 :=
  (by decide +kernel : ∀ t : Fin grid0.N, _)

/-- The last point of a run stores the scratch. -/
theorem out_last (c : Dev nD) (t : Fin cfg0.N) (h : t.val % 4 = 3) :
    (outsAt0 m c t.val t.isLt).1 = k0_pay4 ((outsAt0 m c t.val t.isLt).2) := by
  by_cases h1 : t.val < 8
  · rw [outsAt0_C m c t (by omega) h1 (by omega) h]
    funext j
    frame_out
  · rw [outsAt0_F m c t (by omega) h1 (by omega) h]
    funext j
    frame_out

/-- What a point adds: the product of its block with the block of the piece the point is in. -/
def part (c : Dev nD) (t : Fin cfg0.N) (j : S1024x1408.Idx) : EReal :=
  ∑ k : Fin 2048, (show FVec Ideal S2048x1024 .bf16 from iblk m c 0 t) (ix2 k (j 0)) *
    (if t.val < 8 then (show FVec Ideal S2048x1408 .bf16 from iblk m c 1 t) (ix2 k (j 1))
      else (show FVec Ideal S2048x1408 .bf16 from iblk m c 2 t) (ix2 k (j 1)))

theorem pay2_at (a : Vec Ideal S1024x1408 .f32) (x : Vec Ideal S2048x1024 .bf16) (y : Vec Ideal S2048x1408 .bf16) (j) :
    k0_pay2 a x y j = a j + ∑ k : Fin 2048, x (ix2 k (j 0)) * y (ix2 k (j 1)) := by
  pointwise [k0_pay2]

theorem pay3_at (a : Vec Ideal S1024x1408 .f32) (x : Vec Ideal S2048x1024 .bf16) (y : Vec Ideal S2048x1408 .bf16) (j) :
    k0_pay3 a x y j = a j + ∑ k : Fin 2048, x (ix2 k (j 0)) * y (ix2 k (j 1)) := by
  pointwise [k0_pay3]

theorem pay1_at (j) : k0_pay1 (F := Ideal) j = 0 := by pointwise [k0_pay1]

/-- The result array is the reference's term of the arguments. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_last m c t ((flush0_3 t).mp hf)]
  pointwise [k0_pay4, REF]
  rw [Pipeline.eq_sum_fin_of_reset_step_apply_of_flush (fun n h => (outsAt0 m c n h).2) 4 (fun _ => 0) (fun t j => part m c t j)
    (fun t h j => by
      by_cases h1 : t.val < 8
      · rw [outsAt0_A m c t h h1 (by omega) (by omega)]; frame_out; rw [pay2_at, pay1_at, part]; simp only [if_pos h1]
      · rw [outsAt0_D m c t h h1 (by omega) (by omega)]; frame_out; rw [pay3_at, pay1_at, part]; simp only [if_neg h1])
    (fun t h j => by
      by_cases h1 : t.val < 8
      · by_cases h3 : t.val % 4 = 3
        · rw [outsAt0_C m c t h h1 (by omega) h3]; frame_out; rw [(Memref.isWhole_whole _).read_unread, pay2_at, part]; simp only [if_pos h1]
        · rw [outsAt0_B m c t h h1 (by omega) h3]; frame_out; rw [(Memref.isWhole_whole _).read_unread, pay2_at, part]; simp only [if_pos h1]
      · by_cases h3 : t.val % 4 = 3
        · rw [outsAt0_F m c t h h1 (by omega) h3]; frame_out; rw [(Memref.isWhole_whole _).read_unread, pay3_at, part]; simp only [if_neg h1]
        · rw [outsAt0_E m c t h h1 (by omega) h3]; frame_out; rw [(Memref.isWhole_whole _).read_unread, pay3_at, part]; simp only [if_neg h1])
    t ((flush0_3 t).mp hf) _, zero_add]
  simp only [part]
  refine Fin.sum_mul_add_congr fun s k hl => ?_
  refine Eq.trans (mul_comm (_ : EReal) _) ?_
  blk_point [iblk, V, idx t, idx ⟨_, Pipeline.run_point_lt_of_flush t ((flush0_3 t).mp hf) s⟩]
  split_ifs <;> first | omega | blk_point [iblk, V, idx t, idx ⟨_, Pipeline.run_point_lt_of_flush t ((flush0_3 t).mp hf) s⟩]

end Cert.UpDwIdeal.Whole

end
-- ==== Proof.InDwVal.lean ====
/- The gradient of `w_in`: what the kernel's result array ends holding is the reference's term. -/
module

public import proofs.«01_k».proof.Proof.Gen.InDwIdeal.Value
public import proofs.«01_k».proof.Proof.Gen.InDwRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.InDwRefIdeal.Whole

open Idealize.ShloMosaic Idealize.ShloMosaic.TcCoe Idealize.SL.Sem
open Cert.InDwRefIdeal Cert.InDwRefIdeal.Gen

/-- The reference's term of its arguments. -/
def REF (X : FVec Ideal S8192x1024 .bf16) (Y : FVec Ideal S8192x6144 .bf16) : FVec Ideal S1024x6144 .bf16 :=
  truncf .bf16 (transpose S1024x6144 [1, 0] (Host.dotGeneral dot_S8192x6144_S8192x1024_S6144x1024_0_0_1_1_n_n none (extf .f32 Y bitsLt_bf16_f32) (extf .f32 X bitsLt_bf16_f32)) transposes_S6144x1024_S1024x6144_1_0) bitsLt_bf16_f32

end Cert.InDwRefIdeal.Whole

namespace Cert.InDwIdeal.Whole

open Idealize.ShloMosaic Idealize.ShloMosaic.TcCoe Idealize.SL.Sem
open Idealize.ShloMosaic.Pipeline (Dat)
open Cert.InDwIdeal Cert.InDwIdeal.Gen
open Cert.InDwRefIdeal.Whole

variable (m : (ℓ : Loc nD τ sig) → Buf (Elt Ideal) ℓ)

/-- Each window's block index at each grid point. -/
theorem idx : ∀ t : Fin cfg0.N, win0_0.index t = ![t.val % 4, 0] ∧ win0_1.index t = ![t.val % 4, t.val / 4]
    ∧ win0_2.index t = ![0, t.val / 4] ∧ t.val < 24 :=
  (by decide +kernel : ∀ t : Fin grid0.N, _)

theorem pay_zero (j) : k0_pay1 (F := Ideal) j = 0 := by pointwise [k0_pay1]

/-- The scratch after a point: the sum of the parts of its run so far; the last point of the run stores it. -/
theorem out_last (c : Dev nD) (t : Fin cfg0.N) (h : t.val % 4 = 3) :
    (outsAt0 m c t.val t.isLt).1 = k0_pay3 ((outsAt0 m c t.val t.isLt).2) := by
  rw [outsAt0_C m c t (by omega) h]
  funext j
  frame_out

/-- The result array is the reference's term of the arguments. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf)]
  pointwise [k0_pay3, REF]
  rw [Pipeline.eq_sum_fin_of_reset_step_apply_of_flush (fun n h => (outsAt0 m c n h).2) 4 (fun _ => 0) _
    (fun t h j => by rw [outsAt0_A m c t h (by omega)]; frame_out; pointwise [k0_pay1, k0_pay2]; rfl)
    (fun t h j => by
      by_cases h1 : t.val % 4 = 3
      · rw [outsAt0_C m c t h h1]; frame_out; rw [(Memref.isWhole_whole _).read_unread]; pointwise [k0_pay2]
      · rw [outsAt0_B m c t h h1]; frame_out; rw [(Memref.isWhole_whole _).read_unread]; pointwise [k0_pay2])
    t ((flush0_2 t).mp hf) _, zero_add]
  refine Fin.sum_mul_add_congr fun s k hl => ?_
  refine Eq.trans (mul_comm (_ : EReal) _) ?_
  blk_point [iblk, V, idx t, idx ⟨_, Pipeline.run_point_lt_of_flush t ((flush0_2 t).mp hf) s⟩]

end Cert.InDwIdeal.Whole

end
-- ==== Proof.InFwdVal.lean ====
/- The forward product by `w_in`: what the kernel's result array ends holding is the reference's term. -/
module

public import proofs.«01_k».proof.Proof.Gen.InFwdIdeal.Value
public import proofs.«01_k».proof.Proof.Gen.InFwdRefIdeal.Run
public import Idealize.ShloMosaic.Lib.Pipeline.ValueKit
public import Idealize.ShloMosaic.Lib.Pointwise

@[expose] public section

set_option maxRecDepth 16384

noncomputable section

namespace Cert.InFwdIdeal.Whole

open Idealize.ShloMosaic Idealize.ShloMosaic.TcCoe Idealize.SL.Sem
open Idealize.ShloMosaic.Pipeline (Dat)
open Cert.InFwdIdeal Cert.InFwdIdeal.Gen

variable (m : (ℓ : Loc nD τ sig) → Buf (Elt Ideal) ℓ)

/-- The reference's term of the two operands. -/
def REF (X : FVec Ideal S8192x1024 .bf16) (W : FVec Ideal S1024x6144 .bf16) : FVec Ideal S8192x6144 .bf16 :=
  truncf .bf16 (Host.dotGeneral Cert.InFwdRefIdeal.dot_S8192x1024_S1024x6144_S8192x6144_1_0_0_1_n_n none
    (extf .f32 X Cert.InFwdRefIdeal.Gen.bitsLt_bf16_f32) (extf .f32 W Cert.InFwdRefIdeal.Gen.bitsLt_bf16_f32))
    Cert.InFwdRefIdeal.Gen.bitsLt_bf16_f32

/-- Each window's block index at each grid point. -/
theorem idx : ∀ t : Fin cfg0.N, win0_0.index t = ![t.val / 6, 0] ∧ win0_1.index t = ![0, t.val % 6]
    ∧ win0_2.index t = ![t.val / 6, t.val % 6] ∧ t.val < 48 :=
  (by decide +kernel : ∀ t : Fin grid0.N, _)

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, REF]
  blk_point [iblk, V, idx t]

end Cert.InFwdIdeal.Whole

end
-- ==== Proof.UpVal.lean ====
/- The first feed-forward products and the gated activation: what the kernel's result arrays end holding is the reference's terms. -/
module

public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.Claim
public import proofs.«01_k».proof.Proof.Arith

@[expose] public section

set_option maxRecDepth 16384

noncomputable section

namespace Cert.UpRefIdeal.Whole

open Idealize.ShloMosaic Idealize.ShloMosaic.TcCoe Idealize.SL.Sem
open Cert.UpRefIdeal Cert.UpRefIdeal.Gen

/-- The reference's term of its arguments. -/
def REFA (X : FVec Ideal S8192x1024 .bf16) (W : FVec Ideal S1024x5632 .bf16) : FVec Ideal S8192x2816 .bf16 :=
  truncf .bf16 (extractStridedSlice S8192x2816 ![0, 0] (Host.dotGeneral dot_S8192x1024_S1024x5632_S8192x5632_1_0_0_1_n_n none (extf .f32 X bitsLt_bf16_f32) (extf .f32 W bitsLt_bf16_f32)) slices_S8192x5632_S8192x2816_0_0) bitsLt_bf16_f32

/-- The reference's term of its arguments. -/
def REFB (X : FVec Ideal S8192x1024 .bf16) (W : FVec Ideal S1024x5632 .bf16) : FVec Ideal S8192x2816 .bf16 :=
  truncf .bf16 (extractStridedSlice S8192x2816 ![0, 2816] (Host.dotGeneral dot_S8192x1024_S1024x5632_S8192x5632_1_0_0_1_n_n none (extf .f32 X bitsLt_bf16_f32) (extf .f32 W bitsLt_bf16_f32)) slices_S8192x5632_S8192x2816_0_2816) bitsLt_bf16_f32

/-- The reference's term of its arguments. -/
def REFACT (X : FVec Ideal S8192x1024 .bf16) (W : FVec Ideal S1024x5632 .bf16) : FVec Ideal S8192x2816 .bf16 :=
  truncf .bf16 (mulf (mulf (extractStridedSlice S8192x2816 ![0, 0] (Host.dotGeneral dot_S8192x1024_S1024x5632_S8192x5632_1_0_0_1_n_n none (extf .f32 X bitsLt_bf16_f32) (extf .f32 W bitsLt_bf16_f32)) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (Host.dotGeneral dot_S8192x1024_S1024x5632_S8192x5632_1_0_0_1_n_n none (extf .f32 X bitsLt_bf16_f32) (extf .f32 W bitsLt_bf16_f32)) slices_S8192x5632_S8192x2816_0_0)))))) (extractStridedSlice S8192x2816 ![0, 2816] (Host.dotGeneral dot_S8192x1024_S1024x5632_S8192x5632_1_0_0_1_n_n none (extf .f32 X bitsLt_bf16_f32) (extf .f32 W bitsLt_bf16_f32)) slices_S8192x5632_S8192x2816_0_2816)) bitsLt_bf16_f32

end Cert.UpRefIdeal.Whole

namespace Cert.UpIdeal.Whole

open Idealize.ShloMosaic Idealize.ShloMosaic.TcCoe Idealize.SL.Sem
open Idealize.ShloMosaic.Pipeline (Dat)
open Cert.UpIdeal Cert.UpIdeal.Gen
open Cert.UpRefIdeal.Whole

variable (m : (ℓ : Loc nD τ sig) → Buf (Elt Ideal) ℓ)

/-- Each window's block index at each grid point. -/
theorem idx : ∀ t : Fin cfg0.N, win0_0.index t = ![t.val / 2, 0] ∧ win0_1.index t = ![0, t.val % 2]
    ∧ win0_2.index t = ![0, t.val % 2 + 2] ∧ win0_3.index t = ![t.val / 2, t.val % 2] ∧ win0_4.index t = ![t.val / 2, t.val % 2]
    ∧ win0_5.index t = ![t.val / 2, t.val % 2] ∧ t.val < 16 :=
  (by decide +kernel : ∀ t : Fin grid0.N, _)

/-- A tile of the product at an index. -/
def TREFA (x : FVec Ideal S1024x1024 .bf16) (w : FVec Ideal S1024x1408 .bf16) (y : S1024x1408.Idx) : EReal :=
  ∑ k : Fin 1024, x (ix2 (y 0) k) * w (ix2 k (y 1))

/-- The gated activation of two tiles at an index. -/
def TREFACT (x : FVec Ideal S1024x1024 .bf16) (w v : FVec Ideal S1024x1408 .bf16) (y : S1024x1408.Idx) : EReal :=
  TREFA x w y * (Ideal.ofBits .f32 0x3F000000#32 * Ideal.tanh (Ideal.ofBits .f32 0x3F000000#32 * TREFA x w y) + Ideal.ofBits .f32 0x3F000000#32) * TREFA x v y

theorem final3 (c : Dev nD) : (dats m 0 c).arrAt 3 (cfgs 0).N = REFA (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  refine Eq.trans (b := TREFA (iblk m c 0 t) (iblk m c 1 t) y) ?_ ?_
  · canon_tiles x h using View.cover_of_tiledBy _ ![1024, 128] (by sl_kernel_rfl) y
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, TREFA, TREFACT]; blk_point [])
  · pointwise [TREFA, TREFACT, REFA]
    blk_point [iblk, V, idx t]

theorem final4 (c : Dev nD) : (dats m 0 c).arrAt 4 (cfgs 0).N = REFB (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  frame_out
  refine Eq.trans (b := TREFA (iblk m c 0 t) (iblk m c 2 t) y) ?_ ?_
  · canon_tiles x h using View.cover_of_tiledBy _ ![1024, 128] (by sl_kernel_rfl) y
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, TREFA, TREFACT]; blk_point [])
  · pointwise [TREFA, TREFACT, REFB]
    blk_point [iblk, V, idx t]

theorem final5 (c : Dev nD) : (dats m 0 c).arrAt 5 (cfgs 0).N = REFACT (m ((c : Thread nD τ).loc main_arg0)) (m ((c : Thread nD τ).loc main_arg1)) := by
  refine (dats m 0 c).arrAt_eq_of_covers 5 _ (by decide +kernel) fun t hf y => ?_
  blk_simp
  rw [after0_5]
  unfold outsAt0
  frame_out
  refine Eq.trans (b := TREFACT (iblk m c 0 t) (iblk m c 1 t) (iblk m c 2 t) y) ?_ ?_
  · canon_tiles x h using View.cover_of_tiledBy _ ![1024, 128] (by sl_kernel_rfl) y
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, TREFA, TREFACT]; blk_point [])
  · unfold TREFACT
    simp only [Cert.Arith.sigma_tanh]
    pointwise [TREFA, TREFACT, REFACT]
    blk_point [iblk, V, idx t]

end Cert.UpIdeal.Whole

end
-- ==== Proof.DownNormVal.lean ====
/- The down projection with the residual and the next norm: what the kernel's result arrays end holding is the reference's terms. -/
module

public import proofs.«01_k».proof.Proof.Gen.DownNormIdeal.Value
public import proofs.«01_k».proof.Proof.Gen.DownNormRefIdeal.Run
public import Idealize.ShloMosaic.Lib.Pipeline.ValueKit
public import Idealize.ShloMosaic.Lib.Pointwise
public import Idealize.ShloMosaic.Lib.Claim
public import proofs.«01_k».proof.Proof.Arith

@[expose] public section

set_option maxRecDepth 16384

noncomputable section

namespace Cert.DownNormRefIdeal.Whole

open Idealize.ShloMosaic Idealize.ShloMosaic.TcCoe Idealize.SL.Sem
open Cert.DownNormRefIdeal Cert.DownNormRefIdeal.Gen

/-- The reference's term of its arguments. -/
def REFX (X : FVec Ideal S8192x2816 .bf16) (W : FVec Ideal S2816x1024 .bf16) (r : FVec Ideal S8192x1024 .f32) (g : FVec Ideal S1x1024 .f32) : FVec Ideal S8192x1024 .f32 :=
  addf r (mulf (broadcastInDim S8192x1024 ![] bcast_S_S8192x1024 (constant S_ .f32 0x3F000000#32)) (Host.dotGeneral dot_S8192x2816_S2816x1024_S8192x1024_1_0_0_1_n_n none (extf .f32 X bitsLt_bf16_f32) (extf .f32 W bitsLt_bf16_f32)))

/-- The reference's term of its arguments. -/
def REFN (X : FVec Ideal S8192x2816 .bf16) (W : FVec Ideal S2816x1024 .bf16) (r : FVec Ideal S8192x1024 .f32) (g : FVec Ideal S1x1024 .f32) : FVec Ideal S8192x1024 .bf16 :=
  truncf .bf16 (mulf (mulf (REFX X W r g) (broadcastInDim S8192x1024 ![0, 1] bcast_S8192x1_S8192x1024_0_1 (Host.rsqrt (addf (Host.divf (broadcastInDim S8192x1 ![0] bcast_S8192_S8192x1_0 (Host.reduceAdd (mulf (REFX X W r g) (REFX X W r g)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)) bitsLt_bf16_f32

end Cert.DownNormRefIdeal.Whole

namespace Cert.DownNormIdeal.Whole

open Idealize.ShloMosaic Idealize.ShloMosaic.TcCoe Idealize.SL.Sem
open Idealize.ShloMosaic.Pipeline (Dat)
open Cert.DownNormIdeal Cert.DownNormIdeal.Gen
open Cert.DownNormRefIdeal.Whole

variable (m : (ℓ : Loc nD τ sig) → Buf (Elt Ideal) ℓ)

/-- Each window's block index at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ t.val < 8 :=
  (by decide +kernel : ∀ t : Fin grid0.N, _)

/-- The rows a trip of the loop takes. -/
theorem off1 : ∀ k : Fin k0_t1_loop.trips, k0_off1 k = ![256 * k.val, 0] ∧ k.val < 4 := by decide +kernel

theorem final4 (c : Dev nD) : (dats m 0 c).arrAt 4 (cfgs 0).N = REFX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  pointwise [k0_pay1, REFX]
  blk_point [iblk, V, idx t]

theorem final5 (c : Dev nD) : (dats m 0 c).arrAt 5 (cfgs 0).N = REFN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  rw [show Scf.trips (0#32) (Scalar.addi 0#32 4#32) 1#32 = 4 from by decide]
  refine View.canon_apply_of_pieces (Val := Elt Idealize.ShloMosaic.Ideal) (S := S1024x1024) (e := .bf16) (fun y => REFN (m ((c : Thread nD τ).loc main_arg0)) (m ((c : Thread nD τ).loc main_arg1)) (m ((c : Thread nD τ).loc main_arg2)) (m ((c : Thread nD τ).loc main_arg3)) (((View.whole main_v0_1).slice (win0_5.rect t)).emb y)) _ ?_ y (View.cover_of_tiledL _ ![256, 1024] (by sl_kernel_rfl) y)
  have key : ∀ k : Fin k0_t1_loop.trips, ∀ p ∈ tripL_k0_t1 (F := Idealize.ShloMosaic.Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) ((hs0_3 t).unread (iblk m c 3 t)) ((ms0_4 t).view.writes (Elt Idealize.ShloMosaic.Ideal) (ms0_4 t).view.junk
          [⟨Rect.unit ![0, 0] ![1024, 1024] inb_S1024x1024_S1024x1024_0_0,
              k0_pay1 (iblk m c 2 t) (iblk m c 0 t) (iblk m c 1 t)⟩]) k, ∀ x : p.1.shape.Idx, p.2 x = REFN (m ((c : Thread nD τ).loc main_arg0)) (m ((c : Thread nD τ).loc main_arg1)) (m ((c : Thread nD τ).loc main_arg2)) (m ((c : Thread nD τ).loc main_arg3)) (((View.whole main_v0_1).slice (win0_5.rect t)).emb (p.1.emb x)) := by
    intro k p hp x
    unfold tripL_k0_t1 trip_k0_t1 at hp
    dsimp only at hp
    obtain rfl := List.mem_singleton.mp hp
    dsimp only
    frame_out
    clear hp
    pointwise [k0_pay2, k0_pay1, REFX, REFN]
    blk_point [iblk, V, idx t, off1 k]
  have all : ∀ n, n ≤ 4 → ∀ p ∈ pb_k0_t1 (F := Idealize.ShloMosaic.Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) ((hs0_3 t).unread (iblk m c 3 t)) ((ms0_4 t).view.writes (Elt Idealize.ShloMosaic.Ideal) (ms0_4 t).view.junk
          [⟨Rect.unit ![0, 0] ![1024, 1024] inb_S1024x1024_S1024x1024_0_0,
              k0_pay1 (iblk m c 2 t) (iblk m c 0 t) (iblk m c 1 t)⟩]) n, ∀ x : p.1.shape.Idx, p.2 x = REFN (m ((c : Thread nD τ).loc main_arg0)) (m ((c : Thread nD τ).loc main_arg1)) (m ((c : Thread nD τ).loc main_arg2)) (m ((c : Thread nD τ).loc main_arg3)) (((View.whole main_v0_1).slice (win0_5.rect t)).emb (p.1.emb x)) := by
    intro n
    induction n with
    | zero => intro _ p hp; exact absurd hp List.not_mem_nil
    | succ n ih =>
      intro hn p hp
      have hk : n < k0_t1_loop.trips := lt_of_lt_of_eq hn (by decide)
      rw [show n + 1 = (⟨n, hk⟩ : Fin k0_t1_loop.trips).val + 1 from rfl, pb_k0_t1_succ] at hp
      rcases List.mem_append.mp hp with h | h
      · exact key ⟨n, hk⟩ p h
      · exact ih (by omega) p h
  exact all 4 le_rfl

end Cert.DownNormIdeal.Whole

end
-- ==== Proof.DownVal.lean ====
/- The second feed-forward product with its residual: what the kernel's result array ends holding is the reference's term. -/
module

public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.DownRefIdeal.Whole

open Idealize.ShloMosaic Idealize.ShloMosaic.TcCoe Idealize.SL.Sem
open Cert.DownRefIdeal Cert.DownRefIdeal.Gen

/-- The reference's term of its arguments. -/
def REF (X : FVec Ideal S8192x2816 .bf16) (W : FVec Ideal S2816x1024 .bf16) (Y : FVec Ideal S8192x1024 .f32) : FVec Ideal S8192x1024 .f32 :=
  addf Y (mulf (broadcastInDim S8192x1024 ![] bcast_S_S8192x1024 (constant S_ .f32 0x3F000000#32)) (Host.dotGeneral dot_S8192x2816_S2816x1024_S8192x1024_1_0_0_1_n_n none (extf .f32 X bitsLt_bf16_f32) (extf .f32 W bitsLt_bf16_f32)))

end Cert.DownRefIdeal.Whole

namespace Cert.DownIdeal.Whole

open Idealize.ShloMosaic Idealize.ShloMosaic.TcCoe Idealize.SL.Sem
open Idealize.ShloMosaic.Pipeline (Dat)
open Cert.DownIdeal Cert.DownIdeal.Gen
open Cert.DownRefIdeal.Whole

variable (m : (ℓ : Loc nD τ sig) → Buf (Elt Ideal) ℓ)

/-- Each window's block index at each grid point. -/
theorem idx : ∀ t : Fin cfg0.N, win0_0.index t = ![t.val, 0] ∧ win0_1.index t = ![0, 0]
    ∧ win0_2.index t = ![t.val, 0] ∧ win0_3.index t = ![t.val, 0] ∧ t.val < 8 :=
  (by decide +kernel : ∀ t : Fin grid0.N, _)

/-- The result array is the reference's term of the arguments. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, REF]
  blk_point [iblk, V, idx t]

end Cert.DownIdeal.Whole

end
-- ==== Proof.MixFwdVal.lean ====
/- The gated mixing of the three branches: what the kernel's result arrays end holding is the reference's terms. -/
module

public import proofs.«01_k».proof.Proof.Gen.MixFwdIdeal.Value
public import proofs.«01_k».proof.Proof.Gen.MixFwdRefIdeal.Run
public import Idealize.ShloMosaic.Lib.Pipeline.ValueKit
public import Idealize.ShloMosaic.Lib.Pointwise
public import Idealize.ShloMosaic.Lib.Claim
public import proofs.«01_k».proof.Proof.Arith

@[expose] public section

set_option maxRecDepth 16384

noncomputable section

namespace Cert.MixFwdRefIdeal.Whole

open Idealize.ShloMosaic Idealize.ShloMosaic.TcCoe Idealize.SL.Sem
open Cert.MixFwdRefIdeal Cert.MixFwdRefIdeal.Gen

/-- The reference's term of its arguments. -/
def REFX (c0 : FVec Ideal S8192x512 .bf16) (a0 : FVec Ideal S8192x512 .bf16) (m0 : FVec Ideal S8192x512 .bf16) (pj : FVec Ideal S8192x6144 .bf16) (bg : FVec Ideal S1x3072 .f32) (x : FVec Ideal S8192x1024 .f32) (w1 : FVec Ideal S512x1024 .bf16) (w2 : FVec Ideal S512x1024 .bf16) (w3 : FVec Ideal S512x1024 .bf16) (wo : FVec Ideal S1024x1024 .bf16) (ns : FVec Ideal S1x1024 .f32) : FVec Ideal S8192x1024 .f32 :=
  addf x (Host.dotGeneral dot_S8192x1024_S1024x1024_S8192x1024_1_0_0_1_n_n none (addf (addf (mulf (shapeCast _ (extractStridedSlice S8192x1x1024 ![0, 0, 0] (shapeCast _ (Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf .f32 (extractStridedSlice S8192x3072 ![0, 3072] pj slices_S8192x6144_S8192x3072_0_3072) bitsLt_bf16_f32) (broadcastInDim S8192x3072 ![0, 1] bcast_S1x3072_S8192x3072_0_1 bg)))))) shapeCasts_S8192x3072_S8192x3x1024) slices_S8192x3x1024_S8192x1x1024_0_0_0) shapeCasts_S8192x1x1024_S8192x1024) (Host.dotGeneral dot_S8192x512_S512x1024_S8192x1024_1_0_0_1_n_n none (extf .f32 c0 bitsLt_bf16_f32) (extf .f32 w1 bitsLt_bf16_f32))) (mulf (shapeCast _ (extractStridedSlice S8192x1x1024 ![0, 1, 0] (shapeCast _ (Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf .f32 (extractStridedSlice S8192x3072 ![0, 3072] pj slices_S8192x6144_S8192x3072_0_3072) bitsLt_bf16_f32) (broadcastInDim S8192x3072 ![0, 1] bcast_S1x3072_S8192x3072_0_1 bg)))))) shapeCasts_S8192x3072_S8192x3x1024) slices_S8192x3x1024_S8192x1x1024_0_1_0) shapeCasts_S8192x1x1024_S8192x1024) (Host.dotGeneral dot_S8192x512_S512x1024_S8192x1024_1_0_0_1_n_n none (extf .f32 a0 bitsLt_bf16_f32) (extf .f32 w2 bitsLt_bf16_f32)))) (mulf (shapeCast _ (extractStridedSlice S8192x1x1024 ![0, 2, 0] (shapeCast _ (Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf .f32 (extractStridedSlice S8192x3072 ![0, 3072] pj slices_S8192x6144_S8192x3072_0_3072) bitsLt_bf16_f32) (broadcastInDim S8192x3072 ![0, 1] bcast_S1x3072_S8192x3072_0_1 bg)))))) shapeCasts_S8192x3072_S8192x3x1024) slices_S8192x3x1024_S8192x1x1024_0_2_0) shapeCasts_S8192x1x1024_S8192x1024) (Host.dotGeneral dot_S8192x512_S512x1024_S8192x1024_1_0_0_1_n_n none (extf .f32 m0 bitsLt_bf16_f32) (extf .f32 w3 bitsLt_bf16_f32)))) (extf .f32 wo bitsLt_bf16_f32))

/-- The reference's term of its arguments. -/
def REFC (c0 : FVec Ideal S8192x512 .bf16) (a0 : FVec Ideal S8192x512 .bf16) (m0 : FVec Ideal S8192x512 .bf16) (pj : FVec Ideal S8192x6144 .bf16) (bg : FVec Ideal S1x3072 .f32) (x : FVec Ideal S8192x1024 .f32) (w1 : FVec Ideal S512x1024 .bf16) (w2 : FVec Ideal S512x1024 .bf16) (w3 : FVec Ideal S512x1024 .bf16) (wo : FVec Ideal S1024x1024 .bf16) (ns : FVec Ideal S1x1024 .f32) : FVec Ideal S8192x1024 .bf16 :=
  truncf .bf16 (Host.dotGeneral dot_S8192x512_S512x1024_S8192x1024_1_0_0_1_n_n none (extf .f32 c0 bitsLt_bf16_f32) (extf .f32 w1 bitsLt_bf16_f32)) bitsLt_bf16_f32

/-- The reference's term of its arguments. -/
def REFA (c0 : FVec Ideal S8192x512 .bf16) (a0 : FVec Ideal S8192x512 .bf16) (m0 : FVec Ideal S8192x512 .bf16) (pj : FVec Ideal S8192x6144 .bf16) (bg : FVec Ideal S1x3072 .f32) (x : FVec Ideal S8192x1024 .f32) (w1 : FVec Ideal S512x1024 .bf16) (w2 : FVec Ideal S512x1024 .bf16) (w3 : FVec Ideal S512x1024 .bf16) (wo : FVec Ideal S1024x1024 .bf16) (ns : FVec Ideal S1x1024 .f32) : FVec Ideal S8192x1024 .bf16 :=
  truncf .bf16 (Host.dotGeneral dot_S8192x512_S512x1024_S8192x1024_1_0_0_1_n_n none (extf .f32 a0 bitsLt_bf16_f32) (extf .f32 w2 bitsLt_bf16_f32)) bitsLt_bf16_f32

/-- The reference's term of its arguments. -/
def REFM (c0 : FVec Ideal S8192x512 .bf16) (a0 : FVec Ideal S8192x512 .bf16) (m0 : FVec Ideal S8192x512 .bf16) (pj : FVec Ideal S8192x6144 .bf16) (bg : FVec Ideal S1x3072 .f32) (x : FVec Ideal S8192x1024 .f32) (w1 : FVec Ideal S512x1024 .bf16) (w2 : FVec Ideal S512x1024 .bf16) (w3 : FVec Ideal S512x1024 .bf16) (wo : FVec Ideal S1024x1024 .bf16) (ns : FVec Ideal S1x1024 .f32) : FVec Ideal S8192x1024 .bf16 :=
  truncf .bf16 (Host.dotGeneral dot_S8192x512_S512x1024_S8192x1024_1_0_0_1_n_n none (extf .f32 m0 bitsLt_bf16_f32) (extf .f32 w3 bitsLt_bf16_f32)) bitsLt_bf16_f32

/-- The reference's term of its arguments. -/
def REFN (c0 : FVec Ideal S8192x512 .bf16) (a0 : FVec Ideal S8192x512 .bf16) (m0 : FVec Ideal S8192x512 .bf16) (pj : FVec Ideal S8192x6144 .bf16) (bg : FVec Ideal S1x3072 .f32) (x : FVec Ideal S8192x1024 .f32) (w1 : FVec Ideal S512x1024 .bf16) (w2 : FVec Ideal S512x1024 .bf16) (w3 : FVec Ideal S512x1024 .bf16) (wo : FVec Ideal S1024x1024 .bf16) (ns : FVec Ideal S1x1024 .f32) : FVec Ideal S8192x1024 .bf16 :=
  truncf .bf16 (mulf (mulf (REFX c0 a0 m0 pj bg x w1 w2 w3 wo ns) (broadcastInDim S8192x1024 ![0, 1] bcast_S8192x1_S8192x1024_0_1 (Host.rsqrt (addf (Host.divf (broadcastInDim S8192x1 ![0] bcast_S8192_S8192x1_0 (Host.reduceAdd (mulf (REFX c0 a0 m0 pj bg x w1 w2 w3 wo ns) (REFX c0 a0 m0 pj bg x w1 w2 w3 wo ns)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 ns)) bitsLt_bf16_f32

end Cert.MixFwdRefIdeal.Whole

namespace Cert.MixFwdIdeal.Whole

open Idealize.ShloMosaic Idealize.ShloMosaic.TcCoe Idealize.SL.Sem
open Idealize.ShloMosaic.Pipeline (Dat)
open Cert.MixFwdIdeal Cert.MixFwdIdeal.Gen
open Cert.MixFwdRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 1] ∧ win0_4.index t = ![0, 0] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ t.val < 32 :=
  (by decide +kernel : ∀ t : Fin grid0.N, _)

theorem final12 (c : Dev nD) : (dats m 0 c).arrAt 12 (cfgs 0).N = REFC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12]
  frame_out
  pointwise [k0_pay1, k0_pay2, k0_pay3, k0_pay4, k0_pay5, k0_pay6, k0_pay7, k0_pay8, k0_pay9, k0_pay10, k0_pay11, REFX, REFC]
  blk_point [iblk, V, idx t]

theorem final13 (c : Dev nD) : (dats m 0 c).arrAt 13 (cfgs 0).N = REFA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13]
  frame_out
  pointwise [k0_pay1, k0_pay2, k0_pay3, k0_pay4, k0_pay5, k0_pay6, k0_pay7, k0_pay8, k0_pay9, k0_pay10, k0_pay11, REFX, REFA]
  blk_point [iblk, V, idx t]

theorem final14 (c : Dev nD) : (dats m 0 c).arrAt 14 (cfgs 0).N = REFM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  blk_simp
  rw [after0_14]
  frame_out
  pointwise [k0_pay1, k0_pay2, k0_pay3, k0_pay4, k0_pay5, k0_pay6, k0_pay7, k0_pay8, k0_pay9, k0_pay10, k0_pay11, REFX, REFM]
  blk_point [iblk, V, idx t]

set_option maxHeartbeats 1600000 in
theorem final11 (c : Dev nD) : (dats m 0 c).arrAt 11 (cfgs 0).N = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  frame_out
  pointwise [k0_pay1, k0_pay2, k0_pay3, k0_pay4, k0_pay5, k0_pay6, k0_pay7, k0_pay8, k0_pay9, k0_pay10, k0_pay11, REFX]
  simp only [Cert.Arith.sigma_tanh]
  blk_point [iblk, V, idx t]

set_option maxHeartbeats 1600000 in
theorem final15 (c : Dev nD) : (dats m 0 c).arrAt 15 (cfgs 0).N = REFN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 15 _ (by decide +kernel) fun t hf y => ?_
  blk_simp
  rw [after0_15]
  frame_out
  pointwise [k0_pay1, k0_pay2, k0_pay3, k0_pay4, k0_pay5, k0_pay6, k0_pay7, k0_pay8, k0_pay9, k0_pay10, k0_pay11, REFX, REFN]
  simp only [Cert.Arith.sigma_tanh]
  blk_point [iblk, V, idx t]

end Cert.MixFwdIdeal.Whole

end
-- ==== Proof.AdamUpVal.lean ====
/- The optimiser's step on arrays of 1024 rows and 1408 columns: what the kernel's result arrays end holding is the reference's terms. -/
module

public import proofs.«01_k».proof.Proof.Gen.AdamUpIdeal.Value
public import proofs.«01_k».proof.Proof.Gen.AdamUpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamUpRefIdeal.Whole

open Idealize.ShloMosaic Idealize.ShloMosaic.TcCoe Idealize.SL.Sem
open Cert.AdamUpRefIdeal Cert.AdamUpRefIdeal.Gen

/-- The change of the weights. -/
def REFD (W G M V : FVec Ideal S1024x1408 .f32) : FVec Ideal S1024x1408 .f32 :=
  mulf (broadcastInDim S1024x1408 ![] bcast_S_S1024x1408 (constant S_ .f32 0xBA83126F#32)) (addf (Host.divf (Host.divf (addf (mulf (broadcastInDim S1024x1408 ![] bcast_S_S1024x1408 (constant S_ .f32 0x3F666666#32)) M) (mulf (broadcastInDim S1024x1408 ![] bcast_S_S1024x1408 (constant S_ .f32 0x3DCCCCCD#32)) G)) (broadcastInDim S1024x1408 ![] bcast_S_S1024x1408 (constant S_ .f32 0x3F26BD02#32))) (addf (Host.sqrt (Host.divf (addf (mulf (broadcastInDim S1024x1408 ![] bcast_S_S1024x1408 (constant S_ .f32 0x3F7FBE77#32)) V) (mulf (broadcastInDim S1024x1408 ![] bcast_S_S1024x1408 (constant S_ .f32 0x3A83126F#32)) (mulf G G))) (broadcastInDim S1024x1408 ![] bcast_S_S1024x1408 (constant S_ .f32 0x3C231ACC#32)))) (broadcastInDim S1024x1408 ![] bcast_S_S1024x1408 (constant S_ .f32 0x322BCC77#32)))) (mulf (broadcastInDim S1024x1408 ![] bcast_S_S1024x1408 (constant S_ .f32 0x3C23D70A#32)) W))

/-- The new first moment. -/
def REFM (W G M V : FVec Ideal S1024x1408 .f32) : FVec Ideal S1024x1408 .f32 :=
  addf (mulf (broadcastInDim S1024x1408 ![] bcast_S_S1024x1408 (constant S_ .f32 0x3F666666#32)) M) (mulf (broadcastInDim S1024x1408 ![] bcast_S_S1024x1408 (constant S_ .f32 0x3DCCCCCD#32)) G)

/-- The new second moment. -/
def REFV (W G M V : FVec Ideal S1024x1408 .f32) : FVec Ideal S1024x1408 .f32 :=
  addf (mulf (broadcastInDim S1024x1408 ![] bcast_S_S1024x1408 (constant S_ .f32 0x3F7FBE77#32)) V) (mulf (broadcastInDim S1024x1408 ![] bcast_S_S1024x1408 (constant S_ .f32 0x3A83126F#32)) (mulf G G))

end Cert.AdamUpRefIdeal.Whole

namespace Cert.AdamUpIdeal.Whole

open Idealize.ShloMosaic Idealize.ShloMosaic.TcCoe Idealize.SL.Sem
open Idealize.ShloMosaic.Pipeline (Dat)
open Cert.AdamUpIdeal Cert.AdamUpIdeal.Gen
open Cert.AdamUpRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 4 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamUpIdeal.Whole

end
-- ==== Proof.AdamDownVal.lean ====
/- The optimiser's step on arrays of 704 rows and 1024 columns: what the kernel's result arrays end holding is the reference's terms. -/
module

public import proofs.«01_k».proof.Proof.Gen.AdamDownIdeal.Value
public import proofs.«01_k».proof.Proof.Gen.AdamDownRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamDownRefIdeal.Whole

open Idealize.ShloMosaic Idealize.ShloMosaic.TcCoe Idealize.SL.Sem
open Cert.AdamDownRefIdeal Cert.AdamDownRefIdeal.Gen

/-- The change of the weights. -/
def REFD (W G M V : FVec Ideal S704x1024 .f32) : FVec Ideal S704x1024 .f32 :=
  mulf (broadcastInDim S704x1024 ![] bcast_S_S704x1024 (constant S_ .f32 0xBA83126F#32)) (addf (Host.divf (Host.divf (addf (mulf (broadcastInDim S704x1024 ![] bcast_S_S704x1024 (constant S_ .f32 0x3F666666#32)) M) (mulf (broadcastInDim S704x1024 ![] bcast_S_S704x1024 (constant S_ .f32 0x3DCCCCCD#32)) G)) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) V) (mulf (broadcastInDim S704x1024 ![] bcast_S_S704x1024 (constant S_ .f32 0x3A83126F#32)) (mulf G G))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) W))

/-- The new first moment. -/
def REFM (W G M V : FVec Ideal S704x1024 .f32) : FVec Ideal S704x1024 .f32 :=
  addf (mulf (broadcastInDim S704x1024 ![] bcast_S_S704x1024 (constant S_ .f32 0x3F666666#32)) M) (mulf (broadcastInDim S704x1024 ![] bcast_S_S704x1024 (constant S_ .f32 0x3DCCCCCD#32)) G)

/-- The new second moment. -/
def REFV (W G M V : FVec Ideal S704x1024 .f32) : FVec Ideal S704x1024 .f32 :=
  addf (mulf (broadcastInDim S704x1024 ![] bcast_S_S704x1024 (constant S_ .f32 0x3F7FBE77#32)) V) (mulf (broadcastInDim S704x1024 ![] bcast_S_S704x1024 (constant S_ .f32 0x3A83126F#32)) (mulf G G))

end Cert.AdamDownRefIdeal.Whole

namespace Cert.AdamDownIdeal.Whole

open Idealize.ShloMosaic Idealize.ShloMosaic.TcCoe Idealize.SL.Sem
open Idealize.ShloMosaic.Pipeline (Dat)
open Cert.AdamDownIdeal Cert.AdamDownIdeal.Gen
open Cert.AdamDownRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 4 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamDownIdeal.Whole

end
-- ==== Proof.AdamInVal.lean ====
/- The optimiser's step on arrays of 1024 rows and 1536 columns: what the kernel's result arrays end holding is the reference's terms. -/
module

public import proofs.«01_k».proof.Proof.Gen.AdamInIdeal.Value
public import proofs.«01_k».proof.Proof.Gen.AdamInRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamInRefIdeal.Whole

open Idealize.ShloMosaic Idealize.ShloMosaic.TcCoe Idealize.SL.Sem
open Cert.AdamInRefIdeal Cert.AdamInRefIdeal.Gen

/-- The change of the weights. -/
def REFD (W G M V : FVec Ideal S1024x1536 .f32) : FVec Ideal S1024x1536 .f32 :=
  mulf (broadcastInDim S1024x1536 ![] bcast_S_S1024x1536 (constant S_ .f32 0xBA83126F#32)) (addf (Host.divf (Host.divf (addf (mulf (broadcastInDim S1024x1536 ![] bcast_S_S1024x1536 (constant S_ .f32 0x3F666666#32)) M) (mulf (broadcastInDim S1024x1536 ![] bcast_S_S1024x1536 (constant S_ .f32 0x3DCCCCCD#32)) G)) (broadcastInDim S1024x1536 ![] bcast_S_S1024x1536 (constant S_ .f32 0x3F26BD02#32))) (addf (Host.sqrt (Host.divf (addf (mulf (broadcastInDim S1024x1536 ![] bcast_S_S1024x1536 (constant S_ .f32 0x3F7FBE77#32)) V) (mulf (broadcastInDim S1024x1536 ![] bcast_S_S1024x1536 (constant S_ .f32 0x3A83126F#32)) (mulf G G))) (broadcastInDim S1024x1536 ![] bcast_S_S1024x1536 (constant S_ .f32 0x3C231ACC#32)))) (broadcastInDim S1024x1536 ![] bcast_S_S1024x1536 (constant S_ .f32 0x322BCC77#32)))) (mulf (broadcastInDim S1024x1536 ![] bcast_S_S1024x1536 (constant S_ .f32 0x3C23D70A#32)) W))

/-- The new first moment. -/
def REFM (W G M V : FVec Ideal S1024x1536 .f32) : FVec Ideal S1024x1536 .f32 :=
  addf (mulf (broadcastInDim S1024x1536 ![] bcast_S_S1024x1536 (constant S_ .f32 0x3F666666#32)) M) (mulf (broadcastInDim S1024x1536 ![] bcast_S_S1024x1536 (constant S_ .f32 0x3DCCCCCD#32)) G)

/-- The new second moment. -/
def REFV (W G M V : FVec Ideal S1024x1536 .f32) : FVec Ideal S1024x1536 .f32 :=
  addf (mulf (broadcastInDim S1024x1536 ![] bcast_S_S1024x1536 (constant S_ .f32 0x3F7FBE77#32)) V) (mulf (broadcastInDim S1024x1536 ![] bcast_S_S1024x1536 (constant S_ .f32 0x3A83126F#32)) (mulf G G))

end Cert.AdamInRefIdeal.Whole

namespace Cert.AdamInIdeal.Whole

open Idealize.ShloMosaic Idealize.ShloMosaic.TcCoe Idealize.SL.Sem
open Idealize.ShloMosaic.Pipeline (Dat)
open Cert.AdamInIdeal Cert.AdamInIdeal.Gen
open Cert.AdamInRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 4 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamInIdeal.Whole

end
-- ==== Proof.AdamSqVal.lean ====
/- The optimiser's step on arrays of 512 rows and 256 columns: what the kernel's result arrays end holding is the reference's terms. -/
module

public import proofs.«01_k».proof.Proof.Gen.AdamSqIdeal.Value
public import proofs.«01_k».proof.Proof.Gen.AdamSqRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamSqRefIdeal.Whole

open Idealize.ShloMosaic Idealize.ShloMosaic.TcCoe Idealize.SL.Sem
open Cert.AdamSqRefIdeal Cert.AdamSqRefIdeal.Gen

/-- The change of the weights. -/
def REFD (W G M V : FVec Ideal S512x256 .f32) : FVec Ideal S512x256 .f32 :=
  mulf (broadcastInDim S512x256 ![] bcast_S_S512x256 (constant S_ .f32 0xBA83126F#32)) (addf (Host.divf (Host.divf (addf (mulf (broadcastInDim S512x256 ![] bcast_S_S512x256 (constant S_ .f32 0x3F666666#32)) M) (mulf (broadcastInDim S512x256 ![] bcast_S_S512x256 (constant S_ .f32 0x3DCCCCCD#32)) G)) (broadcastInDim S512x256 ![] bcast_S_S512x256 (constant S_ .f32 0x3F26BD02#32))) (addf (Host.sqrt (Host.divf (addf (mulf (broadcastInDim S512x256 ![] bcast_S_S512x256 (constant S_ .f32 0x3F7FBE77#32)) V) (mulf (broadcastInDim S512x256 ![] bcast_S_S512x256 (constant S_ .f32 0x3A83126F#32)) (mulf G G))) (broadcastInDim S512x256 ![] bcast_S_S512x256 (constant S_ .f32 0x3C231ACC#32)))) (broadcastInDim S512x256 ![] bcast_S_S512x256 (constant S_ .f32 0x322BCC77#32)))) (mulf (broadcastInDim S512x256 ![] bcast_S_S512x256 (constant S_ .f32 0x3C23D70A#32)) W))

/-- The new first moment. -/
def REFM (W G M V : FVec Ideal S512x256 .f32) : FVec Ideal S512x256 .f32 :=
  addf (mulf (broadcastInDim S512x256 ![] bcast_S_S512x256 (constant S_ .f32 0x3F666666#32)) M) (mulf (broadcastInDim S512x256 ![] bcast_S_S512x256 (constant S_ .f32 0x3DCCCCCD#32)) G)

/-- The new second moment. -/
def REFV (W G M V : FVec Ideal S512x256 .f32) : FVec Ideal S512x256 .f32 :=
  addf (mulf (broadcastInDim S512x256 ![] bcast_S_S512x256 (constant S_ .f32 0x3F7FBE77#32)) V) (mulf (broadcastInDim S512x256 ![] bcast_S_S512x256 (constant S_ .f32 0x3A83126F#32)) (mulf G G))

end Cert.AdamSqRefIdeal.Whole

namespace Cert.AdamSqIdeal.Whole

open Idealize.ShloMosaic Idealize.ShloMosaic.TcCoe Idealize.SL.Sem
open Idealize.ShloMosaic.Pipeline (Dat)
open Cert.AdamSqIdeal Cert.AdamSqIdeal.Gen
open Cert.AdamSqRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 2 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamSqIdeal.Whole

end
-- ==== Proof.AdamKvVal.lean ====
/- The optimiser's step on arrays of 256 rows and 1024 columns: what the kernel's result arrays end holding is the reference's terms. -/
module

public import proofs.«01_k».proof.Proof.Gen.AdamKvIdeal.Value
public import proofs.«01_k».proof.Proof.Gen.AdamKvRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamKvRefIdeal.Whole

open Idealize.ShloMosaic Idealize.ShloMosaic.TcCoe Idealize.SL.Sem
open Cert.AdamKvRefIdeal Cert.AdamKvRefIdeal.Gen

/-- The change of the weights. -/
def REFD (W G M V : FVec Ideal S256x1024 .f32) : FVec Ideal S256x1024 .f32 :=
  mulf (broadcastInDim S256x1024 ![] bcast_S_S256x1024 (constant S_ .f32 0xBA83126F#32)) (addf (Host.divf (Host.divf (addf (mulf (broadcastInDim S256x1024 ![] bcast_S_S256x1024 (constant S_ .f32 0x3F666666#32)) M) (mulf (broadcastInDim S256x1024 ![] bcast_S_S256x1024 (constant S_ .f32 0x3DCCCCCD#32)) G)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) V) (mulf (broadcastInDim S256x1024 ![] bcast_S_S256x1024 (constant S_ .f32 0x3A83126F#32)) (mulf G G))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W))

/-- The new first moment. -/
def REFM (W G M V : FVec Ideal S256x1024 .f32) : FVec Ideal S256x1024 .f32 :=
  addf (mulf (broadcastInDim S256x1024 ![] bcast_S_S256x1024 (constant S_ .f32 0x3F666666#32)) M) (mulf (broadcastInDim S256x1024 ![] bcast_S_S256x1024 (constant S_ .f32 0x3DCCCCCD#32)) G)

/-- The new second moment. -/
def REFV (W G M V : FVec Ideal S256x1024 .f32) : FVec Ideal S256x1024 .f32 :=
  addf (mulf (broadcastInDim S256x1024 ![] bcast_S_S256x1024 (constant S_ .f32 0x3F7FBE77#32)) V) (mulf (broadcastInDim S256x1024 ![] bcast_S_S256x1024 (constant S_ .f32 0x3A83126F#32)) (mulf G G))

end Cert.AdamKvRefIdeal.Whole

namespace Cert.AdamKvIdeal.Whole

open Idealize.ShloMosaic Idealize.ShloMosaic.TcCoe Idealize.SL.Sem
open Idealize.ShloMosaic.Pipeline (Dat)
open Cert.AdamKvIdeal Cert.AdamKvIdeal.Gen
open Cert.AdamKvRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 1 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamKvIdeal.Whole

end
-- ==== Proof.AdamSmallVal.lean ====
/- The optimiser's step on arrays of 120 rows and 128 columns: what the kernel's result arrays end holding is the reference's terms. -/
module

public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.AdamSmallRefIdeal.Whole

open Idealize.ShloMosaic Idealize.ShloMosaic.TcCoe Idealize.SL.Sem
open Cert.AdamSmallRefIdeal Cert.AdamSmallRefIdeal.Gen

/-- The change of the weights. -/
def REFD (W G M V : FVec Ideal S120x128 .f32) : FVec Ideal S120x128 .f32 :=
  mulf (broadcastInDim S120x128 ![] bcast_S_S120x128 (constant S_ .f32 0xBA83126F#32)) (addf (Host.divf (Host.divf (addf (mulf (broadcastInDim S120x128 ![] bcast_S_S120x128 (constant S_ .f32 0x3F666666#32)) M) (mulf (broadcastInDim S120x128 ![] bcast_S_S120x128 (constant S_ .f32 0x3DCCCCCD#32)) G)) (broadcastInDim S120x128 ![] bcast_S_S120x128 (constant S_ .f32 0x3F26BD02#32))) (addf (Host.sqrt (Host.divf (addf (mulf (broadcastInDim S120x128 ![] bcast_S_S120x128 (constant S_ .f32 0x3F7FBE77#32)) V) (mulf (broadcastInDim S120x128 ![] bcast_S_S120x128 (constant S_ .f32 0x3A83126F#32)) (mulf G G))) (broadcastInDim S120x128 ![] bcast_S_S120x128 (constant S_ .f32 0x3C231ACC#32)))) (broadcastInDim S120x128 ![] bcast_S_S120x128 (constant S_ .f32 0x322BCC77#32)))) (mulf (broadcastInDim S120x128 ![] bcast_S_S120x128 (constant S_ .f32 0x3C23D70A#32)) W))

/-- The new first moment. -/
def REFM (W G M V : FVec Ideal S120x128 .f32) : FVec Ideal S120x128 .f32 :=
  addf (mulf (broadcastInDim S120x128 ![] bcast_S_S120x128 (constant S_ .f32 0x3F666666#32)) M) (mulf (broadcastInDim S120x128 ![] bcast_S_S120x128 (constant S_ .f32 0x3DCCCCCD#32)) G)

/-- The new second moment. -/
def REFV (W G M V : FVec Ideal S120x128 .f32) : FVec Ideal S120x128 .f32 :=
  addf (mulf (broadcastInDim S120x128 ![] bcast_S_S120x128 (constant S_ .f32 0x3F7FBE77#32)) V) (mulf (broadcastInDim S120x128 ![] bcast_S_S120x128 (constant S_ .f32 0x3A83126F#32)) (mulf G G))

end Cert.AdamSmallRefIdeal.Whole

namespace Cert.AdamSmallIdeal.Whole

open Idealize.ShloMosaic Idealize.ShloMosaic.TcCoe Idealize.SL.Sem
open Idealize.ShloMosaic.Pipeline (Dat)
open Cert.AdamSmallIdeal Cert.AdamSmallIdeal.Gen
open Cert.AdamSmallRefIdeal.Whole

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ t.val < 3 :=
  (by decide +kernel : ∀ t : Fin grid0.N, _)

theorem final4 (c : Dev nD) : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, REFD]
  blk_point [iblk, V, idx t]

theorem final5 (c : Dev nD) : (dats m 0 c).arrAt 5 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, REFM]
  blk_point [iblk, V, idx t]

theorem final6 (c : Dev nD) : (dats m 0 c).arrAt 6 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, REFV]
  blk_point [iblk, V, idx t]

end Cert.AdamSmallIdeal.Whole

end
-- ==== Proof.HalvesRun.lean ====
/-
The exchange of the halves between the two devices of the data axis. Every device holds its half of each of the 10 arrays;
the kernel copies it into the device's own half of a whole buffer and, at the same time, into the same half of the peer's
buffer, and waits for the peer's half. Three semaphores an array: one counts the device's own copy out, one the peer's copy
in, one the local copy. A device may start its remote copies before the peer has started its kernel, so the whole buffers
of both devices and all the semaphores are dealt at the launch: each device begins with its half of both devices' buffers.
-/
module

public import proofs.«01_k».proof.Proof.Gen.HalvesIdeal
public import proofs.«01_k».proof.Proof.Gen.HalvesIdeal.Skeleton
public import proofs.«01_k».proof.Proof.Gen.HalvesIdeal.Launch
public import proofs.«01_k».proof.Proof.Gen.HalvesIdeal.Points
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.HalvesProof

open Cert.HalvesIdeal Cert.HalvesIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

abbrev UU : Type := UR sig nD τ × UR sig nD τ

local notation "𝕄" => MT nD τ sig Unit (Elt F) ℕ UU ℕ

/-- The pipeline's own records, and those of the exchange's semaphores. -/
abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-! ## Devices, buffers and semaphores -/

/-- The other device of the axis. -/
def peer (c : Dev nD) : Dev nD := ⟨1 - c.val, by show _ < 2; omega⟩

theorem peer_twice (c : Dev nD) : peer (peer c) = c :=
  Fin.ext (by have h : c.val < 2 := c.isLt; show 1 - (1 - c.val) = c.val; omega)

abbrev Arr : Type := Fin 10
/-- A semaphore: the array, and 0 for the copy out, 1 for the copy in, 2 for the local copy. -/
abbrev Sem3 : Type := Arr × Fin 3

abbrev inRef : Arr → Ref sig .tc := fun
  | 0 => main_arg0
  | 1 => main_arg1
  | 2 => main_arg2
  | 3 => main_arg3
  | 4 => main_arg4
  | 5 => main_arg5
  | 6 => main_arg6
  | 7 => main_arg7
  | 8 => main_arg8
  | 9 => main_arg9
abbrev outRef : Arr → Ref sig .tc := fun
  | 0 => main_v1_0
  | 1 => main_v1_1
  | 2 => main_v1_2
  | 3 => main_v1_3
  | 4 => main_v1_4
  | 5 => main_v1_5
  | 6 => main_v1_6
  | 7 => main_v1_7
  | 8 => main_v1_8
  | 9 => main_v1_9

abbrev inM0 : Memref sig .tc .hbm S512x1408 .f32 := Memref.whole main_arg0
abbrev half0 (h : Dev nD) : Memref sig .tc .hbm S512x1408 .f32 :=
  (Memref.whole main_v1_0 : Memref sig .tc .hbm S1024x1408 .f32).slice (Rect.unit (s := S1024x1408) (k0_off1 h) S512x1408.size (k0_off1_inb h)) (fun _ => rfl)
abbrev inM1 : Memref sig .tc .hbm S352x1024 .f32 := Memref.whole main_arg1
abbrev half1 (h : Dev nD) : Memref sig .tc .hbm S352x1024 .f32 :=
  (Memref.whole main_v1_1 : Memref sig .tc .hbm S704x1024 .f32).slice (Rect.unit (s := S704x1024) (k0_off2 h) S352x1024.size (k0_off2_inb h)) (fun _ => rfl)
abbrev inM2 : Memref sig .tc .hbm S512x1536 .f32 := Memref.whole main_arg2
abbrev half2 (h : Dev nD) : Memref sig .tc .hbm S512x1536 .f32 :=
  (Memref.whole main_v1_2 : Memref sig .tc .hbm S1024x1536 .f32).slice (Rect.unit (s := S1024x1536) (k0_off3 h) S512x1536.size (k0_off3_inb h)) (fun _ => rfl)
abbrev inM3 : Memref sig .tc .hbm S256x256 .f32 := Memref.whole main_arg3
abbrev half3 (h : Dev nD) : Memref sig .tc .hbm S256x256 .f32 :=
  (Memref.whole main_v1_3 : Memref sig .tc .hbm S512x256 .f32).slice (Rect.unit (s := S512x256) (k0_off4 h) S256x256.size (k0_off4_inb h)) (fun _ => rfl)
abbrev inM4 : Memref sig .tc .hbm S256x256 .f32 := Memref.whole main_arg4
abbrev half4 (h : Dev nD) : Memref sig .tc .hbm S256x256 .f32 :=
  (Memref.whole main_v1_4 : Memref sig .tc .hbm S512x256 .f32).slice (Rect.unit (s := S512x256) (k0_off4 h) S256x256.size (k0_off4_inb h)) (fun _ => rfl)
abbrev inM5 : Memref sig .tc .hbm S128x1024 .f32 := Memref.whole main_arg5
abbrev half5 (h : Dev nD) : Memref sig .tc .hbm S128x1024 .f32 :=
  (Memref.whole main_v1_5 : Memref sig .tc .hbm S256x1024 .f32).slice (Rect.unit (s := S256x1024) (k0_off5 h) S128x1024.size (k0_off5_inb h)) (fun _ => rfl)
abbrev inM6 : Memref sig .tc .hbm S256x256 .f32 := Memref.whole main_arg6
abbrev half6 (h : Dev nD) : Memref sig .tc .hbm S256x256 .f32 :=
  (Memref.whole main_v1_6 : Memref sig .tc .hbm S512x256 .f32).slice (Rect.unit (s := S512x256) (k0_off4 h) S256x256.size (k0_off4_inb h)) (fun _ => rfl)
abbrev inM7 : Memref sig .tc .hbm S128x1024 .f32 := Memref.whole main_arg7
abbrev half7 (h : Dev nD) : Memref sig .tc .hbm S128x1024 .f32 :=
  (Memref.whole main_v1_7 : Memref sig .tc .hbm S256x1024 .f32).slice (Rect.unit (s := S256x1024) (k0_off5 h) S128x1024.size (k0_off5_inb h)) (fun _ => rfl)
abbrev inM8 : Memref sig .tc .hbm S512x1408 .f32 := Memref.whole main_arg8
abbrev half8 (h : Dev nD) : Memref sig .tc .hbm S512x1408 .f32 :=
  (Memref.whole main_v1_8 : Memref sig .tc .hbm S1024x1408 .f32).slice (Rect.unit (s := S1024x1408) (k0_off1 h) S512x1408.size (k0_off1_inb h)) (fun _ => rfl)
abbrev inM9 : Memref sig .tc .hbm S352x1024 .f32 := Memref.whole main_arg9
abbrev half9 (h : Dev nD) : Memref sig .tc .hbm S352x1024 .f32 :=
  (Memref.whole main_v1_9 : Memref sig .tc .hbm S704x1024 .f32).slice (Rect.unit (s := S704x1024) (k0_off2 h) S352x1024.size (k0_off2_inb h)) (fun _ => rfl)

/-- The rows of array `w` that are device `h`'s half. -/
def rows (w : Arr) (h : Dev nD) : Finset (outRef w).ty.shape.Idx := match w with
  | 0 => (half0 h).view.set
  | 1 => (half1 h).view.set
  | 2 => (half2 h).view.set
  | 3 => (half3 h).view.set
  | 4 => (half4 h).view.set
  | 5 => (half5 h).view.set
  | 6 => (half6 h).view.set
  | 7 => (half7 h).view.set
  | 8 => (half8 h).view.set
  | 9 => (half9 h).view.set

/-- What one half of array `w` counts on its semaphore. -/
def amt (w : Arr) : ℕ := match w with
  | 0 => (half0 0).view.dmaCredit
  | 1 => (half1 0).view.dmaCredit
  | 2 => (half2 0).view.dmaCredit
  | 3 => (half3 0).view.dmaCredit
  | 4 => (half4 0).view.dmaCredit
  | 5 => (half5 0).view.dmaCredit
  | 6 => (half6 0).view.dmaCredit
  | 7 => (half7 0).view.dmaCredit
  | 8 => (half8 0).view.dmaCredit
  | 9 => (half9 0).view.dmaCredit

theorem amt_pos (w : Arr) : 0 < amt w := by
  match w with
  | 0 => exact View.dmaCredit_pos _ (by decide)
  | 1 => exact View.dmaCredit_pos _ (by decide)
  | 2 => exact View.dmaCredit_pos _ (by decide)
  | 3 => exact View.dmaCredit_pos _ (by decide)
  | 4 => exact View.dmaCredit_pos _ (by decide)
  | 5 => exact View.dmaCredit_pos _ (by decide)
  | 6 => exact View.dmaCredit_pos _ (by decide)
  | 7 => exact View.dmaCredit_pos _ (by decide)
  | 8 => exact View.dmaCredit_pos _ (by decide)
  | 9 => exact View.dmaCredit_pos _ (by decide)

theorem mem_rows0 (h : Dev nD) (i : (main_v1_0 : Ref sig .tc).ty.shape.Idx) :
    i ∈ (half0 h).view.set ↔ 512 * h.val ≤ (i (0 : Fin 2)).val ∧ (i (0 : Fin 2)).val < 512 * h.val + 512 := by
  refine ValueKit.mem_set_slice_whole_iff main_v1_0 _ i ?_
  rw [Rect.mem_set_unit, k0_off1_eq]
  have h1 : (i (1 : Fin 2)).val < 1408 := (i (1 : Fin 2)).isLt
  refine (Fin.forall_fin_two (p := fun a : Fin 2 => (![512 * h.val, 0] : Fin 2 → ℕ) a ≤ (i a).val ∧ (i a).val < (![512 * h.val, 0] : Fin 2 → ℕ) a + S512x1408.size a)).trans ?_
  exact ⟨fun hh => hh.1, fun hh => ⟨hh, Nat.zero_le _, by show (i (1 : Fin 2)).val < 0 + 1408; omega⟩⟩
theorem other_rows0 (h : Dev nD) : Finset.univ \ (half0 h).view.set = (half0 (peer h)).view.set := by
  ext i
  have h0 : (i (0 : Fin 2)).val < 1024 := (i (0 : Fin 2)).isLt
  have h2 : h.val < 2 := h.isLt
  rw [Finset.mem_sdiff, mem_rows0, mem_rows0, show (peer h).val = 1 - h.val from rfl]
  refine ⟨fun hh => ?_, fun hh => ⟨Finset.mem_univ _, ?_⟩⟩
  · have := hh.2; omega
  · omega
theorem mem_rows1 (h : Dev nD) (i : (main_v1_1 : Ref sig .tc).ty.shape.Idx) :
    i ∈ (half1 h).view.set ↔ 352 * h.val ≤ (i (0 : Fin 2)).val ∧ (i (0 : Fin 2)).val < 352 * h.val + 352 := by
  refine ValueKit.mem_set_slice_whole_iff main_v1_1 _ i ?_
  rw [Rect.mem_set_unit, k0_off2_eq]
  have h1 : (i (1 : Fin 2)).val < 1024 := (i (1 : Fin 2)).isLt
  refine (Fin.forall_fin_two (p := fun a : Fin 2 => (![352 * h.val, 0] : Fin 2 → ℕ) a ≤ (i a).val ∧ (i a).val < (![352 * h.val, 0] : Fin 2 → ℕ) a + S352x1024.size a)).trans ?_
  exact ⟨fun hh => hh.1, fun hh => ⟨hh, Nat.zero_le _, by show (i (1 : Fin 2)).val < 0 + 1024; omega⟩⟩
theorem other_rows1 (h : Dev nD) : Finset.univ \ (half1 h).view.set = (half1 (peer h)).view.set := by
  ext i
  have h0 : (i (0 : Fin 2)).val < 704 := (i (0 : Fin 2)).isLt
  have h2 : h.val < 2 := h.isLt
  rw [Finset.mem_sdiff, mem_rows1, mem_rows1, show (peer h).val = 1 - h.val from rfl]
  refine ⟨fun hh => ?_, fun hh => ⟨Finset.mem_univ _, ?_⟩⟩
  · have := hh.2; omega
  · omega
theorem mem_rows2 (h : Dev nD) (i : (main_v1_2 : Ref sig .tc).ty.shape.Idx) :
    i ∈ (half2 h).view.set ↔ 512 * h.val ≤ (i (0 : Fin 2)).val ∧ (i (0 : Fin 2)).val < 512 * h.val + 512 := by
  refine ValueKit.mem_set_slice_whole_iff main_v1_2 _ i ?_
  rw [Rect.mem_set_unit, k0_off3_eq]
  have h1 : (i (1 : Fin 2)).val < 1536 := (i (1 : Fin 2)).isLt
  refine (Fin.forall_fin_two (p := fun a : Fin 2 => (![512 * h.val, 0] : Fin 2 → ℕ) a ≤ (i a).val ∧ (i a).val < (![512 * h.val, 0] : Fin 2 → ℕ) a + S512x1536.size a)).trans ?_
  exact ⟨fun hh => hh.1, fun hh => ⟨hh, Nat.zero_le _, by show (i (1 : Fin 2)).val < 0 + 1536; omega⟩⟩
theorem other_rows2 (h : Dev nD) : Finset.univ \ (half2 h).view.set = (half2 (peer h)).view.set := by
  ext i
  have h0 : (i (0 : Fin 2)).val < 1024 := (i (0 : Fin 2)).isLt
  have h2 : h.val < 2 := h.isLt
  rw [Finset.mem_sdiff, mem_rows2, mem_rows2, show (peer h).val = 1 - h.val from rfl]
  refine ⟨fun hh => ?_, fun hh => ⟨Finset.mem_univ _, ?_⟩⟩
  · have := hh.2; omega
  · omega
theorem mem_rows3 (h : Dev nD) (i : (main_v1_3 : Ref sig .tc).ty.shape.Idx) :
    i ∈ (half3 h).view.set ↔ 256 * h.val ≤ (i (0 : Fin 2)).val ∧ (i (0 : Fin 2)).val < 256 * h.val + 256 := by
  refine ValueKit.mem_set_slice_whole_iff main_v1_3 _ i ?_
  rw [Rect.mem_set_unit, k0_off4_eq]
  have h1 : (i (1 : Fin 2)).val < 256 := (i (1 : Fin 2)).isLt
  refine (Fin.forall_fin_two (p := fun a : Fin 2 => (![256 * h.val, 0] : Fin 2 → ℕ) a ≤ (i a).val ∧ (i a).val < (![256 * h.val, 0] : Fin 2 → ℕ) a + S256x256.size a)).trans ?_
  exact ⟨fun hh => hh.1, fun hh => ⟨hh, Nat.zero_le _, by show (i (1 : Fin 2)).val < 0 + 256; omega⟩⟩
theorem other_rows3 (h : Dev nD) : Finset.univ \ (half3 h).view.set = (half3 (peer h)).view.set := by
  ext i
  have h0 : (i (0 : Fin 2)).val < 512 := (i (0 : Fin 2)).isLt
  have h2 : h.val < 2 := h.isLt
  rw [Finset.mem_sdiff, mem_rows3, mem_rows3, show (peer h).val = 1 - h.val from rfl]
  refine ⟨fun hh => ?_, fun hh => ⟨Finset.mem_univ _, ?_⟩⟩
  · have := hh.2; omega
  · omega
theorem mem_rows4 (h : Dev nD) (i : (main_v1_4 : Ref sig .tc).ty.shape.Idx) :
    i ∈ (half4 h).view.set ↔ 256 * h.val ≤ (i (0 : Fin 2)).val ∧ (i (0 : Fin 2)).val < 256 * h.val + 256 := by
  refine ValueKit.mem_set_slice_whole_iff main_v1_4 _ i ?_
  rw [Rect.mem_set_unit, k0_off4_eq]
  have h1 : (i (1 : Fin 2)).val < 256 := (i (1 : Fin 2)).isLt
  refine (Fin.forall_fin_two (p := fun a : Fin 2 => (![256 * h.val, 0] : Fin 2 → ℕ) a ≤ (i a).val ∧ (i a).val < (![256 * h.val, 0] : Fin 2 → ℕ) a + S256x256.size a)).trans ?_
  exact ⟨fun hh => hh.1, fun hh => ⟨hh, Nat.zero_le _, by show (i (1 : Fin 2)).val < 0 + 256; omega⟩⟩
theorem other_rows4 (h : Dev nD) : Finset.univ \ (half4 h).view.set = (half4 (peer h)).view.set := by
  ext i
  have h0 : (i (0 : Fin 2)).val < 512 := (i (0 : Fin 2)).isLt
  have h2 : h.val < 2 := h.isLt
  rw [Finset.mem_sdiff, mem_rows4, mem_rows4, show (peer h).val = 1 - h.val from rfl]
  refine ⟨fun hh => ?_, fun hh => ⟨Finset.mem_univ _, ?_⟩⟩
  · have := hh.2; omega
  · omega
theorem mem_rows5 (h : Dev nD) (i : (main_v1_5 : Ref sig .tc).ty.shape.Idx) :
    i ∈ (half5 h).view.set ↔ 128 * h.val ≤ (i (0 : Fin 2)).val ∧ (i (0 : Fin 2)).val < 128 * h.val + 128 := by
  refine ValueKit.mem_set_slice_whole_iff main_v1_5 _ i ?_
  rw [Rect.mem_set_unit, k0_off5_eq]
  have h1 : (i (1 : Fin 2)).val < 1024 := (i (1 : Fin 2)).isLt
  refine (Fin.forall_fin_two (p := fun a : Fin 2 => (![128 * h.val, 0] : Fin 2 → ℕ) a ≤ (i a).val ∧ (i a).val < (![128 * h.val, 0] : Fin 2 → ℕ) a + S128x1024.size a)).trans ?_
  exact ⟨fun hh => hh.1, fun hh => ⟨hh, Nat.zero_le _, by show (i (1 : Fin 2)).val < 0 + 1024; omega⟩⟩
theorem other_rows5 (h : Dev nD) : Finset.univ \ (half5 h).view.set = (half5 (peer h)).view.set := by
  ext i
  have h0 : (i (0 : Fin 2)).val < 256 := (i (0 : Fin 2)).isLt
  have h2 : h.val < 2 := h.isLt
  rw [Finset.mem_sdiff, mem_rows5, mem_rows5, show (peer h).val = 1 - h.val from rfl]
  refine ⟨fun hh => ?_, fun hh => ⟨Finset.mem_univ _, ?_⟩⟩
  · have := hh.2; omega
  · omega
theorem mem_rows6 (h : Dev nD) (i : (main_v1_6 : Ref sig .tc).ty.shape.Idx) :
    i ∈ (half6 h).view.set ↔ 256 * h.val ≤ (i (0 : Fin 2)).val ∧ (i (0 : Fin 2)).val < 256 * h.val + 256 := by
  refine ValueKit.mem_set_slice_whole_iff main_v1_6 _ i ?_
  rw [Rect.mem_set_unit, k0_off4_eq]
  have h1 : (i (1 : Fin 2)).val < 256 := (i (1 : Fin 2)).isLt
  refine (Fin.forall_fin_two (p := fun a : Fin 2 => (![256 * h.val, 0] : Fin 2 → ℕ) a ≤ (i a).val ∧ (i a).val < (![256 * h.val, 0] : Fin 2 → ℕ) a + S256x256.size a)).trans ?_
  exact ⟨fun hh => hh.1, fun hh => ⟨hh, Nat.zero_le _, by show (i (1 : Fin 2)).val < 0 + 256; omega⟩⟩
theorem other_rows6 (h : Dev nD) : Finset.univ \ (half6 h).view.set = (half6 (peer h)).view.set := by
  ext i
  have h0 : (i (0 : Fin 2)).val < 512 := (i (0 : Fin 2)).isLt
  have h2 : h.val < 2 := h.isLt
  rw [Finset.mem_sdiff, mem_rows6, mem_rows6, show (peer h).val = 1 - h.val from rfl]
  refine ⟨fun hh => ?_, fun hh => ⟨Finset.mem_univ _, ?_⟩⟩
  · have := hh.2; omega
  · omega
theorem mem_rows7 (h : Dev nD) (i : (main_v1_7 : Ref sig .tc).ty.shape.Idx) :
    i ∈ (half7 h).view.set ↔ 128 * h.val ≤ (i (0 : Fin 2)).val ∧ (i (0 : Fin 2)).val < 128 * h.val + 128 := by
  refine ValueKit.mem_set_slice_whole_iff main_v1_7 _ i ?_
  rw [Rect.mem_set_unit, k0_off5_eq]
  have h1 : (i (1 : Fin 2)).val < 1024 := (i (1 : Fin 2)).isLt
  refine (Fin.forall_fin_two (p := fun a : Fin 2 => (![128 * h.val, 0] : Fin 2 → ℕ) a ≤ (i a).val ∧ (i a).val < (![128 * h.val, 0] : Fin 2 → ℕ) a + S128x1024.size a)).trans ?_
  exact ⟨fun hh => hh.1, fun hh => ⟨hh, Nat.zero_le _, by show (i (1 : Fin 2)).val < 0 + 1024; omega⟩⟩
theorem other_rows7 (h : Dev nD) : Finset.univ \ (half7 h).view.set = (half7 (peer h)).view.set := by
  ext i
  have h0 : (i (0 : Fin 2)).val < 256 := (i (0 : Fin 2)).isLt
  have h2 : h.val < 2 := h.isLt
  rw [Finset.mem_sdiff, mem_rows7, mem_rows7, show (peer h).val = 1 - h.val from rfl]
  refine ⟨fun hh => ?_, fun hh => ⟨Finset.mem_univ _, ?_⟩⟩
  · have := hh.2; omega
  · omega
theorem mem_rows8 (h : Dev nD) (i : (main_v1_8 : Ref sig .tc).ty.shape.Idx) :
    i ∈ (half8 h).view.set ↔ 512 * h.val ≤ (i (0 : Fin 2)).val ∧ (i (0 : Fin 2)).val < 512 * h.val + 512 := by
  refine ValueKit.mem_set_slice_whole_iff main_v1_8 _ i ?_
  rw [Rect.mem_set_unit, k0_off1_eq]
  have h1 : (i (1 : Fin 2)).val < 1408 := (i (1 : Fin 2)).isLt
  refine (Fin.forall_fin_two (p := fun a : Fin 2 => (![512 * h.val, 0] : Fin 2 → ℕ) a ≤ (i a).val ∧ (i a).val < (![512 * h.val, 0] : Fin 2 → ℕ) a + S512x1408.size a)).trans ?_
  exact ⟨fun hh => hh.1, fun hh => ⟨hh, Nat.zero_le _, by show (i (1 : Fin 2)).val < 0 + 1408; omega⟩⟩
theorem other_rows8 (h : Dev nD) : Finset.univ \ (half8 h).view.set = (half8 (peer h)).view.set := by
  ext i
  have h0 : (i (0 : Fin 2)).val < 1024 := (i (0 : Fin 2)).isLt
  have h2 : h.val < 2 := h.isLt
  rw [Finset.mem_sdiff, mem_rows8, mem_rows8, show (peer h).val = 1 - h.val from rfl]
  refine ⟨fun hh => ?_, fun hh => ⟨Finset.mem_univ _, ?_⟩⟩
  · have := hh.2; omega
  · omega
theorem mem_rows9 (h : Dev nD) (i : (main_v1_9 : Ref sig .tc).ty.shape.Idx) :
    i ∈ (half9 h).view.set ↔ 352 * h.val ≤ (i (0 : Fin 2)).val ∧ (i (0 : Fin 2)).val < 352 * h.val + 352 := by
  refine ValueKit.mem_set_slice_whole_iff main_v1_9 _ i ?_
  rw [Rect.mem_set_unit, k0_off2_eq]
  have h1 : (i (1 : Fin 2)).val < 1024 := (i (1 : Fin 2)).isLt
  refine (Fin.forall_fin_two (p := fun a : Fin 2 => (![352 * h.val, 0] : Fin 2 → ℕ) a ≤ (i a).val ∧ (i a).val < (![352 * h.val, 0] : Fin 2 → ℕ) a + S352x1024.size a)).trans ?_
  exact ⟨fun hh => hh.1, fun hh => ⟨hh, Nat.zero_le _, by show (i (1 : Fin 2)).val < 0 + 1024; omega⟩⟩
theorem other_rows9 (h : Dev nD) : Finset.univ \ (half9 h).view.set = (half9 (peer h)).view.set := by
  ext i
  have h0 : (i (0 : Fin 2)).val < 704 := (i (0 : Fin 2)).isLt
  have h2 : h.val < 2 := h.isLt
  rw [Finset.mem_sdiff, mem_rows9, mem_rows9, show (peer h).val = 1 - h.val from rfl]
  refine ⟨fun hh => ?_, fun hh => ⟨Finset.mem_univ _, ?_⟩⟩
  · have := hh.2; omega
  · omega

theorem other_rows (w : Arr) (h : Dev nD) : Finset.univ \ rows w h = rows w (peer h) := by
  match w with
  | 0 => exact other_rows0 h
  | 1 => exact other_rows1 h
  | 2 => exact other_rows2 h
  | 3 => exact other_rows3 h
  | 4 => exact other_rows4 h
  | 5 => exact other_rows5 h
  | 6 => exact other_rows6 h
  | 7 => exact other_rows7 h
  | 8 => exact other_rows8 h
  | 9 => exact other_rows9 h

abbrev osem (k : Sem3) : SemLoc sig := .dma ⟨k.2.val * 10 + k.1.val, by have h1 := k.1.isLt; have h2 := k.2.isLt; show _ < 30; omega⟩
/-- The semaphore's place in the list. -/
def place : SemLoc sig → Sem3 := fun
  | .dma q => (⟨q.val % 10, Nat.mod_lt _ (by decide)⟩, ⟨q.val / 10, by have h : q.val < 30 := q.isLt; omega⟩)
  | .reg _ => (0, 0)
theorem place_osem (k : Sem3) : place (osem k) = k := by
  obtain ⟨⟨w, hw⟩, ⟨j, hj⟩⟩ := k
  refine Prod.ext (Fin.ext ?_) (Fin.ext ?_)
  · show (j * 10 + w) % 10 = w; omega
  · show (j * 10 + w) / 10 = j; omega

abbrev kcell (ck : Dev nD × Sem3) : GSem nD τ sig := ((ck.1 : Thread nD τ), osem ck.2)
theorem kcell_injective : Function.Injective (kcell : Dev nD × Sem3 → GSem nD τ sig) := fun a b h => by
  refine Prod.ext (congrArg (fun g : GSem nD τ sig => g.1.1) h) ?_
  have := congrArg (fun g : GSem nD τ sig => place g.2) h
  simpa only [place_osem] using this

/-! ## What the buffers hold -/

variable (m : (ℓ : Loc nD τ sig) → Buf (Elt F) ℓ) (ρ : Dev nD → PrngReg)
variable (X : (w : Arr) → (outRef w).ty.Contents (Elt F))

def inP (w : Arr) (q : PosShare TreeShare) (c : Dev nD) : sProp 𝕄 := ((c : Thread nD τ).loc (inRef w)) ↦{q} m ((c : Thread nD τ).loc (inRef w))
def outP (w : Arr) (h d : Dev nD) (f : (outRef w).ty.Contents (Elt F)) : sProp 𝕄 := ((d : Thread nD τ).loc (outRef w)) ↦[rows w h]{fullShare} f
def outW (w : Arr) (d : Dev nD) (f : (outRef w).ty.Contents (Elt F)) : sProp 𝕄 := ((d : Thread nD τ).loc (outRef w)) ↦{fullShare} f

omit [FloatOps F] in
instance inP_storable (w : Arr) (q) (c : Dev nD) : BI.Storable (upEmb : UEmb _ 𝕄) (inP (F := F) m w q c) := by unfold inP; infer_instance
omit [FloatOps F] in
instance outP_storable (w : Arr) (h d : Dev nD) (f) : BI.Storable (upEmb : UEmb _ 𝕄) (outP (F := F) w h d f) := by unfold outP; infer_instance

omit [FloatOps F] in
theorem in_shares (w : Arr) (c : Dev nD) : inP m w fullShare c ⊣⊢ iprop(inP m w fullShare.left c ∗ inP m w fullShare.right c) :=
  pointsTo_share (PosShare.mem_left_op_right fullShare)
omit [FloatOps F] in
theorem out_halves (w : Arr) (h d : Dev nD) (f) : outW (F := F) w d f ⊣⊢ iprop(outP w h d f ∗ outP w (peer h) d f) := by
  unfold outW outP; rw [← other_rows w h]; exact pointsTo_split_subset (Finset.subset_univ _)

/-- The whole buffers `X` hold at each half what its device's argument holds. -/
structure Good : Prop where

  a0 : ∀ h : Dev nD, (half0 h).view.read (Elt F) (X 0) = (inM0).view.read (Elt F) (m ((h : Thread nD τ).loc main_arg0))
  a1 : ∀ h : Dev nD, (half1 h).view.read (Elt F) (X 1) = (inM1).view.read (Elt F) (m ((h : Thread nD τ).loc main_arg1))
  a2 : ∀ h : Dev nD, (half2 h).view.read (Elt F) (X 2) = (inM2).view.read (Elt F) (m ((h : Thread nD τ).loc main_arg2))
  a3 : ∀ h : Dev nD, (half3 h).view.read (Elt F) (X 3) = (inM3).view.read (Elt F) (m ((h : Thread nD τ).loc main_arg3))
  a4 : ∀ h : Dev nD, (half4 h).view.read (Elt F) (X 4) = (inM4).view.read (Elt F) (m ((h : Thread nD τ).loc main_arg4))
  a5 : ∀ h : Dev nD, (half5 h).view.read (Elt F) (X 5) = (inM5).view.read (Elt F) (m ((h : Thread nD τ).loc main_arg5))
  a6 : ∀ h : Dev nD, (half6 h).view.read (Elt F) (X 6) = (inM6).view.read (Elt F) (m ((h : Thread nD τ).loc main_arg6))
  a7 : ∀ h : Dev nD, (half7 h).view.read (Elt F) (X 7) = (inM7).view.read (Elt F) (m ((h : Thread nD τ).loc main_arg7))
  a8 : ∀ h : Dev nD, (half8 h).view.read (Elt F) (X 8) = (inM8).view.read (Elt F) (m ((h : Thread nD τ).loc main_arg8))
  a9 : ∀ h : Dev nD, (half9 h).view.read (Elt F) (X 9) = (inM9).view.read (Elt F) (m ((h : Thread nD τ).loc main_arg9))

omit [FloatOps F] in
/-- A copy that puts into a view what `Y` reads there leaves the view's part of the buffer at `Y`. -/
theorem lands {sp : Space} {s : Shape} (v : View sig .tc sp s .f32) (d : Dev nD) (f Y : Buf (Elt F) (v.loc (d : Thread nD τ))) (g : s.Idx → Elt F .f32)
    (h : v.read (Elt F) Y = g) :
    (v.loc (d : Thread nD τ) ↦[v.set]{fullShare} v.write (Elt F) f g Finset.univ : sProp 𝕄) = (v.loc (d : Thread nD τ) ↦[v.set]{fullShare} Y) :=
  pointsTo_congr fun i hi => by
    obtain ⟨y, -, rfl⟩ := Finset.mem_map.mp hi
    rw [View.write_emb_of_mem _ _ (Finset.mem_univ _), ← h, View.read_apply, cast_cast, cast_eq]

/-! ## The schedule: one round a semaphore -/

/-- What a full semaphore of device `c` gives back. -/
def pay (w : Arr) (j : Fin 3) (c : Dev nD) : sProp 𝕄 := match j with
  | 0 => inP m w fullShare.right c
  | 1 => outP w (peer c) c (X w)
  | 2 => iprop(outP w c c (X w) ∗ inP m w fullShare.left c)

omit [FloatOps F] in
instance pay_storable (w : Arr) (j : Fin 3) (c : Dev nD) : BI.Storable (upEmb : UEmb _ 𝕄) (pay m X w j c) := by unfold pay; split <;> infer_instance

def plan : Rounds.Schedule (GSem nD τ sig) Unit 𝕄 where
  duties g r := if r = 0 ∧ g.1.2 = .tc ∧ g.2 = osem (place g.2) then {()} else ∅
  unitless _ := False
  amount g _ _ := amt (place g.2).1
  payload g _ _ := pay m X (place g.2).1 (place g.2).2 g.1.1
  amount_pos g _ _ _ := amt_pos _

omit [FloatOps F] in
instance plan_storable (g : GSem nD τ sig) (r : ℕ) (d : Unit) : BI.Storable (upEmb : UEmb _ 𝕄) ((plan m X).payload g r d) := by
  show BI.Storable upEmb (pay m X (place g.2).1 (place g.2).2 g.1.1); infer_instance

section Plan
variable (c : Dev nD) (k : Sem3)

omit [FloatOps F] in
theorem plan_duties : (plan m X).duties (kcell (c, k)) 0 = {()} := if_pos ⟨rfl, rfl, by rw [place_osem]⟩
omit [FloatOps F] in
theorem plan_duty : () ∈ (plan m X).duties (kcell (c, k)) 0 := by rw [plan_duties]; exact Finset.mem_singleton_self _
omit [FloatOps F] in
theorem plan_over (g : GSem nD τ sig) (r : ℕ) (hr : 1 ≤ r) : (plan m X).duties g r = ∅ := if_neg fun h => by omega
omit [FloatOps F] in
theorem plan_amount (u : Unit) : (plan m X).amount (kcell (c, k)) 0 u = amt k.1 := by show amt (place (osem k)).1 = _; rw [place_osem]
omit [FloatOps F] in
theorem plan_payload (u : Unit) : (plan m X).payload (kcell (c, k)) 0 u = pay m X k.1 k.2 c := by
  show pay m X (place (osem k)).1 (place (osem k)).2 c = _; rw [place_osem]
omit [FloatOps F] in
theorem plan_expect : (plan m X).expect (kcell (c, k)) 0 = amt k.1 := by
  unfold Schedule.expect Schedule.amountOf; rw [plan_duties, Finset.sum_singleton, plan_amount]
omit [FloatOps F] in
theorem plan_rest : bigSep ((plan m X).duties (kcell (c, k)) 0 \ ∅) (fun u => (plan m X).payload (kcell (c, k)) 0 u) = pay m X k.1 k.2 c := by
  rw [Finset.sdiff_empty, plan_duties, bigSep_singleton, plan_payload]
end Plan

/-! ## What a device owes, and the stages of one array -/

/-- What device `c` owes its peer's semaphores while the copies of the arrays `l` are still to start. -/
def owed (c : Dev nD) (l : List Arr) : CellTallies nD τ sig Unit := (l.map fun w => tallyAt (kcell (peer c, (w, 1))) () (amt w)).sum
theorem owed_cons (c : Dev nD) (w : Arr) (l : List Arr) : owed c (w :: l) = owed c l + tallyAt (kcell (peer c, (w, 1))) () (amt w) := by
  unfold owed; rw [List.map_cons, List.sum_cons, add_comm]

abbrev arrs : List Arr := [0, 1, 2, 3, 4, 5, 6, 7, 8, 9]
def O₀ (c : Dev nD) : CellTallies nD τ sig Unit := owed c arrs

/-- The invariants of all the semaphores, and that each has reached its round. -/
def records (K : Dev nD × Sem3 → ℕ) : sProp 𝕄 :=
  iprop((bigSep Finset.univ fun ck : Dev nD × Sem3 => cellInv ER (plan m X) (K ck) (kcell ck))
    ∗ bigSep Finset.univ fun ck : Dev nD × Sem3 => reached ER (kcell ck) 0)
omit [FloatOps F] in
instance records_persistent (K : Dev nD × Sem3 → ℕ) : BI.Persistent (records m X K) := by unfold records; infer_instance

omit [FloatOps F] in
theorem rec_inv (K : Dev nD × Sem3 → ℕ) (ck : Dev nD × Sem3) : records m X K ⊢ cellInv ER (plan m X) (K ck) (kcell ck) := by
  unfold records
  have h : (bigSep Finset.univ fun ck : Dev nD × Sem3 => (cellInv ER (plan m X) (K ck) (kcell ck) : sProp 𝕄)) ⊢ cellInv ER (plan m X) (K ck) (kcell ck) :=
    bigSep_elim (Finset.mem_univ ck)
  iintro ⟨H, -⟩; iapply h; iexact H
omit [FloatOps F] in
theorem rec_reached (K : Dev nD × Sem3 → ℕ) (ck : Dev nD × Sem3) : records m X K ⊢ reached ER (kcell ck) 0 := by
  unfold records
  have h : (bigSep Finset.univ fun ck : Dev nD × Sem3 => (reached ER (kcell ck) 0 : sProp 𝕄)) ⊢ reached ER (kcell ck) 0 := bigSep_elim (Finset.mem_univ ck)
  iintro ⟨-, H⟩; iapply h; iexact H

/-- Before the two copies of array `w` start. -/
def start (w : Arr) (c : Dev nD) : sProp 𝕄 :=
  iprop((inP m w fullShare.left c ∗ inP m w fullShare.right c) ∗ ((∃ f, outP w c c f) ∗ ∃ f, outP w c (peer c) f)
    ∗ (dutyTok ER (kcell (c, (w, 2))) 0 () ∗ dutyTok ER (kcell (c, (w, 0))) 0 () ∗ dutyTok ER (kcell (peer c, (w, 1))) 0 ())
    ∗ atPos ER (kcell (c, (w, 0))) 0 ∅ 0 ∗ atPos ER (kcell (c, (w, 2))) 0 ∅ 0)
/-- While they are in flight. -/
def mid (w : Arr) (c : Dev nD) : sProp 𝕄 :=
  iprop((atPos ER (kcell (c, (w, 0))) 0 ∅ 0 ∗ cred (tallyAt (kcell (c, (w, 0))) () (amt w)))
    ∗ atPos ER (kcell (c, (w, 2))) 0 ∅ 0 ∗ cred (tallyAt (kcell (c, (w, 2))) () (amt w)))
/-- Waiting for the peer's half; and with it. -/
def wanted (w : Arr) (c : Dev nD) : sProp 𝕄 := iprop(atPos ER (kcell (c, (w, 1))) 0 ∅ 0 ∗ cred (tallyAt (kcell (c, (w, 1))) () (amt w)))
def got (w : Arr) (c : Dev nD) : sProp 𝕄 := iprop(semVal (kcell (c, (w, 1))) 0 ∗ outP w (peer c) c (X w))
/-- All done with array `w`. -/
def done (w : Arr) (c : Dev nD) : sProp 𝕄 :=
  iprop((bigSep Finset.univ fun j : Fin 3 => semVal (kcell (c, (w, j))) 0) ∗ inP m w fullShare c ∗ outW w c (X w))

omit [FloatOps F] in
/-- What is held at each of an array's three semaphores, one by one. -/
theorem each_sem (R : Fin 3 → sProp 𝕄) : bigSep Finset.univ R = iprop(R 0 ∗ R 1 ∗ R 2) := by
  rw [bigSep_univ_eq_bigSepL (List.finRange 3) (by decide) (by decide)]; rfl
omit [FloatOps F] in
theorem bigSep_arr (Φ : Arr → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL arrs (by decide) (by decide) Φ
omit [FloatOps F] in
theorem bigSep_dev (Φ : Dev nD → sProp 𝕄) : bigSep Finset.univ Φ = iprop(Φ 0 ∗ Φ 1) := bigSep_univ_eq_bigSepL [0, 1] (by decide) (by decide) Φ

/-! ## The steps -/

section Steps
variable (K : Dev nD × Sem3 → ℕ)

/-- Both copies out of a device's array started, the one to itself and the one to its peer. -/
theorem start_any (w : Arr) (c d : Dev nD) (hd : d = peer c) (l : List Arr) (W : Waits sig Unit) {s : Shape}
    {src dst : Memref sig .tc .hbm s .f32} {fs : Buf (Elt F) (src.view.loc (c : Thread nD τ))}
    (hin : ∀ q, inP m w q c = (src.view.loc (c : Thread nD τ) ↦[src.view.set]{q} fs))
    (hany : ∀ d, (iprop(∃ f, outP w c d f) : sProp 𝕄) ⊢ iprop(∃ f, dst.view.loc (d : Thread nD τ) ↦[dst.view.set]{fullShare} f))
    (hto : ∀ (d : Dev nD) (f : Buf (Elt F) (dst.view.loc (d : Thread nD τ))),
      (dst.view.loc (d : Thread nD τ) ↦[dst.view.set]{fullShare} dst.view.write (Elt F) f (src.view.read (Elt F) fs) Finset.univ : sProp 𝕄) ⊢ outP w c d (X w))
    (ha : dst.view.dmaCredit = amt w)
    {sl ss sr : SemLoc sig}
    (hsl : sl = osem (w, 2)) (hss : ss = osem (w, 0)) (hsr : sr = osem (w, 1))
    {h1 h4 : src.view.WordExact} {h2 : dst.view.WordExact} {h3 : DmaTarget.Typed (nD := nD) (p := (c : Thread nD τ).2) .hbm sl (.here dst)}
    {hsc : (dst : Memref sig (Dev.tc d : Thread nD τ).2.kind .hbm s .f32).view.ref.isScScratch = false}
    {h5 : (dst : Memref sig (Dev.tc d : Thread nD τ).2.kind .hbm s .f32).view.WordExact}
    {h6 : DmaTarget.Typed (p := (c : Thread nD τ).2) .hbm sr (.remote (Dev.tc d : Thread nD τ) (dst : Memref sig (Dev.tc d : Thread nD τ).2.kind .hbm s .f32) ss hsc)}
    {α : Type} {Q : α → sProp 𝕄} {k : PUnit → Prog (TpuEff nD τ sig (Elt F) Λ₀ .tc) α} :
    iprop(records m X K ∗ start m w c ∗ owes (c : Thread nD τ) (owed c (w :: l)) W)
      ⊢ iprop(((mid w c ∗ owes (c : Thread nD τ) (owed c l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) sl h1 h2 h3) fun _ =>
                .op (.enqueueDma src (.remote (Dev.tc d : Thread nD τ) dst ss hsc) sr h4 h5 h6) k) Q) := by
  subst hd hsl hss hsr
  unfold start mid
  rw [hin, hin]
  have hgo : iprop((∃ f, outP (F := F) w c c f) ∗ ∃ f, outP (F := F) w c (peer c) f) ⊢ (iprop((∃ f, dst.view.loc (c : Thread nD τ) ↦[dst.view.set]{fullShare} f)
      ∗ ∃ f, dst.view.loc (peer c : Thread nD τ) ↦[dst.view.set]{fullShare} f) : sProp 𝕄) := BI.sep_mono (hany c) (hany (peer c))
  iintro ⟨#HR, ⟨⟨Hi1, Hi2⟩, Ho, ⟨HtL, HtS, HtR⟩, Ha0, Ha2⟩, HO⟩ Hk
  ihave Ho := hgo $$ Ho
  icases Ho with ⟨⟨%f, Ho1⟩, ⟨%f', Ho2⟩⟩
  iapply (Rounds.wp_copy_pointsTo 𝒱₀ ER (plan m X) (c : Thread nD τ) none (κ := K (c, (w, 2))) (src := src) (dst := dst)
      (q := fullShare.left) (fs := fs) (fd := f) (r := 0) (d := ())
      (plan_duty m X c (w, 2)) () (amt w) ha (plan_amount m X c (w, 2) ())
      (by rw [plan_payload]
          show _ ⊢ iprop(outP w c c (X w) ∗ inP m w fullShare.left c)
          rw [hin]; exact BI.sep_mono (hto c f) (show (src.view.loc (c : Thread nD τ) ↦[src.view.set]{fullShare.left} fs : sProp 𝕄) ⊢ (src.view.loc (c : Thread nD τ) ↦[src.view.set]{fullShare.left} fs) from .rfl))) $$ [Hi1 Ho1 HtL]
  · isplitr; · iapply (rec_inv m X K (c, (w, 2))); iexact HR
    isplitl [Hi1]; · iexact Hi1
    isplitl [Ho1]; · iexact Ho1
    isplitl [HtL]; · iexact HtL
    iapply (rec_reached m X K (c, (w, 2))); iexact HR
  iintro HcL
  iapply (Rounds.wp_send_pointsTo 𝒱₀ ER (plan m X) (c : Thread nD τ) none (κ₁ := K (c, (w, 0))) (κ₂ := K (peer c, (w, 1)))
      (c' := (peer c : Thread nD τ)) (src := src) (dst := dst) (q := fullShare.right) (fs := fs) (fd := f')
      (r₁ := 0) (r₂ := 0) (d₁ := ()) (d₂ := ())
      (plan_duty m X c (w, 0)) (plan_duty m X (peer c) (w, 1)) () () (amt w) ha (plan_amount m X c (w, 0) ()) (plan_amount m X (peer c) (w, 1) ())
      (owed c l) (owed_cons c w l) (W := W)
      (by rw [plan_payload]
          show _ ⊢ inP m w fullShare.right c
          rw [hin])
      (by rw [plan_payload]
          show _ ⊢ outP w (peer (peer c)) (peer c) (X w)
          rw [peer_twice]; exact hto (peer c) f')) $$ [Hi2 Ho2 HtS HtR HO]
  · isplitr; · iapply (rec_inv m X K (c, (w, 0))); iexact HR
    isplitr; · iapply (rec_inv m X K (peer c, (w, 1))); iexact HR
    isplitl [Hi2]; · iexact Hi2
    isplitl [Ho2]; · iexact Ho2
    isplitl [HO]; · iexact HO
    isplitl [HtS]; · iexact HtS
    isplitr; · iapply (rec_reached m X K (c, (w, 0))); iexact HR
    isplitl [HtR]; · iexact HtR
    iapply (rec_reached m X K (peer c, (w, 1))); iexact HR
  iintro ⟨HcS, HO⟩
  iapply Hk
  isplitr [HO]
  · isplitl [Ha0 HcS]
    · isplitl [Ha0] <;> iassumption
    · isplitl [Ha2] <;> iassumption
  · iexact HO

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel
theorem dev6_eq (c : Dev nD) : (⟨k0_dev6 c, k0_dev6_lt c⟩ : Dev nD) = peer c := by revert c; decide +kernel
theorem dev7_eq (c : Dev nD) : (⟨k0_dev7 c, k0_dev7_lt c⟩ : Dev nD) = peer c := by revert c; decide +kernel
theorem dev8_eq (c : Dev nD) : (⟨k0_dev8 c, k0_dev8_lt c⟩ : Dev nD) = peer c := by revert c; decide +kernel
theorem dev9_eq (c : Dev nD) : (⟨k0_dev9 c, k0_dev9_lt c⟩ : Dev nD) = peer c := by revert c; decide +kernel
theorem dev10_eq (c : Dev nD) : (⟨k0_dev10 c, k0_dev10_lt c⟩ : Dev nD) = peer c := by revert c; decide +kernel
omit [FloatOps F] in
theorem in_eq0 (q) (c : Dev nD) : inP (F := F) m 0 q c = ((inM0).view.loc (c : Thread nD τ) ↦[(inM0).view.set]{q} m ((c : Thread nD τ).loc main_arg0)) := by
  rw [View.set_whole]; rfl
omit [FloatOps F] in
theorem out_eq0 (h d : Dev nD) (f) : outP (F := F) 0 h d f = ((half0 h).view.loc (d : Thread nD τ) ↦[(half0 h).view.set]{fullShare} f) := rfl
omit [FloatOps F] in
theorem begin_0 (hX : Good m X) (c d : Dev nD) (f) :
    ((half0 c).view.loc (d : Thread nD τ) ↦[(half0 c).view.set]{fullShare} (half0 c).view.write (Elt F) f
      ((inM0).view.read (Elt F) (m ((c : Thread nD τ).loc main_arg0))) Finset.univ : sProp 𝕄) ⊢ outP 0 c d (X 0) := by
  rw [lands _ _ _ (X 0) _ (hX.a0 c), out_eq0]

omit [FloatOps F] in
theorem in_eq1 (q) (c : Dev nD) : inP (F := F) m 1 q c = ((inM1).view.loc (c : Thread nD τ) ↦[(inM1).view.set]{q} m ((c : Thread nD τ).loc main_arg1)) := by
  rw [View.set_whole]; rfl
omit [FloatOps F] in
theorem out_eq1 (h d : Dev nD) (f) : outP (F := F) 1 h d f = ((half1 h).view.loc (d : Thread nD τ) ↦[(half1 h).view.set]{fullShare} f) := rfl
omit [FloatOps F] in
theorem begin_1 (hX : Good m X) (c d : Dev nD) (f) :
    ((half1 c).view.loc (d : Thread nD τ) ↦[(half1 c).view.set]{fullShare} (half1 c).view.write (Elt F) f
      ((inM1).view.read (Elt F) (m ((c : Thread nD τ).loc main_arg1))) Finset.univ : sProp 𝕄) ⊢ outP 1 c d (X 1) := by
  rw [lands _ _ _ (X 1) _ (hX.a1 c), out_eq1]

omit [FloatOps F] in
theorem in_eq2 (q) (c : Dev nD) : inP (F := F) m 2 q c = ((inM2).view.loc (c : Thread nD τ) ↦[(inM2).view.set]{q} m ((c : Thread nD τ).loc main_arg2)) := by
  rw [View.set_whole]; rfl
omit [FloatOps F] in
theorem out_eq2 (h d : Dev nD) (f) : outP (F := F) 2 h d f = ((half2 h).view.loc (d : Thread nD τ) ↦[(half2 h).view.set]{fullShare} f) := rfl
omit [FloatOps F] in
theorem begin_2 (hX : Good m X) (c d : Dev nD) (f) :
    ((half2 c).view.loc (d : Thread nD τ) ↦[(half2 c).view.set]{fullShare} (half2 c).view.write (Elt F) f
      ((inM2).view.read (Elt F) (m ((c : Thread nD τ).loc main_arg2))) Finset.univ : sProp 𝕄) ⊢ outP 2 c d (X 2) := by
  rw [lands _ _ _ (X 2) _ (hX.a2 c), out_eq2]

omit [FloatOps F] in
theorem in_eq3 (q) (c : Dev nD) : inP (F := F) m 3 q c = ((inM3).view.loc (c : Thread nD τ) ↦[(inM3).view.set]{q} m ((c : Thread nD τ).loc main_arg3)) := by
  rw [View.set_whole]; rfl
omit [FloatOps F] in
theorem out_eq3 (h d : Dev nD) (f) : outP (F := F) 3 h d f = ((half3 h).view.loc (d : Thread nD τ) ↦[(half3 h).view.set]{fullShare} f) := rfl
omit [FloatOps F] in
theorem begin_3 (hX : Good m X) (c d : Dev nD) (f) :
    ((half3 c).view.loc (d : Thread nD τ) ↦[(half3 c).view.set]{fullShare} (half3 c).view.write (Elt F) f
      ((inM3).view.read (Elt F) (m ((c : Thread nD τ).loc main_arg3))) Finset.univ : sProp 𝕄) ⊢ outP 3 c d (X 3) := by
  rw [lands _ _ _ (X 3) _ (hX.a3 c), out_eq3]

omit [FloatOps F] in
theorem in_eq4 (q) (c : Dev nD) : inP (F := F) m 4 q c = ((inM4).view.loc (c : Thread nD τ) ↦[(inM4).view.set]{q} m ((c : Thread nD τ).loc main_arg4)) := by
  rw [View.set_whole]; rfl
omit [FloatOps F] in
theorem out_eq4 (h d : Dev nD) (f) : outP (F := F) 4 h d f = ((half4 h).view.loc (d : Thread nD τ) ↦[(half4 h).view.set]{fullShare} f) := rfl
omit [FloatOps F] in
theorem begin_4 (hX : Good m X) (c d : Dev nD) (f) :
    ((half4 c).view.loc (d : Thread nD τ) ↦[(half4 c).view.set]{fullShare} (half4 c).view.write (Elt F) f
      ((inM4).view.read (Elt F) (m ((c : Thread nD τ).loc main_arg4))) Finset.univ : sProp 𝕄) ⊢ outP 4 c d (X 4) := by
  rw [lands _ _ _ (X 4) _ (hX.a4 c), out_eq4]

omit [FloatOps F] in
theorem in_eq5 (q) (c : Dev nD) : inP (F := F) m 5 q c = ((inM5).view.loc (c : Thread nD τ) ↦[(inM5).view.set]{q} m ((c : Thread nD τ).loc main_arg5)) := by
  rw [View.set_whole]; rfl
omit [FloatOps F] in
theorem out_eq5 (h d : Dev nD) (f) : outP (F := F) 5 h d f = ((half5 h).view.loc (d : Thread nD τ) ↦[(half5 h).view.set]{fullShare} f) := rfl
omit [FloatOps F] in
theorem begin_5 (hX : Good m X) (c d : Dev nD) (f) :
    ((half5 c).view.loc (d : Thread nD τ) ↦[(half5 c).view.set]{fullShare} (half5 c).view.write (Elt F) f
      ((inM5).view.read (Elt F) (m ((c : Thread nD τ).loc main_arg5))) Finset.univ : sProp 𝕄) ⊢ outP 5 c d (X 5) := by
  rw [lands _ _ _ (X 5) _ (hX.a5 c), out_eq5]

omit [FloatOps F] in
theorem in_eq6 (q) (c : Dev nD) : inP (F := F) m 6 q c = ((inM6).view.loc (c : Thread nD τ) ↦[(inM6).view.set]{q} m ((c : Thread nD τ).loc main_arg6)) := by
  rw [View.set_whole]; rfl
omit [FloatOps F] in
theorem out_eq6 (h d : Dev nD) (f) : outP (F := F) 6 h d f = ((half6 h).view.loc (d : Thread nD τ) ↦[(half6 h).view.set]{fullShare} f) := rfl
omit [FloatOps F] in
theorem begin_6 (hX : Good m X) (c d : Dev nD) (f) :
    ((half6 c).view.loc (d : Thread nD τ) ↦[(half6 c).view.set]{fullShare} (half6 c).view.write (Elt F) f
      ((inM6).view.read (Elt F) (m ((c : Thread nD τ).loc main_arg6))) Finset.univ : sProp 𝕄) ⊢ outP 6 c d (X 6) := by
  rw [lands _ _ _ (X 6) _ (hX.a6 c), out_eq6]

omit [FloatOps F] in
theorem in_eq7 (q) (c : Dev nD) : inP (F := F) m 7 q c = ((inM7).view.loc (c : Thread nD τ) ↦[(inM7).view.set]{q} m ((c : Thread nD τ).loc main_arg7)) := by
  rw [View.set_whole]; rfl
omit [FloatOps F] in
theorem out_eq7 (h d : Dev nD) (f) : outP (F := F) 7 h d f = ((half7 h).view.loc (d : Thread nD τ) ↦[(half7 h).view.set]{fullShare} f) := rfl
omit [FloatOps F] in
theorem begin_7 (hX : Good m X) (c d : Dev nD) (f) :
    ((half7 c).view.loc (d : Thread nD τ) ↦[(half7 c).view.set]{fullShare} (half7 c).view.write (Elt F) f
      ((inM7).view.read (Elt F) (m ((c : Thread nD τ).loc main_arg7))) Finset.univ : sProp 𝕄) ⊢ outP 7 c d (X 7) := by
  rw [lands _ _ _ (X 7) _ (hX.a7 c), out_eq7]

omit [FloatOps F] in
theorem in_eq8 (q) (c : Dev nD) : inP (F := F) m 8 q c = ((inM8).view.loc (c : Thread nD τ) ↦[(inM8).view.set]{q} m ((c : Thread nD τ).loc main_arg8)) := by
  rw [View.set_whole]; rfl
omit [FloatOps F] in
theorem out_eq8 (h d : Dev nD) (f) : outP (F := F) 8 h d f = ((half8 h).view.loc (d : Thread nD τ) ↦[(half8 h).view.set]{fullShare} f) := rfl
omit [FloatOps F] in
theorem begin_8 (hX : Good m X) (c d : Dev nD) (f) :
    ((half8 c).view.loc (d : Thread nD τ) ↦[(half8 c).view.set]{fullShare} (half8 c).view.write (Elt F) f
      ((inM8).view.read (Elt F) (m ((c : Thread nD τ).loc main_arg8))) Finset.univ : sProp 𝕄) ⊢ outP 8 c d (X 8) := by
  rw [lands _ _ _ (X 8) _ (hX.a8 c), out_eq8]

omit [FloatOps F] in
theorem in_eq9 (q) (c : Dev nD) : inP (F := F) m 9 q c = ((inM9).view.loc (c : Thread nD τ) ↦[(inM9).view.set]{q} m ((c : Thread nD τ).loc main_arg9)) := by
  rw [View.set_whole]; rfl
omit [FloatOps F] in
theorem out_eq9 (h d : Dev nD) (f) : outP (F := F) 9 h d f = ((half9 h).view.loc (d : Thread nD τ) ↦[(half9 h).view.set]{fullShare} f) := rfl
omit [FloatOps F] in
theorem begin_9 (hX : Good m X) (c d : Dev nD) (f) :
    ((half9 c).view.loc (d : Thread nD τ) ↦[(half9 c).view.set]{fullShare} (half9 c).view.write (Elt F) f
      ((inM9).view.read (Elt F) (m ((c : Thread nD τ).loc main_arg9))) Finset.univ : sProp 𝕄) ⊢ outP 9 c d (X 9) := by
  rw [lands _ _ _ (X 9) _ (hX.a9 c), out_eq9]

/-- A wait for a semaphore's round: it comes back closed, with what the round gives. -/
theorem wait_cell (c : Dev nD) (k : Sem3) {e : TpuEff nD τ sig (Elt F) Λ₀ .tc PUnit} {sm : SemLoc sig} {N : ℕ} (hsm : sm = osem k) (hN : N = amt k.1)
    (hw : ∀ P : PUnit → sProp 𝕄, wpE (defs₀ (F := F)) 𝒱₀ (c : Thread nD τ) none Set.univ e P = waitSpec (c : Thread nD τ) Set.univ sm N P)
    {α : Type} {Q : α → sProp 𝕄} {kk : PUnit → Prog (TpuEff nD τ sig (Elt F) Λ₀ .tc) α} :
    iprop(records m X K ∗ (atPos ER (kcell (c, k)) 0 ∅ 0 ∗ cred (tallyAt (kcell (c, k)) () (amt k.1))) ∗ ∃ W, owes (c : Thread nD τ) 0 W)
      ⊢ iprop(((semVal (kcell (c, k)) 0 ∗ pay m X k.1 k.2 c ∗ ∃ W, owes (c : Thread nD τ) 0 W)
            -∗ wp frame (wpE (defs₀ (F := F)) 𝒱₀ (c : Thread nD τ) none) Set.univ (kk ⟨⟩) Q)
          -∗ wp frame (wpE (defs₀ (F := F)) 𝒱₀ (c : Thread nD τ) none) Set.univ (.op e kk) Q) := by
  subst hsm hN
  iintro ⟨#HR, ⟨Ha, Hc⟩, ⟨%W, HO⟩⟩ Hk
  iapply (Rounds.wp_wait_rest_token 𝒱₀ ER (plan m X) (c : Thread nD τ) none (κ := K (c, k)) hw (Set.mem_univ _) () (O := 0) (W := W) (R := 0) (m := 0) (T := ∅)
      (by rw [Nat.zero_add, plan_expect m X c k])) $$ [Hc HO Ha]
  · isplitr; · iapply (rec_inv m X K (c, k)); iexact HR
    isplitl [Hc]; · iexact Hc
    isplitl [HO]; · iexact HO
    isplitr; · rw [MayWait_zero]; iempintro
    iexact Ha
  iintro ⟨HO, Ha, -, Hp⟩
  ihave Hp' := (Entails.of_eq (plan_rest m X c k)) $$ Hp
  imod (Rounds.cell_close ER (plan m X) (Set.mem_univ (K (c, k))) (fun h => h) (R := 0 + 1) (plan_over m X (kcell (c, k)))) $$ [Ha] with Hz
  · isplitr; · iapply (rec_inv m X K (c, k)); iexact HR
    iexact Ha
  iapply Hk
  isplitl [Hz]; · iexact Hz
  isplitl [Hp']; · iexact Hp'
  iexists _; iexact HO

/-- The wait for the peer's half. -/
theorem wait_in (c : Dev nD) (w : Arr) {e : TpuEff nD τ sig (Elt F) Λ₀ .tc PUnit} {sm : SemLoc sig} {N : ℕ} (hsm : sm = osem (w, 1)) (hN : N = amt w)
    (hw : ∀ P : PUnit → sProp 𝕄, wpE (defs₀ (F := F)) 𝒱₀ (c : Thread nD τ) none Set.univ e P = waitSpec (c : Thread nD τ) Set.univ sm N P)
    {α : Type} {Q : α → sProp 𝕄} {kk : PUnit → Prog (TpuEff nD τ sig (Elt F) Λ₀ .tc) α} :
    iprop(records m X K ∗ wanted w c ∗ ∃ W, owes (c : Thread nD τ) 0 W)
      ⊢ iprop(((got X w c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op e kk) Q) := by
  unfold wanted got
  iintro ⟨#HR, H, HO⟩ Hk
  iapply (wait_cell m X K c (w, 1) hsm hN hw) $$ [H HO]
  · isplitr; · iexact HR
    isplitl [H]; · iexact H
    iexact HO
  iintro ⟨Hz, Hp, HO⟩
  iapply Hk
  isplitr [HO]
  · isplitl [Hz]; · iexact Hz
    unfold pay; iexact Hp
  · iexact HO

/-- The waits for the copy out and for the local copy. -/
theorem wait_out (c : Dev nD) (w : Arr) {e e' : TpuEff nD τ sig (Elt F) Λ₀ .tc PUnit} {sm sm' : SemLoc sig} {N N' : ℕ}
    (hsm : sm = osem (w, 0)) (hN : N = amt w) (hsm' : sm' = osem (w, 2)) (hN' : N' = amt w)
    (hw : ∀ P : PUnit → sProp 𝕄, wpE (defs₀ (F := F)) 𝒱₀ (c : Thread nD τ) none Set.univ e P = waitSpec (c : Thread nD τ) Set.univ sm N P)
    (hw' : ∀ P : PUnit → sProp 𝕄, wpE (defs₀ (F := F)) 𝒱₀ (c : Thread nD τ) none Set.univ e' P = waitSpec (c : Thread nD τ) Set.univ sm' N' P)
    {α : Type} {Q : α → sProp 𝕄} {kk : PUnit → Prog (TpuEff nD τ sig (Elt F) Λ₀ .tc) α} :
    iprop(records m X K ∗ (mid w c ∗ got X w c) ∗ ∃ W, owes (c : Thread nD τ) 0 W)
      ⊢ iprop(((done m X w c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op e fun _ => .op e' kk) Q) := by
  unfold mid got done
  iintro ⟨#HR, ⟨⟨H0, H2⟩, ⟨Hz1, Hp1⟩⟩, HO⟩ Hk
  iapply (wait_cell m X K c (w, 0) hsm hN hw) $$ [H0 HO]
  · isplitr; · iexact HR
    isplitl [H0]; · iexact H0
    iexact HO
  iintro ⟨Hz0, Hp0, HO⟩
  iapply (wait_cell m X K c (w, 2) hsm' hN' hw') $$ [H2 HO]
  · isplitr; · iexact HR
    isplitl [H2]; · iexact H2
    iexact HO
  iintro ⟨Hz2, Hp2, HO⟩
  unfold pay
  icases Hp2 with ⟨Hp2, Hi⟩
  iapply Hk
  isplitr [HO]
  · rw [each_sem]
    isplitl [Hz0 Hz1 Hz2]
    · isplitl [Hz0]; · iexact Hz0
      isplitl [Hz1] <;> iassumption
    isplitl [Hi Hp0]
    · iapply (in_shares m w c).2
      isplitl [Hi] <;> iassumption
    · iapply (out_halves w c c (X w)).2
      isplitl [Hp2] <;> iassumption
  · iexact HO

abbrev back0 (h : Dev nD) : Memref sig .tc .hbm S512x1408 .f32 :=
  (Memref.whole main_v1_0 : Memref sig .tc .hbm S1024x1408 .f32).slice (Rect.unit (s := S1024x1408) (k0_off6 h) S512x1408.size (k0_off6_inb h)) (fun _ => rfl)
theorem credit_in0 : (inM0).view.dmaCredit = amt 0 := rfl
theorem credit_half0 (c : Dev nD) : (half0 c).view.dmaCredit = amt 0 := rfl
theorem credit_back0 (c : Dev nD) : (back0 c).view.dmaCredit = amt 0 := rfl
theorem in_0 (c : Dev nD) {h1 : (inM0).view.WordExact} {h2 : (back0 c).view.WordExact}
    {α : Type} {Q : α → sProp 𝕄} {kk : PUnit → Prog (TpuEff nD τ sig (Elt F) Λ₀ .tc) α} :
    iprop(records m X K ∗ wanted 0 c ∗ ∃ W, owes (c : Thread nD τ) 0 W)
      ⊢ iprop(((got X 0 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![0] S1.size inb_S10_S1_0)).squeeze S_ squeezes_S1_S_).sem inM0 (back0 c) h1 h2) kk) Q) :=
  wait_in m X K c 0 (sm := .dma ((cc0_scratch1.slice (Rect.unit (s := S10) ![0] S1.size inb_S10_S1_0)).squeeze S_ squeezes_S1_S_).sem) rfl (credit_back0 c) (wpE_waitDma2_eq 𝒱₀ (c : Thread nD τ) none Set.univ)
theorem out_0 (c : Dev nD) {h1 h4 : (inM0).view.WordExact} {h2 h3 : (half0 c).view.WordExact}
    {α : Type} {Q : α → sProp 𝕄} {kk : PUnit → Prog (TpuEff nD τ sig (Elt F) Λ₀ .tc) α} :
    iprop(records m X K ∗ (mid 0 c ∗ got X 0 c) ∗ ∃ W, owes (c : Thread nD τ) 0 W)
      ⊢ iprop(((done m X 0 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![0] S1.size inb_S10_S1_0)).squeeze S_ squeezes_S1_S_).sem (half0 c) inM0 h2 h1) fun _ => .op (.waitDma2 ((cc0_scratch2.slice (Rect.unit (s := S10) ![0] S1.size inb_S10_S1_0)).squeeze S_ squeezes_S1_S_).sem inM0 (half0 c) h4 h3) kk) Q) :=
  wait_out m X K c 0 (sm := .dma ((cc0_scratch0.slice (Rect.unit (s := S10) ![0] S1.size inb_S10_S1_0)).squeeze S_ squeezes_S1_S_).sem) (sm' := .dma ((cc0_scratch2.slice (Rect.unit (s := S10) ![0] S1.size inb_S10_S1_0)).squeeze S_ squeezes_S1_S_).sem) rfl credit_in0 rfl (credit_half0 c)
    (wpE_waitDma2_eq 𝒱₀ (c : Thread nD τ) none Set.univ) (wpE_waitDma2_eq 𝒱₀ (c : Thread nD τ) none Set.univ)

abbrev back1 (h : Dev nD) : Memref sig .tc .hbm S352x1024 .f32 :=
  (Memref.whole main_v1_1 : Memref sig .tc .hbm S704x1024 .f32).slice (Rect.unit (s := S704x1024) (k0_off7 h) S352x1024.size (k0_off7_inb h)) (fun _ => rfl)
theorem credit_in1 : (inM1).view.dmaCredit = amt 1 := rfl
theorem credit_half1 (c : Dev nD) : (half1 c).view.dmaCredit = amt 1 := rfl
theorem credit_back1 (c : Dev nD) : (back1 c).view.dmaCredit = amt 1 := rfl
theorem in_1 (c : Dev nD) {h1 : (inM1).view.WordExact} {h2 : (back1 c).view.WordExact}
    {α : Type} {Q : α → sProp 𝕄} {kk : PUnit → Prog (TpuEff nD τ sig (Elt F) Λ₀ .tc) α} :
    iprop(records m X K ∗ wanted 1 c ∗ ∃ W, owes (c : Thread nD τ) 0 W)
      ⊢ iprop(((got X 1 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![1] S1.size inb_S10_S1_1)).squeeze S_ squeezes_S1_S_).sem inM1 (back1 c) h1 h2) kk) Q) :=
  wait_in m X K c 1 (sm := .dma ((cc0_scratch1.slice (Rect.unit (s := S10) ![1] S1.size inb_S10_S1_1)).squeeze S_ squeezes_S1_S_).sem) rfl (credit_back1 c) (wpE_waitDma2_eq 𝒱₀ (c : Thread nD τ) none Set.univ)
theorem out_1 (c : Dev nD) {h1 h4 : (inM1).view.WordExact} {h2 h3 : (half1 c).view.WordExact}
    {α : Type} {Q : α → sProp 𝕄} {kk : PUnit → Prog (TpuEff nD τ sig (Elt F) Λ₀ .tc) α} :
    iprop(records m X K ∗ (mid 1 c ∗ got X 1 c) ∗ ∃ W, owes (c : Thread nD τ) 0 W)
      ⊢ iprop(((done m X 1 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![1] S1.size inb_S10_S1_1)).squeeze S_ squeezes_S1_S_).sem (half1 c) inM1 h2 h1) fun _ => .op (.waitDma2 ((cc0_scratch2.slice (Rect.unit (s := S10) ![1] S1.size inb_S10_S1_1)).squeeze S_ squeezes_S1_S_).sem inM1 (half1 c) h4 h3) kk) Q) :=
  wait_out m X K c 1 (sm := .dma ((cc0_scratch0.slice (Rect.unit (s := S10) ![1] S1.size inb_S10_S1_1)).squeeze S_ squeezes_S1_S_).sem) (sm' := .dma ((cc0_scratch2.slice (Rect.unit (s := S10) ![1] S1.size inb_S10_S1_1)).squeeze S_ squeezes_S1_S_).sem) rfl credit_in1 rfl (credit_half1 c)
    (wpE_waitDma2_eq 𝒱₀ (c : Thread nD τ) none Set.univ) (wpE_waitDma2_eq 𝒱₀ (c : Thread nD τ) none Set.univ)

abbrev back2 (h : Dev nD) : Memref sig .tc .hbm S512x1536 .f32 :=
  (Memref.whole main_v1_2 : Memref sig .tc .hbm S1024x1536 .f32).slice (Rect.unit (s := S1024x1536) (k0_off8 h) S512x1536.size (k0_off8_inb h)) (fun _ => rfl)
theorem credit_in2 : (inM2).view.dmaCredit = amt 2 := rfl
theorem credit_half2 (c : Dev nD) : (half2 c).view.dmaCredit = amt 2 := rfl
theorem credit_back2 (c : Dev nD) : (back2 c).view.dmaCredit = amt 2 := rfl
theorem in_2 (c : Dev nD) {h1 : (inM2).view.WordExact} {h2 : (back2 c).view.WordExact}
    {α : Type} {Q : α → sProp 𝕄} {kk : PUnit → Prog (TpuEff nD τ sig (Elt F) Λ₀ .tc) α} :
    iprop(records m X K ∗ wanted 2 c ∗ ∃ W, owes (c : Thread nD τ) 0 W)
      ⊢ iprop(((got X 2 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![2] S1.size inb_S10_S1_2)).squeeze S_ squeezes_S1_S_).sem inM2 (back2 c) h1 h2) kk) Q) :=
  wait_in m X K c 2 (sm := .dma ((cc0_scratch1.slice (Rect.unit (s := S10) ![2] S1.size inb_S10_S1_2)).squeeze S_ squeezes_S1_S_).sem) rfl (credit_back2 c) (wpE_waitDma2_eq 𝒱₀ (c : Thread nD τ) none Set.univ)
theorem out_2 (c : Dev nD) {h1 h4 : (inM2).view.WordExact} {h2 h3 : (half2 c).view.WordExact}
    {α : Type} {Q : α → sProp 𝕄} {kk : PUnit → Prog (TpuEff nD τ sig (Elt F) Λ₀ .tc) α} :
    iprop(records m X K ∗ (mid 2 c ∗ got X 2 c) ∗ ∃ W, owes (c : Thread nD τ) 0 W)
      ⊢ iprop(((done m X 2 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![2] S1.size inb_S10_S1_2)).squeeze S_ squeezes_S1_S_).sem (half2 c) inM2 h2 h1) fun _ => .op (.waitDma2 ((cc0_scratch2.slice (Rect.unit (s := S10) ![2] S1.size inb_S10_S1_2)).squeeze S_ squeezes_S1_S_).sem inM2 (half2 c) h4 h3) kk) Q) :=
  wait_out m X K c 2 (sm := .dma ((cc0_scratch0.slice (Rect.unit (s := S10) ![2] S1.size inb_S10_S1_2)).squeeze S_ squeezes_S1_S_).sem) (sm' := .dma ((cc0_scratch2.slice (Rect.unit (s := S10) ![2] S1.size inb_S10_S1_2)).squeeze S_ squeezes_S1_S_).sem) rfl credit_in2 rfl (credit_half2 c)
    (wpE_waitDma2_eq 𝒱₀ (c : Thread nD τ) none Set.univ) (wpE_waitDma2_eq 𝒱₀ (c : Thread nD τ) none Set.univ)

abbrev back3 (h : Dev nD) : Memref sig .tc .hbm S256x256 .f32 :=
  (Memref.whole main_v1_3 : Memref sig .tc .hbm S512x256 .f32).slice (Rect.unit (s := S512x256) (k0_off9 h) S256x256.size (k0_off9_inb h)) (fun _ => rfl)
theorem credit_in3 : (inM3).view.dmaCredit = amt 3 := rfl
theorem credit_half3 (c : Dev nD) : (half3 c).view.dmaCredit = amt 3 := rfl
theorem credit_back3 (c : Dev nD) : (back3 c).view.dmaCredit = amt 3 := rfl
theorem in_3 (c : Dev nD) {h1 : (inM3).view.WordExact} {h2 : (back3 c).view.WordExact}
    {α : Type} {Q : α → sProp 𝕄} {kk : PUnit → Prog (TpuEff nD τ sig (Elt F) Λ₀ .tc) α} :
    iprop(records m X K ∗ wanted 3 c ∗ ∃ W, owes (c : Thread nD τ) 0 W)
      ⊢ iprop(((got X 3 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![3] S1.size inb_S10_S1_3)).squeeze S_ squeezes_S1_S_).sem inM3 (back3 c) h1 h2) kk) Q) :=
  wait_in m X K c 3 (sm := .dma ((cc0_scratch1.slice (Rect.unit (s := S10) ![3] S1.size inb_S10_S1_3)).squeeze S_ squeezes_S1_S_).sem) rfl (credit_back3 c) (wpE_waitDma2_eq 𝒱₀ (c : Thread nD τ) none Set.univ)
theorem out_3 (c : Dev nD) {h1 h4 : (inM3).view.WordExact} {h2 h3 : (half3 c).view.WordExact}
    {α : Type} {Q : α → sProp 𝕄} {kk : PUnit → Prog (TpuEff nD τ sig (Elt F) Λ₀ .tc) α} :
    iprop(records m X K ∗ (mid 3 c ∗ got X 3 c) ∗ ∃ W, owes (c : Thread nD τ) 0 W)
      ⊢ iprop(((done m X 3 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![3] S1.size inb_S10_S1_3)).squeeze S_ squeezes_S1_S_).sem (half3 c) inM3 h2 h1) fun _ => .op (.waitDma2 ((cc0_scratch2.slice (Rect.unit (s := S10) ![3] S1.size inb_S10_S1_3)).squeeze S_ squeezes_S1_S_).sem inM3 (half3 c) h4 h3) kk) Q) :=
  wait_out m X K c 3 (sm := .dma ((cc0_scratch0.slice (Rect.unit (s := S10) ![3] S1.size inb_S10_S1_3)).squeeze S_ squeezes_S1_S_).sem) (sm' := .dma ((cc0_scratch2.slice (Rect.unit (s := S10) ![3] S1.size inb_S10_S1_3)).squeeze S_ squeezes_S1_S_).sem) rfl credit_in3 rfl (credit_half3 c)
    (wpE_waitDma2_eq 𝒱₀ (c : Thread nD τ) none Set.univ) (wpE_waitDma2_eq 𝒱₀ (c : Thread nD τ) none Set.univ)

abbrev back4 (h : Dev nD) : Memref sig .tc .hbm S256x256 .f32 :=
  (Memref.whole main_v1_4 : Memref sig .tc .hbm S512x256 .f32).slice (Rect.unit (s := S512x256) (k0_off9 h) S256x256.size (k0_off9_inb h)) (fun _ => rfl)
theorem credit_in4 : (inM4).view.dmaCredit = amt 4 := rfl
theorem credit_half4 (c : Dev nD) : (half4 c).view.dmaCredit = amt 4 := rfl
theorem credit_back4 (c : Dev nD) : (back4 c).view.dmaCredit = amt 4 := rfl
theorem in_4 (c : Dev nD) {h1 : (inM4).view.WordExact} {h2 : (back4 c).view.WordExact}
    {α : Type} {Q : α → sProp 𝕄} {kk : PUnit → Prog (TpuEff nD τ sig (Elt F) Λ₀ .tc) α} :
    iprop(records m X K ∗ wanted 4 c ∗ ∃ W, owes (c : Thread nD τ) 0 W)
      ⊢ iprop(((got X 4 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![4] S1.size inb_S10_S1_4)).squeeze S_ squeezes_S1_S_).sem inM4 (back4 c) h1 h2) kk) Q) :=
  wait_in m X K c 4 (sm := .dma ((cc0_scratch1.slice (Rect.unit (s := S10) ![4] S1.size inb_S10_S1_4)).squeeze S_ squeezes_S1_S_).sem) rfl (credit_back4 c) (wpE_waitDma2_eq 𝒱₀ (c : Thread nD τ) none Set.univ)
theorem out_4 (c : Dev nD) {h1 h4 : (inM4).view.WordExact} {h2 h3 : (half4 c).view.WordExact}
    {α : Type} {Q : α → sProp 𝕄} {kk : PUnit → Prog (TpuEff nD τ sig (Elt F) Λ₀ .tc) α} :
    iprop(records m X K ∗ (mid 4 c ∗ got X 4 c) ∗ ∃ W, owes (c : Thread nD τ) 0 W)
      ⊢ iprop(((done m X 4 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![4] S1.size inb_S10_S1_4)).squeeze S_ squeezes_S1_S_).sem (half4 c) inM4 h2 h1) fun _ => .op (.waitDma2 ((cc0_scratch2.slice (Rect.unit (s := S10) ![4] S1.size inb_S10_S1_4)).squeeze S_ squeezes_S1_S_).sem inM4 (half4 c) h4 h3) kk) Q) :=
  wait_out m X K c 4 (sm := .dma ((cc0_scratch0.slice (Rect.unit (s := S10) ![4] S1.size inb_S10_S1_4)).squeeze S_ squeezes_S1_S_).sem) (sm' := .dma ((cc0_scratch2.slice (Rect.unit (s := S10) ![4] S1.size inb_S10_S1_4)).squeeze S_ squeezes_S1_S_).sem) rfl credit_in4 rfl (credit_half4 c)
    (wpE_waitDma2_eq 𝒱₀ (c : Thread nD τ) none Set.univ) (wpE_waitDma2_eq 𝒱₀ (c : Thread nD τ) none Set.univ)

abbrev back5 (h : Dev nD) : Memref sig .tc .hbm S128x1024 .f32 :=
  (Memref.whole main_v1_5 : Memref sig .tc .hbm S256x1024 .f32).slice (Rect.unit (s := S256x1024) (k0_off10 h) S128x1024.size (k0_off10_inb h)) (fun _ => rfl)
theorem credit_in5 : (inM5).view.dmaCredit = amt 5 := rfl
theorem credit_half5 (c : Dev nD) : (half5 c).view.dmaCredit = amt 5 := rfl
theorem credit_back5 (c : Dev nD) : (back5 c).view.dmaCredit = amt 5 := rfl
theorem in_5 (c : Dev nD) {h1 : (inM5).view.WordExact} {h2 : (back5 c).view.WordExact}
    {α : Type} {Q : α → sProp 𝕄} {kk : PUnit → Prog (TpuEff nD τ sig (Elt F) Λ₀ .tc) α} :
    iprop(records m X K ∗ wanted 5 c ∗ ∃ W, owes (c : Thread nD τ) 0 W)
      ⊢ iprop(((got X 5 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![5] S1.size inb_S10_S1_5)).squeeze S_ squeezes_S1_S_).sem inM5 (back5 c) h1 h2) kk) Q) :=
  wait_in m X K c 5 (sm := .dma ((cc0_scratch1.slice (Rect.unit (s := S10) ![5] S1.size inb_S10_S1_5)).squeeze S_ squeezes_S1_S_).sem) rfl (credit_back5 c) (wpE_waitDma2_eq 𝒱₀ (c : Thread nD τ) none Set.univ)
theorem out_5 (c : Dev nD) {h1 h4 : (inM5).view.WordExact} {h2 h3 : (half5 c).view.WordExact}
    {α : Type} {Q : α → sProp 𝕄} {kk : PUnit → Prog (TpuEff nD τ sig (Elt F) Λ₀ .tc) α} :
    iprop(records m X K ∗ (mid 5 c ∗ got X 5 c) ∗ ∃ W, owes (c : Thread nD τ) 0 W)
      ⊢ iprop(((done m X 5 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![5] S1.size inb_S10_S1_5)).squeeze S_ squeezes_S1_S_).sem (half5 c) inM5 h2 h1) fun _ => .op (.waitDma2 ((cc0_scratch2.slice (Rect.unit (s := S10) ![5] S1.size inb_S10_S1_5)).squeeze S_ squeezes_S1_S_).sem inM5 (half5 c) h4 h3) kk) Q) :=
  wait_out m X K c 5 (sm := .dma ((cc0_scratch0.slice (Rect.unit (s := S10) ![5] S1.size inb_S10_S1_5)).squeeze S_ squeezes_S1_S_).sem) (sm' := .dma ((cc0_scratch2.slice (Rect.unit (s := S10) ![5] S1.size inb_S10_S1_5)).squeeze S_ squeezes_S1_S_).sem) rfl credit_in5 rfl (credit_half5 c)
    (wpE_waitDma2_eq 𝒱₀ (c : Thread nD τ) none Set.univ) (wpE_waitDma2_eq 𝒱₀ (c : Thread nD τ) none Set.univ)

abbrev back6 (h : Dev nD) : Memref sig .tc .hbm S256x256 .f32 :=
  (Memref.whole main_v1_6 : Memref sig .tc .hbm S512x256 .f32).slice (Rect.unit (s := S512x256) (k0_off9 h) S256x256.size (k0_off9_inb h)) (fun _ => rfl)
theorem credit_in6 : (inM6).view.dmaCredit = amt 6 := rfl
theorem credit_half6 (c : Dev nD) : (half6 c).view.dmaCredit = amt 6 := rfl
theorem credit_back6 (c : Dev nD) : (back6 c).view.dmaCredit = amt 6 := rfl
theorem in_6 (c : Dev nD) {h1 : (inM6).view.WordExact} {h2 : (back6 c).view.WordExact}
    {α : Type} {Q : α → sProp 𝕄} {kk : PUnit → Prog (TpuEff nD τ sig (Elt F) Λ₀ .tc) α} :
    iprop(records m X K ∗ wanted 6 c ∗ ∃ W, owes (c : Thread nD τ) 0 W)
      ⊢ iprop(((got X 6 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![6] S1.size inb_S10_S1_6)).squeeze S_ squeezes_S1_S_).sem inM6 (back6 c) h1 h2) kk) Q) :=
  wait_in m X K c 6 (sm := .dma ((cc0_scratch1.slice (Rect.unit (s := S10) ![6] S1.size inb_S10_S1_6)).squeeze S_ squeezes_S1_S_).sem) rfl (credit_back6 c) (wpE_waitDma2_eq 𝒱₀ (c : Thread nD τ) none Set.univ)
theorem out_6 (c : Dev nD) {h1 h4 : (inM6).view.WordExact} {h2 h3 : (half6 c).view.WordExact}
    {α : Type} {Q : α → sProp 𝕄} {kk : PUnit → Prog (TpuEff nD τ sig (Elt F) Λ₀ .tc) α} :
    iprop(records m X K ∗ (mid 6 c ∗ got X 6 c) ∗ ∃ W, owes (c : Thread nD τ) 0 W)
      ⊢ iprop(((done m X 6 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![6] S1.size inb_S10_S1_6)).squeeze S_ squeezes_S1_S_).sem (half6 c) inM6 h2 h1) fun _ => .op (.waitDma2 ((cc0_scratch2.slice (Rect.unit (s := S10) ![6] S1.size inb_S10_S1_6)).squeeze S_ squeezes_S1_S_).sem inM6 (half6 c) h4 h3) kk) Q) :=
  wait_out m X K c 6 (sm := .dma ((cc0_scratch0.slice (Rect.unit (s := S10) ![6] S1.size inb_S10_S1_6)).squeeze S_ squeezes_S1_S_).sem) (sm' := .dma ((cc0_scratch2.slice (Rect.unit (s := S10) ![6] S1.size inb_S10_S1_6)).squeeze S_ squeezes_S1_S_).sem) rfl credit_in6 rfl (credit_half6 c)
    (wpE_waitDma2_eq 𝒱₀ (c : Thread nD τ) none Set.univ) (wpE_waitDma2_eq 𝒱₀ (c : Thread nD τ) none Set.univ)

abbrev back7 (h : Dev nD) : Memref sig .tc .hbm S128x1024 .f32 :=
  (Memref.whole main_v1_7 : Memref sig .tc .hbm S256x1024 .f32).slice (Rect.unit (s := S256x1024) (k0_off10 h) S128x1024.size (k0_off10_inb h)) (fun _ => rfl)
theorem credit_in7 : (inM7).view.dmaCredit = amt 7 := rfl
theorem credit_half7 (c : Dev nD) : (half7 c).view.dmaCredit = amt 7 := rfl
theorem credit_back7 (c : Dev nD) : (back7 c).view.dmaCredit = amt 7 := rfl
theorem in_7 (c : Dev nD) {h1 : (inM7).view.WordExact} {h2 : (back7 c).view.WordExact}
    {α : Type} {Q : α → sProp 𝕄} {kk : PUnit → Prog (TpuEff nD τ sig (Elt F) Λ₀ .tc) α} :
    iprop(records m X K ∗ wanted 7 c ∗ ∃ W, owes (c : Thread nD τ) 0 W)
      ⊢ iprop(((got X 7 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![7] S1.size inb_S10_S1_7)).squeeze S_ squeezes_S1_S_).sem inM7 (back7 c) h1 h2) kk) Q) :=
  wait_in m X K c 7 (sm := .dma ((cc0_scratch1.slice (Rect.unit (s := S10) ![7] S1.size inb_S10_S1_7)).squeeze S_ squeezes_S1_S_).sem) rfl (credit_back7 c) (wpE_waitDma2_eq 𝒱₀ (c : Thread nD τ) none Set.univ)
theorem out_7 (c : Dev nD) {h1 h4 : (inM7).view.WordExact} {h2 h3 : (half7 c).view.WordExact}
    {α : Type} {Q : α → sProp 𝕄} {kk : PUnit → Prog (TpuEff nD τ sig (Elt F) Λ₀ .tc) α} :
    iprop(records m X K ∗ (mid 7 c ∗ got X 7 c) ∗ ∃ W, owes (c : Thread nD τ) 0 W)
      ⊢ iprop(((done m X 7 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![7] S1.size inb_S10_S1_7)).squeeze S_ squeezes_S1_S_).sem (half7 c) inM7 h2 h1) fun _ => .op (.waitDma2 ((cc0_scratch2.slice (Rect.unit (s := S10) ![7] S1.size inb_S10_S1_7)).squeeze S_ squeezes_S1_S_).sem inM7 (half7 c) h4 h3) kk) Q) :=
  wait_out m X K c 7 (sm := .dma ((cc0_scratch0.slice (Rect.unit (s := S10) ![7] S1.size inb_S10_S1_7)).squeeze S_ squeezes_S1_S_).sem) (sm' := .dma ((cc0_scratch2.slice (Rect.unit (s := S10) ![7] S1.size inb_S10_S1_7)).squeeze S_ squeezes_S1_S_).sem) rfl credit_in7 rfl (credit_half7 c)
    (wpE_waitDma2_eq 𝒱₀ (c : Thread nD τ) none Set.univ) (wpE_waitDma2_eq 𝒱₀ (c : Thread nD τ) none Set.univ)

abbrev back8 (h : Dev nD) : Memref sig .tc .hbm S512x1408 .f32 :=
  (Memref.whole main_v1_8 : Memref sig .tc .hbm S1024x1408 .f32).slice (Rect.unit (s := S1024x1408) (k0_off6 h) S512x1408.size (k0_off6_inb h)) (fun _ => rfl)
theorem credit_in8 : (inM8).view.dmaCredit = amt 8 := rfl
theorem credit_half8 (c : Dev nD) : (half8 c).view.dmaCredit = amt 8 := rfl
theorem credit_back8 (c : Dev nD) : (back8 c).view.dmaCredit = amt 8 := rfl
theorem in_8 (c : Dev nD) {h1 : (inM8).view.WordExact} {h2 : (back8 c).view.WordExact}
    {α : Type} {Q : α → sProp 𝕄} {kk : PUnit → Prog (TpuEff nD τ sig (Elt F) Λ₀ .tc) α} :
    iprop(records m X K ∗ wanted 8 c ∗ ∃ W, owes (c : Thread nD τ) 0 W)
      ⊢ iprop(((got X 8 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![8] S1.size inb_S10_S1_8)).squeeze S_ squeezes_S1_S_).sem inM8 (back8 c) h1 h2) kk) Q) :=
  wait_in m X K c 8 (sm := .dma ((cc0_scratch1.slice (Rect.unit (s := S10) ![8] S1.size inb_S10_S1_8)).squeeze S_ squeezes_S1_S_).sem) rfl (credit_back8 c) (wpE_waitDma2_eq 𝒱₀ (c : Thread nD τ) none Set.univ)
theorem out_8 (c : Dev nD) {h1 h4 : (inM8).view.WordExact} {h2 h3 : (half8 c).view.WordExact}
    {α : Type} {Q : α → sProp 𝕄} {kk : PUnit → Prog (TpuEff nD τ sig (Elt F) Λ₀ .tc) α} :
    iprop(records m X K ∗ (mid 8 c ∗ got X 8 c) ∗ ∃ W, owes (c : Thread nD τ) 0 W)
      ⊢ iprop(((done m X 8 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![8] S1.size inb_S10_S1_8)).squeeze S_ squeezes_S1_S_).sem (half8 c) inM8 h2 h1) fun _ => .op (.waitDma2 ((cc0_scratch2.slice (Rect.unit (s := S10) ![8] S1.size inb_S10_S1_8)).squeeze S_ squeezes_S1_S_).sem inM8 (half8 c) h4 h3) kk) Q) :=
  wait_out m X K c 8 (sm := .dma ((cc0_scratch0.slice (Rect.unit (s := S10) ![8] S1.size inb_S10_S1_8)).squeeze S_ squeezes_S1_S_).sem) (sm' := .dma ((cc0_scratch2.slice (Rect.unit (s := S10) ![8] S1.size inb_S10_S1_8)).squeeze S_ squeezes_S1_S_).sem) rfl credit_in8 rfl (credit_half8 c)
    (wpE_waitDma2_eq 𝒱₀ (c : Thread nD τ) none Set.univ) (wpE_waitDma2_eq 𝒱₀ (c : Thread nD τ) none Set.univ)

abbrev back9 (h : Dev nD) : Memref sig .tc .hbm S352x1024 .f32 :=
  (Memref.whole main_v1_9 : Memref sig .tc .hbm S704x1024 .f32).slice (Rect.unit (s := S704x1024) (k0_off7 h) S352x1024.size (k0_off7_inb h)) (fun _ => rfl)
theorem credit_in9 : (inM9).view.dmaCredit = amt 9 := rfl
theorem credit_half9 (c : Dev nD) : (half9 c).view.dmaCredit = amt 9 := rfl
theorem credit_back9 (c : Dev nD) : (back9 c).view.dmaCredit = amt 9 := rfl
theorem in_9 (c : Dev nD) {h1 : (inM9).view.WordExact} {h2 : (back9 c).view.WordExact}
    {α : Type} {Q : α → sProp 𝕄} {kk : PUnit → Prog (TpuEff nD τ sig (Elt F) Λ₀ .tc) α} :
    iprop(records m X K ∗ wanted 9 c ∗ ∃ W, owes (c : Thread nD τ) 0 W)
      ⊢ iprop(((got X 9 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 ((cc0_scratch1.slice (Rect.unit (s := S10) ![9] S1.size inb_S10_S1_9)).squeeze S_ squeezes_S1_S_).sem inM9 (back9 c) h1 h2) kk) Q) :=
  wait_in m X K c 9 (sm := .dma ((cc0_scratch1.slice (Rect.unit (s := S10) ![9] S1.size inb_S10_S1_9)).squeeze S_ squeezes_S1_S_).sem) rfl (credit_back9 c) (wpE_waitDma2_eq 𝒱₀ (c : Thread nD τ) none Set.univ)
theorem out_9 (c : Dev nD) {h1 h4 : (inM9).view.WordExact} {h2 h3 : (half9 c).view.WordExact}
    {α : Type} {Q : α → sProp 𝕄} {kk : PUnit → Prog (TpuEff nD τ sig (Elt F) Λ₀ .tc) α} :
    iprop(records m X K ∗ (mid 9 c ∗ got X 9 c) ∗ ∃ W, owes (c : Thread nD τ) 0 W)
      ⊢ iprop(((done m X 9 c ∗ ∃ W, owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 ((cc0_scratch0.slice (Rect.unit (s := S10) ![9] S1.size inb_S10_S1_9)).squeeze S_ squeezes_S1_S_).sem (half9 c) inM9 h2 h1) fun _ => .op (.waitDma2 ((cc0_scratch2.slice (Rect.unit (s := S10) ![9] S1.size inb_S10_S1_9)).squeeze S_ squeezes_S1_S_).sem inM9 (half9 c) h4 h3) kk) Q) :=
  wait_out m X K c 9 (sm := .dma ((cc0_scratch0.slice (Rect.unit (s := S10) ![9] S1.size inb_S10_S1_9)).squeeze S_ squeezes_S1_S_).sem) (sm' := .dma ((cc0_scratch2.slice (Rect.unit (s := S10) ![9] S1.size inb_S10_S1_9)).squeeze S_ squeezes_S1_S_).sem) rfl credit_in9 rfl (credit_half9 c)
    (wpE_waitDma2_eq 𝒱₀ (c : Thread nD τ) none Set.univ) (wpE_waitDma2_eq 𝒱₀ (c : Thread nD τ) none Set.univ)

set_option maxHeartbeats 1000000 in
set_option maxRecDepth 8000 in
/-- The body: every copy started, every half received, every copy out and every local copy finished. -/
theorem body_run (hX : Good m X) (c : Dev nD) (W : Waits sig Unit) (Kt : PUnit → sProp 𝕄) :
    iprop(records m X K ∗ (bigSep Finset.univ fun w => iprop(start m w c ∗ wanted w c)) ∗ owes (c : Thread nD τ) (O₀ c) W
        ∗ (((bigSep Finset.univ fun w => done m X w c) ∗ ∃ W, owes (c : Thread nD τ) 0 W) -∗ Kt ⟨⟩))
      ⊢ wp frame (wpE (defs₀ (F := F)) 𝒱₀ (c : Thread nD τ) none) Set.univ (bodyAt0 t0_0) Kt := by
  unfold bodyAt0
  simp only [cc0_exchange_halves_eq_skeleton]; unfold cc0_exchange_halves_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [Prog.lift, Prog.bind_op, Prog.bind_ret, Prog.pure_eq_ret, wp_deviceId]
  rw [bigSep_arr, bigSep_arr]
  unfold O₀
  iintro ⟨#HR, ⟨⟨S0, R0⟩, ⟨S1, R1⟩, ⟨S2, R2⟩, ⟨S3, R3⟩, ⟨S4, R4⟩, ⟨S5, R5⟩, ⟨S6, R6⟩, ⟨S7, R7⟩, ⟨S8, R8⟩, ⟨S9, R9⟩⟩, HO, Hk⟩
  iapply (start_any m X K 0 c _ (dev1_eq c) [1, 2, 3, 4, 5, 6, 7, 8, 9] W (src := inM0) (dst := half0 c) (in_eq0 m · c) (fun _ => .rfl) (begin_0 m X hX c) rfl rfl rfl rfl) $$ [S0 HO]
  · isplitr; · iexact HR
    isplitl [S0]; · iexact S0
    iexact HO
  iintro ⟨S0, HO⟩
  iapply (start_any m X K 1 c _ (dev2_eq c) [2, 3, 4, 5, 6, 7, 8, 9] W (src := inM1) (dst := half1 c) (in_eq1 m · c) (fun _ => .rfl) (begin_1 m X hX c) rfl rfl rfl rfl) $$ [S1 HO]
  · isplitr; · iexact HR
    isplitl [S1]; · iexact S1
    iexact HO
  iintro ⟨S1, HO⟩
  iapply (start_any m X K 2 c _ (dev3_eq c) [3, 4, 5, 6, 7, 8, 9] W (src := inM2) (dst := half2 c) (in_eq2 m · c) (fun _ => .rfl) (begin_2 m X hX c) rfl rfl rfl rfl) $$ [S2 HO]
  · isplitr; · iexact HR
    isplitl [S2]; · iexact S2
    iexact HO
  iintro ⟨S2, HO⟩
  iapply (start_any m X K 3 c _ (dev4_eq c) [4, 5, 6, 7, 8, 9] W (src := inM3) (dst := half3 c) (in_eq3 m · c) (fun _ => .rfl) (begin_3 m X hX c) rfl rfl rfl rfl) $$ [S3 HO]
  · isplitr; · iexact HR
    isplitl [S3]; · iexact S3
    iexact HO
  iintro ⟨S3, HO⟩
  iapply (start_any m X K 4 c _ (dev5_eq c) [5, 6, 7, 8, 9] W (src := inM4) (dst := half4 c) (in_eq4 m · c) (fun _ => .rfl) (begin_4 m X hX c) rfl rfl rfl rfl) $$ [S4 HO]
  · isplitr; · iexact HR
    isplitl [S4]; · iexact S4
    iexact HO
  iintro ⟨S4, HO⟩
  iapply (start_any m X K 5 c _ (dev6_eq c) [6, 7, 8, 9] W (src := inM5) (dst := half5 c) (in_eq5 m · c) (fun _ => .rfl) (begin_5 m X hX c) rfl rfl rfl rfl) $$ [S5 HO]
  · isplitr; · iexact HR
    isplitl [S5]; · iexact S5
    iexact HO
  iintro ⟨S5, HO⟩
  iapply (start_any m X K 6 c _ (dev7_eq c) [7, 8, 9] W (src := inM6) (dst := half6 c) (in_eq6 m · c) (fun _ => .rfl) (begin_6 m X hX c) rfl rfl rfl rfl) $$ [S6 HO]
  · isplitr; · iexact HR
    isplitl [S6]; · iexact S6
    iexact HO
  iintro ⟨S6, HO⟩
  iapply (start_any m X K 7 c _ (dev8_eq c) [8, 9] W (src := inM7) (dst := half7 c) (in_eq7 m · c) (fun _ => .rfl) (begin_7 m X hX c) rfl rfl rfl rfl) $$ [S7 HO]
  · isplitr; · iexact HR
    isplitl [S7]; · iexact S7
    iexact HO
  iintro ⟨S7, HO⟩
  iapply (start_any m X K 8 c _ (dev9_eq c) [9] W (src := inM8) (dst := half8 c) (in_eq8 m · c) (fun _ => .rfl) (begin_8 m X hX c) rfl rfl rfl rfl) $$ [S8 HO]
  · isplitr; · iexact HR
    isplitl [S8]; · iexact S8
    iexact HO
  iintro ⟨S8, HO⟩
  iapply (start_any m X K 9 c _ (dev10_eq c) [] W (src := inM9) (dst := half9 c) (in_eq9 m · c) (fun _ => .rfl) (begin_9 m X hX c) rfl rfl rfl rfl) $$ [S9 HO]
  · isplitr; · iexact HR
    isplitl [S9]; · iexact S9
    iexact HO
  iintro ⟨S9, HO⟩
  ihave HO := (show owes (c : Thread nD τ) (owed c []) W ⊢ (iprop(∃ W, owes (c : Thread nD τ) 0 W) : sProp 𝕄) from by
    iintro H; iexists W; iexact H) $$ HO
  iapply (in_0 m X K c) $$ [R0 HO]
  · isplitr; · iexact HR
    isplitl [R0]; · iexact R0
    iexact HO
  iintro ⟨R0, HO⟩
  iapply (in_1 m X K c) $$ [R1 HO]
  · isplitr; · iexact HR
    isplitl [R1]; · iexact R1
    iexact HO
  iintro ⟨R1, HO⟩
  iapply (in_2 m X K c) $$ [R2 HO]
  · isplitr; · iexact HR
    isplitl [R2]; · iexact R2
    iexact HO
  iintro ⟨R2, HO⟩
  iapply (in_3 m X K c) $$ [R3 HO]
  · isplitr; · iexact HR
    isplitl [R3]; · iexact R3
    iexact HO
  iintro ⟨R3, HO⟩
  iapply (in_4 m X K c) $$ [R4 HO]
  · isplitr; · iexact HR
    isplitl [R4]; · iexact R4
    iexact HO
  iintro ⟨R4, HO⟩
  iapply (in_5 m X K c) $$ [R5 HO]
  · isplitr; · iexact HR
    isplitl [R5]; · iexact R5
    iexact HO
  iintro ⟨R5, HO⟩
  iapply (in_6 m X K c) $$ [R6 HO]
  · isplitr; · iexact HR
    isplitl [R6]; · iexact R6
    iexact HO
  iintro ⟨R6, HO⟩
  iapply (in_7 m X K c) $$ [R7 HO]
  · isplitr; · iexact HR
    isplitl [R7]; · iexact R7
    iexact HO
  iintro ⟨R7, HO⟩
  iapply (in_8 m X K c) $$ [R8 HO]
  · isplitr; · iexact HR
    isplitl [R8]; · iexact R8
    iexact HO
  iintro ⟨R8, HO⟩
  iapply (in_9 m X K c) $$ [R9 HO]
  · isplitr; · iexact HR
    isplitl [R9]; · iexact R9
    iexact HO
  iintro ⟨R9, HO⟩
  iapply (out_0 m X K c) $$ [S0 R0 HO]
  · isplitr; · iexact HR
    isplitr [HO]
    · isplitl [S0] <;> iassumption
    · iexact HO
  iintro ⟨S0, HO⟩
  iapply (out_1 m X K c) $$ [S1 R1 HO]
  · isplitr; · iexact HR
    isplitr [HO]
    · isplitl [S1] <;> iassumption
    · iexact HO
  iintro ⟨S1, HO⟩
  iapply (out_2 m X K c) $$ [S2 R2 HO]
  · isplitr; · iexact HR
    isplitr [HO]
    · isplitl [S2] <;> iassumption
    · iexact HO
  iintro ⟨S2, HO⟩
  iapply (out_3 m X K c) $$ [S3 R3 HO]
  · isplitr; · iexact HR
    isplitr [HO]
    · isplitl [S3] <;> iassumption
    · iexact HO
  iintro ⟨S3, HO⟩
  iapply (out_4 m X K c) $$ [S4 R4 HO]
  · isplitr; · iexact HR
    isplitr [HO]
    · isplitl [S4] <;> iassumption
    · iexact HO
  iintro ⟨S4, HO⟩
  iapply (out_5 m X K c) $$ [S5 R5 HO]
  · isplitr; · iexact HR
    isplitr [HO]
    · isplitl [S5] <;> iassumption
    · iexact HO
  iintro ⟨S5, HO⟩
  iapply (out_6 m X K c) $$ [S6 R6 HO]
  · isplitr; · iexact HR
    isplitr [HO]
    · isplitl [S6] <;> iassumption
    · iexact HO
  iintro ⟨S6, HO⟩
  iapply (out_7 m X K c) $$ [S7 R7 HO]
  · isplitr; · iexact HR
    isplitr [HO]
    · isplitl [S7] <;> iassumption
    · iexact HO
  iintro ⟨S7, HO⟩
  iapply (out_8 m X K c) $$ [S8 R8 HO]
  · isplitr; · iexact HR
    isplitr [HO]
    · isplitl [S8] <;> iassumption
    · iexact HO
  iintro ⟨S8, HO⟩
  iapply (out_9 m X K c) $$ [S9 R9 HO]
  · isplitr; · iexact HR
    isplitr [HO]
    · isplitl [S9] <;> iassumption
    · iexact HO
  iintro ⟨S9, HO⟩
  rw [wp_ret]; imodintro
  iapply Hk
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  · iexact HO

end Steps
/-! ## The launch -/

section Launch

theorem own_facts : Pipeline.OwnSemFacts cfg0.spec osem := by decide

def Φ₀ (c : Dev nD) : sProp 𝕄 := iprop(∃ K, records m X K ∗ bigSep Finset.univ fun w : Arr => iprop(start m w c ∗ wanted w c))
def Φ₁ (c : Dev nD) : sProp 𝕄 := bigSep Finset.univ fun w : Arr => done m X w c

def dats (_ : Fin 1) (c : Dev nD) : Dat τ (Elt F) Unit ℕ UU ℕ cfg0 c where
  A w := (w : Fin 0).elim0
  after w _ := (w : Fin 0).elim0
  Φ t := match t with
    | ⟨0, _⟩ => Φ₀ m X c
    | ⟨_ + 1, _⟩ => Φ₁ m X c
  q _ := fullShare
  owed t := match t with
    | ⟨0, _⟩ => O₀ c
    | ⟨_ + 1, _⟩ => 0

theorem body_ok (hX : Good m X) (c : Dev nD) : Pipeline.BodyObligationLoose (dats m X 0 c) (defs₀ (F := F)) 𝒱₀ () Set.univ := fun t => by
  rw [fin_N0 t]
  have hE : (Finset.univ : Finset (Fin cfg0.W)) = ∅ := rfl
  rw [hE, bigSep_empty, bigSep_empty]
  show iprop(Φ₀ m X c ∗ (dats m X 0 c).owesAt () t0_0.castSucc ∗ emp) ⊢ wp frame (wpE (defs₀ (F := F)) 𝒱₀ (c : Thread nD τ) none) Set.univ (bodyAt0 t0_0)
    (fun _ => iprop(Φ₁ m X c ∗ (dats m X 0 c).owesAt () t0_0.succ ∗ emp))
  unfold Φ₀ Dat.owesAt Pipeline.owesWithin
  iintro ⟨⟨%K, #HR, Hs⟩, ⟨%W, -, HO⟩, -⟩
  iapply (body_run m X K hX c W _)
  isplitr; · iexact HR
  isplitl [Hs]; · iexact Hs
  isplitl [HO]; · iexact HO
  iintro ⟨Hd, ⟨%W', HO⟩⟩
  isplitl [Hd]; · unfold Φ₁; iexact Hd
  isplitl [HO]
  · iexists W'
    isplitr; · ipureintro; exact fun _ _ => Or.inl trivial
    iexact HO
  · iempintro

/-! ### The semaphores' records -/

def cells0 : Finset (GSem nD τ sig) := Finset.univ.map ⟨kcell, kcell_injective⟩
def toks0 : Finset (GSem nD τ sig × ℕ × Unit) := Finset.univ.map ⟨fun ck : Dev nD × Sem3 => (kcell ck, 0, ()), fun _ _ h => kcell_injective (congrArg Prod.fst h)⟩
def u₀ : UU := (initOf (Pipeline.cells cfgs cellOf_inj) (Pipeline.launchToks cfgs cellOf_inj), initOf cells0 toks0)

omit [FloatOps F] in
theorem fund_all : BI.own (ER (initOf cells0 toks0)) ⊢ (|==> iprop((bigSep Finset.univ fun ck : Dev nD × Sem3 => roundState ER (plan m X) (kcell ck) 0)
      ∗ (bigSep Finset.univ fun ck : Dev nD × Sem3 => reached ER (kcell ck) 0)
      ∗ (bigSep Finset.univ fun ck : Dev nD × Sem3 => atPos ER (kcell ck) 0 ∅ 0)
      ∗ bigSep Finset.univ fun ck : Dev nD × Sem3 => dutyTok ER (kcell ck) 0 ()) : sProp 𝕄) := by
  refine (Rounds.fund ER (plan m X) cells0 toks0).trans (BI.bupd_mono ?_)
  unfold cells0 toks0
  rw [bigSep_map, bigSep_map, bigSep_map, bigSep_map]
  exact BI.Entails.refl _

omit [FloatOps F] in
theorem open_all : iprop((bigSep Finset.univ fun ck : Dev nD × Sem3 => semVal (kcell ck) 0) ∗ bigSep Finset.univ fun ck : Dev nD × Sem3 => roundState ER (plan m X) (kcell ck) 0)
    ⊢ (|={Set.univ}=> iprop(∃ K : Dev nD × Sem3 → ℕ, bigSep Finset.univ fun ck => cellInv ER (plan m X) (K ck) (kcell ck)) : sProp 𝕄) := by
  rw [← bigSep_sep']
  have h (ck : Dev nD × Sem3) : iprop(semVal (kcell ck) 0 ∗ roundState ER (plan m X) (kcell ck) 0)
      ⊢ (|={Set.univ}=> iprop(∃ κ : ℕ, cellInv ER (plan m X) κ (kcell ck)) : sProp 𝕄) := (Rounds.body_intro ER (plan m X) (kcell ck)).trans inv_alloc
  refine (bigSep_mono fun ck _ => h ck).trans ?_
  exact (bigSep_fupd _ _).trans (BI.fupd_mono (BI.bigSep_exists_pi Finset.univ fun (ck : Dev nD × Sem3) (κ : ℕ) => (cellInv ER (plan m X) κ (kcell ck) : sProp 𝕄)))

/-! ### The deal -/

/-- One device's part of array `w`, before the deal and after it. -/
def part (w : Arr) (c : Dev nD) : sProp 𝕄 :=
  iprop((bigSep Finset.univ fun j : Fin 3 => atPos ER (kcell (c, (w, j))) 0 ∅ 0) ∗ (bigSep Finset.univ fun j : Fin 3 => dutyTok ER (kcell (c, (w, j))) 0 ())
    ∗ inP m w fullShare c ∗ ∃ f, outW w c f)
def ready (w : Arr) (c : Dev nD) : sProp 𝕄 := iprop(start m w c ∗ atPos ER (kcell (c, (w, 1))) 0 ∅ 0)

omit [FloatOps F] in
/-- The devices exchange the tokens of the copies in and the halves of the buffers. -/
theorem deal (w : Arr) : (bigSep Finset.univ fun c => part (F := F) m w c) ⊢ bigSep Finset.univ fun c => ready m w c := by
  rw [bigSep_dev, bigSep_dev]
  unfold part ready start
  simp only [each_sem, show peer 0 = 1 from rfl, show peer 1 = 0 from rfl]
  iintro ⟨⟨⟨A0, A1, A2⟩, ⟨T0, T1, T2⟩, I, ⟨%f, O⟩⟩, ⟨⟨B0, B1, B2⟩, ⟨U0, U1, U2⟩, J, ⟨%g, P⟩⟩⟩
  ihave I := (in_shares m w 0).1 $$ I
  icases I with ⟨I1, I2⟩
  ihave J := (in_shares m w 1).1 $$ J
  icases J with ⟨J1, J2⟩
  ihave O := (out_halves w 0 0 f).1 $$ O
  icases O with ⟨O1, O2⟩
  ihave P := (out_halves w 1 1 g).1 $$ P
  icases P with ⟨P1, P2⟩
  isplitl [I1 I2 O1 P2 T0 T2 U1 A0 A1 A2]
  · isplitr [A1]
    · isplitl [I1 I2]; · isplitl [I1] <;> iassumption
      isplitl [O1 P2]
      · isplitl [O1]
        · iexists f; iexact O1
        · iexists g; iexact P2
      isplitl [T0 T2 U1]
      · isplitl [T2]; · iexact T2
        isplitl [T0] <;> iassumption
      isplitl [A0] <;> iassumption
    · iexact A1
  · isplitr [B1]
    · isplitl [J1 J2]; · isplitl [J1] <;> iassumption
      isplitl [P1 O2]
      · isplitl [P1]
        · iexists g; iexact P1
        · iexists f; iexact O2
      isplitl [U0 U2 T1]
      · isplitl [U2]; · iexact U2
        isplitl [U0] <;> iassumption
      isplitl [B0] <;> iassumption
    · iexact B1

omit [FloatOps F] in
theorem by_array (Φ : Dev nD → Arr → sProp 𝕄) : (bigSep Finset.univ fun c => bigSep Finset.univ fun w : Arr => Φ c w) = bigSep Finset.univ fun w : Arr => bigSep Finset.univ fun c => Φ c w := by
  rw [bigSep_dev, ← bigSep_sep']; exact bigSep_congr fun w _ => (bigSep_dev fun c => Φ c w).symm

omit [FloatOps F] in
theorem deal_all :
    iprop((bigSep Finset.univ fun ck : Dev nD × Sem3 => atPos ER (kcell ck) 0 ∅ 0) ∗ (bigSep Finset.univ fun ck : Dev nD × Sem3 => dutyTok ER (kcell ck) 0 ())
        ∗ (bigSep Finset.univ fun c : Dev nD => bigSep Finset.univ fun w : Arr => inP m w fullShare c)
        ∗ bigSep Finset.univ fun c : Dev nD => bigSep Finset.univ fun w : Arr => iprop(∃ f, outW (F := F) w c f))
      ⊢ bigSep Finset.univ fun c : Dev nD => bigSep Finset.univ fun w : Arr => ready m w c := by
  have h : (bigSep Finset.univ fun c : Dev nD => bigSep Finset.univ fun w : Arr => part (F := F) m w c)
      ⊢ bigSep Finset.univ fun c : Dev nD => bigSep Finset.univ fun w : Arr => ready m w c := by
    rw [by_array fun c w => part m w c, by_array fun c w => ready m w c]
    exact bigSep_mono fun w _ => deal m w
  refine Entails.trans (Entails.of_eq ?_) h
  unfold part
  simp only [bigSep_sep']
  rw [bigSep_univ_prod, bigSep_univ_prod]
  simp only [bigSep_univ_prod]

/-! ### The credits -/

theorem owed_at (d : Dev nD) (l : List Arr) (g : GSem nD τ sig) (h : owed d l g ≠ 0) : g.1 = ((peer d : Dev nD) : Thread nD τ) := by
  induction l with
  | nil => exact absurd rfl h
  | cons w l ih =>
    rw [owed_cons, Pi.add_apply] at h
    by_cases hg : g = kcell (peer d, (w, 1))
    · rw [hg]
    · rw [tallyAt_ne_cell hg, add_zero] at h; exact ih h

omit [FloatOps F] in
theorem one_cred (c : Dev nD) (w : Arr) (l : List Arr) :
    (cred (owed (peer c) (w :: l)) : sProp 𝕄) ⊢ iprop(cred (owed (peer c) l) ∗ cred (tallyAt (kcell (c, (w, 1))) () (amt w))) := by
  rw [owed_cons, peer_twice]; exact (cred_add _ _).1

omit [FloatOps F] in
theorem credits (c : Dev nD) : (Pipeline.launchCred O₀ c : sProp 𝕄) ⊢ bigSep Finset.univ fun w : Arr => cred (tallyAt (kcell (c, (w, 1))) () (amt w)) := by
  rw [Pipeline.launchCred_of_sum O₀ (fun d => O₀ (peer d)) (Equiv.sum_comp ⟨peer, peer, peer_twice, peer_twice⟩ O₀).symm
    (fun d g h => (owed_at (peer d) arrs g h).trans (by rw [peer_twice])) c, bigSep_arr]
  unfold O₀
  iintro H
  ihave H := (one_cred (F := F) c 0 [1, 2, 3, 4, 5, 6, 7, 8, 9]) $$ H
  icases H with ⟨H, C0⟩
  ihave H := (one_cred (F := F) c 1 [2, 3, 4, 5, 6, 7, 8, 9]) $$ H
  icases H with ⟨H, C1⟩
  ihave H := (one_cred (F := F) c 2 [3, 4, 5, 6, 7, 8, 9]) $$ H
  icases H with ⟨H, C2⟩
  ihave H := (one_cred (F := F) c 3 [4, 5, 6, 7, 8, 9]) $$ H
  icases H with ⟨H, C3⟩
  ihave H := (one_cred (F := F) c 4 [5, 6, 7, 8, 9]) $$ H
  icases H with ⟨H, C4⟩
  ihave H := (one_cred (F := F) c 5 [6, 7, 8, 9]) $$ H
  icases H with ⟨H, C5⟩
  ihave H := (one_cred (F := F) c 6 [7, 8, 9]) $$ H
  icases H with ⟨H, C6⟩
  ihave H := (one_cred (F := F) c 7 [8, 9]) $$ H
  icases H with ⟨H, C7⟩
  ihave H := (one_cred (F := F) c 8 [9]) $$ H
  icases H with ⟨H, C8⟩
  ihave H := (one_cred (F := F) c 9 []) $$ H
  icases H with ⟨H, C9⟩
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

/-! ### A core before and after -/

omit [FloatOps F] in
theorem in_whole0 (q) (c : Dev nD) : inP (F := F) m 0 q c = (((c : Thread nD τ).loc main_arg0) ↦{q} m ((c : Thread nD τ).loc main_arg0)) := rfl
omit [FloatOps F] in
theorem out_whole0 (d : Dev nD) (f) : outW (F := F) 0 d f = (((d : Thread nD τ).loc main_v1_0) ↦{fullShare} f) := rfl
omit [FloatOps F] in
theorem in_whole1 (q) (c : Dev nD) : inP (F := F) m 1 q c = (((c : Thread nD τ).loc main_arg1) ↦{q} m ((c : Thread nD τ).loc main_arg1)) := rfl
omit [FloatOps F] in
theorem out_whole1 (d : Dev nD) (f) : outW (F := F) 1 d f = (((d : Thread nD τ).loc main_v1_1) ↦{fullShare} f) := rfl
omit [FloatOps F] in
theorem in_whole2 (q) (c : Dev nD) : inP (F := F) m 2 q c = (((c : Thread nD τ).loc main_arg2) ↦{q} m ((c : Thread nD τ).loc main_arg2)) := rfl
omit [FloatOps F] in
theorem out_whole2 (d : Dev nD) (f) : outW (F := F) 2 d f = (((d : Thread nD τ).loc main_v1_2) ↦{fullShare} f) := rfl
omit [FloatOps F] in
theorem in_whole3 (q) (c : Dev nD) : inP (F := F) m 3 q c = (((c : Thread nD τ).loc main_arg3) ↦{q} m ((c : Thread nD τ).loc main_arg3)) := rfl
omit [FloatOps F] in
theorem out_whole3 (d : Dev nD) (f) : outW (F := F) 3 d f = (((d : Thread nD τ).loc main_v1_3) ↦{fullShare} f) := rfl
omit [FloatOps F] in
theorem in_whole4 (q) (c : Dev nD) : inP (F := F) m 4 q c = (((c : Thread nD τ).loc main_arg4) ↦{q} m ((c : Thread nD τ).loc main_arg4)) := rfl
omit [FloatOps F] in
theorem out_whole4 (d : Dev nD) (f) : outW (F := F) 4 d f = (((d : Thread nD τ).loc main_v1_4) ↦{fullShare} f) := rfl
omit [FloatOps F] in
theorem in_whole5 (q) (c : Dev nD) : inP (F := F) m 5 q c = (((c : Thread nD τ).loc main_arg5) ↦{q} m ((c : Thread nD τ).loc main_arg5)) := rfl
omit [FloatOps F] in
theorem out_whole5 (d : Dev nD) (f) : outW (F := F) 5 d f = (((d : Thread nD τ).loc main_v1_5) ↦{fullShare} f) := rfl
omit [FloatOps F] in
theorem in_whole6 (q) (c : Dev nD) : inP (F := F) m 6 q c = (((c : Thread nD τ).loc main_arg6) ↦{q} m ((c : Thread nD τ).loc main_arg6)) := rfl
omit [FloatOps F] in
theorem out_whole6 (d : Dev nD) (f) : outW (F := F) 6 d f = (((d : Thread nD τ).loc main_v1_6) ↦{fullShare} f) := rfl
omit [FloatOps F] in
theorem in_whole7 (q) (c : Dev nD) : inP (F := F) m 7 q c = (((c : Thread nD τ).loc main_arg7) ↦{q} m ((c : Thread nD τ).loc main_arg7)) := rfl
omit [FloatOps F] in
theorem out_whole7 (d : Dev nD) (f) : outW (F := F) 7 d f = (((d : Thread nD τ).loc main_v1_7) ↦{fullShare} f) := rfl
omit [FloatOps F] in
theorem in_whole8 (q) (c : Dev nD) : inP (F := F) m 8 q c = (((c : Thread nD τ).loc main_arg8) ↦{q} m ((c : Thread nD τ).loc main_arg8)) := rfl
omit [FloatOps F] in
theorem out_whole8 (d : Dev nD) (f) : outW (F := F) 8 d f = (((d : Thread nD τ).loc main_v1_8) ↦{fullShare} f) := rfl
omit [FloatOps F] in
theorem in_whole9 (q) (c : Dev nD) : inP (F := F) m 9 q c = (((c : Thread nD τ).loc main_arg9) ↦{q} m ((c : Thread nD τ).loc main_arg9)) := rfl
omit [FloatOps F] in
theorem out_whole9 (d : Dev nD) (f) : outW (F := F) 9 d f = (((d : Thread nD τ).loc main_v1_9) ↦{fullShare} f) := rfl

/-- What stays with a core. -/
def held (c : Dev nD) : sProp 𝕄 :=
  iprop(scopedBufs (c : Thread nD τ) ∗ Pipeline.cellsSems0 cfgs 0 c ∗ Pipeline.idleSems0 cfgs cellOf_inj 0 own_facts c ∗ owes (c : Thread nD τ) (O₀ c) ∅ ∗ Pipeline.launchCred O₀ c)
/-- What it gives to the deal. -/
def given (c : Dev nD) : sProp 𝕄 :=
  iprop((bigSep Finset.univ fun k : Sem3 => semVal (kcell (c, k)) 0) ∗ (bigSep Finset.univ fun w : Arr => inP m w fullShare c) ∗ bigSep Finset.univ fun w : Arr => iprop(∃ f, outW w c f))
def before (c : Dev nD) : sProp 𝕄 :=
  iprop(held c ∗ Pipeline.cellsGhost cfgs EP 0 c ∗ Pipeline.toksInit cfgs EP 0 c ∗ ∃ K, records m X K ∗ bigSep Finset.univ fun w : Arr => ready m w c)
def afterwards (c : Dev nD) : sProp 𝕄 :=
  iprop(((bigSep Finset.univ fun w : Arr => inP m w fullShare c) ∗ bigSep Finset.univ fun w : Arr => outW w c (X w)) ∗ scopedSems0 (c : Thread nD τ))

omit [FloatOps F] in
theorem sems_split (c : Dev nD) : (scopedSems0 (c : Thread nD τ) : sProp 𝕄)
    = iprop((Pipeline.cellsSems0 cfgs 0 c ∗ Pipeline.ownSems0 osem c) ∗ Pipeline.idleSems0 cfgs cellOf_inj 0 own_facts c) :=
  Pipeline.scopedSems0_split cfgs cellOf_inj 0 winFacts0.to₀ own_facts c
omit [FloatOps F] in
theorem bufs_split (c : Dev nD) : (scopedBufs (c : Thread nD τ) : sProp 𝕄) = iprop(Dat.staging cfg0 c ∗ Pipeline.scopedRest cfg0.spec c) :=
  Pipeline.scopedBufs_split cfgs 0 winFacts0.to₀.stage_scoped winFacts0.to₀.stage_inj stage_whole0 c

omit [FloatOps F] in
theorem arrays_given (c : Dev nD) : (Pipeline.unscopedRest cfg0.spec c (fun b => m ((c : Thread nD τ).loc b)) : sProp 𝕄)
    ⊢ iprop((bigSep Finset.univ fun w : Arr => inP m w fullShare c) ∗ bigSep Finset.univ fun w : Arr => iprop(∃ f, outW w c f)) := by
  rw [unscopedRest0_eq, bigSep_arr, bigSep_arr]
  simp only [in_whole0, out_whole0, in_whole1, out_whole1, in_whole2, out_whole2, in_whole3, out_whole3, in_whole4, out_whole4, in_whole5, out_whole5, in_whole6, out_whole6, in_whole7, out_whole7, in_whole8, out_whole8, in_whole9, out_whole9]
  iintro ⟨I0, I1, I2, I3, I4, I5, I6, I7, I8, I9, O0, O1, O2, O3, O4, O5, O6, O7, O8, O9⟩
  isplitl [I0 I1 I2 I3 I4 I5 I6 I7 I8 I9]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iexact I9
  isplitl [O0]; · iexists _; iexact O0
  isplitl [O1]; · iexists _; iexact O1
  isplitl [O2]; · iexists _; iexact O2
  isplitl [O3]; · iexists _; iexact O3
  isplitl [O4]; · iexists _; iexact O4
  isplitl [O5]; · iexists _; iexact O5
  isplitl [O6]; · iexists _; iexact O6
  isplitl [O7]; · iexists _; iexact O7
  isplitl [O8]; · iexists _; iexact O8
  iexists _; iexact O9

omit [FloatOps F] in
theorem core_opens (c : Dev nD) : (coreInit (Ix := Unit) (Name := ℕ) (U := UU) (Lvl := ℕ) (Pipeline.owing O₀) 0 (⟨m, fun _ => 0, ρ⟩ : MemSt nD τ sig (Elt F)) (c : Thread nD τ) : sProp 𝕄)
    ⊢ iprop(held c ∗ given m c) := by
  refine (Pipeline.coreInit_boundary_owing O₀ m ρ c).trans ?_
  unfold boundary held given
  rw [sems_split c, Pipeline.unscopedBufs_split cfgs 0 winFacts0.to₀.arr_unscoped winFacts0.arr_inj c]
  iintro ⟨⟨Hb, ⟨⟨Hc, Ho⟩, Hi⟩, -⟩, ⟨-, Hu⟩, -, HO, -, -, Hcr⟩
  isplitr [Ho Hu]
  · isplitl [Hb]; · iexact Hb
    isplitl [Hc]; · iexact Hc
    isplitl [Hi]; · iexact Hi
    isplitl [HO] <;> iassumption
  · isplitl [Ho]; · unfold Pipeline.ownSems0; iexact Ho
    iapply (arrays_given m c); iexact Hu

omit [FloatOps F] in
theorem launch : iprop((bigSep Finset.univ fun c : Dev nD => coreInit (Ix := Unit) (Name := ℕ) (U := UU) (Lvl := ℕ) (Pipeline.owing O₀) 0 (⟨m, fun _ => 0, ρ⟩ : MemSt nD τ sig (Elt F)) (c : Thread nD τ)) ∗ ownU u₀)
    ⊢ (|={Set.univ}=> ∃ _ : Unit, bigSep Finset.univ (before m X) ∗ emp : sProp 𝕄) := by
  have hopen : (bigSep Finset.univ fun c : Dev nD => coreInit (Ix := Unit) (Name := ℕ) (U := UU) (Lvl := ℕ) (Pipeline.owing O₀) 0 (⟨m, fun _ => 0, ρ⟩ : MemSt nD τ sig (Elt F)) (c : Thread nD τ))
      ⊢ (bigSep Finset.univ fun c : Dev nD => iprop(held c ∗ given m c) : sProp 𝕄) := bigSep_mono fun c _ => core_opens m ρ c
  have hg : (bigSep Finset.univ fun c : Dev nD => bigSep Finset.univ fun p => Pipeline.cellsGhost cfgs EP p c)
      ⊢ (bigSep Finset.univ fun c : Dev nD => Pipeline.cellsGhost cfgs EP 0 c : sProp 𝕄) := bigSep_mono fun c _ => bigSep_elim (Finset.mem_univ 0)
  have ht : (bigSep Finset.univ fun c : Dev nD => bigSep Finset.univ fun p => Pipeline.toksInit cfgs EP p c)
      ⊢ (bigSep Finset.univ fun c : Dev nD => Pipeline.toksInit cfgs EP 0 c : sProp 𝕄) := bigSep_mono fun c _ => bigSep_elim (Finset.mem_univ 0)
  have hs : (bigSep Finset.univ fun c : Dev nD => bigSep Finset.univ fun k : Sem3 => semVal (kcell (c, k)) 0)
      ⊢ (bigSep Finset.univ fun ck : Dev nD × Sem3 => semVal (kcell ck) 0 : sProp 𝕄) := Entails.of_eq (bigSep_univ_prod fun ck : Dev nD × Sem3 => (semVal (kcell ck) 0 : sProp 𝕄)).symm
  iintro ⟨Hc, Hu⟩
  ihave Hc := hopen $$ Hc
  unfold u₀ given
  simp only [bigSep_sep']
  icases Hc with ⟨Hh, Hs, Hi, Ho⟩
  ihave Hu := (ownU_pair _ _) $$ Hu
  icases Hu with ⟨HP, HR⟩
  imod (Pipeline.fund_ghost cfgs EP cellOf_inj) $$ HP with ⟨Hg, Ht⟩
  imod (fund_all m X) $$ HR with ⟨Hst, #Hre, Hat, Htk⟩
  imod (open_all m X) $$ [Hs Hst] with ⟨%K, #HI⟩
  · isplitl [Hs]
    · iapply hs; iexact Hs
    · iexact Hst
  ihave Hd := (deal_all (F := F) m) $$ [Hat Htk Hi Ho]
  · isplitl [Hat]; · iexact Hat
    isplitl [Htk]; · iexact Htk
    isplitl [Hi] <;> iassumption
  imodintro
  iexists ()
  isplitr []
  · unfold before
    simp only [bigSep_sep']
    isplitl [Hh]; · iexact Hh
    isplitl [Hg]
    · iapply hg; iexact Hg
    isplitl [Ht]
    · iapply ht; iexact Ht
    ihave #HK := (show iprop((bigSep Finset.univ fun ck : Dev nD × Sem3 => cellInv ER (plan m X) (K ck) (kcell ck)) ∗ bigSep Finset.univ fun ck : Dev nD × Sem3 => reached ER (kcell ck) 0)
      ⊢ records m X K from Entails.of_eq rfl) $$ []
    · isplitr; · iexact HI
      iexact Hre
    have hrec (Φ : Dev nD → sProp 𝕄) : iprop(records m X K ∗ bigSep Finset.univ Φ) ⊢ bigSep Finset.univ fun c => iprop(∃ K, records m X K ∗ Φ c) := by
      refine (sep_mono_left (BI.bigSep_of_persistent (Finset.univ : Finset (Dev nD)) (records m X K))).trans ?_
      have h1 (c : Dev nD) : iprop(records m X K ∗ Φ c) ⊢ iprop(∃ K, records m X K ∗ Φ c) := by iintro H; iexists K; iexact H
      rw [← bigSep_sep']
      exact bigSep_mono fun c _ => h1 c
    iapply (hrec fun c => bigSep Finset.univ fun w : Arr => ready m w c)
    isplitr; · iexact HK
    iexact Hd
  · iempintro

/-! ### The run of one core -/

omit [FloatOps F] in
theorem enters (c : Dev nD) :
    iprop((iprop(∃ K, records m X K ∗ bigSep Finset.univ fun w : Arr => ready m w c) ∗ Pipeline.launchCred O₀ c)) ⊢ Φ₀ m X c := by
  have hw : iprop((bigSep Finset.univ fun w : Arr => ready m w c) ∗ bigSep Finset.univ fun w : Arr => cred (tallyAt (kcell (c, (w, 1))) () (amt w)))
      ⊢ bigSep Finset.univ fun w : Arr => iprop(start m w c ∗ wanted (F := F) w c) := by
    have h1 (w : Arr) : iprop(ready m w c ∗ cred (tallyAt (kcell (c, (w, 1))) () (amt w))) ⊢ iprop(start m w c ∗ wanted (F := F) w c) := by
      unfold ready wanted
      iintro ⟨⟨Hs, Ha⟩, Hc⟩
      isplitl [Hs]; · iexact Hs
      isplitl [Ha] <;> iassumption
    rw [← bigSep_sep']
    exact bigSep_mono fun w _ => h1 w
  unfold Φ₀
  iintro ⟨⟨%K, HR, Hd⟩, Hc⟩
  ihave Hc := (credits (F := F) c) $$ Hc
  iexists K
  isplitl [HR]; · iexact HR
  iapply hw
  isplitl [Hd] <;> iassumption

omit [FloatOps F] in
theorem leaves (c : Dev nD) :
    iprop(Φ₁ m X c ∗ Pipeline.cellsSems0 cfgs 0 c ∗ Dat.staging cfg0 c ∗ Pipeline.idleSems0 cfgs cellOf_inj 0 own_facts c)
      ⊢ iprop(((bigSep Finset.univ fun w : Arr => inP m w fullShare c) ∗ bigSep Finset.univ fun w : Arr => outW w c (X w))
          ∗ scopedSems0 (c : Thread nD τ) ∗ scopedBufs (c : Thread nD τ)) := by
  rw [sems_split c, bufs_split c, scopedRest0_eq]
  unfold Φ₁ done
  simp only [bigSep_sep']
  iintro ⟨⟨Hz, Hi, Ho⟩, Hc, Hst, Hid⟩
  isplitl [Hi Ho]
  · isplitl [Hi] <;> iassumption
  isplitr [Hst]
  · isplitr [Hid]
    · isplitl [Hc]; · iexact Hc
      unfold Pipeline.ownSems0
      rw [bigSep_univ_prod]; iexact Hz
    · iexact Hid
  · isplitl [Hst]; · iexact Hst
    iempintro

theorem main_one (c : Dev nD) : main (F := F) c = .op (.customCall (Pipeline.entry 0) ()) fun _ => .ret ⟨⟩ := rfl

/-- What the arrays and the recorded copies of a region with no window come to. -/
def regionIn (κ : GSem nD τ sig → ℕ) (c : Dev nD) : sProp 𝕄 := Pipeline.EntryPre cfgs (dats m X) () EP κ 0 c
def regionOut (c : Dev nD) : sProp 𝕄 := Pipeline.EntryPost cfgs (dats m X) () 0 c

omit [FloatOps F] in
theorem regionIn_intro (κ : GSem nD τ sig → ℕ) (c : Dev nD) :
    iprop(owes (c : Thread nD τ) (O₀ c) ∅ ∗ Pipeline.cellsInit cfgs (dats m X) EP κ 0 c ∗ Pipeline.toksInit cfgs EP 0 c) ⊢ regionIn m X κ c := by
  unfold regionIn Pipeline.EntryPre Pipeline.PerCore.EntryPre Dat.owesAt Pipeline.owesWithin
  have hE : (Finset.univ : Finset (Fin cfg0.W)) = ∅ := rfl
  have ha : (emp : sProp 𝕄) ⊢ (dats m X 0 c).arrays ((dats m X 0 c).arrAt · 0) := by
    unfold Dat.arrays; rw [hE, bigSep_empty]; exact BI.Entails.refl _
  have hw : (emp : sProp 𝕄) ⊢ Pipeline.cellsWaits cfgs (dats m X) () 0 c :=
    Pipeline.cellsWaits_intro (R := iprop(emp)) cfgs (dats m X) () 0 c fun w => (w : Fin 0).elim0
  iintro ⟨HO, Hin, Ht⟩
  isplitr; · iapply ha; iempintro
  isplitl [HO]
  · iexists ∅; isplitr; · ipureintro; rw [Finset.coe_empty]; exact Set.empty_subset _
    iexact HO
  isplitr; · iapply hw; iempintro
  isplitl [Hin] <;> iassumption

omit [FloatOps F] in
theorem regionOut_elim (c : Dev nD) : regionOut m X c ⊢ iprop(∃ W, owes (c : Thread nD τ) 0 W) := by
  unfold regionOut Pipeline.EntryPost Pipeline.PerCore.EntryPost Dat.owesAt Pipeline.owesWithin
  iintro ⟨-, ⟨%W, -, HW⟩⟩
  iexists W; iexact HW

omit [FloatOps F] in
theorem none_held (c : Dev nD) : (emp : sProp 𝕄) ⊢ Pipeline.prefHeld ((fun p : Fin 1 => (cfgs p).toPCfg (Val := Elt F)) 0).pre c (fun _ => fullShare.right) ((fun p : Fin 1 => (cfgs p).toPCfg_adm (Val := Elt F)) 0).1 := by
  unfold Pipeline.prefHeld
  rw [show (Finset.univ : Finset (Fin ((fun p : Fin 1 => (cfgs p).toPCfg (Val := Elt F)) 0).pre.K)) = ∅ from rfl, bigSep_empty]
  exact BI.Entails.refl _

theorem region (hX : Good m X) (κ : GSem nD τ sig → ℕ) (c : Dev nD) {α : Type} {k : PUnit → Prog _ α} {Q : α → sProp 𝕄} :
    iprop(regionIn m X κ c ∗ Pipeline.prefHeld ((fun p : Fin 1 => (cfgs p).toPCfg (Val := Elt F)) 0).pre c (fun _ => fullShare.right) ((fun p : Fin 1 => (cfgs p).toPCfg_adm (Val := Elt F)) 0).1
        ∗ Φ₀ m X c ∗ Pipeline.idleSems0 cfgs cellOf_inj 0 own_facts c ∗ scopedBufs (c : Thread nD τ))
      ⊢ iprop(((regionOut m X c ∗ ((bigSep Finset.univ fun w : Arr => inP m w fullShare c) ∗ bigSep Finset.univ fun w : Arr => outW w c (X w))
              ∗ scopedSems0 (c : Thread nD τ) ∗ scopedBufs (c : Thread nD τ)) -∗ wp frame (wpE (defs (F := F)) (Variants.lift 𝒱₀) (c : Thread nD τ) none) Set.univ (k ⟨⟩) Q)
          -∗ wp frame (wpE (defs (F := F)) (Variants.lift 𝒱₀) (c : Thread nD τ) none) Set.univ (.op (.customCall (Pipeline.entry 0) ()) k) Q) :=
  Pipeline.wp_customCall_entry_frame (fun p => (cfgs p).toPCfg) (fun p => (cfgs p).toPCfg_adm) (dats m X) () EP κ cellOf_inj 0 defs₀ 𝒱₀ (fun _ => fullShare.right) c Set.univ (fun _ _ => Set.mem_univ _)
    (body_ok m X hX c) block_pos0 none (fun u h => nomatch h)
    (Entails.of_eq (bufs_split c)) (by show iprop(Φ₀ m X c ∗ _ ∗ _) ⊢ Φ₀ m X c; iintro ⟨H, -, -⟩; iexact H) (leaves m X c)

theorem core_run (hX : Good m X) (c : Dev nD) :
    before m X c ⊢ wp frame (wpE (defs (F := F)) (Variants.lift 𝒱₀) (c : Thread nD τ) none) Set.univ (main (F := F) c)
      (fun _ => post (liftTc (afterwards m X) BI.emp) (c : Thread nD τ)) := by
  rw [main_one]
  unfold before held
  iintro ⟨⟨Hb, Hcs, Hid, HO, Hcr⟩, Hg, Ht, HG⟩
  iapply (fupd_wp frame (wpE (defs (F := F)) (Variants.lift 𝒱₀) (c : Thread nD τ) none) Set.univ _ _)
  imod (Pipeline.cellsInit_alloc cfgs (dats m X) EP cellOf_inj 0 c) $$ [Hcs Hg] with ⟨%κ, -, Hin⟩
  · isplitl [Hcs] <;> iassumption
  imodintro
  iapply (region m X hX κ c) $$ [HO Hin Ht Hcr HG Hid Hb]
  · isplitl [HO Hin Ht]
    · iapply (regionIn_intro m X κ c)
      isplitl [HO]; · iexact HO
      isplitl [Hin] <;> iassumption
    isplitr; · iapply (none_held c); iempintro
    isplitl [Hcr HG]
    · iapply (enters m X c)
      isplitl [HG] <;> iassumption
    isplitl [Hid] <;> iassumption
  iintro ⟨Hp, HY, Hss, -⟩
  rw [wp_ret]; imodintro
  unfold post; simp only [liftTc_tc]
  unfold afterwards
  isplitr [Hp]
  · isplitl [HY] <;> iassumption
  · iapply (regionOut_elim m X c); iexact Hp

/-! ### The final memory -/

omit [FloatOps F] in
theorem core_reads (c : Dev nD) (s' : Phys nD τ sig (Elt F)) : iprop(afterwards m X c ∗ SI s')
    ⊢ (|={Set.univ}=> iprop(⌜((∀ w : Arr, s'.mem.mem ((c : Thread nD τ).loc (inRef w)) = m ((c : Thread nD τ).loc (inRef w)))
          ∧ ∀ w : Arr, s'.mem.mem ((c : Thread nD τ).loc (outRef w)) = X w)
        ∧ ∀ sm : SemLoc sig, sm.isScoped .tc = true → s'.mem.sem ((c : Thread nD τ), sm) = 0⌝ ∗ SI s') : sProp 𝕄) := by
  unfold afterwards inP outW
  iintro ⟨⟨⟨Hi, Ho⟩, Hs⟩, HS⟩
  ihave %hz := (tcScoped_read_pers c s') $$ [Hs HS]
  · isplitl [Hs] <;> iassumption
  ihave Hr := (pointsTo_read_all Finset.univ (fun w : Arr => (c : Thread nD τ).loc (inRef w)) (fun w => m ((c : Thread nD τ).loc (inRef w))) s' fullShare) $$ [Hi HS]
  · isplitl [Hi] <;> iassumption
  icases Hr with ⟨%hi, HS⟩
  ihave Hr := (pointsTo_read_all Finset.univ (fun w : Arr => (c : Thread nD τ).loc (outRef w)) (fun w => X w) s' fullShare) $$ [Ho HS]
  · isplitl [Ho] <;> iassumption
  icases Hr with ⟨%ho, HS⟩
  imodintro
  isplitr
  · ipureintro; exact ⟨⟨fun w => hi w (Finset.mem_univ w), fun w => ho w (Finset.mem_univ w)⟩, hz⟩
  · iexact HS

/-- Every device ends with its arguments as they were, the whole buffers at `X`, and every semaphore at zero. -/
theorem run_main (hX : Good m X) : θ_run (defs (F := F)) (onTc (τ := τ) (main (F := F))) ⟨m, fun _ => 0, ρ⟩
    (fun r => (∀ c : Dev nD, (∀ w : Arr, r.2.mem ((c : Thread nD τ).loc (inRef w)) = m ((c : Thread nD τ).loc (inRef w)))
      ∧ ∀ w : Arr, r.2.mem ((c : Thread nD τ).loc (outRef w)) = X w) ∧ r.2.sem = fun _ => 0) := by
  refine (θ_run defs _ _).mono (Q := fun r => (∀ c : Dev nD, ((∀ w : Arr, r.2.mem ((c : Thread nD τ).loc (inRef w)) = m ((c : Thread nD τ).loc (inRef w)))
        ∧ ∀ w : Arr, r.2.mem ((c : Thread nD τ).loc (outRef w)) = X w)
      ∧ ∀ sm : SemLoc sig, sm.isScoped .tc = true → r.2.sem ((c : Thread nD τ), sm) = 0) ∧ ∀ g : GSem nD τ sig, g.1.2 ≠ .tc → r.2.sem g = 0)
    (fun r h => ⟨fun c => (h.1 c).1, sem_eq_zero_of_scoped (by decide) (sems_of_reads (fun c => (h.1 c).2) h.2)⟩)
    (adequate_tpu defs _ _ _ (reflect_intro_fupd_tc_sems (X := Unit) (Variants.lift 𝒱₀) (Pipeline.owing O₀) 0 (noBookings fun _ => le_rfl) (Pipeline.owing_of_ne O₀) u₀
      (fun _ => before m X) (fun _ => afterwards m X) (fun _ => iprop(emp)) Set.univ (launch m ρ X) (fun _ c => core_run m X hX c) fun _ => ?_))
  iintro ⟨H, -, Hsc⟩ %s' HS
  ihave %hsc := (scSems_read_zero m ρ s') $$ [Hsc HS]
  · isplitl [Hsc] <;> iassumption
  imod (posts_fupd Finset.univ (core_reads m X) s') $$ [H HS] with %h
  · isplitl [H] <;> iassumption
  imodintro
  ipureintro
  exact ⟨fun c => h c (Finset.mem_univ c), hsc⟩

end Launch

end Cert.HalvesProof

end
-- ==== Proof.HalvesVal.lean ====
/-
What the exchange of the halves is claimed to do: it ends with its arguments unchanged and its semaphores at zero, and when
the devices hold the two halves of whole arrays, every device ends with the whole arrays.
-/
module

public import proofs.«01_k».proof.Defs
public import proofs.«01_k».proof.Proof.HalvesRun
public import proofs.«01_k».proof.Proof.Gen.Halves
public import proofs.«01_k».proof.Proof.Gen.HalvesRefIdeal
public import Idealize.ShloMosaic.Lib.Layout
public import Idealize.ShloMosaic.Lib.StableHlo.Run
public import Idealize.ShloMosaic.Adequacy
public import Idealize.ShloMosaic.Init

@[expose] public section

noncomputable section

namespace Cert.HalvesProof

open Cert.HalvesIdeal Cert.HalvesIdeal.Gen
open Idealize.ShloMosaic Idealize.ShloMosaic.TcCoe Idealize.SL.Sem

variable {F : FTy → Type} [FloatOps F]

/-! ## The buffers when nothing is known of the arguments -/

section Any

variable (m : (ℓ : Loc nD τ sig) → Buf (Elt F) ℓ)

/-- The whole buffers: device 0's part put into its half, device 1's into the other. -/
def joined : (w : Arr) → (outRef w).ty.Contents (Elt F) := fun
  | 0 => (half0 1).view.write (Elt F) ((half0 0).view.write (Elt F) (m (((0 : Dev nD) : Thread nD τ).loc main_v1_0))
      ((inM0).view.read (Elt F) (m (((0 : Dev nD) : Thread nD τ).loc main_arg0))) Finset.univ)
      ((inM0).view.read (Elt F) (m (((1 : Dev nD) : Thread nD τ).loc main_arg0))) Finset.univ
  | 1 => (half1 1).view.write (Elt F) ((half1 0).view.write (Elt F) (m (((0 : Dev nD) : Thread nD τ).loc main_v1_1))
      ((inM1).view.read (Elt F) (m (((0 : Dev nD) : Thread nD τ).loc main_arg1))) Finset.univ)
      ((inM1).view.read (Elt F) (m (((1 : Dev nD) : Thread nD τ).loc main_arg1))) Finset.univ
  | 2 => (half2 1).view.write (Elt F) ((half2 0).view.write (Elt F) (m (((0 : Dev nD) : Thread nD τ).loc main_v1_2))
      ((inM2).view.read (Elt F) (m (((0 : Dev nD) : Thread nD τ).loc main_arg2))) Finset.univ)
      ((inM2).view.read (Elt F) (m (((1 : Dev nD) : Thread nD τ).loc main_arg2))) Finset.univ
  | 3 => (half3 1).view.write (Elt F) ((half3 0).view.write (Elt F) (m (((0 : Dev nD) : Thread nD τ).loc main_v1_3))
      ((inM3).view.read (Elt F) (m (((0 : Dev nD) : Thread nD τ).loc main_arg3))) Finset.univ)
      ((inM3).view.read (Elt F) (m (((1 : Dev nD) : Thread nD τ).loc main_arg3))) Finset.univ
  | 4 => (half4 1).view.write (Elt F) ((half4 0).view.write (Elt F) (m (((0 : Dev nD) : Thread nD τ).loc main_v1_4))
      ((inM4).view.read (Elt F) (m (((0 : Dev nD) : Thread nD τ).loc main_arg4))) Finset.univ)
      ((inM4).view.read (Elt F) (m (((1 : Dev nD) : Thread nD τ).loc main_arg4))) Finset.univ
  | 5 => (half5 1).view.write (Elt F) ((half5 0).view.write (Elt F) (m (((0 : Dev nD) : Thread nD τ).loc main_v1_5))
      ((inM5).view.read (Elt F) (m (((0 : Dev nD) : Thread nD τ).loc main_arg5))) Finset.univ)
      ((inM5).view.read (Elt F) (m (((1 : Dev nD) : Thread nD τ).loc main_arg5))) Finset.univ
  | 6 => (half6 1).view.write (Elt F) ((half6 0).view.write (Elt F) (m (((0 : Dev nD) : Thread nD τ).loc main_v1_6))
      ((inM6).view.read (Elt F) (m (((0 : Dev nD) : Thread nD τ).loc main_arg6))) Finset.univ)
      ((inM6).view.read (Elt F) (m (((1 : Dev nD) : Thread nD τ).loc main_arg6))) Finset.univ
  | 7 => (half7 1).view.write (Elt F) ((half7 0).view.write (Elt F) (m (((0 : Dev nD) : Thread nD τ).loc main_v1_7))
      ((inM7).view.read (Elt F) (m (((0 : Dev nD) : Thread nD τ).loc main_arg7))) Finset.univ)
      ((inM7).view.read (Elt F) (m (((1 : Dev nD) : Thread nD τ).loc main_arg7))) Finset.univ
  | 8 => (half8 1).view.write (Elt F) ((half8 0).view.write (Elt F) (m (((0 : Dev nD) : Thread nD τ).loc main_v1_8))
      ((inM8).view.read (Elt F) (m (((0 : Dev nD) : Thread nD τ).loc main_arg8))) Finset.univ)
      ((inM8).view.read (Elt F) (m (((1 : Dev nD) : Thread nD τ).loc main_arg8))) Finset.univ
  | 9 => (half9 1).view.write (Elt F) ((half9 0).view.write (Elt F) (m (((0 : Dev nD) : Thread nD τ).loc main_v1_9))
      ((inM9).view.read (Elt F) (m (((0 : Dev nD) : Thread nD τ).loc main_arg9))) Finset.univ)
      ((inM9).view.read (Elt F) (m (((1 : Dev nD) : Thread nD τ).loc main_arg9))) Finset.univ

omit [FloatOps F] in
theorem joined_0 (h : Dev nD) : (half0 h).view.read (Elt F) (joined m 0) = (inM0).view.read (Elt F) (m ((h : Thread nD τ).loc main_arg0)) := by
  funext x
  rcases (show h = 0 ∨ h = 1 by revert h; decide) with rfl | rfl
  · have hx : (half0 0).view.emb x ∉ (half0 1).view.setOn Finset.univ := fun hm => by
      have h0 := (mem_rows0 0 _).1 (View.mem_setOn (v := (half0 0).view) |>.2 (Finset.mem_univ x))
      have h1 := (mem_rows0 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_1 (h : Dev nD) : (half1 h).view.read (Elt F) (joined m 1) = (inM1).view.read (Elt F) (m ((h : Thread nD τ).loc main_arg1)) := by
  funext x
  rcases (show h = 0 ∨ h = 1 by revert h; decide) with rfl | rfl
  · have hx : (half1 0).view.emb x ∉ (half1 1).view.setOn Finset.univ := fun hm => by
      have h0 := (mem_rows1 0 _).1 (View.mem_setOn (v := (half1 0).view) |>.2 (Finset.mem_univ x))
      have h1 := (mem_rows1 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_2 (h : Dev nD) : (half2 h).view.read (Elt F) (joined m 2) = (inM2).view.read (Elt F) (m ((h : Thread nD τ).loc main_arg2)) := by
  funext x
  rcases (show h = 0 ∨ h = 1 by revert h; decide) with rfl | rfl
  · have hx : (half2 0).view.emb x ∉ (half2 1).view.setOn Finset.univ := fun hm => by
      have h0 := (mem_rows2 0 _).1 (View.mem_setOn (v := (half2 0).view) |>.2 (Finset.mem_univ x))
      have h1 := (mem_rows2 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_3 (h : Dev nD) : (half3 h).view.read (Elt F) (joined m 3) = (inM3).view.read (Elt F) (m ((h : Thread nD τ).loc main_arg3)) := by
  funext x
  rcases (show h = 0 ∨ h = 1 by revert h; decide) with rfl | rfl
  · have hx : (half3 0).view.emb x ∉ (half3 1).view.setOn Finset.univ := fun hm => by
      have h0 := (mem_rows3 0 _).1 (View.mem_setOn (v := (half3 0).view) |>.2 (Finset.mem_univ x))
      have h1 := (mem_rows3 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_4 (h : Dev nD) : (half4 h).view.read (Elt F) (joined m 4) = (inM4).view.read (Elt F) (m ((h : Thread nD τ).loc main_arg4)) := by
  funext x
  rcases (show h = 0 ∨ h = 1 by revert h; decide) with rfl | rfl
  · have hx : (half4 0).view.emb x ∉ (half4 1).view.setOn Finset.univ := fun hm => by
      have h0 := (mem_rows4 0 _).1 (View.mem_setOn (v := (half4 0).view) |>.2 (Finset.mem_univ x))
      have h1 := (mem_rows4 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_5 (h : Dev nD) : (half5 h).view.read (Elt F) (joined m 5) = (inM5).view.read (Elt F) (m ((h : Thread nD τ).loc main_arg5)) := by
  funext x
  rcases (show h = 0 ∨ h = 1 by revert h; decide) with rfl | rfl
  · have hx : (half5 0).view.emb x ∉ (half5 1).view.setOn Finset.univ := fun hm => by
      have h0 := (mem_rows5 0 _).1 (View.mem_setOn (v := (half5 0).view) |>.2 (Finset.mem_univ x))
      have h1 := (mem_rows5 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_6 (h : Dev nD) : (half6 h).view.read (Elt F) (joined m 6) = (inM6).view.read (Elt F) (m ((h : Thread nD τ).loc main_arg6)) := by
  funext x
  rcases (show h = 0 ∨ h = 1 by revert h; decide) with rfl | rfl
  · have hx : (half6 0).view.emb x ∉ (half6 1).view.setOn Finset.univ := fun hm => by
      have h0 := (mem_rows6 0 _).1 (View.mem_setOn (v := (half6 0).view) |>.2 (Finset.mem_univ x))
      have h1 := (mem_rows6 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_7 (h : Dev nD) : (half7 h).view.read (Elt F) (joined m 7) = (inM7).view.read (Elt F) (m ((h : Thread nD τ).loc main_arg7)) := by
  funext x
  rcases (show h = 0 ∨ h = 1 by revert h; decide) with rfl | rfl
  · have hx : (half7 0).view.emb x ∉ (half7 1).view.setOn Finset.univ := fun hm => by
      have h0 := (mem_rows7 0 _).1 (View.mem_setOn (v := (half7 0).view) |>.2 (Finset.mem_univ x))
      have h1 := (mem_rows7 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_8 (h : Dev nD) : (half8 h).view.read (Elt F) (joined m 8) = (inM8).view.read (Elt F) (m ((h : Thread nD τ).loc main_arg8)) := by
  funext x
  rcases (show h = 0 ∨ h = 1 by revert h; decide) with rfl | rfl
  · have hx : (half8 0).view.emb x ∉ (half8 1).view.setOn Finset.univ := fun hm => by
      have h0 := (mem_rows8 0 _).1 (View.mem_setOn (v := (half8 0).view) |>.2 (Finset.mem_univ x))
      have h1 := (mem_rows8 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_9 (h : Dev nD) : (half9 h).view.read (Elt F) (joined m 9) = (inM9).view.read (Elt F) (m ((h : Thread nD τ).loc main_arg9)) := by
  funext x
  rcases (show h = 0 ∨ h = 1 by revert h; decide) with rfl | rfl
  · have hx : (half9 0).view.emb x ∉ (half9 1).view.setOn Finset.univ := fun hm => by
      have h0 := (mem_rows9 0 _).1 (View.mem_setOn (v := (half9 0).view) |>.2 (Finset.mem_univ x))
      have h1 := (mem_rows9 1 _).1 hm
      have := h0.2; have := h1.1
      simp only [Fin.val_zero, Fin.val_one] at *
      omega
    refine (congrArg _ (View.write_of_not_mem _ _ _ hx)).trans ?_
    exact View.read_write_of_mem _ _ (Finset.mem_univ x)
  · exact View.read_write_of_mem _ _ (Finset.mem_univ x)

omit [FloatOps F] in
theorem joined_good : Good m (joined m) := ⟨joined_0 m, joined_1 m, joined_2 m, joined_3 m, joined_4 m, joined_5 m, joined_6 m, joined_7 m, joined_8 m, joined_9 m⟩

end Any

/-- The exchange ends with its arguments unchanged and its semaphores at zero. -/
theorem frame_ideal : Cert.quiescent_HalvesIdeal (hHalvesIdeal := Cert.HalvesIdeal.Gen.facts) := fun m ρ _ =>
  (θ_run Cert.HalvesIdeal.defs _ _).mono (fun r h => ⟨fun c => ⟨(h.1 c).1 0, (h.1 c).1 1, (h.1 c).1 2, (h.1 c).1 3, (h.1 c).1 4, (h.1 c).1 5, (h.1 c).1 6, (h.1 c).1 7, (h.1 c).1 8, (h.1 c).1 9⟩, h.2⟩) (run_main (F := Ideal) m ρ (joined m) (joined_good m))

theorem frame_bits : Cert.quiescent_Halves (hHalves := Cert.Halves.Gen.facts) := fun m ρ _ =>
  (θ_run Cert.HalvesIdeal.defs _ _).mono (fun r h => ⟨fun c => ⟨(h.1 c).1 0, (h.1 c).1 1, (h.1 c).1 2, (h.1 c).1 3, (h.1 c).1 4, (h.1 c).1 5, (h.1 c).1 6, (h.1 c).1 7, (h.1 c).1 8, (h.1 c).1 9⟩, h.2⟩) (run_main (F := Bits) m ρ (joined m) (joined_good m))

/-! ## The whole arrays -/

/-- The reference does nothing: its results are its arguments. -/
theorem ref_run (m : (ℓ : Loc Cert.HalvesRefIdeal.nD Cert.HalvesRefIdeal.τ Cert.HalvesRefIdeal.sig) → Buf (Elt Ideal) ℓ) (ρ : Dev Cert.HalvesRefIdeal.nD → PrngReg) :
    θ_run (Cert.HalvesRefIdeal.defs (F := Ideal)) (onTc (τ := Cert.HalvesRefIdeal.τ) (Cert.HalvesRefIdeal.main (F := Ideal))) ⟨m, fun _ => 0, ρ⟩
      (fun r => ∀ (c : Dev Cert.HalvesRefIdeal.nD) (b : Ref Cert.HalvesRefIdeal.sig .tc), r.2.mem ((c.tc : Thread Cert.HalvesRefIdeal.nD Cert.HalvesRefIdeal.τ).loc b) = m ((c.tc : Thread Cert.HalvesRefIdeal.nD Cert.HalvesRefIdeal.τ).loc b)) :=
  (θ_run Cert.HalvesRefIdeal.defs _ _).mono (fun _ h c b => h c b)
    (StableHlo.run_seq (by decide) (by decide) Cert.HalvesRefIdeal.defs Cert.HalvesRefIdeal.main (fun _ => []) (fun _ => rfl) (fun _ => trivial) m ρ)

theorem whole_0 (h : Dev nD) (W : (⟨2, ![1024, 1408]⟩ : Shape).Idx → Elt Ideal .f32) :
    (half0 h).view.read (Elt Ideal) (W : (main_v1_0 : Ref sig .tc).ty.Contents (Elt Ideal)) = Layout.block ⟨2, ![512, 1408]⟩ ⟨2, ![1024, 1408]⟩ 0 2 h W := by
  funext x
  refine (congrArg W (funext fun a => Fin.ext ?_) : W _ = W _)
  refine (ValueKit.view_emb_slice_whole_unit_val main_v1_0 _ _ _ _ a).trans ?_
  refine (congrArg (fun f : Fin 2 → ℕ => f a + (x a).val) (k0_off1_eq h)).trans ?_
  match a with
  | 0 => show 512 * h.val + (x 0).val = h.val * 512 + (x 0).val; rw [Nat.mul_comm]
  | 1 => show 0 + (x 1).val = (x 1).val; rw [Nat.zero_add]

theorem whole_1 (h : Dev nD) (W : (⟨2, ![704, 1024]⟩ : Shape).Idx → Elt Ideal .f32) :
    (half1 h).view.read (Elt Ideal) (W : (main_v1_1 : Ref sig .tc).ty.Contents (Elt Ideal)) = Layout.block ⟨2, ![352, 1024]⟩ ⟨2, ![704, 1024]⟩ 0 2 h W := by
  funext x
  refine (congrArg W (funext fun a => Fin.ext ?_) : W _ = W _)
  refine (ValueKit.view_emb_slice_whole_unit_val main_v1_1 _ _ _ _ a).trans ?_
  refine (congrArg (fun f : Fin 2 → ℕ => f a + (x a).val) (k0_off2_eq h)).trans ?_
  match a with
  | 0 => show 352 * h.val + (x 0).val = h.val * 352 + (x 0).val; rw [Nat.mul_comm]
  | 1 => show 0 + (x 1).val = (x 1).val; rw [Nat.zero_add]

theorem whole_2 (h : Dev nD) (W : (⟨2, ![1024, 1536]⟩ : Shape).Idx → Elt Ideal .f32) :
    (half2 h).view.read (Elt Ideal) (W : (main_v1_2 : Ref sig .tc).ty.Contents (Elt Ideal)) = Layout.block ⟨2, ![512, 1536]⟩ ⟨2, ![1024, 1536]⟩ 0 2 h W := by
  funext x
  refine (congrArg W (funext fun a => Fin.ext ?_) : W _ = W _)
  refine (ValueKit.view_emb_slice_whole_unit_val main_v1_2 _ _ _ _ a).trans ?_
  refine (congrArg (fun f : Fin 2 → ℕ => f a + (x a).val) (k0_off3_eq h)).trans ?_
  match a with
  | 0 => show 512 * h.val + (x 0).val = h.val * 512 + (x 0).val; rw [Nat.mul_comm]
  | 1 => show 0 + (x 1).val = (x 1).val; rw [Nat.zero_add]

theorem whole_3 (h : Dev nD) (W : (⟨2, ![512, 256]⟩ : Shape).Idx → Elt Ideal .f32) :
    (half3 h).view.read (Elt Ideal) (W : (main_v1_3 : Ref sig .tc).ty.Contents (Elt Ideal)) = Layout.block ⟨2, ![256, 256]⟩ ⟨2, ![512, 256]⟩ 0 2 h W := by
  funext x
  refine (congrArg W (funext fun a => Fin.ext ?_) : W _ = W _)
  refine (ValueKit.view_emb_slice_whole_unit_val main_v1_3 _ _ _ _ a).trans ?_
  refine (congrArg (fun f : Fin 2 → ℕ => f a + (x a).val) (k0_off4_eq h)).trans ?_
  match a with
  | 0 => show 256 * h.val + (x 0).val = h.val * 256 + (x 0).val; rw [Nat.mul_comm]
  | 1 => show 0 + (x 1).val = (x 1).val; rw [Nat.zero_add]

theorem whole_4 (h : Dev nD) (W : (⟨2, ![512, 256]⟩ : Shape).Idx → Elt Ideal .f32) :
    (half4 h).view.read (Elt Ideal) (W : (main_v1_4 : Ref sig .tc).ty.Contents (Elt Ideal)) = Layout.block ⟨2, ![256, 256]⟩ ⟨2, ![512, 256]⟩ 0 2 h W := by
  funext x
  refine (congrArg W (funext fun a => Fin.ext ?_) : W _ = W _)
  refine (ValueKit.view_emb_slice_whole_unit_val main_v1_4 _ _ _ _ a).trans ?_
  refine (congrArg (fun f : Fin 2 → ℕ => f a + (x a).val) (k0_off4_eq h)).trans ?_
  match a with
  | 0 => show 256 * h.val + (x 0).val = h.val * 256 + (x 0).val; rw [Nat.mul_comm]
  | 1 => show 0 + (x 1).val = (x 1).val; rw [Nat.zero_add]

theorem whole_5 (h : Dev nD) (W : (⟨2, ![256, 1024]⟩ : Shape).Idx → Elt Ideal .f32) :
    (half5 h).view.read (Elt Ideal) (W : (main_v1_5 : Ref sig .tc).ty.Contents (Elt Ideal)) = Layout.block ⟨2, ![128, 1024]⟩ ⟨2, ![256, 1024]⟩ 0 2 h W := by
  funext x
  refine (congrArg W (funext fun a => Fin.ext ?_) : W _ = W _)
  refine (ValueKit.view_emb_slice_whole_unit_val main_v1_5 _ _ _ _ a).trans ?_
  refine (congrArg (fun f : Fin 2 → ℕ => f a + (x a).val) (k0_off5_eq h)).trans ?_
  match a with
  | 0 => show 128 * h.val + (x 0).val = h.val * 128 + (x 0).val; rw [Nat.mul_comm]
  | 1 => show 0 + (x 1).val = (x 1).val; rw [Nat.zero_add]

theorem whole_6 (h : Dev nD) (W : (⟨2, ![512, 256]⟩ : Shape).Idx → Elt Ideal .f32) :
    (half6 h).view.read (Elt Ideal) (W : (main_v1_6 : Ref sig .tc).ty.Contents (Elt Ideal)) = Layout.block ⟨2, ![256, 256]⟩ ⟨2, ![512, 256]⟩ 0 2 h W := by
  funext x
  refine (congrArg W (funext fun a => Fin.ext ?_) : W _ = W _)
  refine (ValueKit.view_emb_slice_whole_unit_val main_v1_6 _ _ _ _ a).trans ?_
  refine (congrArg (fun f : Fin 2 → ℕ => f a + (x a).val) (k0_off4_eq h)).trans ?_
  match a with
  | 0 => show 256 * h.val + (x 0).val = h.val * 256 + (x 0).val; rw [Nat.mul_comm]
  | 1 => show 0 + (x 1).val = (x 1).val; rw [Nat.zero_add]

theorem whole_7 (h : Dev nD) (W : (⟨2, ![256, 1024]⟩ : Shape).Idx → Elt Ideal .f32) :
    (half7 h).view.read (Elt Ideal) (W : (main_v1_7 : Ref sig .tc).ty.Contents (Elt Ideal)) = Layout.block ⟨2, ![128, 1024]⟩ ⟨2, ![256, 1024]⟩ 0 2 h W := by
  funext x
  refine (congrArg W (funext fun a => Fin.ext ?_) : W _ = W _)
  refine (ValueKit.view_emb_slice_whole_unit_val main_v1_7 _ _ _ _ a).trans ?_
  refine (congrArg (fun f : Fin 2 → ℕ => f a + (x a).val) (k0_off5_eq h)).trans ?_
  match a with
  | 0 => show 128 * h.val + (x 0).val = h.val * 128 + (x 0).val; rw [Nat.mul_comm]
  | 1 => show 0 + (x 1).val = (x 1).val; rw [Nat.zero_add]

theorem whole_8 (h : Dev nD) (W : (⟨2, ![1024, 1408]⟩ : Shape).Idx → Elt Ideal .f32) :
    (half8 h).view.read (Elt Ideal) (W : (main_v1_8 : Ref sig .tc).ty.Contents (Elt Ideal)) = Layout.block ⟨2, ![512, 1408]⟩ ⟨2, ![1024, 1408]⟩ 0 2 h W := by
  funext x
  refine (congrArg W (funext fun a => Fin.ext ?_) : W _ = W _)
  refine (ValueKit.view_emb_slice_whole_unit_val main_v1_8 _ _ _ _ a).trans ?_
  refine (congrArg (fun f : Fin 2 → ℕ => f a + (x a).val) (k0_off1_eq h)).trans ?_
  match a with
  | 0 => show 512 * h.val + (x 0).val = h.val * 512 + (x 0).val; rw [Nat.mul_comm]
  | 1 => show 0 + (x 1).val = (x 1).val; rw [Nat.zero_add]

theorem whole_9 (h : Dev nD) (W : (⟨2, ![704, 1024]⟩ : Shape).Idx → Elt Ideal .f32) :
    (half9 h).view.read (Elt Ideal) (W : (main_v1_9 : Ref sig .tc).ty.Contents (Elt Ideal)) = Layout.block ⟨2, ![352, 1024]⟩ ⟨2, ![704, 1024]⟩ 0 2 h W := by
  funext x
  refine (congrArg W (funext fun a => Fin.ext ?_) : W _ = W _)
  refine (ValueKit.view_emb_slice_whole_unit_val main_v1_9 _ _ _ _ a).trans ?_
  refine (congrArg (fun f : Fin 2 → ℕ => f a + (x a).val) (k0_off2_eq h)).trans ?_
  match a with
  | 0 => show 352 * h.val + (x 0).val = h.val * 352 + (x 0).val; rw [Nat.mul_comm]
  | 1 => show 0 + (x 1).val = (x 1).val; rw [Nat.zero_add]

/-- When the devices hold the two halves of whole arrays, every device ends with the whole arrays. -/
theorem algebraic : Cert.algebraic_HalvesIdeal_HalvesRefIdeal (hHalvesIdeal := Cert.HalvesIdeal.Gen.facts) (hHalvesRefIdeal := Cert.HalvesRefIdeal.Gen.facts) := by
  intro m g m' g' _ hag
  let X : (w : Arr) → (outRef w).ty.Contents (Elt Ideal) := fun
  | 0 => m' (((0 : Dev Cert.HalvesRefIdeal.nD).tc : Thread Cert.HalvesRefIdeal.nD Cert.HalvesRefIdeal.τ).loc Cert.HalvesRefIdeal.main_arg0)
  | 1 => m' (((0 : Dev Cert.HalvesRefIdeal.nD).tc : Thread Cert.HalvesRefIdeal.nD Cert.HalvesRefIdeal.τ).loc Cert.HalvesRefIdeal.main_arg1)
  | 2 => m' (((0 : Dev Cert.HalvesRefIdeal.nD).tc : Thread Cert.HalvesRefIdeal.nD Cert.HalvesRefIdeal.τ).loc Cert.HalvesRefIdeal.main_arg2)
  | 3 => m' (((0 : Dev Cert.HalvesRefIdeal.nD).tc : Thread Cert.HalvesRefIdeal.nD Cert.HalvesRefIdeal.τ).loc Cert.HalvesRefIdeal.main_arg3)
  | 4 => m' (((0 : Dev Cert.HalvesRefIdeal.nD).tc : Thread Cert.HalvesRefIdeal.nD Cert.HalvesRefIdeal.τ).loc Cert.HalvesRefIdeal.main_arg4)
  | 5 => m' (((0 : Dev Cert.HalvesRefIdeal.nD).tc : Thread Cert.HalvesRefIdeal.nD Cert.HalvesRefIdeal.τ).loc Cert.HalvesRefIdeal.main_arg5)
  | 6 => m' (((0 : Dev Cert.HalvesRefIdeal.nD).tc : Thread Cert.HalvesRefIdeal.nD Cert.HalvesRefIdeal.τ).loc Cert.HalvesRefIdeal.main_arg6)
  | 7 => m' (((0 : Dev Cert.HalvesRefIdeal.nD).tc : Thread Cert.HalvesRefIdeal.nD Cert.HalvesRefIdeal.τ).loc Cert.HalvesRefIdeal.main_arg7)
  | 8 => m' (((0 : Dev Cert.HalvesRefIdeal.nD).tc : Thread Cert.HalvesRefIdeal.nD Cert.HalvesRefIdeal.τ).loc Cert.HalvesRefIdeal.main_arg8)
  | 9 => m' (((0 : Dev Cert.HalvesRefIdeal.nD).tc : Thread Cert.HalvesRefIdeal.nD Cert.HalvesRefIdeal.τ).loc Cert.HalvesRefIdeal.main_arg9)
  have hX : Good m X := ⟨fun h => (whole_0 h (X 0)).trans ((hag h).1).symm, fun h => (whole_1 h (X 1)).trans ((hag h).2.1).symm, fun h => (whole_2 h (X 2)).trans ((hag h).2.2.1).symm, fun h => (whole_3 h (X 3)).trans ((hag h).2.2.2.1).symm, fun h => (whole_4 h (X 4)).trans ((hag h).2.2.2.2.1).symm, fun h => (whole_5 h (X 5)).trans ((hag h).2.2.2.2.2.1).symm, fun h => (whole_6 h (X 6)).trans ((hag h).2.2.2.2.2.2.1).symm, fun h => (whole_7 h (X 7)).trans ((hag h).2.2.2.2.2.2.2.1).symm, fun h => (whole_8 h (X 8)).trans ((hag h).2.2.2.2.2.2.2.2.1).symm, fun h => (whole_9 h (X 9)).trans ((hag h).2.2.2.2.2.2.2.2.2).symm⟩
  exact ⟨X 0, X 1, X 2, X 3, X 4, X 5, X 6, X 7, X 8, X 9,
    (θ_run Cert.HalvesIdeal.defs _ _).mono (fun r h c => ⟨(h.1 c).2 0, (h.1 c).2 1, (h.1 c).2 2, (h.1 c).2 3, (h.1 c).2 4, (h.1 c).2 5, (h.1 c).2 6, (h.1 c).2 7, (h.1 c).2 8, (h.1 c).2 9, (h.1 c).1 0, (h.1 c).1 1, (h.1 c).1 2, (h.1 c).1 3, (h.1 c).1 4, (h.1 c).1 5, (h.1 c).1 6, (h.1 c).1 7, (h.1 c).1 8, (h.1 c).1 9⟩) (run_main (F := Ideal) m g X hX),
    (θ_run Cert.HalvesRefIdeal.defs _ _).mono (fun r h => ⟨h _ _, h _ _, h _ _, h _ _, h _ _, h _ _, h _ _, h _ _, h _ _, h _ _, h _ _, h _ _, h _ _, h _ _, h _ _, h _ _, h _ _, h _ _, h _ _, h _ _⟩) (ref_run m' g')⟩

theorem frame_ref : Cert.quiescent_HalvesRefIdeal (hHalvesRefIdeal := Cert.HalvesRefIdeal.Gen.facts) := fun m ρ _ =>
  (θ_run Cert.HalvesRefIdeal.defs _ _).mono (fun r h => ⟨fun c => ⟨h _ _, h _ _, h _ _, h _ _, h _ _, h _ _, h _ _, h _ _, h _ _, h _ _⟩, sem_eq_zero_of_no_sems (by decide) r.2⟩) (ref_run m ρ)

end Cert.HalvesProof

end
-- ==== Proof.lean ====
/- Each call's frames, and that each kernel's idealization and its reference leave the same results. -/
module

public import proofs.«01_k».proof.Proof.DownBwdVal
public import proofs.«01_k».proof.Proof.DownBwdPre
public import proofs.«01_k».proof.Proof.UpDxVal
public import proofs.«01_k».proof.Proof.UpDxFrame
public import proofs.«01_k».proof.Proof.InDxVal
public import proofs.«01_k».proof.Proof.InDxFrame
public import proofs.«01_k».proof.Proof.DownDwVal
public import proofs.«01_k».proof.Proof.UpDwVal
public import proofs.«01_k».proof.Proof.InDwVal
public import proofs.«01_k».proof.Proof.InFwdVal
public import proofs.«01_k».proof.Proof.UpVal
public import proofs.«01_k».proof.Proof.DownNormVal
public import proofs.«01_k».proof.Proof.DownVal
public import proofs.«01_k».proof.Proof.MixFwdVal
public import proofs.«01_k».proof.Proof.AdamUpVal
public import proofs.«01_k».proof.Proof.AdamDownVal
public import proofs.«01_k».proof.Proof.AdamInVal
public import proofs.«01_k».proof.Proof.AdamSqVal
public import proofs.«01_k».proof.Proof.AdamKvVal
public import proofs.«01_k».proof.Proof.AdamSmallVal
public import proofs.«01_k».proof.Proof.HalvesVal
public import proofs.«01_k».proof.Proof.Gen.DownBwdIdeal.Value
public import proofs.«01_k».proof.Proof.Gen.DownDwIdeal.Value
public import proofs.«01_k».proof.Proof.Gen.UpDwIdeal.Value
public import proofs.«01_k».proof.Proof.Gen.InDwIdeal.Value
public import proofs.«01_k».proof.Proof.Gen.InFwdIdeal.Value
public import proofs.«01_k».proof.Proof.Gen.UpIdeal.Value
public import proofs.«01_k».proof.Proof.Gen.DownNormIdeal.Value
public import proofs.«01_k».proof.Proof.Gen.DownIdeal.Value
public import proofs.«01_k».proof.Proof.Gen.MixFwdIdeal.Value
public import proofs.«01_k».proof.Proof.Gen.AdamUpIdeal.Value
public import proofs.«01_k».proof.Proof.Gen.AdamDownIdeal.Value
public import proofs.«01_k».proof.Proof.Gen.AdamInIdeal.Value
public import proofs.«01_k».proof.Proof.Gen.AdamSqIdeal.Value
public import proofs.«01_k».proof.Proof.Gen.AdamKvIdeal.Value
public import proofs.«01_k».proof.Proof.Gen.AdamSmallIdeal.Value
public import proofs.«01_k».proof.Proof.Gen.DownBwdRefIdeal.Run
public import proofs.«01_k».proof.Proof.Gen.UpDxRefIdeal.Run
public import proofs.«01_k».proof.Proof.Gen.InDxRefIdeal.Run
public import proofs.«01_k».proof.Proof.Gen.DownDwRefIdeal.Run
public import proofs.«01_k».proof.Proof.Gen.UpDwRefIdeal.Run
public import proofs.«01_k».proof.Proof.Gen.InDwRefIdeal.Run
public import proofs.«01_k».proof.Proof.Gen.InFwdRefIdeal.Run
public import proofs.«01_k».proof.Proof.Gen.UpRefIdeal.Run
public import proofs.«01_k».proof.Proof.Gen.DownNormRefIdeal.Run
public import proofs.«01_k».proof.Proof.Gen.DownRefIdeal.Run
public import proofs.«01_k».proof.Proof.Gen.MixFwdRefIdeal.Run
public import proofs.«01_k».proof.Proof.Gen.AdamUpRefIdeal.Run
public import proofs.«01_k».proof.Proof.Gen.AdamDownRefIdeal.Run
public import proofs.«01_k».proof.Proof.Gen.AdamInRefIdeal.Run
public import proofs.«01_k».proof.Proof.Gen.AdamSqRefIdeal.Run
public import proofs.«01_k».proof.Proof.Gen.AdamKvRefIdeal.Run
public import proofs.«01_k».proof.Proof.Gen.AdamSmallRefIdeal.Run
public import proofs.«01_k».proof.Defs
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdRefIdeal
public import proofs.«01_k».proof.Proof.Gen.UpDx
public import proofs.«01_k».proof.Proof.Gen.UpDx.Skeleton
public import proofs.«01_k».proof.Proof.Gen.UpDx.Loops
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Loops
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.InDx
public import proofs.«01_k».proof.Proof.Gen.InDx.Skeleton
public import proofs.«01_k».proof.Proof.Gen.InDx.Loops
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Loops
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.DownNorm
public import proofs.«01_k».proof.Proof.Gen.DownNorm.Skeleton
public import proofs.«01_k».proof.Proof.Gen.DownNorm.Loops
public import proofs.«01_k».proof.Proof.Gen.DownNorm.Launch
public import proofs.«01_k».proof.Proof.Gen.DownNorm.Points
public import proofs.«01_k».proof.Proof.Gen.DownNorm.Frame
public import proofs.«01_k».proof.Proof.Gen.DownNormIdeal
public import proofs.«01_k».proof.Proof.Gen.DownNormIdeal.Skeleton
public import proofs.«01_k».proof.Proof.Gen.DownNormIdeal.Loops
public import proofs.«01_k».proof.Proof.Gen.DownNormIdeal.Launch
public import proofs.«01_k».proof.Proof.Gen.DownNormIdeal.Points
public import proofs.«01_k».proof.Proof.Gen.DownNormIdeal.Frame
public import proofs.«01_k».proof.Proof.Gen.DownNormRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamSq
public import proofs.«01_k».proof.Proof.Gen.AdamSq.Skeleton
public import proofs.«01_k».proof.Proof.Gen.AdamSq.Launch
public import proofs.«01_k».proof.Proof.Gen.AdamSq.Points
public import proofs.«01_k».proof.Proof.Gen.AdamSq.Frame
public import proofs.«01_k».proof.Proof.Gen.AdamSqIdeal
public import proofs.«01_k».proof.Proof.Gen.AdamSqIdeal.Skeleton
public import proofs.«01_k».proof.Proof.Gen.AdamSqIdeal.Launch
public import proofs.«01_k».proof.Proof.Gen.AdamSqIdeal.Points
public import proofs.«01_k».proof.Proof.Gen.AdamSqIdeal.Frame
public import proofs.«01_k».proof.Proof.Gen.AdamSqRefIdeal
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.Halves
public import proofs.«01_k».proof.Proof.Gen.Halves.Skeleton
public import proofs.«01_k».proof.Proof.Gen.Halves.Launch
public import proofs.«01_k».proof.Proof.Gen.Halves.Points
public import proofs.«01_k».proof.Proof.Gen.Halves.Frame
public import proofs.«01_k».proof.Proof.Gen.HalvesIdeal
public import proofs.«01_k».proof.Proof.Gen.HalvesIdeal.Skeleton
public import proofs.«01_k».proof.Proof.Gen.HalvesIdeal.Launch
public import proofs.«01_k».proof.Proof.Gen.HalvesIdeal.Points
public import proofs.«01_k».proof.Proof.Gen.HalvesIdeal.Frame
public import proofs.«01_k».proof.Proof.Gen.HalvesRefIdeal
public import proofs.«01_k».proof.Proof.Gen.Pre_down_bwd_finite
public import Idealize.ShloMosaic.Adequacy
public import Idealize.ShloMosaic.Init

@[expose] public section

noncomputable section

namespace Cert.Proof

open Idealize.ShloMosaic Idealize.SL.Sem Cert.DownBwd

theorem DownBwd_REFDA_congr {a0 b0 a1 b1 a2 b2 a3 b3} (h0 : a0 = b0) (h1 : a1 = b1) (h2 : a2 = b2) (h3 : a3 = b3) :
    Cert.DownBwdRefIdeal.Whole.REFDA a0 a1 a2 a3 = Cert.DownBwdRefIdeal.Whole.REFDA b0 b1 b2 b3 := by
  subst h0; subst h1; subst h2; subst h3; rfl

theorem DownBwd_REFDB_congr {a0 b0 a1 b1 a2 b2 a3 b3} (h0 : a0 = b0) (h1 : a1 = b1) (h2 : a2 = b2) (h3 : a3 = b3) :
    Cert.DownBwdRefIdeal.Whole.REFDB a0 a1 a2 a3 = Cert.DownBwdRefIdeal.Whole.REFDB b0 b1 b2 b3 := by
  subst h0; subst h1; subst h2; subst h3; rfl

/-- What DownBwd leaves in its results is what the reference of the same arguments leaves. -/
theorem DownBwd_algebraic : Cert.algebraic_DownBwdIdeal_DownBwdRefIdeal_pre_down_bwd_finite (hDownBwdIdeal := Cert.DownBwdIdeal.Gen.facts) (hDownBwdRefIdeal := Cert.DownBwdRefIdeal.Gen.facts) (hPre_down_bwd_finite := Cert.Pre_down_bwd_finite.Gen.facts) :=
  fun m g m' g' hp hag => ⟨fun c => Cert.DownBwdRefIdeal.Whole.REFDA (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3)), fun c => Cert.DownBwdRefIdeal.Whole.REFDB (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3)),
    (θ_run Cert.DownBwdIdeal.defs _ _).mono (fun r h c => ⟨(h c).1.trans (Cert.DownBwdIdeal.Whole.final4 m c (Cert.DownBwdIdeal.Whole.pre_d _ _ _ _ (hp c)) (Cert.DownBwdIdeal.Whole.pre_w _ _ _ _ (hp c)) (Cert.DownBwdIdeal.Whole.pre_b _ _ _ _ (hp c))), (h c).2.1.trans (Cert.DownBwdIdeal.Whole.final5 m c), (h c).2.2.1, (h c).2.2.2.1, (h c).2.2.2.2.1, (h c).2.2.2.2.2⟩) (Cert.DownBwdIdeal.Value.run_blocks m g),
    (θ_run Cert.DownBwdRefIdeal.defs _ _).mono (fun r h c => ⟨(h c).1.trans (DownBwd_REFDA_congr (hag c).1 (hag c).2.1 (hag c).2.2.1 (hag c).2.2.2), (h c).2.1.trans (DownBwd_REFDB_congr (hag c).1 (hag c).2.1 (hag c).2.2.1 (hag c).2.2.2), (h c).2.2.1, (h c).2.2.2.1, (h c).2.2.2.2.1, (h c).2.2.2.2.2⟩) (Cert.DownBwdRefIdeal.Value.run (F := Ideal) m' g')⟩

theorem UpDx_REFDX_congr {a0 b0 a1 b1 a2 b2 a3 b3 a4 b4 a5 b5} (h0 : a0 = b0) (h1 : a1 = b1) (h2 : a2 = b2) (h3 : a3 = b3) (h4 : a4 = b4) (h5 : a5 = b5) :
    Cert.UpDxRefIdeal.Whole.REFDX a0 a1 a2 a3 a4 a5 = Cert.UpDxRefIdeal.Whole.REFDX b0 b1 b2 b3 b4 b5 := by
  subst h0; subst h1; subst h2; subst h3; subst h4; subst h5; rfl

theorem UpDx_REFDG_congr {a0 b0 a1 b1 a2 b2 a3 b3 a4 b4 a5 b5} (h0 : a0 = b0) (h1 : a1 = b1) (h2 : a2 = b2) (h3 : a3 = b3) (h4 : a4 = b4) (h5 : a5 = b5) :
    Cert.UpDxRefIdeal.Whole.REFDG a0 a1 a2 a3 a4 a5 = Cert.UpDxRefIdeal.Whole.REFDG b0 b1 b2 b3 b4 b5 := by
  subst h0; subst h1; subst h2; subst h3; subst h4; subst h5; rfl

/-- What UpDx leaves in its results is what the reference of the same arguments leaves. -/
theorem UpDx_algebraic : Cert.algebraic_UpDxIdeal_UpDxRefIdeal (hUpDxIdeal := Cert.UpDxIdeal.Gen.facts) (hUpDxRefIdeal := Cert.UpDxRefIdeal.Gen.facts) :=
  fun m g m' g' hp hag => ⟨fun c => Cert.UpDxRefIdeal.Whole.REFDX (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4)) (m ((c.tc : Thread Cert.UpDxIdeal.nD Cert.UpDxIdeal.τ).loc Cert.UpDxIdeal.main_arg5)), fun c => Cert.UpDxRefIdeal.Whole.REFDG (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4)) (m ((c.tc : Thread Cert.UpDxIdeal.nD Cert.UpDxIdeal.τ).loc Cert.UpDxIdeal.main_arg5)),
    (θ_run Cert.UpDxIdeal.defs _ _).mono (fun r h c => ⟨(h c).1.trans (Cert.UpDxIdeal.Whole.final4 m c), (h c).2.1.trans (Cert.UpDxIdeal.Whole.final5 m c), (h c).2.2.1, (h c).2.2.2.1, (h c).2.2.2.2.1, (h c).2.2.2.2.2.1, (h c).2.2.2.2.2.2.1, (h c).2.2.2.2.2.2.2⟩) (Cert.UpDxIdeal.Whole.run_blocks m g),
    (θ_run Cert.UpDxRefIdeal.defs _ _).mono (fun r h c => ⟨(h c).1.trans (UpDx_REFDX_congr (hag c).1 (hag c).2.1 (hag c).2.2.1 (hag c).2.2.2.1 (hag c).2.2.2.2.1 (hag c).2.2.2.2.2), (h c).2.1.trans (UpDx_REFDG_congr (hag c).1 (hag c).2.1 (hag c).2.2.1 (hag c).2.2.2.1 (hag c).2.2.2.2.1 (hag c).2.2.2.2.2), (h c).2.2.1, (h c).2.2.2.1, (h c).2.2.2.2.1, (h c).2.2.2.2.2.1, (h c).2.2.2.2.2.2.1, (h c).2.2.2.2.2.2.2⟩) (Cert.UpDxRefIdeal.Value.run (F := Ideal) m' g')⟩

theorem InDx_REFDX_congr {a0 b0 a1 b1 a2 b2 a3 b3 a4 b4} (h0 : a0 = b0) (h1 : a1 = b1) (h2 : a2 = b2) (h3 : a3 = b3) (h4 : a4 = b4) :
    Cert.InDxRefIdeal.Whole.REFDX a0 a1 a2 a3 a4 = Cert.InDxRefIdeal.Whole.REFDX b0 b1 b2 b3 b4 := by
  subst h0; subst h1; subst h2; subst h3; subst h4; rfl

theorem InDx_REFDG_congr {a0 b0 a1 b1 a2 b2 a3 b3 a4 b4} (h0 : a0 = b0) (h1 : a1 = b1) (h2 : a2 = b2) (h3 : a3 = b3) (h4 : a4 = b4) :
    Cert.InDxRefIdeal.Whole.REFDG a0 a1 a2 a3 a4 = Cert.InDxRefIdeal.Whole.REFDG b0 b1 b2 b3 b4 := by
  subst h0; subst h1; subst h2; subst h3; subst h4; rfl

/-- What InDx leaves in its results is what the reference of the same arguments leaves. -/
theorem InDx_algebraic : Cert.algebraic_InDxIdeal_InDxRefIdeal (hInDxIdeal := Cert.InDxIdeal.Gen.facts) (hInDxRefIdeal := Cert.InDxRefIdeal.Gen.facts) :=
  fun m g m' g' hp hag => ⟨fun c => Cert.InDxRefIdeal.Whole.REFDX (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)), fun c => Cert.InDxRefIdeal.Whole.REFDG (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)),
    (θ_run Cert.InDxIdeal.defs _ _).mono (fun r h c => ⟨(h c).1.trans (Cert.InDxIdeal.Whole.final3 m c), (h c).2.1.trans (Cert.InDxIdeal.Whole.final4 m c), (h c).2.2.1, (h c).2.2.2.1, (h c).2.2.2.2.1, (h c).2.2.2.2.2.1, (h c).2.2.2.2.2.2⟩) (Cert.InDxIdeal.Whole.run_blocks m g),
    (θ_run Cert.InDxRefIdeal.defs _ _).mono (fun r h c => ⟨(h c).1.trans (InDx_REFDX_congr (hag c).1 (hag c).2.1 (hag c).2.2.1 (hag c).2.2.2.1 (hag c).2.2.2.2), (h c).2.1.trans (InDx_REFDG_congr (hag c).1 (hag c).2.1 (hag c).2.2.1 (hag c).2.2.2.1 (hag c).2.2.2.2), (h c).2.2.1, (h c).2.2.2.1, (h c).2.2.2.2.1, (h c).2.2.2.2.2.1, (h c).2.2.2.2.2.2⟩) (Cert.InDxRefIdeal.Value.run (F := Ideal) m' g')⟩

theorem DownDw_REF_congr {a0 b0 a1 b1} (h0 : a0 = b0) (h1 : a1 = b1) :
    Cert.DownDwRefIdeal.Whole.REF a0 a1 = Cert.DownDwRefIdeal.Whole.REF b0 b1 := by
  subst h0; subst h1; rfl

/-- What DownDw leaves in its results is what the reference of the same arguments leaves. -/
theorem DownDw_algebraic : Cert.algebraic_DownDwIdeal_DownDwRefIdeal (hDownDwIdeal := Cert.DownDwIdeal.Gen.facts) (hDownDwRefIdeal := Cert.DownDwRefIdeal.Gen.facts) :=
  fun m g m' g' hp hag => ⟨fun c => Cert.DownDwRefIdeal.Whole.REF (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)),
    (θ_run Cert.DownDwIdeal.defs _ _).mono (fun r h c => ⟨(h c).1.trans (Cert.DownDwIdeal.Whole.final m c), (h c).2.1, (h c).2.2⟩) (Cert.DownDwIdeal.Value.run_blocks m g),
    (θ_run Cert.DownDwRefIdeal.defs _ _).mono (fun r h c => ⟨(h c).1.trans (DownDw_REF_congr (hag c).1 (hag c).2), (h c).2.1, (h c).2.2⟩) (Cert.DownDwRefIdeal.Value.run (F := Ideal) m' g')⟩

theorem UpDw_REF_congr {a0 b0 a1 b1 a2 b2} (h0 : a0 = b0) (h1 : a1 = b1) (h2 : a2 = b2) :
    Cert.UpDwRefIdeal.Whole.REF a0 a1 a2 = Cert.UpDwRefIdeal.Whole.REF b0 b1 b2 := by
  subst h0; subst h1; subst h2; rfl

/-- What UpDw leaves in its results is what the reference of the same arguments leaves. -/
theorem UpDw_algebraic : Cert.algebraic_UpDwIdeal_UpDwRefIdeal (hUpDwIdeal := Cert.UpDwIdeal.Gen.facts) (hUpDwRefIdeal := Cert.UpDwRefIdeal.Gen.facts) :=
  fun m g m' g' hp hag => ⟨fun c => Cert.UpDwRefIdeal.Whole.REF (m ((c.tc : Thread Cert.UpDwIdeal.nD Cert.UpDwIdeal.τ).loc Cert.UpDwIdeal.main_arg0)) (m ((c.tc : Thread Cert.UpDwIdeal.nD Cert.UpDwIdeal.τ).loc Cert.UpDwIdeal.main_arg1)) (m ((c.tc : Thread Cert.UpDwIdeal.nD Cert.UpDwIdeal.τ).loc Cert.UpDwIdeal.main_arg2)),
    (θ_run Cert.UpDwIdeal.defs _ _).mono (fun r h c => ⟨(h c).1.trans (Cert.UpDwIdeal.Whole.final m c), (h c).2.1, (h c).2.2.1, (h c).2.2.2⟩) (Cert.UpDwIdeal.Value.run_blocks m g),
    (θ_run Cert.UpDwRefIdeal.defs _ _).mono (fun r h c => ⟨(h c).1.trans (UpDw_REF_congr (hag c).1 (hag c).2.1 (hag c).2.2), (h c).2.1, (h c).2.2.1, (h c).2.2.2⟩) (Cert.UpDwRefIdeal.Value.run (F := Ideal) m' g')⟩

theorem InDw_REF_congr {a0 b0 a1 b1} (h0 : a0 = b0) (h1 : a1 = b1) :
    Cert.InDwRefIdeal.Whole.REF a0 a1 = Cert.InDwRefIdeal.Whole.REF b0 b1 := by
  subst h0; subst h1; rfl

/-- What InDw leaves in its results is what the reference of the same arguments leaves. -/
theorem InDw_algebraic : Cert.algebraic_InDwIdeal_InDwRefIdeal (hInDwIdeal := Cert.InDwIdeal.Gen.facts) (hInDwRefIdeal := Cert.InDwRefIdeal.Gen.facts) :=
  fun m g m' g' hp hag => ⟨fun c => Cert.InDwRefIdeal.Whole.REF (m ((c.tc : Thread Cert.InDwIdeal.nD Cert.InDwIdeal.τ).loc Cert.InDwIdeal.main_arg0)) (m ((c.tc : Thread Cert.InDwIdeal.nD Cert.InDwIdeal.τ).loc Cert.InDwIdeal.main_arg1)),
    (θ_run Cert.InDwIdeal.defs _ _).mono (fun r h c => ⟨(h c).1.trans (Cert.InDwIdeal.Whole.final m c), (h c).2.1, (h c).2.2⟩) (Cert.InDwIdeal.Value.run_blocks m g),
    (θ_run Cert.InDwRefIdeal.defs _ _).mono (fun r h c => ⟨(h c).1.trans (InDw_REF_congr (hag c).1 (hag c).2), (h c).2.1, (h c).2.2⟩) (Cert.InDwRefIdeal.Value.run (F := Ideal) m' g')⟩

theorem InFwd_REF_congr {a0 b0 a1 b1} (h0 : a0 = b0) (h1 : a1 = b1) :
    Cert.InFwdIdeal.Whole.REF a0 a1 = Cert.InFwdIdeal.Whole.REF b0 b1 := by
  subst h0; subst h1; rfl

/-- What InFwd leaves in its results is what the reference of the same arguments leaves. -/
theorem InFwd_algebraic : Cert.algebraic_InFwdIdeal_InFwdRefIdeal (hInFwdIdeal := Cert.InFwdIdeal.Gen.facts) (hInFwdRefIdeal := Cert.InFwdRefIdeal.Gen.facts) :=
  fun m g m' g' hp hag => ⟨fun c => Cert.InFwdIdeal.Whole.REF (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)),
    (θ_run Cert.InFwdIdeal.defs _ _).mono (fun r h c => ⟨(h c).1.trans (Cert.InFwdIdeal.Whole.final m c), (h c).2.1, (h c).2.2⟩) (Cert.InFwdIdeal.Value.run_blocks m g),
    (θ_run Cert.InFwdRefIdeal.defs _ _).mono (fun r h c => ⟨(h c).1.trans (InFwd_REF_congr (hag c).1 (hag c).2), (h c).2.1, (h c).2.2⟩) (Cert.InFwdRefIdeal.Value.run (F := Ideal) m' g')⟩

theorem Up_REFA_congr {a0 b0 a1 b1} (h0 : a0 = b0) (h1 : a1 = b1) :
    Cert.UpRefIdeal.Whole.REFA a0 a1 = Cert.UpRefIdeal.Whole.REFA b0 b1 := by
  subst h0; subst h1; rfl

theorem Up_REFB_congr {a0 b0 a1 b1} (h0 : a0 = b0) (h1 : a1 = b1) :
    Cert.UpRefIdeal.Whole.REFB a0 a1 = Cert.UpRefIdeal.Whole.REFB b0 b1 := by
  subst h0; subst h1; rfl

theorem Up_REFACT_congr {a0 b0 a1 b1} (h0 : a0 = b0) (h1 : a1 = b1) :
    Cert.UpRefIdeal.Whole.REFACT a0 a1 = Cert.UpRefIdeal.Whole.REFACT b0 b1 := by
  subst h0; subst h1; rfl

/-- What Up leaves in its results is what the reference of the same arguments leaves. -/
theorem Up_algebraic : Cert.algebraic_UpIdeal_UpRefIdeal (hUpIdeal := Cert.UpIdeal.Gen.facts) (hUpRefIdeal := Cert.UpRefIdeal.Gen.facts) :=
  fun m g m' g' hp hag => ⟨fun c => Cert.UpRefIdeal.Whole.REFA (m ((c.tc : Thread Cert.UpIdeal.nD Cert.UpIdeal.τ).loc Cert.UpIdeal.main_arg0)) (m ((c.tc : Thread Cert.UpIdeal.nD Cert.UpIdeal.τ).loc Cert.UpIdeal.main_arg1)), fun c => Cert.UpRefIdeal.Whole.REFB (m ((c.tc : Thread Cert.UpIdeal.nD Cert.UpIdeal.τ).loc Cert.UpIdeal.main_arg0)) (m ((c.tc : Thread Cert.UpIdeal.nD Cert.UpIdeal.τ).loc Cert.UpIdeal.main_arg1)), fun c => Cert.UpRefIdeal.Whole.REFACT (m ((c.tc : Thread Cert.UpIdeal.nD Cert.UpIdeal.τ).loc Cert.UpIdeal.main_arg0)) (m ((c.tc : Thread Cert.UpIdeal.nD Cert.UpIdeal.τ).loc Cert.UpIdeal.main_arg1)),
    (θ_run Cert.UpIdeal.defs _ _).mono (fun r h c => ⟨(h c).1.trans (Cert.UpIdeal.Whole.final3 m c), (h c).2.1.trans (Cert.UpIdeal.Whole.final4 m c), (h c).2.2.1.trans (Cert.UpIdeal.Whole.final5 m c), (h c).2.2.2.1, (h c).2.2.2.2⟩) (Cert.UpIdeal.Value.run_blocks m g),
    (θ_run Cert.UpRefIdeal.defs _ _).mono (fun r h c => ⟨(h c).1.trans (Up_REFA_congr (hag c).1 (hag c).2), (h c).2.1.trans (Up_REFB_congr (hag c).1 (hag c).2), (h c).2.2.1.trans (Up_REFACT_congr (hag c).1 (hag c).2), (h c).2.2.2.1, (h c).2.2.2.2⟩) (Cert.UpRefIdeal.Value.run (F := Ideal) m' g')⟩

theorem DownNorm_REFX_congr {a0 b0 a1 b1 a2 b2 a3 b3} (h0 : a0 = b0) (h1 : a1 = b1) (h2 : a2 = b2) (h3 : a3 = b3) :
    Cert.DownNormRefIdeal.Whole.REFX a0 a1 a2 a3 = Cert.DownNormRefIdeal.Whole.REFX b0 b1 b2 b3 := by
  subst h0; subst h1; subst h2; subst h3; rfl

theorem DownNorm_REFN_congr {a0 b0 a1 b1 a2 b2 a3 b3} (h0 : a0 = b0) (h1 : a1 = b1) (h2 : a2 = b2) (h3 : a3 = b3) :
    Cert.DownNormRefIdeal.Whole.REFN a0 a1 a2 a3 = Cert.DownNormRefIdeal.Whole.REFN b0 b1 b2 b3 := by
  subst h0; subst h1; subst h2; subst h3; rfl

/-- What DownNorm leaves in its results is what the reference of the same arguments leaves. -/
theorem DownNorm_algebraic : Cert.algebraic_DownNormIdeal_DownNormRefIdeal (hDownNormIdeal := Cert.DownNormIdeal.Gen.facts) (hDownNormRefIdeal := Cert.DownNormRefIdeal.Gen.facts) :=
  fun m g m' g' hp hag => ⟨fun c => Cert.DownNormRefIdeal.Whole.REFX (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1)) (m ((c.tc : Thread Cert.DownNormIdeal.nD Cert.DownNormIdeal.τ).loc Cert.DownNormIdeal.main_arg2)) (m ((c.tc : Thread Cert.DownNormIdeal.nD Cert.DownNormIdeal.τ).loc Cert.DownNormIdeal.main_arg3)), fun c => Cert.DownNormRefIdeal.Whole.REFN (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1)) (m ((c.tc : Thread Cert.DownNormIdeal.nD Cert.DownNormIdeal.τ).loc Cert.DownNormIdeal.main_arg2)) (m ((c.tc : Thread Cert.DownNormIdeal.nD Cert.DownNormIdeal.τ).loc Cert.DownNormIdeal.main_arg3)),
    (θ_run Cert.DownNormIdeal.defs _ _).mono (fun r h c => ⟨(h c).1.trans (Cert.DownNormIdeal.Whole.final4 m c), (h c).2.1.trans (Cert.DownNormIdeal.Whole.final5 m c), (h c).2.2.1, (h c).2.2.2.1, (h c).2.2.2.2.1, (h c).2.2.2.2.2⟩) (Cert.DownNormIdeal.Value.run_blocks m g),
    (θ_run Cert.DownNormRefIdeal.defs _ _).mono (fun r h c => ⟨(h c).1.trans (DownNorm_REFX_congr (hag c).1 (hag c).2.1 (hag c).2.2.1 (hag c).2.2.2), (h c).2.1.trans (DownNorm_REFN_congr (hag c).1 (hag c).2.1 (hag c).2.2.1 (hag c).2.2.2), (h c).2.2.1, (h c).2.2.2.1, (h c).2.2.2.2.1, (h c).2.2.2.2.2⟩) (Cert.DownNormRefIdeal.Value.run (F := Ideal) m' g')⟩

theorem Down_REF_congr {a0 b0 a1 b1 a2 b2} (h0 : a0 = b0) (h1 : a1 = b1) (h2 : a2 = b2) :
    Cert.DownRefIdeal.Whole.REF a0 a1 a2 = Cert.DownRefIdeal.Whole.REF b0 b1 b2 := by
  subst h0; subst h1; subst h2; rfl

/-- What Down leaves in its results is what the reference of the same arguments leaves. -/
theorem Down_algebraic : Cert.algebraic_DownIdeal_DownRefIdeal (hDownIdeal := Cert.DownIdeal.Gen.facts) (hDownRefIdeal := Cert.DownRefIdeal.Gen.facts) :=
  fun m g m' g' hp hag => ⟨fun c => Cert.DownRefIdeal.Whole.REF (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run Cert.DownIdeal.defs _ _).mono (fun r h c => ⟨(h c).1.trans (Cert.DownIdeal.Whole.final m c), (h c).2.1, (h c).2.2.1, (h c).2.2.2⟩) (Cert.DownIdeal.Value.run_blocks m g),
    (θ_run Cert.DownRefIdeal.defs _ _).mono (fun r h c => ⟨(h c).1.trans (Down_REF_congr (hag c).1 (hag c).2.1 (hag c).2.2), (h c).2.1, (h c).2.2.1, (h c).2.2.2⟩) (Cert.DownRefIdeal.Value.run (F := Ideal) m' g')⟩

theorem MixFwd_REFX_congr {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Whole.REFX a0 a1 a2 a3 a4 a5 a6 a7 a8 a9 a10 = Cert.MixFwdRefIdeal.Whole.REFX b0 b1 b2 b3 b4 b5 b6 b7 b8 b9 b10 := by
  subst h0; subst h1; subst h2; subst h3; subst h4; subst h5; subst h6; subst h7; subst h8; subst h9; subst h10; rfl

theorem MixFwd_REFC_congr {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Whole.REFC a0 a1 a2 a3 a4 a5 a6 a7 a8 a9 a10 = Cert.MixFwdRefIdeal.Whole.REFC b0 b1 b2 b3 b4 b5 b6 b7 b8 b9 b10 := by
  subst h0; subst h1; subst h2; subst h3; subst h4; subst h5; subst h6; subst h7; subst h8; subst h9; subst h10; rfl

theorem MixFwd_REFA_congr {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Whole.REFA a0 a1 a2 a3 a4 a5 a6 a7 a8 a9 a10 = Cert.MixFwdRefIdeal.Whole.REFA b0 b1 b2 b3 b4 b5 b6 b7 b8 b9 b10 := by
  subst h0; subst h1; subst h2; subst h3; subst h4; subst h5; subst h6; subst h7; subst h8; subst h9; subst h10; rfl

theorem MixFwd_REFM_congr {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Whole.REFM a0 a1 a2 a3 a4 a5 a6 a7 a8 a9 a10 = Cert.MixFwdRefIdeal.Whole.REFM b0 b1 b2 b3 b4 b5 b6 b7 b8 b9 b10 := by
  subst h0; subst h1; subst h2; subst h3; subst h4; subst h5; subst h6; subst h7; subst h8; subst h9; subst h10; rfl

theorem MixFwd_REFN_congr {a0 b0 a1 b1 a2 b2 a3 b3 a4 b4 a5 b5 a6 b6 a7 b7 a8 b8 a9 b9 a10 b10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.MixFwdRefIdeal.Whole.REFN a0 a1 a2 a3 a4 a5 a6 a7 a8 a9 a10 = Cert.MixFwdRefIdeal.Whole.REFN b0 b1 b2 b3 b4 b5 b6 b7 b8 b9 b10 := by
  subst h0; subst h1; subst h2; subst h3; subst h4; subst h5; subst h6; subst h7; subst h8; subst h9; subst h10; rfl

/-- What MixFwd leaves in its results is what the reference of the same arguments leaves. -/
theorem MixFwd_algebraic : Cert.algebraic_MixFwdIdeal_MixFwdRefIdeal (hMixFwdIdeal := Cert.MixFwdIdeal.Gen.facts) (hMixFwdRefIdeal := Cert.MixFwdRefIdeal.Gen.facts) :=
  fun m g m' g' hp hag => ⟨fun c => Cert.MixFwdRefIdeal.Whole.REFX (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)), fun c => Cert.MixFwdRefIdeal.Whole.REFC (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)), fun c => Cert.MixFwdRefIdeal.Whole.REFA (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)), fun c => Cert.MixFwdRefIdeal.Whole.REFM (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)), fun c => Cert.MixFwdRefIdeal.Whole.REFN (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)),
    (θ_run Cert.MixFwdIdeal.defs _ _).mono (fun r h c => ⟨(h c).1.trans (Cert.MixFwdIdeal.Whole.final11 m c), (h c).2.1.trans (Cert.MixFwdIdeal.Whole.final12 m c), (h c).2.2.1.trans (Cert.MixFwdIdeal.Whole.final13 m c), (h c).2.2.2.1.trans (Cert.MixFwdIdeal.Whole.final14 m c), (h c).2.2.2.2.1.trans (Cert.MixFwdIdeal.Whole.final15 m c), (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Cert.MixFwdIdeal.Value.run_blocks m g),
    (θ_run Cert.MixFwdRefIdeal.defs _ _).mono (fun r h c => ⟨(h c).1.trans (MixFwd_REFX_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.1.trans (MixFwd_REFC_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.2.1.trans (MixFwd_REFA_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.2.2.1.trans (MixFwd_REFM_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.2.2.2.1.trans (MixFwd_REFN_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2), (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Cert.MixFwdRefIdeal.Value.run (F := Ideal) m' g')⟩

theorem AdamUp_REFD_congr {a0 b0 a1 b1 a2 b2 a3 b3} (h0 : a0 = b0) (h1 : a1 = b1) (h2 : a2 = b2) (h3 : a3 = b3) :
    Cert.AdamUpRefIdeal.Whole.REFD a0 a1 a2 a3 = Cert.AdamUpRefIdeal.Whole.REFD b0 b1 b2 b3 := by
  subst h0; subst h1; subst h2; subst h3; rfl

theorem AdamUp_REFM_congr {a0 b0 a1 b1 a2 b2 a3 b3} (h0 : a0 = b0) (h1 : a1 = b1) (h2 : a2 = b2) (h3 : a3 = b3) :
    Cert.AdamUpRefIdeal.Whole.REFM a0 a1 a2 a3 = Cert.AdamUpRefIdeal.Whole.REFM b0 b1 b2 b3 := by
  subst h0; subst h1; subst h2; subst h3; rfl

theorem AdamUp_REFV_congr {a0 b0 a1 b1 a2 b2 a3 b3} (h0 : a0 = b0) (h1 : a1 = b1) (h2 : a2 = b2) (h3 : a3 = b3) :
    Cert.AdamUpRefIdeal.Whole.REFV a0 a1 a2 a3 = Cert.AdamUpRefIdeal.Whole.REFV b0 b1 b2 b3 := by
  subst h0; subst h1; subst h2; subst h3; rfl

/-- What AdamUp leaves in its results is what the reference of the same arguments leaves. -/
theorem AdamUp_algebraic : Cert.algebraic_AdamUpIdeal_AdamUpRefIdeal (hAdamUpIdeal := Cert.AdamUpIdeal.Gen.facts) (hAdamUpRefIdeal := Cert.AdamUpRefIdeal.Gen.facts) :=
  fun m g m' g' hp hag => ⟨fun c => Cert.AdamUpRefIdeal.Whole.REFD (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)), fun c => Cert.AdamUpRefIdeal.Whole.REFM (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)), fun c => Cert.AdamUpRefIdeal.Whole.REFV (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)),
    (θ_run Cert.AdamUpIdeal.defs _ _).mono (fun r h c => ⟨(h c).1.trans (Cert.AdamUpIdeal.Whole.final4 m c), (h c).2.1.trans (Cert.AdamUpIdeal.Whole.final5 m c), (h c).2.2.1.trans (Cert.AdamUpIdeal.Whole.final6 m c), (h c).2.2.2.1, (h c).2.2.2.2.1, (h c).2.2.2.2.2.1, (h c).2.2.2.2.2.2⟩) (Cert.AdamUpIdeal.Value.run_blocks m g),
    (θ_run Cert.AdamUpRefIdeal.defs _ _).mono (fun r h c => ⟨(h c).1.trans (AdamUp_REFD_congr (hag c).1 (hag c).2.1 (hag c).2.2.1 (hag c).2.2.2), (h c).2.1.trans (AdamUp_REFM_congr (hag c).1 (hag c).2.1 (hag c).2.2.1 (hag c).2.2.2), (h c).2.2.1.trans (AdamUp_REFV_congr (hag c).1 (hag c).2.1 (hag c).2.2.1 (hag c).2.2.2), (h c).2.2.2.1, (h c).2.2.2.2.1, (h c).2.2.2.2.2.1, (h c).2.2.2.2.2.2⟩) (Cert.AdamUpRefIdeal.Value.run (F := Ideal) m' g')⟩

theorem AdamDown_REFD_congr {a0 b0 a1 b1 a2 b2 a3 b3} (h0 : a0 = b0) (h1 : a1 = b1) (h2 : a2 = b2) (h3 : a3 = b3) :
    Cert.AdamDownRefIdeal.Whole.REFD a0 a1 a2 a3 = Cert.AdamDownRefIdeal.Whole.REFD b0 b1 b2 b3 := by
  subst h0; subst h1; subst h2; subst h3; rfl

theorem AdamDown_REFM_congr {a0 b0 a1 b1 a2 b2 a3 b3} (h0 : a0 = b0) (h1 : a1 = b1) (h2 : a2 = b2) (h3 : a3 = b3) :
    Cert.AdamDownRefIdeal.Whole.REFM a0 a1 a2 a3 = Cert.AdamDownRefIdeal.Whole.REFM b0 b1 b2 b3 := by
  subst h0; subst h1; subst h2; subst h3; rfl

theorem AdamDown_REFV_congr {a0 b0 a1 b1 a2 b2 a3 b3} (h0 : a0 = b0) (h1 : a1 = b1) (h2 : a2 = b2) (h3 : a3 = b3) :
    Cert.AdamDownRefIdeal.Whole.REFV a0 a1 a2 a3 = Cert.AdamDownRefIdeal.Whole.REFV b0 b1 b2 b3 := by
  subst h0; subst h1; subst h2; subst h3; rfl

/-- What AdamDown leaves in its results is what the reference of the same arguments leaves. -/
theorem AdamDown_algebraic : Cert.algebraic_AdamDownIdeal_AdamDownRefIdeal (hAdamDownIdeal := Cert.AdamDownIdeal.Gen.facts) (hAdamDownRefIdeal := Cert.AdamDownRefIdeal.Gen.facts) :=
  fun m g m' g' hp hag => ⟨fun c => Cert.AdamDownRefIdeal.Whole.REFD (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)), fun c => Cert.AdamDownRefIdeal.Whole.REFM (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)), fun c => Cert.AdamDownRefIdeal.Whole.REFV (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)),
    (θ_run Cert.AdamDownIdeal.defs _ _).mono (fun r h c => ⟨(h c).1.trans (Cert.AdamDownIdeal.Whole.final4 m c), (h c).2.1.trans (Cert.AdamDownIdeal.Whole.final5 m c), (h c).2.2.1.trans (Cert.AdamDownIdeal.Whole.final6 m c), (h c).2.2.2.1, (h c).2.2.2.2.1, (h c).2.2.2.2.2.1, (h c).2.2.2.2.2.2⟩) (Cert.AdamDownIdeal.Value.run_blocks m g),
    (θ_run Cert.AdamDownRefIdeal.defs _ _).mono (fun r h c => ⟨(h c).1.trans (AdamDown_REFD_congr (hag c).1 (hag c).2.1 (hag c).2.2.1 (hag c).2.2.2), (h c).2.1.trans (AdamDown_REFM_congr (hag c).1 (hag c).2.1 (hag c).2.2.1 (hag c).2.2.2), (h c).2.2.1.trans (AdamDown_REFV_congr (hag c).1 (hag c).2.1 (hag c).2.2.1 (hag c).2.2.2), (h c).2.2.2.1, (h c).2.2.2.2.1, (h c).2.2.2.2.2.1, (h c).2.2.2.2.2.2⟩) (Cert.AdamDownRefIdeal.Value.run (F := Ideal) m' g')⟩

theorem AdamIn_REFD_congr {a0 b0 a1 b1 a2 b2 a3 b3} (h0 : a0 = b0) (h1 : a1 = b1) (h2 : a2 = b2) (h3 : a3 = b3) :
    Cert.AdamInRefIdeal.Whole.REFD a0 a1 a2 a3 = Cert.AdamInRefIdeal.Whole.REFD b0 b1 b2 b3 := by
  subst h0; subst h1; subst h2; subst h3; rfl

theorem AdamIn_REFM_congr {a0 b0 a1 b1 a2 b2 a3 b3} (h0 : a0 = b0) (h1 : a1 = b1) (h2 : a2 = b2) (h3 : a3 = b3) :
    Cert.AdamInRefIdeal.Whole.REFM a0 a1 a2 a3 = Cert.AdamInRefIdeal.Whole.REFM b0 b1 b2 b3 := by
  subst h0; subst h1; subst h2; subst h3; rfl

theorem AdamIn_REFV_congr {a0 b0 a1 b1 a2 b2 a3 b3} (h0 : a0 = b0) (h1 : a1 = b1) (h2 : a2 = b2) (h3 : a3 = b3) :
    Cert.AdamInRefIdeal.Whole.REFV a0 a1 a2 a3 = Cert.AdamInRefIdeal.Whole.REFV b0 b1 b2 b3 := by
  subst h0; subst h1; subst h2; subst h3; rfl

/-- What AdamIn leaves in its results is what the reference of the same arguments leaves. -/
theorem AdamIn_algebraic : Cert.algebraic_AdamInIdeal_AdamInRefIdeal (hAdamInIdeal := Cert.AdamInIdeal.Gen.facts) (hAdamInRefIdeal := Cert.AdamInRefIdeal.Gen.facts) :=
  fun m g m' g' hp hag => ⟨fun c => Cert.AdamInRefIdeal.Whole.REFD (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)), fun c => Cert.AdamInRefIdeal.Whole.REFM (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)), fun c => Cert.AdamInRefIdeal.Whole.REFV (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)),
    (θ_run Cert.AdamInIdeal.defs _ _).mono (fun r h c => ⟨(h c).1.trans (Cert.AdamInIdeal.Whole.final4 m c), (h c).2.1.trans (Cert.AdamInIdeal.Whole.final5 m c), (h c).2.2.1.trans (Cert.AdamInIdeal.Whole.final6 m c), (h c).2.2.2.1, (h c).2.2.2.2.1, (h c).2.2.2.2.2.1, (h c).2.2.2.2.2.2⟩) (Cert.AdamInIdeal.Value.run_blocks m g),
    (θ_run Cert.AdamInRefIdeal.defs _ _).mono (fun r h c => ⟨(h c).1.trans (AdamIn_REFD_congr (hag c).1 (hag c).2.1 (hag c).2.2.1 (hag c).2.2.2), (h c).2.1.trans (AdamIn_REFM_congr (hag c).1 (hag c).2.1 (hag c).2.2.1 (hag c).2.2.2), (h c).2.2.1.trans (AdamIn_REFV_congr (hag c).1 (hag c).2.1 (hag c).2.2.1 (hag c).2.2.2), (h c).2.2.2.1, (h c).2.2.2.2.1, (h c).2.2.2.2.2.1, (h c).2.2.2.2.2.2⟩) (Cert.AdamInRefIdeal.Value.run (F := Ideal) m' g')⟩

theorem AdamSq_REFD_congr {a0 b0 a1 b1 a2 b2 a3 b3} (h0 : a0 = b0) (h1 : a1 = b1) (h2 : a2 = b2) (h3 : a3 = b3) :
    Cert.AdamSqRefIdeal.Whole.REFD a0 a1 a2 a3 = Cert.AdamSqRefIdeal.Whole.REFD b0 b1 b2 b3 := by
  subst h0; subst h1; subst h2; subst h3; rfl

theorem AdamSq_REFM_congr {a0 b0 a1 b1 a2 b2 a3 b3} (h0 : a0 = b0) (h1 : a1 = b1) (h2 : a2 = b2) (h3 : a3 = b3) :
    Cert.AdamSqRefIdeal.Whole.REFM a0 a1 a2 a3 = Cert.AdamSqRefIdeal.Whole.REFM b0 b1 b2 b3 := by
  subst h0; subst h1; subst h2; subst h3; rfl

theorem AdamSq_REFV_congr {a0 b0 a1 b1 a2 b2 a3 b3} (h0 : a0 = b0) (h1 : a1 = b1) (h2 : a2 = b2) (h3 : a3 = b3) :
    Cert.AdamSqRefIdeal.Whole.REFV a0 a1 a2 a3 = Cert.AdamSqRefIdeal.Whole.REFV b0 b1 b2 b3 := by
  subst h0; subst h1; subst h2; subst h3; rfl

/-- What AdamSq leaves in its results is what the reference of the same arguments leaves. -/
theorem AdamSq_algebraic : Cert.algebraic_AdamSqIdeal_AdamSqRefIdeal (hAdamSqIdeal := Cert.AdamSqIdeal.Gen.facts) (hAdamSqRefIdeal := Cert.AdamSqRefIdeal.Gen.facts) :=
  fun m g m' g' hp hag => ⟨fun c => Cert.AdamSqRefIdeal.Whole.REFD (m ((c.tc : Thread Cert.AdamSqIdeal.nD Cert.AdamSqIdeal.τ).loc Cert.AdamSqIdeal.main_arg0)) (m ((c.tc : Thread Cert.AdamSqIdeal.nD Cert.AdamSqIdeal.τ).loc Cert.AdamSqIdeal.main_arg1)) (m ((c.tc : Thread Cert.AdamSqIdeal.nD Cert.AdamSqIdeal.τ).loc Cert.AdamSqIdeal.main_arg2)) (m ((c.tc : Thread Cert.AdamSqIdeal.nD Cert.AdamSqIdeal.τ).loc Cert.AdamSqIdeal.main_arg3)), fun c => Cert.AdamSqRefIdeal.Whole.REFM (m ((c.tc : Thread Cert.AdamSqIdeal.nD Cert.AdamSqIdeal.τ).loc Cert.AdamSqIdeal.main_arg0)) (m ((c.tc : Thread Cert.AdamSqIdeal.nD Cert.AdamSqIdeal.τ).loc Cert.AdamSqIdeal.main_arg1)) (m ((c.tc : Thread Cert.AdamSqIdeal.nD Cert.AdamSqIdeal.τ).loc Cert.AdamSqIdeal.main_arg2)) (m ((c.tc : Thread Cert.AdamSqIdeal.nD Cert.AdamSqIdeal.τ).loc Cert.AdamSqIdeal.main_arg3)), fun c => Cert.AdamSqRefIdeal.Whole.REFV (m ((c.tc : Thread Cert.AdamSqIdeal.nD Cert.AdamSqIdeal.τ).loc Cert.AdamSqIdeal.main_arg0)) (m ((c.tc : Thread Cert.AdamSqIdeal.nD Cert.AdamSqIdeal.τ).loc Cert.AdamSqIdeal.main_arg1)) (m ((c.tc : Thread Cert.AdamSqIdeal.nD Cert.AdamSqIdeal.τ).loc Cert.AdamSqIdeal.main_arg2)) (m ((c.tc : Thread Cert.AdamSqIdeal.nD Cert.AdamSqIdeal.τ).loc Cert.AdamSqIdeal.main_arg3)),
    (θ_run Cert.AdamSqIdeal.defs _ _).mono (fun r h c => ⟨(h c).1.trans (Cert.AdamSqIdeal.Whole.final4 m c), (h c).2.1.trans (Cert.AdamSqIdeal.Whole.final5 m c), (h c).2.2.1.trans (Cert.AdamSqIdeal.Whole.final6 m c), (h c).2.2.2.1, (h c).2.2.2.2.1, (h c).2.2.2.2.2.1, (h c).2.2.2.2.2.2⟩) (Cert.AdamSqIdeal.Value.run_blocks m g),
    (θ_run Cert.AdamSqRefIdeal.defs _ _).mono (fun r h c => ⟨(h c).1.trans (AdamSq_REFD_congr (hag c).1 (hag c).2.1 (hag c).2.2.1 (hag c).2.2.2), (h c).2.1.trans (AdamSq_REFM_congr (hag c).1 (hag c).2.1 (hag c).2.2.1 (hag c).2.2.2), (h c).2.2.1.trans (AdamSq_REFV_congr (hag c).1 (hag c).2.1 (hag c).2.2.1 (hag c).2.2.2), (h c).2.2.2.1, (h c).2.2.2.2.1, (h c).2.2.2.2.2.1, (h c).2.2.2.2.2.2⟩) (Cert.AdamSqRefIdeal.Value.run (F := Ideal) m' g')⟩

theorem AdamKv_REFD_congr {a0 b0 a1 b1 a2 b2 a3 b3} (h0 : a0 = b0) (h1 : a1 = b1) (h2 : a2 = b2) (h3 : a3 = b3) :
    Cert.AdamKvRefIdeal.Whole.REFD a0 a1 a2 a3 = Cert.AdamKvRefIdeal.Whole.REFD b0 b1 b2 b3 := by
  subst h0; subst h1; subst h2; subst h3; rfl

theorem AdamKv_REFM_congr {a0 b0 a1 b1 a2 b2 a3 b3} (h0 : a0 = b0) (h1 : a1 = b1) (h2 : a2 = b2) (h3 : a3 = b3) :
    Cert.AdamKvRefIdeal.Whole.REFM a0 a1 a2 a3 = Cert.AdamKvRefIdeal.Whole.REFM b0 b1 b2 b3 := by
  subst h0; subst h1; subst h2; subst h3; rfl

theorem AdamKv_REFV_congr {a0 b0 a1 b1 a2 b2 a3 b3} (h0 : a0 = b0) (h1 : a1 = b1) (h2 : a2 = b2) (h3 : a3 = b3) :
    Cert.AdamKvRefIdeal.Whole.REFV a0 a1 a2 a3 = Cert.AdamKvRefIdeal.Whole.REFV b0 b1 b2 b3 := by
  subst h0; subst h1; subst h2; subst h3; rfl

/-- What AdamKv leaves in its results is what the reference of the same arguments leaves. -/
theorem AdamKv_algebraic : Cert.algebraic_AdamKvIdeal_AdamKvRefIdeal (hAdamKvIdeal := Cert.AdamKvIdeal.Gen.facts) (hAdamKvRefIdeal := Cert.AdamKvRefIdeal.Gen.facts) :=
  fun m g m' g' hp hag => ⟨fun c => Cert.AdamKvRefIdeal.Whole.REFD (m ((c.tc : Thread Cert.AdamKvIdeal.nD Cert.AdamKvIdeal.τ).loc Cert.AdamKvIdeal.main_arg0)) (m ((c.tc : Thread Cert.AdamKvIdeal.nD Cert.AdamKvIdeal.τ).loc Cert.AdamKvIdeal.main_arg1)) (m ((c.tc : Thread Cert.AdamKvIdeal.nD Cert.AdamKvIdeal.τ).loc Cert.AdamKvIdeal.main_arg2)) (m ((c.tc : Thread Cert.AdamKvIdeal.nD Cert.AdamKvIdeal.τ).loc Cert.AdamKvIdeal.main_arg3)), fun c => Cert.AdamKvRefIdeal.Whole.REFM (m ((c.tc : Thread Cert.AdamKvIdeal.nD Cert.AdamKvIdeal.τ).loc Cert.AdamKvIdeal.main_arg0)) (m ((c.tc : Thread Cert.AdamKvIdeal.nD Cert.AdamKvIdeal.τ).loc Cert.AdamKvIdeal.main_arg1)) (m ((c.tc : Thread Cert.AdamKvIdeal.nD Cert.AdamKvIdeal.τ).loc Cert.AdamKvIdeal.main_arg2)) (m ((c.tc : Thread Cert.AdamKvIdeal.nD Cert.AdamKvIdeal.τ).loc Cert.AdamKvIdeal.main_arg3)), fun c => Cert.AdamKvRefIdeal.Whole.REFV (m ((c.tc : Thread Cert.AdamKvIdeal.nD Cert.AdamKvIdeal.τ).loc Cert.AdamKvIdeal.main_arg0)) (m ((c.tc : Thread Cert.AdamKvIdeal.nD Cert.AdamKvIdeal.τ).loc Cert.AdamKvIdeal.main_arg1)) (m ((c.tc : Thread Cert.AdamKvIdeal.nD Cert.AdamKvIdeal.τ).loc Cert.AdamKvIdeal.main_arg2)) (m ((c.tc : Thread Cert.AdamKvIdeal.nD Cert.AdamKvIdeal.τ).loc Cert.AdamKvIdeal.main_arg3)),
    (θ_run Cert.AdamKvIdeal.defs _ _).mono (fun r h c => ⟨(h c).1.trans (Cert.AdamKvIdeal.Whole.final4 m c), (h c).2.1.trans (Cert.AdamKvIdeal.Whole.final5 m c), (h c).2.2.1.trans (Cert.AdamKvIdeal.Whole.final6 m c), (h c).2.2.2.1, (h c).2.2.2.2.1, (h c).2.2.2.2.2.1, (h c).2.2.2.2.2.2⟩) (Cert.AdamKvIdeal.Value.run_blocks m g),
    (θ_run Cert.AdamKvRefIdeal.defs _ _).mono (fun r h c => ⟨(h c).1.trans (AdamKv_REFD_congr (hag c).1 (hag c).2.1 (hag c).2.2.1 (hag c).2.2.2), (h c).2.1.trans (AdamKv_REFM_congr (hag c).1 (hag c).2.1 (hag c).2.2.1 (hag c).2.2.2), (h c).2.2.1.trans (AdamKv_REFV_congr (hag c).1 (hag c).2.1 (hag c).2.2.1 (hag c).2.2.2), (h c).2.2.2.1, (h c).2.2.2.2.1, (h c).2.2.2.2.2.1, (h c).2.2.2.2.2.2⟩) (Cert.AdamKvRefIdeal.Value.run (F := Ideal) m' g')⟩

theorem AdamSmall_REFD_congr {a0 b0 a1 b1 a2 b2 a3 b3} (h0 : a0 = b0) (h1 : a1 = b1) (h2 : a2 = b2) (h3 : a3 = b3) :
    Cert.AdamSmallRefIdeal.Whole.REFD a0 a1 a2 a3 = Cert.AdamSmallRefIdeal.Whole.REFD b0 b1 b2 b3 := by
  subst h0; subst h1; subst h2; subst h3; rfl

theorem AdamSmall_REFM_congr {a0 b0 a1 b1 a2 b2 a3 b3} (h0 : a0 = b0) (h1 : a1 = b1) (h2 : a2 = b2) (h3 : a3 = b3) :
    Cert.AdamSmallRefIdeal.Whole.REFM a0 a1 a2 a3 = Cert.AdamSmallRefIdeal.Whole.REFM b0 b1 b2 b3 := by
  subst h0; subst h1; subst h2; subst h3; rfl

theorem AdamSmall_REFV_congr {a0 b0 a1 b1 a2 b2 a3 b3} (h0 : a0 = b0) (h1 : a1 = b1) (h2 : a2 = b2) (h3 : a3 = b3) :
    Cert.AdamSmallRefIdeal.Whole.REFV a0 a1 a2 a3 = Cert.AdamSmallRefIdeal.Whole.REFV b0 b1 b2 b3 := by
  subst h0; subst h1; subst h2; subst h3; rfl

/-- What AdamSmall leaves in its results is what the reference of the same arguments leaves. -/
theorem AdamSmall_algebraic : Cert.algebraic_AdamSmallIdeal_AdamSmallRefIdeal (hAdamSmallIdeal := Cert.AdamSmallIdeal.Gen.facts) (hAdamSmallRefIdeal := Cert.AdamSmallRefIdeal.Gen.facts) :=
  fun m g m' g' hp hag => ⟨fun c => Cert.AdamSmallRefIdeal.Whole.REFD (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Cert.AdamSmallRefIdeal.Whole.REFM (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Cert.AdamSmallRefIdeal.Whole.REFV (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)),
    (θ_run Cert.AdamSmallIdeal.defs _ _).mono (fun r h c => ⟨(h c).1.trans (Cert.AdamSmallIdeal.Whole.final4 m c), (h c).2.1.trans (Cert.AdamSmallIdeal.Whole.final5 m c), (h c).2.2.1.trans (Cert.AdamSmallIdeal.Whole.final6 m c), (h c).2.2.2.1, (h c).2.2.2.2.1, (h c).2.2.2.2.2.1, (h c).2.2.2.2.2.2⟩) (Cert.AdamSmallIdeal.Value.run_blocks m g),
    (θ_run Cert.AdamSmallRefIdeal.defs _ _).mono (fun r h c => ⟨(h c).1.trans (AdamSmall_REFD_congr (hag c).1 (hag c).2.1 (hag c).2.2.1 (hag c).2.2.2), (h c).2.1.trans (AdamSmall_REFM_congr (hag c).1 (hag c).2.1 (hag c).2.2.1 (hag c).2.2.2), (h c).2.2.1.trans (AdamSmall_REFV_congr (hag c).1 (hag c).2.1 (hag c).2.2.1 (hag c).2.2.2), (h c).2.2.2.1, (h c).2.2.2.2.1, (h c).2.2.2.2.2.1, (h c).2.2.2.2.2.2⟩) (Cert.AdamSmallRefIdeal.Value.run (F := Ideal) m' g')⟩

theorem claim : Cert.Claim := ⟨Cert.DownBwd.Gen.facts, Cert.DownBwdIdeal.Gen.facts, Cert.DownBwdRefIdeal.Gen.facts, Cert.UpDx.Gen.facts, Cert.UpDxIdeal.Gen.facts, Cert.UpDxRefIdeal.Gen.facts, Cert.InDx.Gen.facts, Cert.InDxIdeal.Gen.facts, Cert.InDxRefIdeal.Gen.facts, Cert.DownDw.Gen.facts, Cert.DownDwIdeal.Gen.facts, Cert.DownDwRefIdeal.Gen.facts, Cert.UpDw.Gen.facts, Cert.UpDwIdeal.Gen.facts, Cert.UpDwRefIdeal.Gen.facts, Cert.InDw.Gen.facts, Cert.InDwIdeal.Gen.facts, Cert.InDwRefIdeal.Gen.facts, Cert.InFwd.Gen.facts, Cert.InFwdIdeal.Gen.facts, Cert.InFwdRefIdeal.Gen.facts, Cert.Up.Gen.facts, Cert.UpIdeal.Gen.facts, Cert.UpRefIdeal.Gen.facts, Cert.DownNorm.Gen.facts, Cert.DownNormIdeal.Gen.facts, Cert.DownNormRefIdeal.Gen.facts, Cert.Down.Gen.facts, Cert.DownIdeal.Gen.facts, Cert.DownRefIdeal.Gen.facts, Cert.MixFwd.Gen.facts, Cert.MixFwdIdeal.Gen.facts, Cert.MixFwdRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamSq.Gen.facts, Cert.AdamSqIdeal.Gen.facts, Cert.AdamSqRefIdeal.Gen.facts, Cert.AdamKv.Gen.facts, Cert.AdamKvIdeal.Gen.facts, Cert.AdamKvRefIdeal.Gen.facts, Cert.AdamSmall.Gen.facts, Cert.AdamSmallIdeal.Gen.facts, Cert.AdamSmallRefIdeal.Gen.facts, Cert.Halves.Gen.facts, Cert.HalvesIdeal.Gen.facts, Cert.HalvesRefIdeal.Gen.facts, Cert.Pre_down_bwd_finite.Gen.facts, fun m ρ _ => Cert.DownBwd.Gen.frame m ρ,
  fun m ρ _ => Cert.DownBwdIdeal.Gen.frame m ρ,
  fun m ρ _ => Cert.DownBwdIdeal.Gen.frame m ρ,
  fun m ρ _ => (θ_run Cert.DownBwdRefIdeal.defs _ _).mono (fun r h => ⟨fun c => (h c).2.2, Idealize.ShloMosaic.sem_eq_zero_of_no_sems (by decide) r.2⟩) (Cert.DownBwdRefIdeal.Value.run (F := Ideal) m ρ),
  fun m ρ _ => (θ_run Cert.DownBwdRefIdeal.defs _ _).mono (fun r h => ⟨fun c => (h c).2.2, Idealize.ShloMosaic.sem_eq_zero_of_no_sems (by decide) r.2⟩) (Cert.DownBwdRefIdeal.Value.run (F := Ideal) m ρ),
  fun m ρ _ => Cert.UpDx.Hand.frame m ρ,
  fun m ρ _ => Cert.UpDxIdeal.Hand.frame m ρ,
  fun m ρ _ => (θ_run Cert.UpDxRefIdeal.defs _ _).mono (fun r h => ⟨fun c => (h c).2.2, Idealize.ShloMosaic.sem_eq_zero_of_no_sems (by decide) r.2⟩) (Cert.UpDxRefIdeal.Value.run (F := Ideal) m ρ),
  fun m ρ _ => Cert.InDx.Hand.frame m ρ,
  fun m ρ _ => Cert.InDxIdeal.Hand.frame m ρ,
  fun m ρ _ => (θ_run Cert.InDxRefIdeal.defs _ _).mono (fun r h => ⟨fun c => (h c).2.2, Idealize.ShloMosaic.sem_eq_zero_of_no_sems (by decide) r.2⟩) (Cert.InDxRefIdeal.Value.run (F := Ideal) m ρ),
  fun m ρ _ => Cert.DownDw.Gen.frame m ρ,
  fun m ρ _ => Cert.DownDwIdeal.Gen.frame m ρ,
  fun m ρ _ => (θ_run Cert.DownDwRefIdeal.defs _ _).mono (fun r h => ⟨fun c => (h c).2, Idealize.ShloMosaic.sem_eq_zero_of_no_sems (by decide) r.2⟩) (Cert.DownDwRefIdeal.Value.run (F := Ideal) m ρ),
  fun m ρ _ => Cert.UpDw.Gen.frame m ρ,
  fun m ρ _ => Cert.UpDwIdeal.Gen.frame m ρ,
  fun m ρ _ => (θ_run Cert.UpDwRefIdeal.defs _ _).mono (fun r h => ⟨fun c => (h c).2, Idealize.ShloMosaic.sem_eq_zero_of_no_sems (by decide) r.2⟩) (Cert.UpDwRefIdeal.Value.run (F := Ideal) m ρ),
  fun m ρ _ => Cert.InDw.Gen.frame m ρ,
  fun m ρ _ => Cert.InDwIdeal.Gen.frame m ρ,
  fun m ρ _ => (θ_run Cert.InDwRefIdeal.defs _ _).mono (fun r h => ⟨fun c => (h c).2, Idealize.ShloMosaic.sem_eq_zero_of_no_sems (by decide) r.2⟩) (Cert.InDwRefIdeal.Value.run (F := Ideal) m ρ),
  fun m ρ _ => Cert.InFwd.Gen.frame m ρ,
  fun m ρ _ => Cert.InFwdIdeal.Gen.frame m ρ,
  fun m ρ _ => (θ_run Cert.InFwdRefIdeal.defs _ _).mono (fun r h => ⟨fun c => (h c).2, Idealize.ShloMosaic.sem_eq_zero_of_no_sems (by decide) r.2⟩) (Cert.InFwdRefIdeal.Value.run (F := Ideal) m ρ),
  fun m ρ _ => Cert.Up.Gen.frame m ρ,
  fun m ρ _ => Cert.UpIdeal.Gen.frame m ρ,
  fun m ρ _ => (θ_run Cert.UpRefIdeal.defs _ _).mono (fun r h => ⟨fun c => (h c).2.2.2, Idealize.ShloMosaic.sem_eq_zero_of_no_sems (by decide) r.2⟩) (Cert.UpRefIdeal.Value.run (F := Ideal) m ρ),
  fun m ρ _ => Cert.DownNorm.Gen.frame m ρ,
  fun m ρ _ => Cert.DownNormIdeal.Gen.frame m ρ,
  fun m ρ _ => (θ_run Cert.DownNormRefIdeal.defs _ _).mono (fun r h => ⟨fun c => (h c).2.2, Idealize.ShloMosaic.sem_eq_zero_of_no_sems (by decide) r.2⟩) (Cert.DownNormRefIdeal.Value.run (F := Ideal) m ρ),
  fun m ρ _ => Cert.Down.Gen.frame m ρ,
  fun m ρ _ => Cert.DownIdeal.Gen.frame m ρ,
  fun m ρ _ => (θ_run Cert.DownRefIdeal.defs _ _).mono (fun r h => ⟨fun c => (h c).2, Idealize.ShloMosaic.sem_eq_zero_of_no_sems (by decide) r.2⟩) (Cert.DownRefIdeal.Value.run (F := Ideal) m ρ),
  fun m ρ _ => Cert.MixFwd.Gen.frame m ρ,
  fun m ρ _ => Cert.MixFwdIdeal.Gen.frame m ρ,
  fun m ρ _ => (θ_run Cert.MixFwdRefIdeal.defs _ _).mono (fun r h => ⟨fun c => (h c).2.2.2.2.2, Idealize.ShloMosaic.sem_eq_zero_of_no_sems (by decide) r.2⟩) (Cert.MixFwdRefIdeal.Value.run (F := Ideal) m ρ),
  fun m ρ _ => Cert.AdamUp.Gen.frame m ρ,
  fun m ρ _ => Cert.AdamUpIdeal.Gen.frame m ρ,
  fun m ρ _ => (θ_run Cert.AdamUpRefIdeal.defs _ _).mono (fun r h => ⟨fun c => (h c).2.2.2, Idealize.ShloMosaic.sem_eq_zero_of_no_sems (by decide) r.2⟩) (Cert.AdamUpRefIdeal.Value.run (F := Ideal) m ρ),
  fun m ρ _ => Cert.AdamDown.Gen.frame m ρ,
  fun m ρ _ => Cert.AdamDownIdeal.Gen.frame m ρ,
  fun m ρ _ => (θ_run Cert.AdamDownRefIdeal.defs _ _).mono (fun r h => ⟨fun c => (h c).2.2.2, Idealize.ShloMosaic.sem_eq_zero_of_no_sems (by decide) r.2⟩) (Cert.AdamDownRefIdeal.Value.run (F := Ideal) m ρ),
  fun m ρ _ => Cert.AdamIn.Gen.frame m ρ,
  fun m ρ _ => Cert.AdamInIdeal.Gen.frame m ρ,
  fun m ρ _ => (θ_run Cert.AdamInRefIdeal.defs _ _).mono (fun r h => ⟨fun c => (h c).2.2.2, Idealize.ShloMosaic.sem_eq_zero_of_no_sems (by decide) r.2⟩) (Cert.AdamInRefIdeal.Value.run (F := Ideal) m ρ),
  fun m ρ _ => Cert.AdamSq.Gen.frame m ρ,
  fun m ρ _ => Cert.AdamSqIdeal.Gen.frame m ρ,
  fun m ρ _ => (θ_run Cert.AdamSqRefIdeal.defs _ _).mono (fun r h => ⟨fun c => (h c).2.2.2, Idealize.ShloMosaic.sem_eq_zero_of_no_sems (by decide) r.2⟩) (Cert.AdamSqRefIdeal.Value.run (F := Ideal) m ρ),
  fun m ρ _ => Cert.AdamKv.Gen.frame m ρ,
  fun m ρ _ => Cert.AdamKvIdeal.Gen.frame m ρ,
  fun m ρ _ => (θ_run Cert.AdamKvRefIdeal.defs _ _).mono (fun r h => ⟨fun c => (h c).2.2.2, Idealize.ShloMosaic.sem_eq_zero_of_no_sems (by decide) r.2⟩) (Cert.AdamKvRefIdeal.Value.run (F := Ideal) m ρ),
  fun m ρ _ => Cert.AdamSmall.Gen.frame m ρ,
  fun m ρ _ => Cert.AdamSmallIdeal.Gen.frame m ρ,
  fun m ρ _ => (θ_run Cert.AdamSmallRefIdeal.defs _ _).mono (fun r h => ⟨fun c => (h c).2.2.2, Idealize.ShloMosaic.sem_eq_zero_of_no_sems (by decide) r.2⟩) (Cert.AdamSmallRefIdeal.Value.run (F := Ideal) m ρ),
  Cert.HalvesProof.frame_bits,
  Cert.HalvesProof.frame_ideal,
  Cert.HalvesProof.frame_ref,
  trivial,
  DownBwd_algebraic,
  trivial,
  UpDx_algebraic,
  trivial,
  InDx_algebraic,
  trivial,
  DownDw_algebraic,
  trivial,
  UpDw_algebraic,
  trivial,
  InDw_algebraic,
  trivial,
  InFwd_algebraic,
  trivial,
  Up_algebraic,
  trivial,
  DownNorm_algebraic,
  trivial,
  Down_algebraic,
  trivial,
  MixFwd_algebraic,
  trivial,
  AdamUp_algebraic,
  trivial,
  AdamDown_algebraic,
  trivial,
  AdamIn_algebraic,
  trivial,
  AdamSq_algebraic,
  trivial,
  AdamKv_algebraic,
  trivial,
  AdamSmall_algebraic,
  trivial,
  Cert.HalvesProof.algebraic⟩

end Cert.Proof

end
